-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_SampleInproj (m : (ℓ : Loc Cert.SampleInproj.nD Cert.SampleInproj.τ Cert.SampleInproj.sig) → Buf (Elt Bits) ℓ) : Prop :=
  True

def Pre_SampleInprojIdeal (m : (ℓ : Loc Cert.SampleInprojIdeal.nD Cert.SampleInprojIdeal.τ Cert.SampleInprojIdeal.sig) → Buf (Elt Ideal) ℓ) : Prop :=
  True

def Pre_SampleInprojReferenceIdeal (m : (ℓ : Loc Cert.SampleInprojReferenceIdeal.nD Cert.SampleInprojReferenceIdeal.τ Cert.SampleInprojReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_NextExperts (m : (ℓ : Loc Cert.NextExperts.nD Cert.NextExperts.τ Cert.NextExperts.sig) → Buf (Elt Bits) ℓ) : Prop :=
  True

def Pre_NextExpertsIdeal (m : (ℓ : Loc Cert.NextExpertsIdeal.nD Cert.NextExpertsIdeal.τ Cert.NextExpertsIdeal.sig) → Buf (Elt Ideal) ℓ) : Prop :=
  True

def Pre_NextExpertsReferenceIdeal (m : (ℓ : Loc Cert.NextExpertsReferenceIdeal.nD Cert.NextExpertsReferenceIdeal.τ Cert.NextExpertsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5))
      ∧ r.2.sem = fun _ => 0)

def quiescent_SampleInproj [hSampleInproj : Cert.SampleInproj.Facts] : Prop :=
  ∀ (m : (ℓ : Loc Cert.SampleInproj.nD Cert.SampleInproj.τ Cert.SampleInproj.sig) → Buf (Elt Bits) ℓ) (g : Dev Cert.SampleInproj.nD → PrngReg), Pre_SampleInproj m →
    θ_run (Cert.SampleInproj.defs (F := Bits)) (onTc (τ := Cert.SampleInproj.τ) (Cert.SampleInproj.main (F := Bits))) ⟨m, fun _ => 0, g⟩ (fun r => (∀ c : Dev Cert.SampleInproj.nD,
      r.2.mem ((c.tc : Thread Cert.SampleInproj.nD Cert.SampleInproj.τ).loc Cert.SampleInproj.main_arg0) = m ((c.tc : Thread Cert.SampleInproj.nD Cert.SampleInproj.τ).loc Cert.SampleInproj.main_arg0)
      ∧ r.2.mem ((c.tc : Thread Cert.SampleInproj.nD Cert.SampleInproj.τ).loc Cert.SampleInproj.main_arg1) = m ((c.tc : Thread Cert.SampleInproj.nD Cert.SampleInproj.τ).loc Cert.SampleInproj.main_arg1)
      ∧ r.2.mem ((c.tc : Thread Cert.SampleInproj.nD Cert.SampleInproj.τ).loc Cert.SampleInproj.main_arg2) = m ((c.tc : Thread Cert.SampleInproj.nD Cert.SampleInproj.τ).loc Cert.SampleInproj.main_arg2)
      ∧ r.2.mem ((c.tc : Thread Cert.SampleInproj.nD Cert.SampleInproj.τ).loc Cert.SampleInproj.main_arg3) = m ((c.tc : Thread Cert.SampleInproj.nD Cert.SampleInproj.τ).loc Cert.SampleInproj.main_arg3)
      ∧ r.2.mem ((c.tc : Thread Cert.SampleInproj.nD Cert.SampleInproj.τ).loc Cert.SampleInproj.main_arg4) = m ((c.tc : Thread Cert.SampleInproj.nD Cert.SampleInproj.τ).loc Cert.SampleInproj.main_arg4)
      ∧ r.2.mem ((c.tc : Thread Cert.SampleInproj.nD Cert.SampleInproj.τ).loc Cert.SampleInproj.main_arg5) = m ((c.tc : Thread Cert.SampleInproj.nD Cert.SampleInproj.τ).loc Cert.SampleInproj.main_arg5))
      ∧ r.2.sem = fun _ => 0)

def quiescent_SampleInprojIdeal [hSampleInprojIdeal : Cert.SampleInprojIdeal.Facts] : Prop :=
  ∀ (m : (ℓ : Loc Cert.SampleInprojIdeal.nD Cert.SampleInprojIdeal.τ Cert.SampleInprojIdeal.sig) → Buf (Elt Ideal) ℓ) (g : Dev Cert.SampleInprojIdeal.nD → PrngReg), Pre_SampleInprojIdeal m →
    θ_run (Cert.SampleInprojIdeal.defs (F := Ideal)) (onTc (τ := Cert.SampleInprojIdeal.τ) (Cert.SampleInprojIdeal.main (F := Ideal))) ⟨m, fun _ => 0, g⟩ (fun r => (∀ c : Dev Cert.SampleInprojIdeal.nD,
      r.2.mem ((c.tc : Thread Cert.SampleInprojIdeal.nD Cert.SampleInprojIdeal.τ).loc Cert.SampleInprojIdeal.main_arg0) = m ((c.tc : Thread Cert.SampleInprojIdeal.nD Cert.SampleInprojIdeal.τ).loc Cert.SampleInprojIdeal.main_arg0)
      ∧ r.2.mem ((c.tc : Thread Cert.SampleInprojIdeal.nD Cert.SampleInprojIdeal.τ).loc Cert.SampleInprojIdeal.main_arg1) = m ((c.tc : Thread Cert.SampleInprojIdeal.nD Cert.SampleInprojIdeal.τ).loc Cert.SampleInprojIdeal.main_arg1)
      ∧ r.2.mem ((c.tc : Thread Cert.SampleInprojIdeal.nD Cert.SampleInprojIdeal.τ).loc Cert.SampleInprojIdeal.main_arg2) = m ((c.tc : Thread Cert.SampleInprojIdeal.nD Cert.SampleInprojIdeal.τ).loc Cert.SampleInprojIdeal.main_arg2)
      ∧ r.2.mem ((c.tc : Thread Cert.SampleInprojIdeal.nD Cert.SampleInprojIdeal.τ).loc Cert.SampleInprojIdeal.main_arg3) = m ((c.tc : Thread Cert.SampleInprojIdeal.nD Cert.SampleInprojIdeal.τ).loc Cert.SampleInprojIdeal.main_arg3)
      ∧ r.2.mem ((c.tc : Thread Cert.SampleInprojIdeal.nD Cert.SampleInprojIdeal.τ).loc Cert.SampleInprojIdeal.main_arg4) = m ((c.tc : Thread Cert.SampleInprojIdeal.nD Cert.SampleInprojIdeal.τ).loc Cert.SampleInprojIdeal.main_arg4)
      ∧ r.2.mem ((c.tc : Thread Cert.SampleInprojIdeal.nD Cert.SampleInprojIdeal.τ).loc Cert.SampleInprojIdeal.main_arg5) = m ((c.tc : Thread Cert.SampleInprojIdeal.nD Cert.SampleInprojIdeal.τ).loc Cert.SampleInprojIdeal.main_arg5))
      ∧ r.2.sem = fun _ => 0)

def quiescent_SampleInprojReferenceIdeal [hSampleInprojReferenceIdeal : Cert.SampleInprojReferenceIdeal.Facts] : Prop :=
  ∀ (m : (ℓ : Loc Cert.SampleInprojReferenceIdeal.nD Cert.SampleInprojReferenceIdeal.τ Cert.SampleInprojReferenceIdeal.sig) → Buf (Elt Ideal) ℓ) (g : Dev Cert.SampleInprojReferenceIdeal.nD → PrngReg), Pre_SampleInprojReferenceIdeal m →
    θ_run (Cert.SampleInprojReferenceIdeal.defs (F := Ideal)) (onTc (τ := Cert.SampleInprojReferenceIdeal.τ) (Cert.SampleInprojReferenceIdeal.main (F := Ideal))) ⟨m, fun _ => 0, g⟩ (fun r => (∀ c : Dev Cert.SampleInprojReferenceIdeal.nD,
      r.2.mem ((c.tc : Thread Cert.SampleInprojReferenceIdeal.nD Cert.SampleInprojReferenceIdeal.τ).loc Cert.SampleInprojReferenceIdeal.main_arg0) = m ((c.tc : Thread Cert.SampleInprojReferenceIdeal.nD Cert.SampleInprojReferenceIdeal.τ).loc Cert.SampleInprojReferenceIdeal.main_arg0)
      ∧ r.2.mem ((c.tc : Thread Cert.SampleInprojReferenceIdeal.nD Cert.SampleInprojReferenceIdeal.τ).loc Cert.SampleInprojReferenceIdeal.main_arg1) = m ((c.tc : Thread Cert.SampleInprojReferenceIdeal.nD Cert.SampleInprojReferenceIdeal.τ).loc Cert.SampleInprojReferenceIdeal.main_arg1)
      ∧ r.2.mem ((c.tc : Thread Cert.SampleInprojReferenceIdeal.nD Cert.SampleInprojReferenceIdeal.τ).loc Cert.SampleInprojReferenceIdeal.main_arg2) = m ((c.tc : Thread Cert.SampleInprojReferenceIdeal.nD Cert.SampleInprojReferenceIdeal.τ).loc Cert.SampleInprojReferenceIdeal.main_arg2)
      ∧ r.2.mem ((c.tc : Thread Cert.SampleInprojReferenceIdeal.nD Cert.SampleInprojReferenceIdeal.τ).loc Cert.SampleInprojReferenceIdeal.main_arg3) = m ((c.tc : Thread Cert.SampleInprojReferenceIdeal.nD Cert.SampleInprojReferenceIdeal.τ).loc Cert.SampleInprojReferenceIdeal.main_arg3)
      ∧ r.2.mem ((c.tc : Thread Cert.SampleInprojReferenceIdeal.nD Cert.SampleInprojReferenceIdeal.τ).loc Cert.SampleInprojReferenceIdeal.main_arg4) = m ((c.tc : Thread Cert.SampleInprojReferenceIdeal.nD Cert.SampleInprojReferenceIdeal.τ).loc Cert.SampleInprojReferenceIdeal.main_arg4)
      ∧ r.2.mem ((c.tc : Thread Cert.SampleInprojReferenceIdeal.nD Cert.SampleInprojReferenceIdeal.τ).loc Cert.SampleInprojReferenceIdeal.main_arg5) = m ((c.tc : Thread Cert.SampleInprojReferenceIdeal.nD Cert.SampleInprojReferenceIdeal.τ).loc Cert.SampleInprojReferenceIdeal.main_arg5))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_NextExperts [hNextExperts : Cert.NextExperts.Facts] : Prop :=
  ∀ (m : (ℓ : Loc Cert.NextExperts.nD Cert.NextExperts.τ Cert.NextExperts.sig) → Buf (Elt Bits) ℓ) (g : Dev Cert.NextExperts.nD → PrngReg), Pre_NextExperts m →
    θ_run (Cert.NextExperts.defs (F := Bits)) (onTc (τ := Cert.NextExperts.τ) (Cert.NextExperts.main (F := Bits))) ⟨m, fun _ => 0, g⟩ (fun r => (∀ c : Dev Cert.NextExperts.nD,
      r.2.mem ((c.tc : Thread Cert.NextExperts.nD Cert.NextExperts.τ).loc Cert.NextExperts.main_arg0) = m ((c.tc : Thread Cert.NextExperts.nD Cert.NextExperts.τ).loc Cert.NextExperts.main_arg0)
      ∧ r.2.mem ((c.tc : Thread Cert.NextExperts.nD Cert.NextExperts.τ).loc Cert.NextExperts.main_arg1) = m ((c.tc : Thread Cert.NextExperts.nD Cert.NextExperts.τ).loc Cert.NextExperts.main_arg1)
      ∧ r.2.mem ((c.tc : Thread Cert.NextExperts.nD Cert.NextExperts.τ).loc Cert.NextExperts.main_arg2) = m ((c.tc : Thread Cert.NextExperts.nD Cert.NextExperts.τ).loc Cert.NextExperts.main_arg2)
      ∧ r.2.mem ((c.tc : Thread Cert.NextExperts.nD Cert.NextExperts.τ).loc Cert.NextExperts.main_arg3) = m ((c.tc : Thread Cert.NextExperts.nD Cert.NextExperts.τ).loc Cert.NextExperts.main_arg3)
      ∧ r.2.mem ((c.tc : Thread Cert.NextExperts.nD Cert.NextExperts.τ).loc Cert.NextExperts.main_arg4) = m ((c.tc : Thread Cert.NextExperts.nD Cert.NextExperts.τ).loc Cert.NextExperts.main_arg4)
      ∧ r.2.mem ((c.tc : Thread Cert.NextExperts.nD Cert.NextExperts.τ).loc Cert.NextExperts.main_arg5) = m ((c.tc : Thread Cert.NextExperts.nD Cert.NextExperts.τ).loc Cert.NextExperts.main_arg5))
      ∧ r.2.sem = fun _ => 0)

def quiescent_NextExpertsIdeal [hNextExpertsIdeal : Cert.NextExpertsIdeal.Facts] : Prop :=
  ∀ (m : (ℓ : Loc Cert.NextExpertsIdeal.nD Cert.NextExpertsIdeal.τ Cert.NextExpertsIdeal.sig) → Buf (Elt Ideal) ℓ) (g : Dev Cert.NextExpertsIdeal.nD → PrngReg), Pre_NextExpertsIdeal m →
    θ_run (Cert.NextExpertsIdeal.defs (F := Ideal)) (onTc (τ := Cert.NextExpertsIdeal.τ) (Cert.NextExpertsIdeal.main (F := Ideal))) ⟨m, fun _ => 0, g⟩ (fun r => (∀ c : Dev Cert.NextExpertsIdeal.nD,
      r.2.mem ((c.tc : Thread Cert.NextExpertsIdeal.nD Cert.NextExpertsIdeal.τ).loc Cert.NextExpertsIdeal.main_arg0) = m ((c.tc : Thread Cert.NextExpertsIdeal.nD Cert.NextExpertsIdeal.τ).loc Cert.NextExpertsIdeal.main_arg0)
      ∧ r.2.mem ((c.tc : Thread Cert.NextExpertsIdeal.nD Cert.NextExpertsIdeal.τ).loc Cert.NextExpertsIdeal.main_arg1) = m ((c.tc : Thread Cert.NextExpertsIdeal.nD Cert.NextExpertsIdeal.τ).loc Cert.NextExpertsIdeal.main_arg1)
      ∧ r.2.mem ((c.tc : Thread Cert.NextExpertsIdeal.nD Cert.NextExpertsIdeal.τ).loc Cert.NextExpertsIdeal.main_arg2) = m ((c.tc : Thread Cert.NextExpertsIdeal.nD Cert.NextExpertsIdeal.τ).loc Cert.NextExpertsIdeal.main_arg2)
      ∧ r.2.mem ((c.tc : Thread Cert.NextExpertsIdeal.nD Cert.NextExpertsIdeal.τ).loc Cert.NextExpertsIdeal.main_arg3) = m ((c.tc : Thread Cert.NextExpertsIdeal.nD Cert.NextExpertsIdeal.τ).loc Cert.NextExpertsIdeal.main_arg3)
      ∧ r.2.mem ((c.tc : Thread Cert.NextExpertsIdeal.nD Cert.NextExpertsIdeal.τ).loc Cert.NextExpertsIdeal.main_arg4) = m ((c.tc : Thread Cert.NextExpertsIdeal.nD Cert.NextExpertsIdeal.τ).loc Cert.NextExpertsIdeal.main_arg4)
      ∧ r.2.mem ((c.tc : Thread Cert.NextExpertsIdeal.nD Cert.NextExpertsIdeal.τ).loc Cert.NextExpertsIdeal.main_arg5) = m ((c.tc : Thread Cert.NextExpertsIdeal.nD Cert.NextExpertsIdeal.τ).loc Cert.NextExpertsIdeal.main_arg5))
      ∧ r.2.sem = fun _ => 0)

def quiescent_NextExpertsReferenceIdeal [hNextExpertsReferenceIdeal : Cert.NextExpertsReferenceIdeal.Facts] : Prop :=
  ∀ (m : (ℓ : Loc Cert.NextExpertsReferenceIdeal.nD Cert.NextExpertsReferenceIdeal.τ Cert.NextExpertsReferenceIdeal.sig) → Buf (Elt Ideal) ℓ) (g : Dev Cert.NextExpertsReferenceIdeal.nD → PrngReg), Pre_NextExpertsReferenceIdeal m →
    θ_run (Cert.NextExpertsReferenceIdeal.defs (F := Ideal)) (onTc (τ := Cert.NextExpertsReferenceIdeal.τ) (Cert.NextExpertsReferenceIdeal.main (F := Ideal))) ⟨m, fun _ => 0, g⟩ (fun r => (∀ c : Dev Cert.NextExpertsReferenceIdeal.nD,
      r.2.mem ((c.tc : Thread Cert.NextExpertsReferenceIdeal.nD Cert.NextExpertsReferenceIdeal.τ).loc Cert.NextExpertsReferenceIdeal.main_arg0) = m ((c.tc : Thread Cert.NextExpertsReferenceIdeal.nD Cert.NextExpertsReferenceIdeal.τ).loc Cert.NextExpertsReferenceIdeal.main_arg0)
      ∧ r.2.mem ((c.tc : Thread Cert.NextExpertsReferenceIdeal.nD Cert.NextExpertsReferenceIdeal.τ).loc Cert.NextExpertsReferenceIdeal.main_arg1) = m ((c.tc : Thread Cert.NextExpertsReferenceIdeal.nD Cert.NextExpertsReferenceIdeal.τ).loc Cert.NextExpertsReferenceIdeal.main_arg1)
      ∧ r.2.mem ((c.tc : Thread Cert.NextExpertsReferenceIdeal.nD Cert.NextExpertsReferenceIdeal.τ).loc Cert.NextExpertsReferenceIdeal.main_arg2) = m ((c.tc : Thread Cert.NextExpertsReferenceIdeal.nD Cert.NextExpertsReferenceIdeal.τ).loc Cert.NextExpertsReferenceIdeal.main_arg2)
      ∧ r.2.mem ((c.tc : Thread Cert.NextExpertsReferenceIdeal.nD Cert.NextExpertsReferenceIdeal.τ).loc Cert.NextExpertsReferenceIdeal.main_arg3) = m ((c.tc : Thread Cert.NextExpertsReferenceIdeal.nD Cert.NextExpertsReferenceIdeal.τ).loc Cert.NextExpertsReferenceIdeal.main_arg3)
      ∧ r.2.mem ((c.tc : Thread Cert.NextExpertsReferenceIdeal.nD Cert.NextExpertsReferenceIdeal.τ).loc Cert.NextExpertsReferenceIdeal.main_arg4) = m ((c.tc : Thread Cert.NextExpertsReferenceIdeal.nD Cert.NextExpertsReferenceIdeal.τ).loc Cert.NextExpertsReferenceIdeal.main_arg4)
      ∧ r.2.mem ((c.tc : Thread Cert.NextExpertsReferenceIdeal.nD Cert.NextExpertsReferenceIdeal.τ).loc Cert.NextExpertsReferenceIdeal.main_arg5) = m ((c.tc : Thread Cert.NextExpertsReferenceIdeal.nD Cert.NextExpertsReferenceIdeal.τ).loc Cert.NextExpertsReferenceIdeal.main_arg5))
      ∧ r.2.sem = fun _ => 0)

def preserves_Kernel_KernelIdeal : Prop :=
  IdealRules.named_const.Statement Cert.KernelIdeal.κ "zero_weight_log" .f32 0xC2DC0000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v32_1)) (v1 : (c : Dev Cert.InprojIdeal.nD) → Buf (Elt Ideal) ((c.tc : Thread Cert.InprojIdeal.nD Cert.InprojIdeal.τ).loc Cert.InprojIdeal.main_v32_2)) (v2 : (c : Dev Cert.InprojIdeal.nD) → Buf (Elt Ideal) ((c.tc : Thread Cert.InprojIdeal.nD Cert.InprojIdeal.τ).loc Cert.InprojIdeal.main_v23_0)) (v3 : (c : Dev Cert.InprojIdeal.nD) → Buf (Elt Ideal) ((c.tc : Thread Cert.InprojIdeal.nD Cert.InprojIdeal.τ).loc Cert.InprojIdeal.main_v32_0)) (v4 : (c : Dev Cert.InprojIdeal.nD) → Buf (Elt Ideal) ((c.tc : Thread Cert.InprojIdeal.nD Cert.InprojIdeal.τ).loc Cert.InprojIdeal.main_v23_5)) (v5 : (c : Dev Cert.InprojIdeal.nD) → Buf (Elt Ideal) ((c.tc : Thread Cert.InprojIdeal.nD Cert.InprojIdeal.τ).loc Cert.InprojIdeal.main_v32_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v32_1) = v0 c
          ∧ r.2.mem ((c.tc : Thread Cert.InprojIdeal.nD Cert.InprojIdeal.τ).loc Cert.InprojIdeal.main_v32_2) = v1 c
          ∧ r.2.mem ((c.tc : Thread Cert.InprojIdeal.nD Cert.InprojIdeal.τ).loc Cert.InprojIdeal.main_v23_0) = v2 c
          ∧ r.2.mem ((c.tc : Thread Cert.InprojIdeal.nD Cert.InprojIdeal.τ).loc Cert.InprojIdeal.main_v32_0) = v3 c
          ∧ r.2.mem ((c.tc : Thread Cert.InprojIdeal.nD Cert.InprojIdeal.τ).loc Cert.InprojIdeal.main_v23_5) = v4 c
          ∧ r.2.mem ((c.tc : Thread Cert.InprojIdeal.nD Cert.InprojIdeal.τ).loc Cert.InprojIdeal.main_v32_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v90) = v0 c
          ∧ r.2.mem ((c.tc : Thread Cert.InprojReferenceIdeal.nD Cert.InprojReferenceIdeal.τ).loc Cert.InprojReferenceIdeal.main_v93) = v1 c
          ∧ r.2.mem ((c.tc : Thread Cert.InprojReferenceIdeal.nD Cert.InprojReferenceIdeal.τ).loc Cert.InprojReferenceIdeal.main_v28) = v2 c
          ∧ r.2.mem ((c.tc : Thread Cert.InprojReferenceIdeal.nD Cert.InprojReferenceIdeal.τ).loc Cert.InprojReferenceIdeal.main_v72) = v3 c
          ∧ r.2.mem ((c.tc : Thread Cert.InprojReferenceIdeal.nD Cert.InprojReferenceIdeal.τ).loc Cert.InprojReferenceIdeal.main_v43) = v4 c
          ∧ r.2.mem ((c.tc : Thread Cert.InprojReferenceIdeal.nD Cert.InprojReferenceIdeal.τ).loc Cert.InprojReferenceIdeal.main_v87) = v5 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5))

def preserves_SampleInproj_SampleInprojIdeal : Prop :=
  True

def algebraic_SampleInprojIdeal_SampleInprojReferenceIdeal [hSampleInprojIdeal : Cert.SampleInprojIdeal.Facts] [hSampleInprojReferenceIdeal : Cert.SampleInprojReferenceIdeal.Facts] : Prop :=
  ∀ (m : (ℓ : Loc Cert.SampleInprojIdeal.nD Cert.SampleInprojIdeal.τ Cert.SampleInprojIdeal.sig) → Buf (Elt Ideal) ℓ) (g : Dev Cert.SampleInprojIdeal.nD → PrngReg)
    (m' : (ℓ : Loc Cert.SampleInprojReferenceIdeal.nD Cert.SampleInprojReferenceIdeal.τ Cert.SampleInprojReferenceIdeal.sig) → Buf (Elt Ideal) ℓ) (g' : Dev Cert.SampleInprojReferenceIdeal.nD → PrngReg), Pre_SampleInprojIdeal m →
    (∀ c : Dev Cert.SampleInprojIdeal.nD,
      m' ((c.tc : Thread Cert.SampleInprojReferenceIdeal.nD Cert.SampleInprojReferenceIdeal.τ).loc Cert.SampleInprojReferenceIdeal.main_arg0) = m ((c.tc : Thread Cert.SampleInprojIdeal.nD Cert.SampleInprojIdeal.τ).loc Cert.SampleInprojIdeal.main_arg0)
      ∧ m' ((c.tc : Thread Cert.SampleInprojReferenceIdeal.nD Cert.SampleInprojReferenceIdeal.τ).loc Cert.SampleInprojReferenceIdeal.main_arg1) = m ((c.tc : Thread Cert.SampleInprojIdeal.nD Cert.SampleInprojIdeal.τ).loc Cert.SampleInprojIdeal.main_arg1)
      ∧ m' ((c.tc : Thread Cert.SampleInprojReferenceIdeal.nD Cert.SampleInprojReferenceIdeal.τ).loc Cert.SampleInprojReferenceIdeal.main_arg2) = m ((c.tc : Thread Cert.SampleInprojIdeal.nD Cert.SampleInprojIdeal.τ).loc Cert.SampleInprojIdeal.main_arg2)
      ∧ m' ((c.tc : Thread Cert.SampleInprojReferenceIdeal.nD Cert.SampleInprojReferenceIdeal.τ).loc Cert.SampleInprojReferenceIdeal.main_arg3) = m ((c.tc : Thread Cert.SampleInprojIdeal.nD Cert.SampleInprojIdeal.τ).loc Cert.SampleInprojIdeal.main_arg3)
      ∧ m' ((c.tc : Thread Cert.SampleInprojReferenceIdeal.nD Cert.SampleInprojReferenceIdeal.τ).loc Cert.SampleInprojReferenceIdeal.main_arg4) = m ((c.tc : Thread Cert.SampleInprojIdeal.nD Cert.SampleInprojIdeal.τ).loc Cert.SampleInprojIdeal.main_arg4)
      ∧ m' ((c.tc : Thread Cert.SampleInprojReferenceIdeal.nD Cert.SampleInprojReferenceIdeal.τ).loc Cert.SampleInprojReferenceIdeal.main_arg5) = m ((c.tc : Thread Cert.SampleInprojIdeal.nD Cert.SampleInprojIdeal.τ).loc Cert.SampleInprojIdeal.main_arg5)) →
    ∃ (v0 : (c : Dev Cert.SampleInprojIdeal.nD) → Buf (Elt Ideal) ((c.tc : Thread Cert.SampleInprojIdeal.nD Cert.SampleInprojIdeal.τ).loc Cert.SampleInprojIdeal.main_v32_1)) (v1 : (c : Dev Cert.SampleInprojIdeal.nD) → Buf (Elt Ideal) ((c.tc : Thread Cert.SampleInprojIdeal.nD Cert.SampleInprojIdeal.τ).loc Cert.SampleInprojIdeal.main_v32_2)) (v2 : (c : Dev Cert.SampleInprojIdeal.nD) → Buf (Elt Ideal) ((c.tc : Thread Cert.SampleInprojIdeal.nD Cert.SampleInprojIdeal.τ).loc Cert.SampleInprojIdeal.main_v23_0)) (v3 : (c : Dev Cert.SampleInprojIdeal.nD) → Buf (Elt Ideal) ((c.tc : Thread Cert.SampleInprojIdeal.nD Cert.SampleInprojIdeal.τ).loc Cert.SampleInprojIdeal.main_v32_0)) (v4 : (c : Dev Cert.SampleInprojIdeal.nD) → Buf (Elt Ideal) ((c.tc : Thread Cert.SampleInprojIdeal.nD Cert.SampleInprojIdeal.τ).loc Cert.SampleInprojIdeal.main_v23_5)) (v5 : (c : Dev Cert.SampleInprojIdeal.nD) → Buf (Elt Ideal) ((c.tc : Thread Cert.SampleInprojIdeal.nD Cert.SampleInprojIdeal.τ).loc Cert.SampleInprojIdeal.main_v32_5)),
      θ_run (Cert.SampleInprojIdeal.defs (F := Ideal)) (onTc (τ := Cert.SampleInprojIdeal.τ) (Cert.SampleInprojIdeal.main (F := Ideal))) ⟨m, fun _ => 0, g⟩ (fun r => ∀ c : Dev Cert.SampleInprojIdeal.nD,
          r.2.mem ((c.tc : Thread Cert.SampleInprojIdeal.nD Cert.SampleInprojIdeal.τ).loc Cert.SampleInprojIdeal.main_v32_1) = v0 c
          ∧ r.2.mem ((c.tc : Thread Cert.SampleInprojIdeal.nD Cert.SampleInprojIdeal.τ).loc Cert.SampleInprojIdeal.main_v32_2) = v1 c
          ∧ r.2.mem ((c.tc : Thread Cert.SampleInprojIdeal.nD Cert.SampleInprojIdeal.τ).loc Cert.SampleInprojIdeal.main_v23_0) = v2 c
          ∧ r.2.mem ((c.tc : Thread Cert.SampleInprojIdeal.nD Cert.SampleInprojIdeal.τ).loc Cert.SampleInprojIdeal.main_v32_0) = v3 c
          ∧ r.2.mem ((c.tc : Thread Cert.SampleInprojIdeal.nD Cert.SampleInprojIdeal.τ).loc Cert.SampleInprojIdeal.main_v23_5) = v4 c
          ∧ r.2.mem ((c.tc : Thread Cert.SampleInprojIdeal.nD Cert.SampleInprojIdeal.τ).loc Cert.SampleInprojIdeal.main_v32_5) = v5 c
          ∧ r.2.mem ((c.tc : Thread Cert.SampleInprojIdeal.nD Cert.SampleInprojIdeal.τ).loc Cert.SampleInprojIdeal.main_arg0) = m ((c.tc : Thread Cert.SampleInprojIdeal.nD Cert.SampleInprojIdeal.τ).loc Cert.SampleInprojIdeal.main_arg0)
          ∧ r.2.mem ((c.tc : Thread Cert.SampleInprojIdeal.nD Cert.SampleInprojIdeal.τ).loc Cert.SampleInprojIdeal.main_arg1) = m ((c.tc : Thread Cert.SampleInprojIdeal.nD Cert.SampleInprojIdeal.τ).loc Cert.SampleInprojIdeal.main_arg1)
          ∧ r.2.mem ((c.tc : Thread Cert.SampleInprojIdeal.nD Cert.SampleInprojIdeal.τ).loc Cert.SampleInprojIdeal.main_arg2) = m ((c.tc : Thread Cert.SampleInprojIdeal.nD Cert.SampleInprojIdeal.τ).loc Cert.SampleInprojIdeal.main_arg2)
          ∧ r.2.mem ((c.tc : Thread Cert.SampleInprojIdeal.nD Cert.SampleInprojIdeal.τ).loc Cert.SampleInprojIdeal.main_arg3) = m ((c.tc : Thread Cert.SampleInprojIdeal.nD Cert.SampleInprojIdeal.τ).loc Cert.SampleInprojIdeal.main_arg3)
          ∧ r.2.mem ((c.tc : Thread Cert.SampleInprojIdeal.nD Cert.SampleInprojIdeal.τ).loc Cert.SampleInprojIdeal.main_arg4) = m ((c.tc : Thread Cert.SampleInprojIdeal.nD Cert.SampleInprojIdeal.τ).loc Cert.SampleInprojIdeal.main_arg4)
          ∧ r.2.mem ((c.tc : Thread Cert.SampleInprojIdeal.nD Cert.SampleInprojIdeal.τ).loc Cert.SampleInprojIdeal.main_arg5) = m ((c.tc : Thread Cert.SampleInprojIdeal.nD Cert.SampleInprojIdeal.τ).loc Cert.SampleInprojIdeal.main_arg5))
      ∧ θ_run (Cert.SampleInprojReferenceIdeal.defs (F := Ideal)) (onTc (τ := Cert.SampleInprojReferenceIdeal.τ) (Cert.SampleInprojReferenceIdeal.main (F := Ideal))) ⟨m', fun _ => 0, g'⟩ (fun r => ∀ c : Dev Cert.SampleInprojReferenceIdeal.nD,
          r.2.mem ((c.tc : Thread Cert.SampleInprojReferenceIdeal.nD Cert.SampleInprojReferenceIdeal.τ).loc Cert.SampleInprojReferenceIdeal.main_v90) = v0 c
          ∧ r.2.mem ((c.tc : Thread Cert.SampleInprojReferenceIdeal.nD Cert.SampleInprojReferenceIdeal.τ).loc Cert.SampleInprojReferenceIdeal.main_v93) = v1 c
          ∧ r.2.mem ((c.tc : Thread Cert.SampleInprojReferenceIdeal.nD Cert.SampleInprojReferenceIdeal.τ).loc Cert.SampleInprojReferenceIdeal.main_v28) = v2 c
          ∧ r.2.mem ((c.tc : Thread Cert.SampleInprojReferenceIdeal.nD Cert.SampleInprojReferenceIdeal.τ).loc Cert.SampleInprojReferenceIdeal.main_v72) = v3 c
          ∧ r.2.mem ((c.tc : Thread Cert.SampleInprojReferenceIdeal.nD Cert.SampleInprojReferenceIdeal.τ).loc Cert.SampleInprojReferenceIdeal.main_v43) = v4 c
          ∧ r.2.mem ((c.tc : Thread Cert.SampleInprojReferenceIdeal.nD Cert.SampleInprojReferenceIdeal.τ).loc Cert.SampleInprojReferenceIdeal.main_v87) = v5 c
          ∧ r.2.mem ((c.tc : Thread Cert.SampleInprojReferenceIdeal.nD Cert.SampleInprojReferenceIdeal.τ).loc Cert.SampleInprojReferenceIdeal.main_arg0) = m' ((c.tc : Thread Cert.SampleInprojReferenceIdeal.nD Cert.SampleInprojReferenceIdeal.τ).loc Cert.SampleInprojReferenceIdeal.main_arg0)
          ∧ r.2.mem ((c.tc : Thread Cert.SampleInprojReferenceIdeal.nD Cert.SampleInprojReferenceIdeal.τ).loc Cert.SampleInprojReferenceIdeal.main_arg1) = m' ((c.tc : Thread Cert.SampleInprojReferenceIdeal.nD Cert.SampleInprojReferenceIdeal.τ).loc Cert.SampleInprojReferenceIdeal.main_arg1)
          ∧ r.2.mem ((c.tc : Thread Cert.SampleInprojReferenceIdeal.nD Cert.SampleInprojReferenceIdeal.τ).loc Cert.SampleInprojReferenceIdeal.main_arg2) = m' ((c.tc : Thread Cert.SampleInprojReferenceIdeal.nD Cert.SampleInprojReferenceIdeal.τ).loc Cert.SampleInprojReferenceIdeal.main_arg2)
          ∧ r.2.mem ((c.tc : Thread Cert.SampleInprojReferenceIdeal.nD Cert.SampleInprojReferenceIdeal.τ).loc Cert.SampleInprojReferenceIdeal.main_arg3) = m' ((c.tc : Thread Cert.SampleInprojReferenceIdeal.nD Cert.SampleInprojReferenceIdeal.τ).loc Cert.SampleInprojReferenceIdeal.main_arg3)
          ∧ r.2.mem ((c.tc : Thread Cert.SampleInprojReferenceIdeal.nD Cert.SampleInprojReferenceIdeal.τ).loc Cert.SampleInprojReferenceIdeal.main_arg4) = m' ((c.tc : Thread Cert.SampleInprojReferenceIdeal.nD Cert.SampleInprojReferenceIdeal.τ).loc Cert.SampleInprojReferenceIdeal.main_arg4)
          ∧ r.2.mem ((c.tc : Thread Cert.SampleInprojReferenceIdeal.nD Cert.SampleInprojReferenceIdeal.τ).loc Cert.SampleInprojReferenceIdeal.main_arg5) = m' ((c.tc : Thread Cert.SampleInprojReferenceIdeal.nD Cert.SampleInprojReferenceIdeal.τ).loc Cert.SampleInprojReferenceIdeal.main_arg5))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v27)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v27) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v120) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_NextExperts_NextExpertsIdeal : Prop :=
  True

def algebraic_NextExpertsIdeal_NextExpertsReferenceIdeal [hNextExpertsIdeal : Cert.NextExpertsIdeal.Facts] [hNextExpertsReferenceIdeal : Cert.NextExpertsReferenceIdeal.Facts] : Prop :=
  ∀ (m : (ℓ : Loc Cert.NextExpertsIdeal.nD Cert.NextExpertsIdeal.τ Cert.NextExpertsIdeal.sig) → Buf (Elt Ideal) ℓ) (g : Dev Cert.NextExpertsIdeal.nD → PrngReg)
    (m' : (ℓ : Loc Cert.NextExpertsReferenceIdeal.nD Cert.NextExpertsReferenceIdeal.τ Cert.NextExpertsReferenceIdeal.sig) → Buf (Elt Ideal) ℓ) (g' : Dev Cert.NextExpertsReferenceIdeal.nD → PrngReg), Pre_NextExpertsIdeal m →
    (∀ c : Dev Cert.NextExpertsIdeal.nD,
      m' ((c.tc : Thread Cert.NextExpertsReferenceIdeal.nD Cert.NextExpertsReferenceIdeal.τ).loc Cert.NextExpertsReferenceIdeal.main_arg0) = m ((c.tc : Thread Cert.NextExpertsIdeal.nD Cert.NextExpertsIdeal.τ).loc Cert.NextExpertsIdeal.main_arg0)
      ∧ m' ((c.tc : Thread Cert.NextExpertsReferenceIdeal.nD Cert.NextExpertsReferenceIdeal.τ).loc Cert.NextExpertsReferenceIdeal.main_arg1) = m ((c.tc : Thread Cert.NextExpertsIdeal.nD Cert.NextExpertsIdeal.τ).loc Cert.NextExpertsIdeal.main_arg1)
      ∧ m' ((c.tc : Thread Cert.NextExpertsReferenceIdeal.nD Cert.NextExpertsReferenceIdeal.τ).loc Cert.NextExpertsReferenceIdeal.main_arg2) = m ((c.tc : Thread Cert.NextExpertsIdeal.nD Cert.NextExpertsIdeal.τ).loc Cert.NextExpertsIdeal.main_arg2)
      ∧ m' ((c.tc : Thread Cert.NextExpertsReferenceIdeal.nD Cert.NextExpertsReferenceIdeal.τ).loc Cert.NextExpertsReferenceIdeal.main_arg3) = m ((c.tc : Thread Cert.NextExpertsIdeal.nD Cert.NextExpertsIdeal.τ).loc Cert.NextExpertsIdeal.main_arg3)
      ∧ m' ((c.tc : Thread Cert.NextExpertsReferenceIdeal.nD Cert.NextExpertsReferenceIdeal.τ).loc Cert.NextExpertsReferenceIdeal.main_arg4) = m ((c.tc : Thread Cert.NextExpertsIdeal.nD Cert.NextExpertsIdeal.τ).loc Cert.NextExpertsIdeal.main_arg4)
      ∧ m' ((c.tc : Thread Cert.NextExpertsReferenceIdeal.nD Cert.NextExpertsReferenceIdeal.τ).loc Cert.NextExpertsReferenceIdeal.main_arg5) = m ((c.tc : Thread Cert.NextExpertsIdeal.nD Cert.NextExpertsIdeal.τ).loc Cert.NextExpertsIdeal.main_arg5)) →
    ∃ (v0 : (c : Dev Cert.NextExpertsIdeal.nD) → Buf (Elt Ideal) ((c.tc : Thread Cert.NextExpertsIdeal.nD Cert.NextExpertsIdeal.τ).loc Cert.NextExpertsIdeal.main_v27)),
      θ_run (Cert.NextExpertsIdeal.defs (F := Ideal)) (onTc (τ := Cert.NextExpertsIdeal.τ) (Cert.NextExpertsIdeal.main (F := Ideal))) ⟨m, fun _ => 0, g⟩ (fun r => ∀ c : Dev Cert.NextExpertsIdeal.nD,
          r.2.mem ((c.tc : Thread Cert.NextExpertsIdeal.nD Cert.NextExpertsIdeal.τ).loc Cert.NextExpertsIdeal.main_v27) = v0 c
          ∧ r.2.mem ((c.tc : Thread Cert.NextExpertsIdeal.nD Cert.NextExpertsIdeal.τ).loc Cert.NextExpertsIdeal.main_arg0) = m ((c.tc : Thread Cert.NextExpertsIdeal.nD Cert.NextExpertsIdeal.τ).loc Cert.NextExpertsIdeal.main_arg0)
          ∧ r.2.mem ((c.tc : Thread Cert.NextExpertsIdeal.nD Cert.NextExpertsIdeal.τ).loc Cert.NextExpertsIdeal.main_arg1) = m ((c.tc : Thread Cert.NextExpertsIdeal.nD Cert.NextExpertsIdeal.τ).loc Cert.NextExpertsIdeal.main_arg1)
          ∧ r.2.mem ((c.tc : Thread Cert.NextExpertsIdeal.nD Cert.NextExpertsIdeal.τ).loc Cert.NextExpertsIdeal.main_arg2) = m ((c.tc : Thread Cert.NextExpertsIdeal.nD Cert.NextExpertsIdeal.τ).loc Cert.NextExpertsIdeal.main_arg2)
          ∧ r.2.mem ((c.tc : Thread Cert.NextExpertsIdeal.nD Cert.NextExpertsIdeal.τ).loc Cert.NextExpertsIdeal.main_arg3) = m ((c.tc : Thread Cert.NextExpertsIdeal.nD Cert.NextExpertsIdeal.τ).loc Cert.NextExpertsIdeal.main_arg3)
          ∧ r.2.mem ((c.tc : Thread Cert.NextExpertsIdeal.nD Cert.NextExpertsIdeal.τ).loc Cert.NextExpertsIdeal.main_arg4) = m ((c.tc : Thread Cert.NextExpertsIdeal.nD Cert.NextExpertsIdeal.τ).loc Cert.NextExpertsIdeal.main_arg4)
          ∧ r.2.mem ((c.tc : Thread Cert.NextExpertsIdeal.nD Cert.NextExpertsIdeal.τ).loc Cert.NextExpertsIdeal.main_arg5) = m ((c.tc : Thread Cert.NextExpertsIdeal.nD Cert.NextExpertsIdeal.τ).loc Cert.NextExpertsIdeal.main_arg5))
      ∧ θ_run (Cert.NextExpertsReferenceIdeal.defs (F := Ideal)) (onTc (τ := Cert.NextExpertsReferenceIdeal.τ) (Cert.NextExpertsReferenceIdeal.main (F := Ideal))) ⟨m', fun _ => 0, g'⟩ (fun r => ∀ c : Dev Cert.NextExpertsReferenceIdeal.nD,
          r.2.mem ((c.tc : Thread Cert.NextExpertsReferenceIdeal.nD Cert.NextExpertsReferenceIdeal.τ).loc Cert.NextExpertsReferenceIdeal.main_v120) = v0 c
          ∧ r.2.mem ((c.tc : Thread Cert.NextExpertsReferenceIdeal.nD Cert.NextExpertsReferenceIdeal.τ).loc Cert.NextExpertsReferenceIdeal.main_arg0) = m' ((c.tc : Thread Cert.NextExpertsReferenceIdeal.nD Cert.NextExpertsReferenceIdeal.τ).loc Cert.NextExpertsReferenceIdeal.main_arg0)
          ∧ r.2.mem ((c.tc : Thread Cert.NextExpertsReferenceIdeal.nD Cert.NextExpertsReferenceIdeal.τ).loc Cert.NextExpertsReferenceIdeal.main_arg1) = m' ((c.tc : Thread Cert.NextExpertsReferenceIdeal.nD Cert.NextExpertsReferenceIdeal.τ).loc Cert.NextExpertsReferenceIdeal.main_arg1)
          ∧ r.2.mem ((c.tc : Thread Cert.NextExpertsReferenceIdeal.nD Cert.NextExpertsReferenceIdeal.τ).loc Cert.NextExpertsReferenceIdeal.main_arg2) = m' ((c.tc : Thread Cert.NextExpertsReferenceIdeal.nD Cert.NextExpertsReferenceIdeal.τ).loc Cert.NextExpertsReferenceIdeal.main_arg2)
          ∧ r.2.mem ((c.tc : Thread Cert.NextExpertsReferenceIdeal.nD Cert.NextExpertsReferenceIdeal.τ).loc Cert.NextExpertsReferenceIdeal.main_arg3) = m' ((c.tc : Thread Cert.NextExpertsReferenceIdeal.nD Cert.NextExpertsReferenceIdeal.τ).loc Cert.NextExpertsReferenceIdeal.main_arg3)
          ∧ r.2.mem ((c.tc : Thread Cert.NextExpertsReferenceIdeal.nD Cert.NextExpertsReferenceIdeal.τ).loc Cert.NextExpertsReferenceIdeal.main_arg4) = m' ((c.tc : Thread Cert.NextExpertsReferenceIdeal.nD Cert.NextExpertsReferenceIdeal.τ).loc Cert.NextExpertsReferenceIdeal.main_arg4)
          ∧ r.2.mem ((c.tc : Thread Cert.NextExpertsReferenceIdeal.nD Cert.NextExpertsReferenceIdeal.τ).loc Cert.NextExpertsReferenceIdeal.main_arg5) = m' ((c.tc : Thread Cert.NextExpertsReferenceIdeal.nD Cert.NextExpertsReferenceIdeal.τ).loc Cert.NextExpertsReferenceIdeal.main_arg5))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hSampleInproj : Cert.SampleInproj.Facts) (hSampleInprojIdeal : Cert.SampleInprojIdeal.Facts) (hSampleInprojReferenceIdeal : Cert.SampleInprojReferenceIdeal.Facts) (hExperts : Cert.Experts.Facts) (hExpertsIdeal : Cert.ExpertsIdeal.Facts) (hExpertsReferenceIdeal : Cert.ExpertsReferenceIdeal.Facts) (hNextExperts : Cert.NextExperts.Facts) (hNextExpertsIdeal : Cert.NextExpertsIdeal.Facts) (hNextExpertsReferenceIdeal : Cert.NextExpertsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_SampleInproj (hSampleInproj := hSampleInproj)
    ∧ quiescent_SampleInprojIdeal (hSampleInprojIdeal := hSampleInprojIdeal)
    ∧ quiescent_SampleInprojReferenceIdeal (hSampleInprojReferenceIdeal := hSampleInprojReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_NextExperts (hNextExperts := hNextExperts)
    ∧ quiescent_NextExpertsIdeal (hNextExpertsIdeal := hNextExpertsIdeal)
    ∧ quiescent_NextExpertsReferenceIdeal (hNextExpertsReferenceIdeal := hNextExpertsReferenceIdeal)
    ∧ preserves_Kernel_KernelIdeal
    ∧ algebraic_KernelIdeal_ReferenceIdeal (hKernelIdeal := hKernelIdeal) (hReferenceIdeal := hReferenceIdeal)
    ∧ preserves_Inproj_InprojIdeal
    ∧ algebraic_InprojIdeal_InprojReferenceIdeal (hInprojIdeal := hInprojIdeal) (hInprojReferenceIdeal := hInprojReferenceIdeal)
    ∧ preserves_SampleInproj_SampleInprojIdeal
    ∧ algebraic_SampleInprojIdeal_SampleInprojReferenceIdeal (hSampleInprojIdeal := hSampleInprojIdeal) (hSampleInprojReferenceIdeal := hSampleInprojReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_NextExperts_NextExpertsIdeal
    ∧ algebraic_NextExpertsIdeal_NextExpertsReferenceIdeal (hNextExpertsIdeal := hNextExpertsIdeal) (hNextExpertsReferenceIdeal := hNextExpertsReferenceIdeal)
-- ==== Kernel.lean ====
abbrev S2x16384x8x64 : Shape := ⟨4, ![2, 16384, 8, 64]⟩
abbrev S2x16384x512 : Shape := ⟨3, ![2, 16384, 512]⟩
abbrev S_ : Shape := ⟨0, ![]⟩
abbrev S1x256x128 : Shape := ⟨3, ![1, 256, 128]⟩
abbrev S1x16384x128 : Shape := ⟨3, ![1, 16384, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x64, .f32⟩
  | .hbm, ⟨2, _⟩ => ⟨S2x16384x8x64, .f32⟩
  | .hbm, ⟨3, _⟩ => ⟨S2x16384x512, .f32⟩
  | .hbm, ⟨4, _⟩ => ⟨S_, .f32⟩
  | .hbm, ⟨5, _⟩ => ⟨S2x16384x512, .f32⟩
  | .hbm, ⟨6, _⟩ => ⟨S2x16384x512, .f32⟩
  | .hbm, ⟨7, _⟩ => ⟨S2x16384x512, .bf16⟩
  | .hbm, ⟨8, _⟩ => ⟨S2x16384x512, .f32⟩
  | .hbm, ⟨9, _⟩ => ⟨S2x16384x512, .bf16⟩
  | .hbm, ⟨10, _⟩ => ⟨S2x16384x512, .f32⟩
  | .hbm, ⟨11, _⟩ => ⟨S2x16384x512, .bf16⟩
  | .hbm, ⟨12, _⟩ => ⟨S2x16384x512, .f32⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x16384x128, .bf16⟩
  | .local _ .vmem, ⟨7, _⟩ => ⟨S1x16384x128, .bf16⟩
  | .local _ .vmem, ⟨8, _⟩ => ⟨S1x16384x128, .bf16⟩
  | .local _ .vmem, ⟨9, _⟩ => ⟨S1x16384x128, .bf16⟩
  | .local _ .vmem, ⟨10, _⟩ => ⟨S1x256x128, .f32⟩
  | .local _ .vmem, ⟨11, _⟩ => ⟨S1x256x128, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 64], ![false, false, false]⟩

def k0_mult1 (i : grid0.Coords) : BitVec 32 :=
  let arg2 : BitVec 32 := BitVec.ofNat 32 (i 2).val
  let c1_i32_48 : BitVec 32 := 1#32
  let v142 : BitVec 32 := Scalar.muli arg2 c1_i32_48
  let c1_i32_52 : BitVec 32 := 1#32
  let v151 : BitVec 32 := Scalar.subi v142 c1_i32_52
  let c0_i32_53 : BitVec 32 := 0#32
  let v152 : BitVec 32 := Scalar.subi v151 c0_i32_53
  let c0_i32_54 : BitVec 32 := 0#32
  let v153 : BitVec 32 := Scalar.maxsi v152 c0_i32_54
  let c256_i32 : BitVec 32 := 256#32
  let v154 : BitVec 32 := Scalar.muli v153 c256_i32
  v154
def k0_off1 (i : grid0.Coords) : Fin 3 → Nat :=
  let c0_55 : Index := 0#32
  let arg2 : BitVec 32 := BitVec.ofNat 32 (i 2).val
  let c1_i32_48 : BitVec 32 := 1#32
  let v142 : BitVec 32 := Scalar.muli arg2 c1_i32_48
  let c1_i32_52 : BitVec 32 := 1#32
  let v151 : BitVec 32 := Scalar.subi v142 c1_i32_52
  let c0_i32_53 : BitVec 32 := 0#32
  let v152 : BitVec 32 := Scalar.subi v151 c0_i32_53
  let c0_i32_54 : BitVec 32 := 0#32
  let v153 : BitVec 32 := Scalar.maxsi v152 c0_i32_54
  let c256_i32 : BitVec 32 := 256#32
  let v154 : BitVec 32 := Scalar.muli v153 c256_i32
  let v155 : BitVec 32 := v154
  let v156 : Index := Scalar.indexCast v155
  let c0_56 : Index := 0#32
  ![0, v156.toNat, 0]
def k0_mult2 (i : grid0.Coords) (arg9 : BitVec 32) : BitVec 32 :=
  let arg2 : BitVec 32 := BitVec.ofNat 32 (i 2).val
  let c1_i32_48 : BitVec 32 := 1#32
  let v142 : BitVec 32 := Scalar.muli arg2 c1_i32_48
  let c1_i32_95 : BitVec 32 := 1#32
  let v272 : BitVec 32 := Scalar.subi v142 c1_i32_95
  let v273 : BitVec 32 := Scalar.subi v272 arg9
  let c0_i32_96 : BitVec 32 := 0#32
  let v274 : BitVec 32 := Scalar.maxsi v273 c0_i32_96
  let c256_i32_97 : BitVec 32 := 256#32
  let v275 : BitVec 32 := Scalar.muli v274 c256_i32_97
  v275

def k0_off2 (i : grid0.Coords) (arg9 : BitVec 32) : Fin 3 → Nat :=
  let c0_98 : Index := 0#32
  let arg2 : BitVec 32 := BitVec.ofNat 32 (i 2).val
  let c1_i32_48 : BitVec 32 := 1#32
  let v142 : BitVec 32 := Scalar.muli arg2 c1_i32_48
  let c1_i32_95 : BitVec 32 := 1#32
  let v272 : BitVec 32 := Scalar.subi v142 c1_i32_95
  let v273 : BitVec 32 := Scalar.subi v272 arg9
  let c0_i32_96 : BitVec 32 := 0#32
  let v274 : BitVec 32 := Scalar.maxsi v273 c0_i32_96
  let c256_i32_97 : BitVec 32 := 256#32
  let v275 : BitVec 32 := Scalar.muli v274 c256_i32_97
  let v276 : BitVec 32 := v275
  let v277 : Index := Scalar.indexCast v276
  let c0_99 : Index := 0#32
  ![0, v277.toNat, 0]

def k0_chk1 (i : grid0.Coords) (arg9 : BitVec 32) : Prop :=
  (256 ∣ (k0_mult2 i arg9).toNat) ∧
  (∀ a, (k0_off2 i arg9) a + S1x256x128.size a ≤ S1x16384x128.size a)
theorem k0_mult2_dvd : ∀ (i : grid0.Coords) (arg9 : BitVec 32) (k0_hw1 : k0_chk1 i arg9), 256 ∣ (k0_mult2 i arg9).toNat := fun i arg9 k0_hw1 => k0_hw1.1
theorem k0_off2_inb : ∀ (i : grid0.Coords) (arg9 : BitVec 32) (k0_hw1 : k0_chk1 i arg9), ∀ a, (k0_off2 i arg9) a + S1x256x128.size a ≤ S1x16384x128.size a := fun i arg9 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "zero_weight_log" => some ⊥
  | _ => none
-- ==== ReferenceIdeal.lean ====
abbrev S2x16384x8x64 : Shape := ⟨4, ![2, 16384, 8, 64]⟩
abbrev S2x8x16384x16384 : Shape := ⟨4, ![2, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x64x16384 : Shape := ⟨4, ![2, 8, 64, 16384]⟩
abbrev S2x16384x512 : Shape := ⟨3, ![2, 16384, 512]⟩

abbrev nBuf : Space → Nat
  | .hbm => 68
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x64, .f32⟩
  | .hbm, ⟨2, _⟩ => ⟨S2x16384x8x64, .f32⟩
  | .hbm, ⟨3, _⟩ => ⟨S2x8x16384x16384, .f32⟩
  | .hbm, ⟨4, _⟩ => ⟨S_, .f32⟩
  | .hbm, ⟨5, _⟩ => ⟨S2x8x16384x16384, .f32⟩
  | .hbm, ⟨6, _⟩ => ⟨S2x8x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S2x8x16384x16384, .f32⟩
  | .hbm, ⟨14, _⟩ => ⟨S2x8x16384x16384, .f32⟩
  | .hbm, ⟨15, _⟩ => ⟨S_, .f32⟩
  | .hbm, ⟨16, _⟩ => ⟨S2x8x16384x16384, .f32⟩
  | .hbm, ⟨17, _⟩ => ⟨S2x8x16384x16384, .f32⟩
  | .hbm, ⟨18, _⟩ => ⟨S2x8x16384x16384, .f32⟩
  | .hbm, ⟨19, _⟩ => ⟨S2x8x16384x16384, .f32⟩
  | .hbm, ⟨20, _⟩ => ⟨S2x8x16384x16384, .i1⟩
  | .hbm, ⟨21, _⟩ => ⟨S2x8x16384x16384, .f32⟩
  | .hbm, ⟨22, _⟩ => ⟨S2x8x16384x16384, .f32⟩
  | .hbm, ⟨23, _⟩ => ⟨S2x8x16384x16384, .f32⟩
  | .hbm, ⟨24, _⟩ => ⟨S2x8x16384x16384, .f32⟩
  | .hbm, ⟨25, _⟩ => ⟨S2x8x16384x16384, .f32⟩
  | .hbm, ⟨26, _⟩ => ⟨S2x8x16384x16384, .f32⟩
  | .hbm, ⟨27, _⟩ => ⟨S2x8x16384x16384, .f32⟩
  | .hbm, ⟨28, _⟩ => ⟨S2x8x16384x16384, .f32⟩
  | .hbm, ⟨29, _⟩ => ⟨S2x8x16384x16384, .f32⟩
  | .hbm, ⟨30, _⟩ => ⟨S_, .f32⟩
  | .hbm, ⟨31, _⟩ => ⟨S_, .f32⟩
  | .hbm, ⟨32, _⟩ => ⟨S2x8x16384x16384, .i1⟩
  | .hbm, ⟨33, _⟩ => ⟨S2x8x16384x16384, .f32⟩
  | .hbm, ⟨34, _⟩ => ⟨S2x8x16384x16384, .f32⟩
  | .hbm, ⟨35, _⟩ => ⟨S16384x1, .i32⟩
  | .hbm, ⟨36, _⟩ => ⟨S1x16384, .i32⟩
  | .hbm, ⟨37, _⟩ => ⟨S16384x16384, .i32⟩
  | .hbm, ⟨38, _⟩ => ⟨S16384x16384, .i32⟩
  | .hbm, ⟨39, _⟩ => ⟨S16384x16384, .i1⟩
  | .hbm, ⟨40, _⟩ => ⟨S16384x16384, .f32⟩
  | .hbm, ⟨41, _⟩ => ⟨S2x8x16384x16384, .f32⟩
  | .hbm, ⟨42, _⟩ => ⟨S2x8x16384x16384, .f32⟩
  | .hbm, ⟨43, _⟩ => ⟨S_, .f32⟩
  | .hbm, ⟨44, _⟩ => ⟨S2x8x16384x16384, .f32⟩
  | .hbm, ⟨45, _⟩ => ⟨S2x8x16384x16384, .f32⟩
  | .hbm, ⟨46, _⟩ => ⟨S2x8x16384x16384, .f32⟩
  | .hbm, ⟨47, _⟩ => ⟨S2x8x16384x16384, .f32⟩
  | .hbm, ⟨48, _⟩ => ⟨S2x8x16384x16384, .i1⟩
  | .hbm, ⟨49, _⟩ => ⟨S2x8x16384x16384, .f32⟩
  | .hbm, ⟨50, _⟩ => ⟨S2x8x16384x16384, .f32⟩
  | .hbm, ⟨51, _⟩ => ⟨S2x8x16384x16384, .f32⟩
  | .hbm, ⟨52, _⟩ => ⟨S2x8x16384x16384, .f32⟩
  | .hbm, ⟨53, _⟩ => ⟨S2x8x16384x16384, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S2x8x16384x16384, .f32⟩
  | .hbm, ⟨58, _⟩ => ⟨S2x8x16384x16384, .f32⟩
  | .hbm, ⟨59, _⟩ => ⟨S2x8x16384x16384, .f32⟩
  | .hbm, ⟨60, _⟩ => ⟨S_, .f32⟩
  | .hbm, ⟨61, _⟩ => ⟨S_, .f32⟩
  | .hbm, ⟨62, _⟩ => ⟨S2x8x16384x16384, .i1⟩
  | .hbm, ⟨63, _⟩ => ⟨S2x8x16384x16384, .f32⟩
  | .hbm, ⟨64, _⟩ => ⟨S2x8x16384x16384, .f32⟩
  | .hbm, ⟨65, _⟩ => ⟨S2x8x64x16384, .f32⟩
  | .hbm, ⟨66, _⟩ => ⟨S2x16384x8x64, .f32⟩
  | .hbm, ⟨67, _⟩ => ⟨S2x16384x512, .f32⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call2_v0 : Ref sig .tc := ⟨.hbm, 42, rfl⟩
abbrev main_call2_call0_cst : Ref sig .tc := ⟨.hbm, 43, rfl⟩
abbrev main_call2_call0_v0 : Ref sig .tc := ⟨.hbm, 44, rfl⟩
abbrev main_call2_call0_v1 : Ref sig .tc := ⟨.hbm, 45, rfl⟩
abbrev main_call2_call0_v2 : Ref sig .tc := ⟨.hbm, 46, rfl⟩
abbrev main_call2_call0_v3 : Ref sig .tc := ⟨.hbm, 47, rfl⟩
abbrev main_call2_call0_v4 : Ref sig .tc := ⟨.hbm, 48, rfl⟩
abbrev main_call2_call0_v5 : Ref sig .tc := ⟨.hbm, 49, rfl⟩
abbrev main_call2_call0_v6 : Ref sig .tc := ⟨.hbm, 50, rfl⟩
abbrev main_call2_call0_v7 : Ref sig .tc := ⟨.hbm, 51, rfl⟩
abbrev main_call2_call0_v8 : Ref sig .tc := ⟨.hbm, 52, rfl⟩
abbrev main_call2_call0_v9 : Ref sig .tc := ⟨.hbm, 53, rfl⟩
abbrev main_call2_call0_v10 : Ref sig .tc := ⟨.hbm, 54, rfl⟩
abbrev main_call2_call0_v11 : Ref sig .tc := ⟨.hbm, 55, rfl⟩
abbrev main_call2_v1 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_1 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩

abbrev nD : Nat := 1
abbrev τ : Topo := Topo.v7x

variable {F : FTy → Type} [FloatOps F]
-- ==== Inproj.lean ====
abbrev S2x16384x1024 : Shape := ⟨3, ![2, 16384, 1024]⟩
abbrev S2x1024 : Shape := ⟨2, ![2, 1024]⟩
abbrev S2x1024x2560 : Shape := ⟨3, ![2, 1024, 2560]⟩
abbrev S2x8x64 : Shape := ⟨3, ![2, 8, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x1x1024 : Shape := ⟨3, ![2, 1, 1024]⟩
abbrev S2x1x512 : Shape := ⟨3, ![2, 1, 512]⟩
abbrev S32768x1024 : Shape := ⟨2, ![32768, 1024]⟩
abbrev S1x1x1024 : Shape := ⟨3, ![1, 1, 1024]⟩
abbrev S1x1024 : Shape := ⟨2, ![1, 1024]⟩
abbrev S1x1024x2560 : Shape := ⟨3, ![1, 1024, 2560]⟩
abbrev S1024x2560 : Shape := ⟨2, ![1024, 2560]⟩
abbrev S1x1x512 : Shape := ⟨3, ![1, 1, 512]⟩
abbrev S32768x512 : Shape := ⟨2, ![32768, 512]⟩
abbrev S2x32768x512 : Shape := ⟨3, ![2, 32768, 512]⟩
abbrev S512x1024 : Shape := ⟨2, ![512, 1024]⟩
abbrev S2x512x512 : Shape := ⟨3, ![2, 512, 512]⟩
abbrev S1024x512 : Shape := ⟨2, ![1024, 512]⟩
abbrev S1x512x512 : Shape := ⟨3, ![1, 512, 512]⟩

abbrev nBuf : Space → Nat
  | .hbm => 74
  | .vmem => 46
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x1024, .f32⟩
  | .hbm, ⟨3, _⟩ => ⟨S2x1024x2560, .f32⟩
  | .hbm, ⟨4, _⟩ => ⟨S2x8x64, .f32⟩
  | .hbm, ⟨5, _⟩ => ⟨S2x8x64, .f32⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S2x1x1024, .f32⟩
  | .hbm, ⟨37, _⟩ => ⟨S2x1024x2560, .bf16⟩
  | .hbm, ⟨38, _⟩ => ⟨S2x1x512, .f32⟩
  | .hbm, ⟨39, _⟩ => ⟨S2x1x512, .f32⟩
  | .hbm, ⟨40, _⟩ => ⟨S32768x1024, .f32⟩
  | .hbm, ⟨41, _⟩ => ⟨S32768x1024, .f32⟩
  | .hbm, ⟨42, _⟩ => ⟨S1x1x1024, .f32⟩
  | .hbm, ⟨43, _⟩ => ⟨S1x1024, .f32⟩
  | .hbm, ⟨44, _⟩ => ⟨S1x1024x2560, .bf16⟩
  | .hbm, ⟨45, _⟩ => ⟨S1024x2560, .bf16⟩
  | .hbm, ⟨46, _⟩ => ⟨S1x1x512, .f32⟩
  | .hbm, ⟨47, _⟩ => ⟨S1x512, .f32⟩
  | .hbm, ⟨48, _⟩ => ⟨S1x1x512, .f32⟩
  | .hbm, ⟨49, _⟩ => ⟨S1x512, .f32⟩
  | .hbm, ⟨50, _⟩ => ⟨S32768x512, .bf16⟩
  | .hbm, ⟨51, _⟩ => ⟨S2x32768x512, .f32⟩
  | .hbm, ⟨52, _⟩ => ⟨S2x32768x512, .f32⟩
  | .hbm, ⟨53, _⟩ => ⟨S32768x512, .bf16⟩
  | .hbm, ⟨54, _⟩ => ⟨S32768x512, .bf16⟩
  | .hbm, ⟨55, _⟩ => ⟨S32768x512, .bf16⟩
  | .hbm, ⟨56, _⟩ => ⟨S32768x512, .f32⟩
  | .hbm, ⟨57, _⟩ => ⟨S32768x512, .bf16⟩
  | .hbm, ⟨58, _⟩ => ⟨S1x1x1024, .f32⟩
  | .hbm, ⟨59, _⟩ => ⟨S1x1024, .f32⟩
  | .hbm, ⟨60, _⟩ => ⟨S1x1024x2560, .bf16⟩
  | .hbm, ⟨61, _⟩ => ⟨S1024x2560, .bf16⟩
  | .hbm, ⟨62, _⟩ => ⟨S1x1x512, .f32⟩
  | .hbm, ⟨63, _⟩ => ⟨S1x512, .f32⟩
  | .hbm, ⟨64, _⟩ => ⟨S1x1x512, .f32⟩
  | .hbm, ⟨65, _⟩ => ⟨S1x512, .f32⟩
  | .hbm, ⟨66, _⟩ => ⟨S32768x512, .bf16⟩
  | .hbm, ⟨67, _⟩ => ⟨S2x32768x512, .f32⟩
  | .hbm, ⟨68, _⟩ => ⟨S2x32768x512, .f32⟩
  | .hbm, ⟨69, _⟩ => ⟨S32768x512, .bf16⟩
  | .hbm, ⟨70, _⟩ => ⟨S32768x512, .bf16⟩
  | .hbm, ⟨71, _⟩ => ⟨S32768x512, .bf16⟩
  | .hbm, ⟨72, _⟩ => ⟨S32768x512, .f32⟩
  | .hbm, ⟨73, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S2x512x512, .f32⟩
  | .local _ .vmem, ⟨10, _⟩ => ⟨S2x512x512, .f32⟩
  | .local _ .vmem, ⟨11, _⟩ => ⟨S2x512x512, .f32⟩
  | .local _ .vmem, ⟨12, _⟩ => ⟨S2x512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1024x2560, .bf16⟩
  | .local _ .vmem, ⟨27, _⟩ => ⟨S1x512, .f32⟩
  | .local _ .vmem, ⟨28, _⟩ => ⟨S1x512, .f32⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S512x512, .f32⟩
  | .local _ .vmem, ⟨43, _⟩ => ⟨S512x512, .f32⟩
  | .local _ .vmem, ⟨44, _⟩ => ⟨S512x512, .bf16⟩
  | .local _ .vmem, ⟨45, _⟩ => ⟨S512x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23_0 : Ref sig .tc := ⟨.hbm, 50, rfl⟩
abbrev main_v23_1 : Ref sig .tc := ⟨.hbm, 51, rfl⟩
abbrev main_v23_2 : Ref sig .tc := ⟨.hbm, 52, rfl⟩
abbrev main_v23_3 : Ref sig .tc := ⟨.hbm, 53, rfl⟩
abbrev main_v23_4 : Ref sig .tc := ⟨.hbm, 54, rfl⟩
abbrev main_v23_5 : Ref sig .tc := ⟨.hbm, 55, rfl⟩
abbrev main_v23_6 : Ref sig .tc := ⟨.hbm, 56, rfl⟩
abbrev main_v23_7 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32_0 : Ref sig .tc := ⟨.hbm, 66, rfl⟩
abbrev main_v32_1 : Ref sig .tc := ⟨.hbm, 67, rfl⟩
abbrev main_v32_2 : Ref sig .tc := ⟨.hbm, 68, rfl⟩
abbrev main_v32_3 : Ref sig .tc := ⟨.hbm, 69, rfl⟩
abbrev main_v32_4 : Ref sig .tc := ⟨.hbm, 70, rfl⟩
abbrev main_v32_5 : Ref sig .tc := ⟨.hbm, 71, rfl⟩
abbrev main_v32_6 : Ref sig .tc := ⟨.hbm, 72, rfl⟩
abbrev main_v32_7 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc1_sem0_0 : DmaSem sig := 23
abbrev cc1_sem0_1 : DmaSem sig := 24
abbrev cc1_sem1_0 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2560 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== InprojIdeal.lean ====
abbrev S2x16384x1024 : Shape := ⟨3, ![2, 16384, 1024]⟩
abbrev S2x1024 : Shape := ⟨2, ![2, 1024]⟩
abbrev S2x1024x2560 : Shape := ⟨3, ![2, 1024, 2560]⟩
abbrev S2x8x64 : Shape := ⟨3, ![2, 8, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x1x1024 : Shape := ⟨3, ![2, 1, 1024]⟩
abbrev S2x1x512 : Shape := ⟨3, ![2, 1, 512]⟩
abbrev S32768x1024 : Shape := ⟨2, ![32768, 1024]⟩
abbrev S1x1x1024 : Shape := ⟨3, ![1, 1, 1024]⟩
abbrev S1x1024 : Shape := ⟨2, ![1, 1024]⟩
abbrev S1x1024x2560 : Shape := ⟨3, ![1, 1024, 2560]⟩
abbrev S1024x2560 : Shape := ⟨2, ![1024, 2560]⟩
abbrev S1x1x512 : Shape := ⟨3, ![1, 1, 512]⟩
abbrev S32768x512 : Shape := ⟨2, ![32768, 512]⟩
abbrev S2x32768x512 : Shape := ⟨3, ![2, 32768, 512]⟩
abbrev S512x1024 : Shape := ⟨2, ![512, 1024]⟩
abbrev S2x512x512 : Shape := ⟨3, ![2, 512, 512]⟩
abbrev S1024x512 : Shape := ⟨2, ![1024, 512]⟩
abbrev S1x512x512 : Shape := ⟨3, ![1, 512, 512]⟩

abbrev nBuf : Space → Nat
  | .hbm => 74
  | .vmem => 46
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x1024, .f32⟩
  | .hbm, ⟨3, _⟩ => ⟨S2x1024x2560, .f32⟩
  | .hbm, ⟨4, _⟩ => ⟨S2x8x64, .f32⟩
  | .hbm, ⟨5, _⟩ => ⟨S2x8x64, .f32⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S2x1x1024, .f32⟩
  | .hbm, ⟨37, _⟩ => ⟨S2x1024x2560, .bf16⟩
  | .hbm, ⟨38, _⟩ => ⟨S2x1x512, .f32⟩
  | .hbm, ⟨39, _⟩ => ⟨S2x1x512, .f32⟩
  | .hbm, ⟨40, _⟩ => ⟨S32768x1024, .f32⟩
  | .hbm, ⟨41, _⟩ => ⟨S32768x1024, .f32⟩
  | .hbm, ⟨42, _⟩ => ⟨S1x1x1024, .f32⟩
  | .hbm, ⟨43, _⟩ => ⟨S1x1024, .f32⟩
  | .hbm, ⟨44, _⟩ => ⟨S1x1024x2560, .bf16⟩
  | .hbm, ⟨45, _⟩ => ⟨S1024x2560, .bf16⟩
  | .hbm, ⟨46, _⟩ => ⟨S1x1x512, .f32⟩
  | .hbm, ⟨47, _⟩ => ⟨S1x512, .f32⟩
  | .hbm, ⟨48, _⟩ => ⟨S1x1x512, .f32⟩
  | .hbm, ⟨49, _⟩ => ⟨S1x512, .f32⟩
  | .hbm, ⟨50, _⟩ => ⟨S32768x512, .bf16⟩
  | .hbm, ⟨51, _⟩ => ⟨S2x32768x512, .f32⟩
  | .hbm, ⟨52, _⟩ => ⟨S2x32768x512, .f32⟩
  | .hbm, ⟨53, _⟩ => ⟨S32768x512, .bf16⟩
  | .hbm, ⟨54, _⟩ => ⟨S32768x512, .bf16⟩
  | .hbm, ⟨55, _⟩ => ⟨S32768x512, .bf16⟩
  | .hbm, ⟨56, _⟩ => ⟨S32768x512, .f32⟩
  | .hbm, ⟨57, _⟩ => ⟨S32768x512, .bf16⟩
  | .hbm, ⟨58, _⟩ => ⟨S1x1x1024, .f32⟩
  | .hbm, ⟨59, _⟩ => ⟨S1x1024, .f32⟩
  | .hbm, ⟨60, _⟩ => ⟨S1x1024x2560, .bf16⟩
  | .hbm, ⟨61, _⟩ => ⟨S1024x2560, .bf16⟩
  | .hbm, ⟨62, _⟩ => ⟨S1x1x512, .f32⟩
  | .hbm, ⟨63, _⟩ => ⟨S1x512, .f32⟩
  | .hbm, ⟨64, _⟩ => ⟨S1x1x512, .f32⟩
  | .hbm, ⟨65, _⟩ => ⟨S1x512, .f32⟩
  | .hbm, ⟨66, _⟩ => ⟨S32768x512, .bf16⟩
  | .hbm, ⟨67, _⟩ => ⟨S2x32768x512, .f32⟩
  | .hbm, ⟨68, _⟩ => ⟨S2x32768x512, .f32⟩
  | .hbm, ⟨69, _⟩ => ⟨S32768x512, .bf16⟩
  | .hbm, ⟨70, _⟩ => ⟨S32768x512, .bf16⟩
  | .hbm, ⟨71, _⟩ => ⟨S32768x512, .bf16⟩
  | .hbm, ⟨72, _⟩ => ⟨S32768x512, .f32⟩
  | .hbm, ⟨73, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S2x512x512, .f32⟩
  | .local _ .vmem, ⟨10, _⟩ => ⟨S2x512x512, .f32⟩
  | .local _ .vmem, ⟨11, _⟩ => ⟨S2x512x512, .f32⟩
  | .local _ .vmem, ⟨12, _⟩ => ⟨S2x512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1024x2560, .bf16⟩
  | .local _ .vmem, ⟨27, _⟩ => ⟨S1x512, .f32⟩
  | .local _ .vmem, ⟨28, _⟩ => ⟨S1x512, .f32⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S512x512, .f32⟩
  | .local _ .vmem, ⟨43, _⟩ => ⟨S512x512, .f32⟩
  | .local _ .vmem, ⟨44, _⟩ => ⟨S512x512, .bf16⟩
  | .local _ .vmem, ⟨45, _⟩ => ⟨S512x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23_0 : Ref sig .tc := ⟨.hbm, 50, rfl⟩
abbrev main_v23_1 : Ref sig .tc := ⟨.hbm, 51, rfl⟩
abbrev main_v23_2 : Ref sig .tc := ⟨.hbm, 52, rfl⟩
abbrev main_v23_3 : Ref sig .tc := ⟨.hbm, 53, rfl⟩
abbrev main_v23_4 : Ref sig .tc := ⟨.hbm, 54, rfl⟩
abbrev main_v23_5 : Ref sig .tc := ⟨.hbm, 55, rfl⟩
abbrev main_v23_6 : Ref sig .tc := ⟨.hbm, 56, rfl⟩
abbrev main_v23_7 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32_0 : Ref sig .tc := ⟨.hbm, 66, rfl⟩
abbrev main_v32_1 : Ref sig .tc := ⟨.hbm, 67, rfl⟩
abbrev main_v32_2 : Ref sig .tc := ⟨.hbm, 68, rfl⟩
abbrev main_v32_3 : Ref sig .tc := ⟨.hbm, 69, rfl⟩
abbrev main_v32_4 : Ref sig .tc := ⟨.hbm, 70, rfl⟩
abbrev main_v32_5 : Ref sig .tc := ⟨.hbm, 71, rfl⟩
abbrev main_v32_6 : Ref sig .tc := ⟨.hbm, 72, rfl⟩
abbrev main_v32_7 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc1_sem0_0 : DmaSem sig := 23
abbrev cc1_sem0_1 : DmaSem sig := 24
abbrev cc1_sem1_0 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2560 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== InprojReferenceIdeal.lean ====
abbrev S2x16384x1024 : Shape := ⟨3, ![2, 16384, 1024]⟩
abbrev S2x1024 : Shape := ⟨2, ![2, 1024]⟩
abbrev S2x1024x2560 : Shape := ⟨3, ![2, 1024, 2560]⟩
abbrev S2x8x64 : Shape := ⟨3, ![2, 8, 64]⟩
abbrev S_ : Shape := ⟨0, ![]⟩
abbrev S2x16384 : Shape := ⟨2, ![2, 16384]⟩
abbrev S2x16384x1 : Shape := ⟨3, ![2, 16384, 1]⟩
abbrev S1x1024 : Shape := ⟨2, ![1, 1024]⟩
abbrev S1024 : Shape := ⟨1, ![1024]⟩
abbrev S1x1x1024 : Shape := ⟨3, ![1, 1, 1024]⟩
abbrev S1x1024x2560 : Shape := ⟨3, ![1, 1024, 2560]⟩
abbrev S1024x2560 : Shape := ⟨2, ![1024, 2560]⟩
abbrev S2x16384x2560 : Shape := ⟨3, ![2, 16384, 2560]⟩
abbrev S2x16384x512 : Shape := ⟨3, ![2, 16384, 512]⟩
abbrev S32768x512 : Shape := ⟨2, ![32768, 512]⟩
abbrev S1x32768x512 : Shape := ⟨3, ![1, 32768, 512]⟩
abbrev S2x32768x512 : Shape := ⟨3, ![2, 32768, 512]⟩

abbrev nBuf : Space → Nat
  | .hbm => 116
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x1024, .f32⟩
  | .hbm, ⟨3, _⟩ => ⟨S2x1024x2560, .f32⟩
  | .hbm, ⟨4, _⟩ => ⟨S2x8x64, .f32⟩
  | .hbm, ⟨5, _⟩ => ⟨S2x8x64, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S1x1024x2560, .f32⟩
  | .hbm, ⟨25, _⟩ => ⟨S1024x2560, .f32⟩
  | .hbm, ⟨26, _⟩ => ⟨S2x16384x2560, .f32⟩
  | .hbm, ⟨27, _⟩ => ⟨S2x16384x512, .f32⟩
  | .hbm, ⟨28, _⟩ => ⟨S2x16384x512, .f32⟩
  | .hbm, ⟨29, _⟩ => ⟨S2x16384x512, .f32⟩
  | .hbm, ⟨30, _⟩ => ⟨S2x16384x512, .f32⟩
  | .hbm, ⟨31, _⟩ => ⟨S2x16384x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S2x16384x512, .f32⟩
  | .hbm, ⟨36, _⟩ => ⟨S2x16384x512, .f32⟩
  | .hbm, ⟨37, _⟩ => ⟨S32768x512, .f32⟩
  | .hbm, ⟨38, _⟩ => ⟨S32768x512, .bf16⟩
  | .hbm, ⟨39, _⟩ => ⟨S2x16384x512, .f32⟩
  | .hbm, ⟨40, _⟩ => ⟨S2x16384x512, .f32⟩
  | .hbm, ⟨41, _⟩ => ⟨S_, .f32⟩
  | .hbm, ⟨42, _⟩ => ⟨S2x16384x512, .f32⟩
  | .hbm, ⟨43, _⟩ => ⟨S2x16384x512, .f32⟩
  | .hbm, ⟨44, _⟩ => ⟨S2x16384x512, .f32⟩
  | .hbm, ⟨45, _⟩ => ⟨S_, .f32⟩
  | .hbm, ⟨46, _⟩ => ⟨S2x16384x512, .f32⟩
  | .hbm, ⟨47, _⟩ => ⟨S2x16384x512, .f32⟩
  | .hbm, ⟨48, _⟩ => ⟨S2x16384x512, .f32⟩
  | .hbm, ⟨49, _⟩ => ⟨S_, .f32⟩
  | .hbm, ⟨50, _⟩ => ⟨S2x16384x512, .f32⟩
  | .hbm, ⟨51, _⟩ => ⟨S2x16384x512, .f32⟩
  | .hbm, ⟨52, _⟩ => ⟨S_, .f32⟩
  | .hbm, ⟨53, _⟩ => ⟨S2x16384x512, .f32⟩
  | .hbm, ⟨54, _⟩ => ⟨S2x16384x512, .f32⟩
  | .hbm, ⟨55, _⟩ => ⟨S2x16384x512, .f32⟩
  | .hbm, ⟨56, _⟩ => ⟨S32768x512, .f32⟩
  | .hbm, ⟨57, _⟩ => ⟨S32768x512, .bf16⟩
  | .hbm, ⟨58, _⟩ => ⟨S2x16384x1024, .f32⟩
  | .hbm, ⟨59, _⟩ => ⟨S_, .f32⟩
  | .hbm, ⟨60, _⟩ => ⟨S2x16384, .f32⟩
  | .hbm, ⟨61, _⟩ => ⟨S2x16384x1, .f32⟩
  | .hbm, ⟨62, _⟩ => ⟨S_, .f32⟩
  | .hbm, ⟨63, _⟩ => ⟨S2x16384x1, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S2x16384x1, .f32⟩
  | .hbm, ⟨69, _⟩ => ⟨S2x16384x1024, .f32⟩
  | .hbm, ⟨70, _⟩ => ⟨S2x16384x1024, .f32⟩
  | .hbm, ⟨71, _⟩ => ⟨S1x1024, .f32⟩
  | .hbm, ⟨72, _⟩ => ⟨S1024, .f32⟩
  | .hbm, ⟨73, _⟩ => ⟨S1x1x1024, .f32⟩
  | .hbm, ⟨74, _⟩ => ⟨S2x16384x1024, .f32⟩
  | .hbm, ⟨75, _⟩ => ⟨S2x16384x1024, .f32⟩
  | .hbm, ⟨76, _⟩ => ⟨S1x1024x2560, .f32⟩
  | .hbm, ⟨77, _⟩ => ⟨S1024x2560, .f32⟩
  | .hbm, ⟨78, _⟩ => ⟨S2x16384x2560, .f32⟩
  | .hbm, ⟨79, _⟩ => ⟨S2x16384x512, .f32⟩
  | .hbm, ⟨80, _⟩ => ⟨S2x16384x512, .f32⟩
  | .hbm, ⟨81, _⟩ => ⟨S2x16384x512, .f32⟩
  | .hbm, ⟨82, _⟩ => ⟨S2x16384x512, .f32⟩
  | .hbm, ⟨83, _⟩ => ⟨S2x16384x512, .f32⟩
  | .hbm, ⟨84, _⟩ => ⟨S32768x512, .f32⟩
  | .hbm, ⟨85, _⟩ => ⟨S32768x512, .f32⟩
  | .hbm, ⟨86, _⟩ => ⟨S_, .f32⟩
  | .hbm, ⟨87, _⟩ => ⟨S2x16384x512, .f32⟩
  | .hbm, ⟨88, _⟩ => ⟨S2x16384x512, .f32⟩
  | .hbm, ⟨89, _⟩ => ⟨S32768x512, .f32⟩
  | .hbm, ⟨90, _⟩ => ⟨S32768x512, .bf16⟩
  | .hbm, ⟨91, _⟩ => ⟨S2x16384x512, .f32⟩
  | .hbm, ⟨92, _⟩ => ⟨S2x16384x512, .f32⟩
  | .hbm, ⟨93, _⟩ => ⟨S_, .f32⟩
  | .hbm, ⟨94, _⟩ => ⟨S2x16384x512, .f32⟩
  | .hbm, ⟨95, _⟩ => ⟨S2x16384x512, .f32⟩
  | .hbm, ⟨96, _⟩ => ⟨S2x16384x512, .f32⟩
  | .hbm, ⟨97, _⟩ => ⟨S_, .f32⟩
  | .hbm, ⟨98, _⟩ => ⟨S2x16384x512, .f32⟩
  | .hbm, ⟨99, _⟩ => ⟨S2x16384x512, .f32⟩
  | .hbm, ⟨100, _⟩ => ⟨S2x16384x512, .f32⟩
  | .hbm, ⟨101, _⟩ => ⟨S_, .f32⟩
  | .hbm, ⟨102, _⟩ => ⟨S2x16384x512, .f32⟩
  | .hbm, ⟨103, _⟩ => ⟨S2x16384x512, .f32⟩
  | .hbm, ⟨104, _⟩ => ⟨S_, .f32⟩
  | .hbm, ⟨105, _⟩ => ⟨S2x16384x512, .f32⟩
  | .hbm, ⟨106, _⟩ => ⟨S2x16384x512, .f32⟩
  | .hbm, ⟨107, _⟩ => ⟨S2x16384x512, .f32⟩
  | .hbm, ⟨108, _⟩ => ⟨S32768x512, .f32⟩
  | .hbm, ⟨109, _⟩ => ⟨S32768x512, .bf16⟩
  | .hbm, ⟨110, _⟩ => ⟨S1x32768x512, .f32⟩
  | .hbm, ⟨111, _⟩ => ⟨S1x32768x512, .f32⟩
  | .hbm, ⟨112, _⟩ => ⟨S2x32768x512, .f32⟩
  | .hbm, ⟨113, _⟩ => ⟨S1x32768x512, .f32⟩
  | .hbm, ⟨114, _⟩ => ⟨S1x32768x512, .f32⟩
  | .hbm, ⟨115, _⟩ => ⟨S2x32768x512, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_12 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_cst_14 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩

abbrev nD : Nat := 1
abbrev τ : Topo := Topo.v7x

variable {F : FTy → Type} [FloatOps F]
-- ==== SampleInproj.lean ====
abbrev S8x32x1024 : Shape := ⟨3, ![8, 32, 1024]⟩
abbrev S2x1024 : Shape := ⟨2, ![2, 1024]⟩
abbrev S2x1024x2560 : Shape := ⟨3, ![2, 1024, 2560]⟩
abbrev S2x8x64 : Shape := ⟨3, ![2, 8, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x1x1024 : Shape := ⟨3, ![2, 1, 1024]⟩
abbrev S2x1x512 : Shape := ⟨3, ![2, 1, 512]⟩
abbrev S256x1024 : Shape := ⟨2, ![256, 1024]⟩
abbrev S1x1x1024 : Shape := ⟨3, ![1, 1, 1024]⟩
abbrev S1x1024 : Shape := ⟨2, ![1, 1024]⟩
abbrev S1x1024x2560 : Shape := ⟨3, ![1, 1024, 2560]⟩
abbrev S1024x2560 : Shape := ⟨2, ![1024, 2560]⟩
abbrev S1x1x512 : Shape := ⟨3, ![1, 1, 512]⟩
abbrev S256x512 : Shape := ⟨2, ![256, 512]⟩
abbrev S2x256x512 : Shape := ⟨3, ![2, 256, 512]⟩
abbrev S256 : Shape := ⟨1, ![256]⟩
abbrev S256x1 : Shape := ⟨2, ![256, 1]⟩
abbrev S1024x512 : Shape := ⟨2, ![1024, 512]⟩
abbrev S1x256x512 : Shape := ⟨3, ![1, 256, 512]⟩

abbrev nBuf : Space → Nat
  | .hbm => 74
  | .vmem => 28
  | .smem => 0
  | _ => 0

abbrev bufTy : (tb : Table) → Fin (tcTables nBuf tb) → BufTy
  | .hbm, ⟨0, _⟩ => ⟨S8x32x1024, .f32⟩
  | .hbm, ⟨1, _⟩ => ⟨S8x32x1024, .f32⟩
  | .hbm, ⟨2, _⟩ => ⟨S2x1024, .f32⟩
  | .hbm, ⟨3, _⟩ => ⟨S2x1024x2560, .f32⟩
  | .hbm, ⟨4, _⟩ => ⟨S2x8x64, .f32⟩
  | .hbm, ⟨5, _⟩ => ⟨S2x8x64, .f32⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S2x1x1024, .f32⟩
  | .hbm, ⟨37, _⟩ => ⟨S2x1024x2560, .bf16⟩
  | .hbm, ⟨38, _⟩ => ⟨S2x1x512, .f32⟩
  | .hbm, ⟨39, _⟩ => ⟨S2x1x512, .f32⟩
  | .hbm, ⟨40, _⟩ => ⟨S256x1024, .f32⟩
  | .hbm, ⟨41, _⟩ => ⟨S256x1024, .f32⟩
  | .hbm, ⟨42, _⟩ => ⟨S1x1x1024, .f32⟩
  | .hbm, ⟨43, _⟩ => ⟨S1x1024, .f32⟩
  | .hbm, ⟨44, _⟩ => ⟨S1x1024x2560, .bf16⟩
  | .hbm, ⟨45, _⟩ => ⟨S1024x2560, .bf16⟩
  | .hbm, ⟨46, _⟩ => ⟨S1x1x512, .f32⟩
  | .hbm, ⟨47, _⟩ => ⟨S1x512, .f32⟩
  | .hbm, ⟨48, _⟩ => ⟨S1x1x512, .f32⟩
  | .hbm, ⟨49, _⟩ => ⟨S1x512, .f32⟩
  | .hbm, ⟨50, _⟩ => ⟨S256x512, .bf16⟩
  | .hbm, ⟨51, _⟩ => ⟨S2x256x512, .f32⟩
  | .hbm, ⟨52, _⟩ => ⟨S2x256x512, .f32⟩
  | .hbm, ⟨53, _⟩ => ⟨S256x512, .bf16⟩
  | .hbm, ⟨54, _⟩ => ⟨S256x512, .bf16⟩
  | .hbm, ⟨55, _⟩ => ⟨S256x512, .bf16⟩
  | .hbm, ⟨56, _⟩ => ⟨S256x512, .f32⟩
  | .hbm, ⟨57, _⟩ => ⟨S256x512, .bf16⟩
  | .hbm, ⟨58, _⟩ => ⟨S1x1x1024, .f32⟩
  | .hbm, ⟨59, _⟩ => ⟨S1x1024, .f32⟩
  | .hbm, ⟨60, _⟩ => ⟨S1x1024x2560, .bf16⟩
  | .hbm, ⟨61, _⟩ => ⟨S1024x2560, .bf16⟩
  | .hbm, ⟨62, _⟩ => ⟨S1x1x512, .f32⟩
  | .hbm, ⟨63, _⟩ => ⟨S1x512, .f32⟩
  | .hbm, ⟨64, _⟩ => ⟨S1x1x512, .f32⟩
  | .hbm, ⟨65, _⟩ => ⟨S1x512, .f32⟩
  | .hbm, ⟨66, _⟩ => ⟨S256x512, .bf16⟩
  | .hbm, ⟨67, _⟩ => ⟨S2x256x512, .f32⟩
  | .hbm, ⟨68, _⟩ => ⟨S2x256x512, .f32⟩
  | .hbm, ⟨69, _⟩ => ⟨S256x512, .bf16⟩
  | .hbm, ⟨70, _⟩ => ⟨S256x512, .bf16⟩
  | .hbm, ⟨71, _⟩ => ⟨S256x512, .bf16⟩
  | .hbm, ⟨72, _⟩ => ⟨S256x512, .f32⟩
  | .hbm, ⟨73, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x2560, .bf16⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S256x512, .bf16⟩
  | .local _ .vmem, ⟨7, _⟩ => ⟨S2x256x512, .f32⟩
  | .local _ .vmem, ⟨8, _⟩ => ⟨S2x256x512, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .bf16⟩
  | .local _ .vmem, ⟨14, _⟩ => ⟨S256x1024, .f32⟩
  | .local _ .vmem, ⟨15, _⟩ => ⟨S1x1024, .f32⟩
  | .local _ .vmem, ⟨16, _⟩ => ⟨S1024x2560, .bf16⟩
  | .local _ .vmem, ⟨17, _⟩ => ⟨S1x512, .f32⟩
  | .local _ .vmem, ⟨18, _⟩ => ⟨S1x512, .f32⟩
  | .local _ .vmem, ⟨19, _⟩ => ⟨S512x512, .bf16⟩
  | .local _ .vmem, ⟨20, _⟩ => ⟨S256x512, .bf16⟩
  | .local _ .vmem, ⟨21, _⟩ => ⟨S1x256x512, .f32⟩
  | .local _ .vmem, ⟨22, _⟩ => ⟨S1x256x512, .f32⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .f32⟩
  | .local _ .vmem, ⟨27, _⟩ => ⟨S256x512, .bf16⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23_0 : Ref sig .tc := ⟨.hbm, 50, rfl⟩
abbrev main_v23_1 : Ref sig .tc := ⟨.hbm, 51, rfl⟩
abbrev main_v23_2 : Ref sig .tc := ⟨.hbm, 52, rfl⟩
abbrev main_v23_3 : Ref sig .tc := ⟨.hbm, 53, rfl⟩
abbrev main_v23_4 : Ref sig .tc := ⟨.hbm, 54, rfl⟩
abbrev main_v23_5 : Ref sig .tc := ⟨.hbm, 55, rfl⟩
abbrev main_v23_6 : Ref sig .tc := ⟨.hbm, 56, rfl⟩
abbrev main_v23_7 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32_0 : Ref sig .tc := ⟨.hbm, 66, rfl⟩
abbrev main_v32_1 : Ref sig .tc := ⟨.hbm, 67, rfl⟩
abbrev main_v32_2 : Ref sig .tc := ⟨.hbm, 68, rfl⟩
abbrev main_v32_3 : Ref sig .tc := ⟨.hbm, 69, rfl⟩
abbrev main_v32_4 : Ref sig .tc := ⟨.hbm, 70, rfl⟩
abbrev main_v32_5 : Ref sig .tc := ⟨.hbm, 71, rfl⟩
abbrev main_v32_6 : Ref sig .tc := ⟨.hbm, 72, rfl⟩
abbrev main_v32_7 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2560 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x256x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S256x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S256x512 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev stage1_11 : Fin 1 → Memref sig .tc .vmem S256x512 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true]

abbrev stage1_12 : Fin 1 → Memref sig .tc .vmem S256x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev stage1_13 : Fin 1 → Memref sig .tc .vmem S256x512 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true]
-- ==== SampleInprojReferenceIdeal.lean ====
abbrev S8x32x1024 : Shape := ⟨3, ![8, 32, 1024]⟩
abbrev S2x1024 : Shape := ⟨2, ![2, 1024]⟩
abbrev S2x1024x2560 : Shape := ⟨3, ![2, 1024, 2560]⟩
abbrev S2x8x64 : Shape := ⟨3, ![2, 8, 64]⟩
abbrev S_ : Shape := ⟨0, ![]⟩
abbrev S8x32 : Shape := ⟨2, ![8, 32]⟩
abbrev S8x32x1 : Shape := ⟨3, ![8, 32, 1]⟩
abbrev S1x1024 : Shape := ⟨2, ![1, 1024]⟩
abbrev S1024 : Shape := ⟨1, ![1024]⟩
abbrev S1x1x1024 : Shape := ⟨3, ![1, 1, 1024]⟩
abbrev S1x1024x2560 : Shape := ⟨3, ![1, 1024, 2560]⟩
abbrev S1024x2560 : Shape := ⟨2, ![1024, 2560]⟩
abbrev S8x32x2560 : Shape := ⟨3, ![8, 32, 2560]⟩
abbrev S8x32x512 : Shape := ⟨3, ![8, 32, 512]⟩
abbrev S256x512 : Shape := ⟨2, ![256, 512]⟩
abbrev S1x256x512 : Shape := ⟨3, ![1, 256, 512]⟩
abbrev S2x256x512 : Shape := ⟨3, ![2, 256, 512]⟩

abbrev nBuf : Space → Nat
  | .hbm => 116
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S8x32x1024, .f32⟩
  | .hbm, ⟨2, _⟩ => ⟨S2x1024, .f32⟩
  | .hbm, ⟨3, _⟩ => ⟨S2x1024x2560, .f32⟩
  | .hbm, ⟨4, _⟩ => ⟨S2x8x64, .f32⟩
  | .hbm, ⟨5, _⟩ => ⟨S2x8x64, .f32⟩
  | .hbm, ⟨6, _⟩ => ⟨S8x32x1024, .f32⟩
  | .hbm, ⟨7, _⟩ => ⟨S_, .f32⟩
  | .hbm, ⟨8, _⟩ => ⟨S8x32, .f32⟩
  | .hbm, ⟨9, _⟩ => ⟨S8x32x1, .f32⟩
  | .hbm, ⟨10, _⟩ => ⟨S_, .f32⟩
  | .hbm, ⟨11, _⟩ => ⟨S8x32x1, .f32⟩
  | .hbm, ⟨12, _⟩ => ⟨S8x32x1, .f32⟩
  | .hbm, ⟨13, _⟩ => ⟨S_, .f32⟩
  | .hbm, ⟨14, _⟩ => ⟨S8x32x1, .f32⟩
  | .hbm, ⟨15, _⟩ => ⟨S8x32x1, .f32⟩
  | .hbm, ⟨16, _⟩ => ⟨S8x32x1, .f32⟩
  | .hbm, ⟨17, _⟩ => ⟨S8x32x1024, .f32⟩
  | .hbm, ⟨18, _⟩ => ⟨S8x32x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S8x32x1024, .f32⟩
  | .hbm, ⟨23, _⟩ => ⟨S8x32x1024, .f32⟩
  | .hbm, ⟨24, _⟩ => ⟨S1x1024x2560, .f32⟩
  | .hbm, ⟨25, _⟩ => ⟨S1024x2560, .f32⟩
  | .hbm, ⟨26, _⟩ => ⟨S8x32x2560, .f32⟩
  | .hbm, ⟨27, _⟩ => ⟨S8x32x512, .f32⟩
  | .hbm, ⟨28, _⟩ => ⟨S8x32x512, .f32⟩
  | .hbm, ⟨29, _⟩ => ⟨S8x32x512, .f32⟩
  | .hbm, ⟨30, _⟩ => ⟨S8x32x512, .f32⟩
  | .hbm, ⟨31, _⟩ => ⟨S8x32x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S8x32x512, .f32⟩
  | .hbm, ⟨36, _⟩ => ⟨S8x32x512, .f32⟩
  | .hbm, ⟨37, _⟩ => ⟨S256x512, .f32⟩
  | .hbm, ⟨38, _⟩ => ⟨S256x512, .bf16⟩
  | .hbm, ⟨39, _⟩ => ⟨S8x32x512, .f32⟩
  | .hbm, ⟨40, _⟩ => ⟨S8x32x512, .f32⟩
  | .hbm, ⟨41, _⟩ => ⟨S_, .f32⟩
  | .hbm, ⟨42, _⟩ => ⟨S8x32x512, .f32⟩
  | .hbm, ⟨43, _⟩ => ⟨S8x32x512, .f32⟩
  | .hbm, ⟨44, _⟩ => ⟨S8x32x512, .f32⟩
  | .hbm, ⟨45, _⟩ => ⟨S_, .f32⟩
  | .hbm, ⟨46, _⟩ => ⟨S8x32x512, .f32⟩
  | .hbm, ⟨47, _⟩ => ⟨S8x32x512, .f32⟩
  | .hbm, ⟨48, _⟩ => ⟨S8x32x512, .f32⟩
  | .hbm, ⟨49, _⟩ => ⟨S_, .f32⟩
  | .hbm, ⟨50, _⟩ => ⟨S8x32x512, .f32⟩
  | .hbm, ⟨51, _⟩ => ⟨S8x32x512, .f32⟩
  | .hbm, ⟨52, _⟩ => ⟨S_, .f32⟩
  | .hbm, ⟨53, _⟩ => ⟨S8x32x512, .f32⟩
  | .hbm, ⟨54, _⟩ => ⟨S8x32x512, .f32⟩
  | .hbm, ⟨55, _⟩ => ⟨S8x32x512, .f32⟩
  | .hbm, ⟨56, _⟩ => ⟨S256x512, .f32⟩
  | .hbm, ⟨57, _⟩ => ⟨S256x512, .bf16⟩
  | .hbm, ⟨58, _⟩ => ⟨S8x32x1024, .f32⟩
  | .hbm, ⟨59, _⟩ => ⟨S_, .f32⟩
  | .hbm, ⟨60, _⟩ => ⟨S8x32, .f32⟩
  | .hbm, ⟨61, _⟩ => ⟨S8x32x1, .f32⟩
  | .hbm, ⟨62, _⟩ => ⟨S_, .f32⟩
  | .hbm, ⟨63, _⟩ => ⟨S8x32x1, .f32⟩
  | .hbm, ⟨64, _⟩ => ⟨S8x32x1, .f32⟩
  | .hbm, ⟨65, _⟩ => ⟨S_, .f32⟩
  | .hbm, ⟨66, _⟩ => ⟨S8x32x1, .f32⟩
  | .hbm, ⟨67, _⟩ => ⟨S8x32x1, .f32⟩
  | .hbm, ⟨68, _⟩ => ⟨S8x32x1, .f32⟩
  | .hbm, ⟨69, _⟩ => ⟨S8x32x1024, .f32⟩
  | .hbm, ⟨70, _⟩ => ⟨S8x32x1024, .f32⟩
  | .hbm, ⟨71, _⟩ => ⟨S1x1024, .f32⟩
  | .hbm, ⟨72, _⟩ => ⟨S1024, .f32⟩
  | .hbm, ⟨73, _⟩ => ⟨S1x1x1024, .f32⟩
  | .hbm, ⟨74, _⟩ => ⟨S8x32x1024, .f32⟩
  | .hbm, ⟨75, _⟩ => ⟨S8x32x1024, .f32⟩
  | .hbm, ⟨76, _⟩ => ⟨S1x1024x2560, .f32⟩
  | .hbm, ⟨77, _⟩ => ⟨S1024x2560, .f32⟩
  | .hbm, ⟨78, _⟩ => ⟨S8x32x2560, .f32⟩
  | .hbm, ⟨79, _⟩ => ⟨S8x32x512, .f32⟩
  | .hbm, ⟨80, _⟩ => ⟨S8x32x512, .f32⟩
  | .hbm, ⟨81, _⟩ => ⟨S8x32x512, .f32⟩
  | .hbm, ⟨82, _⟩ => ⟨S8x32x512, .f32⟩
  | .hbm, ⟨83, _⟩ => ⟨S8x32x512, .f32⟩
  | .hbm, ⟨84, _⟩ => ⟨S256x512, .f32⟩
  | .hbm, ⟨85, _⟩ => ⟨S256x512, .f32⟩
  | .hbm, ⟨86, _⟩ => ⟨S_, .f32⟩
  | .hbm, ⟨87, _⟩ => ⟨S8x32x512, .f32⟩
  | .hbm, ⟨88, _⟩ => ⟨S8x32x512, .f32⟩
  | .hbm, ⟨89, _⟩ => ⟨S256x512, .f32⟩
  | .hbm, ⟨90, _⟩ => ⟨S256x512, .bf16⟩
  | .hbm, ⟨91, _⟩ => ⟨S8x32x512, .f32⟩
  | .hbm, ⟨92, _⟩ => ⟨S8x32x512, .f32⟩
  | .hbm, ⟨93, _⟩ => ⟨S_, .f32⟩
  | .hbm, ⟨94, _⟩ => ⟨S8x32x512, .f32⟩
  | .hbm, ⟨95, _⟩ => ⟨S8x32x512, .f32⟩
  | .hbm, ⟨96, _⟩ => ⟨S8x32x512, .f32⟩
  | .hbm, ⟨97, _⟩ => ⟨S_, .f32⟩
  | .hbm, ⟨98, _⟩ => ⟨S8x32x512, .f32⟩
  | .hbm, ⟨99, _⟩ => ⟨S8x32x512, .f32⟩
  | .hbm, ⟨100, _⟩ => ⟨S8x32x512, .f32⟩
  | .hbm, ⟨101, _⟩ => ⟨S_, .f32⟩
  | .hbm, ⟨102, _⟩ => ⟨S8x32x512, .f32⟩
  | .hbm, ⟨103, _⟩ => ⟨S8x32x512, .f32⟩
  | .hbm, ⟨104, _⟩ => ⟨S_, .f32⟩
  | .hbm, ⟨105, _⟩ => ⟨S8x32x512, .f32⟩
  | .hbm, ⟨106, _⟩ => ⟨S8x32x512, .f32⟩
  | .hbm, ⟨107, _⟩ => ⟨S8x32x512, .f32⟩
  | .hbm, ⟨108, _⟩ => ⟨S256x512, .f32⟩
  | .hbm, ⟨109, _⟩ => ⟨S256x512, .bf16⟩
  | .hbm, ⟨110, _⟩ => ⟨S1x256x512, .f32⟩
  | .hbm, ⟨111, _⟩ => ⟨S1x256x512, .f32⟩
  | .hbm, ⟨112, _⟩ => ⟨S2x256x512, .f32⟩
  | .hbm, ⟨113, _⟩ => ⟨S1x256x512, .f32⟩
  | .hbm, ⟨114, _⟩ => ⟨S1x256x512, .f32⟩
  | .hbm, ⟨115, _⟩ => ⟨S2x256x512, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_12 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_cst_14 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩

abbrev nD : Nat := 1
abbrev τ : Topo := Topo.v7x

variable {F : FTy → Type} [FloatOps F]
-- ==== Experts.lean ====
abbrev S32 : Shape := ⟨1, ![32]⟩
abbrev S164864x1024 : Shape := ⟨2, ![164864, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S322 : Shape := ⟨1, ![322]⟩
abbrev S1x32 : Shape := ⟨2, ![1, 32]⟩
abbrev S322x1 : Shape := ⟨2, ![322, 1]⟩
abbrev S322x32 : Shape := ⟨2, ![322, 32]⟩
abbrev S1 : Shape := ⟨1, ![1]⟩
abbrev S2x32x1x2048 : Shape := ⟨4, ![2, 32, 1, 2048]⟩
abbrev S2x32x1x1024 : Shape := ⟨4, ![2, 32, 1, 1024]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1x128x256 : Shape := ⟨4, ![1, 1, 128, 256]⟩
abbrev S128x256 : Shape := ⟨2, ![128, 256]⟩
abbrev S1x1x128x1024 : Shape := ⟨4, ![1, 1, 128, 1024]⟩
abbrev S128x1024 : Shape := ⟨2, ![128, 1024]⟩
abbrev S1024x512 : Shape := ⟨2, ![1024, 512]⟩
abbrev S512x512 : Shape := ⟨2, ![512, 512]⟩
abbrev S512x256 : Shape := ⟨2, ![512, 256]⟩
abbrev S1x1x1x256 : Shape := ⟨4, ![1, 1, 1, 256]⟩
abbrev S1x256 : Shape := ⟨2, ![1, 256]⟩
abbrev S256x1024 : Shape := ⟨2, ![256, 1024]⟩
abbrev S1x1024 : Shape := ⟨2, ![1, 1024]⟩

abbrev nBuf : Space → Nat
  | .hbm => 57
  | .vmem => 14
  | .smem => 2
  | _ => 0

abbrev bufTy : (tb : Table) → Fin (tcTables nBuf tb) → BufTy
  | .hbm, ⟨0, _⟩ => ⟨S32, .i32⟩
  | .hbm, ⟨1, _⟩ => ⟨S164864x1024, .bf16⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S322, .i32⟩
  | .hbm, ⟨37, _⟩ => ⟨S_, .i32⟩
  | .hbm, ⟨38, _⟩ => ⟨S322, .i32⟩
  | .hbm, ⟨39, _⟩ => ⟨S322, .i32⟩
  | .hbm, ⟨40, _⟩ => ⟨S1x32, .i32⟩
  | .hbm, ⟨41, _⟩ => ⟨S322x1, .i32⟩
  | .hbm, ⟨42, _⟩ => ⟨S322x32, .i32⟩
  | .hbm, ⟨43, _⟩ => ⟨S322x32, .i32⟩
  | .hbm, ⟨44, _⟩ => ⟨S322x32, .i1⟩
  | .hbm, ⟨45, _⟩ => ⟨S322x32, .i32⟩
  | .hbm, ⟨46, _⟩ => ⟨S_, .i32⟩
  | .hbm, ⟨47, _⟩ => ⟨S322, .i32⟩
  | .hbm, ⟨48, _⟩ => ⟨S_, .i32⟩
  | .hbm, ⟨49, _⟩ => ⟨S322, .i32⟩
  | .hbm, ⟨50, _⟩ => ⟨S1, .i32⟩
  | .hbm, ⟨51, _⟩ => ⟨S_, .i32⟩
  | .hbm, ⟨52, _⟩ => ⟨S322, .i32⟩
  | .hbm, ⟨53, _⟩ => ⟨S322, .i1⟩
  | .hbm, ⟨54, _⟩ => ⟨S2x32x1x2048, .f32⟩
  | .hbm, ⟨55, _⟩ => ⟨S2x32x1x1024, .f32⟩
  | .hbm, ⟨56, _⟩ => ⟨S164864x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S322, .i32⟩
  | .local _ .smem, ⟨1, _⟩ => ⟨S322, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v19 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![322], ![false]⟩

abbrev pre0 : Pipeline.Prefetch sig := ⟨2, ![main_v19.idx, main_v24.idx], fun | 0 => main_v19.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
@[reducible] def k0_t1_loop : Scf.Loop 32 :=
  let c0_i32_6 : BitVec 32 := 0#32
  let c8_i32 : BitVec 32 := 8#32
  let v22 : BitVec 32 := Scalar.addi c0_i32_6 c8_i32
  let c1_i32_7 : BitVec 32 := 1#32
  ⟨c0_i32_6, v22, c1_i32_7⟩
def k0_mult1 (k0_t1 : Fin k0_t1_loop.trips) : BitVec 32 :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  v23
def k0_off3 (k0_t1 : Fin k0_t1_loop.trips) : Fin 4 → Nat :=
  let c0 : Index := 0#32
  let c0_9 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v25 : Index := Scalar.indexCast v24
  let c0_10 : Index := 0#32
  ![0, 0, v25.toNat, 0]
def k0_off4 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v29 : Index := Scalar.indexCast v24
  let c0_11 : Index := 0#32
  ![v29.toNat, 0]
def k0_off5 (k0_t1 : Fin k0_t1_loop.trips) : Fin 4 → Nat :=
  let c0_12 : Index := 0#32
  let c0_13 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v33 : Index := Scalar.indexCast v24
  let c1024 : Index := 1024#32
  ![0, 0, v33.toNat, 1024]
def k0_off6 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v37 : Index := Scalar.indexCast v24
  let c256 : Index := 256#32
  ![v37.toNat, 256]
def k0_off7 (k0_t1 : Fin k0_t1_loop.trips) : Fin 4 → Nat :=
  let c0_14 : Index := 0#32
  let c0_15 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v41 : Index := Scalar.indexCast v24
  let c256_16 : Index := 256#32
  ![0, 0, v41.toNat, 256]
def k0_off8 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v45 : Index := Scalar.indexCast v24
  let c512 : Index := 512#32
  ![v45.toNat, 512]
def k0_off9 (k0_t1 : Fin k0_t1_loop.trips) : Fin 4 → Nat :=
  let c0_17 : Index := 0#32
  let c0_18 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v49 : Index := Scalar.indexCast v24
  let c1280 : Index := 1280#32
  ![0, 0, v49.toNat, 1280]
def k0_off10 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v53 : Index := Scalar.indexCast v24
  let c768 : Index := 768#32
  ![v53.toNat, 768]
def k0_off11 (k0_t1 : Fin k0_t1_loop.trips) : Fin 4 → Nat :=
  let c0_19 : Index := 0#32
  let c0_20 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v57 : Index := Scalar.indexCast v24
  let c512_21 : Index := 512#32
  ![0, 0, v57.toNat, 512]
def k0_off12 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v61 : Index := Scalar.indexCast v24
  let c1024_22 : Index := 1024#32
  ![v61.toNat, 1024]
def k0_off13 (k0_t1 : Fin k0_t1_loop.trips) : Fin 4 → Nat :=
  let c0_23 : Index := 0#32
  let c0_24 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v65 : Index := Scalar.indexCast v24
  let c1536 : Index := 1536#32
  ![0, 0, v65.toNat, 1536]
def k0_off14 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v69 : Index := Scalar.indexCast v24
  let c1280_25 : Index := 1280#32
  ![v69.toNat, 1280]
def k0_off15 (k0_t1 : Fin k0_t1_loop.trips) : Fin 4 → Nat :=
  let c0_26 : Index := 0#32
  let c0_27 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v73 : Index := Scalar.indexCast v24
  let c768_28 : Index := 768#32
  ![0, 0, v73.toNat, 768]
def k0_off16 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v77 : Index := Scalar.indexCast v24
  let c1536_29 : Index := 1536#32
  ![v77.toNat, 1536]
def k0_off17 (k0_t1 : Fin k0_t1_loop.trips) : Fin 4 → Nat :=
  let c0_30 : Index := 0#32
  let c0_31 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v81 : Index := Scalar.indexCast v24
  let c1792 : Index := 1792#32
  ![0, 0, v81.toNat, 1792]
def k0_off18 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v85 : Index := Scalar.indexCast v24
  let c1792_32 : Index := 1792#32
  ![v85.toNat, 1792]
def k0_off19 (k0_t1 : Fin k0_t1_loop.trips) : Fin 4 → Nat :=
  let c0_33 : Index := 0#32
  let c0_34 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v89 : Index := Scalar.indexCast v24
  let c0_35 : Index := 0#32
  ![0, 0, v89.toNat, 0]
def k0_off20 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v93 : Index := Scalar.indexCast v24
  let c0_36 : Index := 0#32
  ![v93.toNat, 0]
def k0_off21 (i : grid0.Coords) : Fin 1 → Nat :=
  let arg0 : BitVec 32 := BitVec.ofNat 32 (i 0).val
  let v17 : Index := Scalar.indexCast arg0
  ![v17.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v18 : BitVec 32) : BitVec 1 :=
  let c0_i32_4 : BitVec 32 := 0#32
  let v19 : BitVec 1 := Scalar.cmpi .eq v18 c0_i32_4
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S32 : Shape := ⟨1, ![32]⟩
abbrev S164864x1024 : Shape := ⟨2, ![164864, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S_ : Shape := ⟨0, ![]⟩
abbrev S322 : Shape := ⟨1, ![322]⟩
abbrev S1x32 : Shape := ⟨2, ![1, 32]⟩
abbrev S322x1 : Shape := ⟨2, ![322, 1]⟩
abbrev S322x32 : Shape := ⟨2, ![322, 32]⟩
abbrev S322x512x1024 : Shape := ⟨3, ![322, 512, 1024]⟩
abbrev S322x3 : Shape := ⟨2, ![322, 3]⟩
abbrev S322x1x1024x2048 : Shape := ⟨4, ![322, 1, 1024, 2048]⟩
abbrev S322x1024x2048 : Shape := ⟨3, ![322, 1024, 2048]⟩
abbrev S322x512x2048 : Shape := ⟨3, ![322, 512, 2048]⟩
abbrev S322x2 : Shape := ⟨2, ![322, 2]⟩
abbrev S322x1x2048 : Shape := ⟨3, ![322, 1, 2048]⟩
abbrev S322x2048 : Shape := ⟨2, ![322, 2048]⟩
abbrev S322x1x1024x1024 : Shape := ⟨4, ![322, 1, 1024, 1024]⟩
abbrev S322x1024x1024 : Shape := ⟨3, ![322, 1024, 1024]⟩
abbrev S322x1x1024 : Shape := ⟨3, ![322, 1, 1024]⟩
abbrev S322x1024 : Shape := ⟨2, ![322, 1024]⟩
abbrev S1 : Shape := ⟨1, ![1]⟩
abbrev S322x1x1 : Shape := ⟨3, ![322, 1, 1]⟩

abbrev nBuf : Space → Nat
  | .hbm => 205
  | .vmem => 0
  | .smem => 0
  | _ => 0

abbrev hbmTy0_0 (i : Nat) : BufTy := match i % 128 with
  | 0 => ⟨S32, .i32⟩
  | 1 => ⟨S164864x1024, .bf16⟩
  | 2 => ⟨S2x32x1024x2048, .f32⟩
  | 3 => ⟨S2x32x2048, .f32⟩
  | 4 => ⟨S2x32x1024x1024, .f32⟩
  | 5 => ⟨S2x32x1024, .f32⟩
  | 6 => ⟨S1x32x1024x2048, .f32⟩
  | 7 => ⟨S32x1024x2048, .f32⟩
  | 8 => ⟨S1x32x2048, .f32⟩
  | 9 => ⟨S32x2048, .f32⟩
  | 10 => ⟨S1x32x1024x1024, .f32⟩
  | 11 => ⟨S32x1024x1024, .f32⟩
  | 12 => ⟨S1x32x1024, .f32⟩
  | 13 => ⟨S32x1024, .f32⟩
  | 14 => ⟨S_, .i32⟩
  | 15 => ⟨S32, .i32⟩
  | 16 => ⟨S32, .i32⟩
  | 17 => ⟨S_, .i32⟩
  | 18 => ⟨S_, .i32⟩
  | 19 => ⟨S32, .i32⟩
  | 20 => ⟨S32, .i32⟩
  | 21 => ⟨S32, .i32⟩
  | 22 => ⟨S_, .i32⟩
  | 23 => ⟨S32, .i32⟩
  | 24 => ⟨S32, .i1⟩
  | 25 => ⟨S32, .i32⟩
  | 26 => ⟨S32, .i32⟩
  | 27 => ⟨S_, .i32⟩
  | 28 => ⟨S32, .i32⟩
  | 29 => ⟨S32, .i1⟩
  | 30 => ⟨S32, .i1⟩
  | 31 => ⟨S_, .i32⟩
  | 32 => ⟨S32, .i32⟩
  | 33 => ⟨S32, .i32⟩
  | 34 => ⟨S32, .i32⟩
  | 35 => ⟨S_, .i32⟩
  | 36 => ⟨S32, .i32⟩
  | 37 => ⟨S32, .i32⟩
  | 38 => ⟨S_, .i32⟩
  | 39 => ⟨S_, .i32⟩
  | 40 => ⟨S32, .i32⟩
  | 41 => ⟨S322, .i32⟩
  | 42 => ⟨S_, .i32⟩
  | 43 => ⟨S322, .i32⟩
  | 44 => ⟨S322, .i32⟩
  | 45 => ⟨S1x32, .i32⟩
  | 46 => ⟨S322x1, .i32⟩
  | 47 => ⟨S322x32, .i32⟩
  | 48 => ⟨S322x32, .i32⟩
  | 49 => ⟨S322x32, .i1⟩
  | 50 => ⟨S322x32, .i32⟩
  | 51 => ⟨S_, .i32⟩
  | 52 => ⟨S322, .i32⟩
  | 53 => ⟨S_, .i32⟩
  | 54 => ⟨S322, .i32⟩
  | 55 => ⟨S322, .i32⟩
  | 56 => ⟨S164864x1024, .f32⟩
  | 57 => ⟨S322x512x1024, .f32⟩
  | 58 => ⟨S_, .i32⟩
  | 59 => ⟨S322, .i32⟩
  | 60 => ⟨S322, .i1⟩
  | 61 => ⟨S_, .i32⟩
  | 62 => ⟨S322, .i32⟩
  | 63 => ⟨S322, .i32⟩
  | 64 => ⟨S322, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S322x1, .i32⟩
  | 82 => ⟨S322x1, .i32⟩
  | 83 => ⟨S322x1, .i32⟩
  | 84 => ⟨S322x3, .i32⟩
  | 85 => ⟨S322x1x1024x2048, .f32⟩
  | 86 => ⟨S322x1024x2048, .f32⟩
  | 87 => ⟨S322x512x2048, .f32⟩
  | 88 => ⟨S_, .i32⟩
  | 89 => ⟨S322, .i32⟩
  | 90 => ⟨S322, .i1⟩
  | 91 => ⟨S_, .i32⟩
  | 92 => ⟨S322, .i32⟩
  | 93 => ⟨S322, .i32⟩
  | 94 => ⟨S322, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S322x1, .i32⟩
  | 104 => ⟨S322x1, .i32⟩
  | 105 => ⟨S322x2, .i32⟩
  | 106 => ⟨S322x1x2048, .f32⟩
  | 107 => ⟨S322x2048, .f32⟩
  | 108 => ⟨S322x1x2048, .f32⟩
  | 109 => ⟨S322x512x2048, .f32⟩
  | 110 => ⟨S322x512x2048, .f32⟩
  | 111 => ⟨S322x512x1024, .f32⟩
  | 112 => ⟨S322x512x1024, .f32⟩
  | 113 => ⟨S_, .f32⟩
  | 114 => ⟨S322x512x1024, .f32⟩
  | 115 => ⟨S322x512x1024, .f32⟩
  | 116 => ⟨S_, .f32⟩
  | 117 => ⟨S_, .f32⟩
  | 118 => ⟨S_, .f32⟩
  | 119 => ⟨S322x512x1024, .f32⟩
  | 120 => ⟨S322x512x1024, .f32⟩
  | 121 => ⟨S_, .f32⟩
  | 122 => ⟨S322x512x1024, .f32⟩
  | 123 => ⟨S322x512x1024, .f32⟩
  | 124 => ⟨S_, .f32⟩
  | 125 => ⟨S322x512x1024, .f32⟩
  | 126 => ⟨S322x512x1024, .f32⟩
  | 127 => ⟨S322x512x1024, .f32⟩
  | _ => ⟨S32, .i32⟩

abbrev hbmTy0_1 (i : Nat) : BufTy := match i % 128 with
  | 0 => ⟨S322x512x1024, .f32⟩
  | 1 => ⟨S_, .f32⟩
  | 2 => ⟨S322x512x1024, .f32⟩
  | 3 => ⟨S322x512x1024, .f32⟩
  | 4 => ⟨S_, .f32⟩
  | 5 => ⟨S322x512x1024, .f32⟩
  | 6 => ⟨S322x512x1024, .f32⟩
  | 7 => ⟨S322x512x1024, .f32⟩
  | 8 => ⟨S_, .f32⟩
  | 9 => ⟨S322x512x1024, .f32⟩
  | 10 => ⟨S322x512x1024, .f32⟩
  | 11 => ⟨S322x512x1024, .f32⟩
  | 12 => ⟨S_, .i32⟩
  | 13 => ⟨S322, .i32⟩
  | 14 => ⟨S322, .i1⟩
  | 15 => ⟨S_, .i32⟩
  | 16 => ⟨S322, .i32⟩
  | 17 => ⟨S322, .i32⟩
  | 18 => ⟨S322, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S322x1, .i32⟩
  | 36 => ⟨S322x1, .i32⟩
  | 37 => ⟨S322x1, .i32⟩
  | 38 => ⟨S322x3, .i32⟩
  | 39 => ⟨S322x1x1024x1024, .f32⟩
  | 40 => ⟨S322x1024x1024, .f32⟩
  | 41 => ⟨S322x512x1024, .f32⟩
  | 42 => ⟨S_, .i32⟩
  | 43 => ⟨S322, .i32⟩
  | 44 => ⟨S322, .i1⟩
  | 45 => ⟨S_, .i32⟩
  | 46 => ⟨S322, .i32⟩
  | 47 => ⟨S322, .i32⟩
  | 48 => ⟨S322, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S322x1, .i32⟩
  | 58 => ⟨S322x1, .i32⟩
  | 59 => ⟨S322x2, .i32⟩
  | 60 => ⟨S322x1x1024, .f32⟩
  | 61 => ⟨S322x1024, .f32⟩
  | 62 => ⟨S322x1x1024, .f32⟩
  | 63 => ⟨S322x512x1024, .f32⟩
  | 64 => ⟨S322x512x1024, .f32⟩
  | 65 => ⟨S1, .i32⟩
  | 66 => ⟨S_, .i32⟩
  | 67 => ⟨S322, .i32⟩
  | 68 => ⟨S322, .i1⟩
  | 69 => ⟨S322x1x1, .i1⟩
  | 70 => ⟨S_, .f32⟩
  | 71 => ⟨S_, .f32⟩
  | 72 => ⟨S322x512x1024, .i1⟩
  | 73 => ⟨S322x512x1024, .f32⟩
  | 74 => ⟨S322x512x1024, .f32⟩
  | 75 => ⟨S164864x1024, .f32⟩
  | 76 => ⟨S164864x1024, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_call1_call0_c : Ref sig .tc := ⟨.hbm, 38, rfl⟩
abbrev main_call1_call0_v0 : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_3 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_5 : Ref sig .tc := ⟨.hbm, 58, rfl⟩
abbrev main_v28 : Ref sig .tc := ⟨.hbm, 59, rfl⟩
abbrev main_v29 : Ref sig .tc := ⟨.hbm, 60, rfl⟩
abbrev main_c_6 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_c_8 : Ref sig .tc := ⟨.hbm, 66, rfl⟩
abbrev main_v33 : Ref sig .tc := ⟨.hbm, 67, rfl⟩
abbrev main_c_9 : Ref sig .tc := ⟨.hbm, 68, rfl⟩
abbrev main_c_10 : Ref sig .tc := ⟨.hbm, 69, rfl⟩
abbrev main_v34 : Ref sig .tc := ⟨.hbm, 70, rfl⟩
abbrev main_c_11 : Ref sig .tc := ⟨.hbm, 71, rfl⟩
abbrev main_v35 : Ref sig .tc := ⟨.hbm, 72, rfl⟩
abbrev main_c_12 : Ref sig .tc := ⟨.hbm, 73, rfl⟩
abbrev main_c_13 : Ref sig .tc := ⟨.hbm, 74, rfl⟩
abbrev main_v36 : Ref sig .tc := ⟨.hbm, 75, rfl⟩
abbrev main_c_14 : Ref sig .tc := ⟨.hbm, 76, rfl⟩
abbrev main_c_15 : Ref sig .tc := ⟨.hbm, 77, rfl⟩
abbrev main_v37 : Ref sig .tc := ⟨.hbm, 78, rfl⟩
abbrev main_c_16 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_17 : Ref sig .tc := ⟨.hbm, 88, rfl⟩
abbrev main_v46 : Ref sig .tc := ⟨.hbm, 89, rfl⟩
abbrev main_v47 : Ref sig .tc := ⟨.hbm, 90, rfl⟩
abbrev main_c_18 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_19 : Ref sig .tc := ⟨.hbm, 95, rfl⟩
abbrev main_c_20 : Ref sig .tc := ⟨.hbm, 96, rfl⟩
abbrev main_v51 : Ref sig .tc := ⟨.hbm, 97, rfl⟩
abbrev main_c_21 : Ref sig .tc := ⟨.hbm, 98, rfl⟩
abbrev main_c_22 : Ref sig .tc := ⟨.hbm, 99, rfl⟩
abbrev main_v52 : Ref sig .tc := ⟨.hbm, 100, rfl⟩
abbrev main_c_23 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst : Ref sig .tc := ⟨.hbm, 113, rfl⟩
abbrev main_v64 : Ref sig .tc := ⟨.hbm, 114, rfl⟩
abbrev main_v65 : Ref sig .tc := ⟨.hbm, 115, rfl⟩
abbrev main_cst_24 : Ref sig .tc := ⟨.hbm, 116, rfl⟩
abbrev main_cst_25 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_v66 : Ref sig .tc := ⟨.hbm, 123, rfl⟩
abbrev main_cst_26 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_27 : Ref sig .tc := ⟨.hbm, 129, rfl⟩
abbrev main_v71 : Ref sig .tc := ⟨.hbm, 130, rfl⟩
abbrev main_v72 : Ref sig .tc := ⟨.hbm, 131, rfl⟩
abbrev main_cst_28 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_29 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_c_30 : Ref sig .tc := ⟨.hbm, 140, rfl⟩
abbrev main_v79 : Ref sig .tc := ⟨.hbm, 141, rfl⟩
abbrev main_v80 : Ref sig .tc := ⟨.hbm, 142, rfl⟩
abbrev main_c_31 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_c_32 : Ref sig .tc := ⟨.hbm, 147, rfl⟩
abbrev main_c_33 : Ref sig .tc := ⟨.hbm, 148, rfl⟩
abbrev main_v84 : Ref sig .tc := ⟨.hbm, 149, rfl⟩
abbrev main_c_34 : Ref sig .tc := ⟨.hbm, 150, rfl⟩
abbrev main_c_35 : Ref sig .tc := ⟨.hbm, 151, rfl⟩
abbrev main_v85 : Ref sig .tc := ⟨.hbm, 152, rfl⟩
abbrev main_c_36 : Ref sig .tc := ⟨.hbm, 153, rfl⟩
abbrev main_v86 : Ref sig .tc := ⟨.hbm, 154, rfl⟩
abbrev main_c_37 : Ref sig .tc := ⟨.hbm, 155, rfl⟩
abbrev main_c_38 : Ref sig .tc := ⟨.hbm, 156, rfl⟩
abbrev main_v87 : Ref sig .tc := ⟨.hbm, 157, rfl⟩
abbrev main_c_39 : Ref sig .tc := ⟨.hbm, 158, rfl⟩
abbrev main_c_40 : Ref sig .tc := ⟨.hbm, 159, rfl⟩
abbrev main_v88 : Ref sig .tc := ⟨.hbm, 160, rfl⟩
abbrev main_c_41 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_c_42 : Ref sig .tc := ⟨.hbm, 170, rfl⟩
abbrev main_v97 : Ref sig .tc := ⟨.hbm, 171, rfl⟩
abbrev main_v98 : Ref sig .tc := ⟨.hbm, 172, rfl⟩
abbrev main_c_43 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_c_44 : Ref sig .tc := ⟨.hbm, 177, rfl⟩
abbrev main_c_45 : Ref sig .tc := ⟨.hbm, 178, rfl⟩
abbrev main_v102 : Ref sig .tc := ⟨.hbm, 179, rfl⟩
abbrev main_c_46 : Ref sig .tc := ⟨.hbm, 180, rfl⟩
abbrev main_c_47 : Ref sig .tc := ⟨.hbm, 181, rfl⟩
abbrev main_v103 : Ref sig .tc := ⟨.hbm, 182, rfl⟩
abbrev main_c_48 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_49 : Ref sig .tc := ⟨.hbm, 198, rfl⟩
abbrev main_call3_v0 : Ref sig .tc := ⟨.hbm, 199, rfl⟩
abbrev main_call3_v1 : Ref sig .tc := ⟨.hbm, 200, rfl⟩
abbrev main_call3_v2 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩

abbrev nD : Nat := 1
abbrev τ : Topo := Topo.v7x

variable {F : FTy → Type} [FloatOps F]
-- ==== NextExperts.lean ====
abbrev S32 : Shape := ⟨1, ![32]⟩
abbrev S164864x1024 : Shape := ⟨2, ![164864, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S322 : Shape := ⟨1, ![322]⟩
abbrev S1x32 : Shape := ⟨2, ![1, 32]⟩
abbrev S322x1 : Shape := ⟨2, ![322, 1]⟩
abbrev S322x32 : Shape := ⟨2, ![322, 32]⟩
abbrev S1 : Shape := ⟨1, ![1]⟩
abbrev S2x32x1x2048 : Shape := ⟨4, ![2, 32, 1, 2048]⟩
abbrev S2x32x1x1024 : Shape := ⟨4, ![2, 32, 1, 1024]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1x128x256 : Shape := ⟨4, ![1, 1, 128, 256]⟩
abbrev S128x256 : Shape := ⟨2, ![128, 256]⟩
abbrev S1x1x128x1024 : Shape := ⟨4, ![1, 1, 128, 1024]⟩
abbrev S128x1024 : Shape := ⟨2, ![128, 1024]⟩
abbrev S1024x512 : Shape := ⟨2, ![1024, 512]⟩
abbrev S512x512 : Shape := ⟨2, ![512, 512]⟩
abbrev S512x256 : Shape := ⟨2, ![512, 256]⟩
abbrev S1x1x1x256 : Shape := ⟨4, ![1, 1, 1, 256]⟩
abbrev S1x256 : Shape := ⟨2, ![1, 256]⟩
abbrev S256x1024 : Shape := ⟨2, ![256, 1024]⟩
abbrev S1x1024 : Shape := ⟨2, ![1, 1024]⟩

abbrev nBuf : Space → Nat
  | .hbm => 57
  | .vmem => 14
  | .smem => 2
  | _ => 0

abbrev bufTy : (tb : Table) → Fin (tcTables nBuf tb) → BufTy
  | .hbm, ⟨0, _⟩ => ⟨S32, .i32⟩
  | .hbm, ⟨1, _⟩ => ⟨S164864x1024, .bf16⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S322, .i32⟩
  | .hbm, ⟨37, _⟩ => ⟨S_, .i32⟩
  | .hbm, ⟨38, _⟩ => ⟨S322, .i32⟩
  | .hbm, ⟨39, _⟩ => ⟨S322, .i32⟩
  | .hbm, ⟨40, _⟩ => ⟨S1x32, .i32⟩
  | .hbm, ⟨41, _⟩ => ⟨S322x1, .i32⟩
  | .hbm, ⟨42, _⟩ => ⟨S322x32, .i32⟩
  | .hbm, ⟨43, _⟩ => ⟨S322x32, .i32⟩
  | .hbm, ⟨44, _⟩ => ⟨S322x32, .i1⟩
  | .hbm, ⟨45, _⟩ => ⟨S322x32, .i32⟩
  | .hbm, ⟨46, _⟩ => ⟨S_, .i32⟩
  | .hbm, ⟨47, _⟩ => ⟨S322, .i32⟩
  | .hbm, ⟨48, _⟩ => ⟨S_, .i32⟩
  | .hbm, ⟨49, _⟩ => ⟨S322, .i32⟩
  | .hbm, ⟨50, _⟩ => ⟨S1, .i32⟩
  | .hbm, ⟨51, _⟩ => ⟨S_, .i32⟩
  | .hbm, ⟨52, _⟩ => ⟨S322, .i32⟩
  | .hbm, ⟨53, _⟩ => ⟨S322, .i1⟩
  | .hbm, ⟨54, _⟩ => ⟨S2x32x1x2048, .f32⟩
  | .hbm, ⟨55, _⟩ => ⟨S2x32x1x1024, .f32⟩
  | .hbm, ⟨56, _⟩ => ⟨S164864x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S322, .i32⟩
  | .local _ .smem, ⟨1, _⟩ => ⟨S322, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v19 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![322], ![false]⟩

abbrev pre0 : Pipeline.Prefetch sig := ⟨2, ![main_v19.idx, main_v24.idx], fun | 0 => main_v19.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
@[reducible] def k0_t1_loop : Scf.Loop 32 :=
  let c0_i32_6 : BitVec 32 := 0#32
  let c8_i32 : BitVec 32 := 8#32
  let v22 : BitVec 32 := Scalar.addi c0_i32_6 c8_i32
  let c1_i32_7 : BitVec 32 := 1#32
  ⟨c0_i32_6, v22, c1_i32_7⟩
def k0_mult1 (k0_t1 : Fin k0_t1_loop.trips) : BitVec 32 :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  v23
def k0_off3 (k0_t1 : Fin k0_t1_loop.trips) : Fin 4 → Nat :=
  let c0 : Index := 0#32
  let c0_9 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v25 : Index := Scalar.indexCast v24
  let c0_10 : Index := 0#32
  ![0, 0, v25.toNat, 0]
def k0_off4 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v29 : Index := Scalar.indexCast v24
  let c0_11 : Index := 0#32
  ![v29.toNat, 0]
def k0_off5 (k0_t1 : Fin k0_t1_loop.trips) : Fin 4 → Nat :=
  let c0_12 : Index := 0#32
  let c0_13 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v33 : Index := Scalar.indexCast v24
  let c1024 : Index := 1024#32
  ![0, 0, v33.toNat, 1024]
def k0_off6 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v37 : Index := Scalar.indexCast v24
  let c256 : Index := 256#32
  ![v37.toNat, 256]
def k0_off7 (k0_t1 : Fin k0_t1_loop.trips) : Fin 4 → Nat :=
  let c0_14 : Index := 0#32
  let c0_15 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v41 : Index := Scalar.indexCast v24
  let c256_16 : Index := 256#32
  ![0, 0, v41.toNat, 256]
def k0_off8 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v45 : Index := Scalar.indexCast v24
  let c512 : Index := 512#32
  ![v45.toNat, 512]
def k0_off9 (k0_t1 : Fin k0_t1_loop.trips) : Fin 4 → Nat :=
  let c0_17 : Index := 0#32
  let c0_18 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v49 : Index := Scalar.indexCast v24
  let c1280 : Index := 1280#32
  ![0, 0, v49.toNat, 1280]
def k0_off10 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v53 : Index := Scalar.indexCast v24
  let c768 : Index := 768#32
  ![v53.toNat, 768]
def k0_off11 (k0_t1 : Fin k0_t1_loop.trips) : Fin 4 → Nat :=
  let c0_19 : Index := 0#32
  let c0_20 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v57 : Index := Scalar.indexCast v24
  let c512_21 : Index := 512#32
  ![0, 0, v57.toNat, 512]
def k0_off12 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v61 : Index := Scalar.indexCast v24
  let c1024_22 : Index := 1024#32
  ![v61.toNat, 1024]
def k0_off13 (k0_t1 : Fin k0_t1_loop.trips) : Fin 4 → Nat :=
  let c0_23 : Index := 0#32
  let c0_24 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v65 : Index := Scalar.indexCast v24
  let c1536 : Index := 1536#32
  ![0, 0, v65.toNat, 1536]
def k0_off14 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v69 : Index := Scalar.indexCast v24
  let c1280_25 : Index := 1280#32
  ![v69.toNat, 1280]
def k0_off15 (k0_t1 : Fin k0_t1_loop.trips) : Fin 4 → Nat :=
  let c0_26 : Index := 0#32
  let c0_27 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v73 : Index := Scalar.indexCast v24
  let c768_28 : Index := 768#32
  ![0, 0, v73.toNat, 768]
def k0_off16 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v77 : Index := Scalar.indexCast v24
  let c1536_29 : Index := 1536#32
  ![v77.toNat, 1536]
def k0_off17 (k0_t1 : Fin k0_t1_loop.trips) : Fin 4 → Nat :=
  let c0_30 : Index := 0#32
  let c0_31 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v81 : Index := Scalar.indexCast v24
  let c1792 : Index := 1792#32
  ![0, 0, v81.toNat, 1792]
def k0_off18 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v85 : Index := Scalar.indexCast v24
  let c1792_32 : Index := 1792#32
  ![v85.toNat, 1792]
def k0_off19 (k0_t1 : Fin k0_t1_loop.trips) : Fin 4 → Nat :=
  let c0_33 : Index := 0#32
  let c0_34 : Index := 0#32
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v89 : Index := Scalar.indexCast v24
  let c0_35 : Index := 0#32
  ![0, 0, v89.toNat, 0]
def k0_off20 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c128_i32 : BitVec 32 := 128#32
  let v23 : BitVec 32 := Scalar.muli arg11 c128_i32
  let v24 : BitVec 32 := v23
  let v93 : Index := Scalar.indexCast v24
  let c0_36 : Index := 0#32
  ![v93.toNat, 0]
def k0_off21 (i : grid0.Coords) : Fin 1 → Nat :=
  let arg0 : BitVec 32 := BitVec.ofNat 32 (i 0).val
  let v17 : Index := Scalar.indexCast arg0
  ![v17.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v18 : BitVec 32) : BitVec 1 :=
  let c0_i32_4 : BitVec 32 := 0#32
  let v19 : BitVec 1 := Scalar.cmpi .eq v18 c0_i32_4
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NextExpertsReferenceIdeal.lean ====
abbrev S32 : Shape := ⟨1, ![32]⟩
abbrev S164864x1024 : Shape := ⟨2, ![164864, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S_ : Shape := ⟨0, ![]⟩
abbrev S322 : Shape := ⟨1, ![322]⟩
abbrev S1x32 : Shape := ⟨2, ![1, 32]⟩
abbrev S322x1 : Shape := ⟨2, ![322, 1]⟩
abbrev S322x32 : Shape := ⟨2, ![322, 32]⟩
abbrev S322x512x1024 : Shape := ⟨3, ![322, 512, 1024]⟩
abbrev S322x3 : Shape := ⟨2, ![322, 3]⟩
abbrev S322x1x1024x2048 : Shape := ⟨4, ![322, 1, 1024, 2048]⟩
abbrev S322x1024x2048 : Shape := ⟨3, ![322, 1024, 2048]⟩
abbrev S322x512x2048 : Shape := ⟨3, ![322, 512, 2048]⟩
abbrev S322x2 : Shape := ⟨2, ![322, 2]⟩
abbrev S322x1x2048 : Shape := ⟨3, ![322, 1, 2048]⟩
abbrev S322x2048 : Shape := ⟨2, ![322, 2048]⟩
abbrev S322x1x1024x1024 : Shape := ⟨4, ![322, 1, 1024, 1024]⟩
abbrev S322x1024x1024 : Shape := ⟨3, ![322, 1024, 1024]⟩
abbrev S322x1x1024 : Shape := ⟨3, ![322, 1, 1024]⟩
abbrev S322x1024 : Shape := ⟨2, ![322, 1024]⟩
abbrev S1 : Shape := ⟨1, ![1]⟩
abbrev S322x1x1 : Shape := ⟨3, ![322, 1, 1]⟩

abbrev nBuf : Space → Nat
  | .hbm => 205
  | .vmem => 0
  | .smem => 0
  | _ => 0

abbrev hbmTy0_0 (i : Nat) : BufTy := match i % 128 with
  | 0 => ⟨S32, .i32⟩
  | 1 => ⟨S164864x1024, .bf16⟩
  | 2 => ⟨S2x32x1024x2048, .f32⟩
  | 3 => ⟨S2x32x2048, .f32⟩
  | 4 => ⟨S2x32x1024x1024, .f32⟩
  | 5 => ⟨S2x32x1024, .f32⟩
  | 6 => ⟨S1x32x1024x2048, .f32⟩
  | 7 => ⟨S32x1024x2048, .f32⟩
  | 8 => ⟨S1x32x2048, .f32⟩
  | 9 => ⟨S32x2048, .f32⟩
  | 10 => ⟨S1x32x1024x1024, .f32⟩
  | 11 => ⟨S32x1024x1024, .f32⟩
  | 12 => ⟨S1x32x1024, .f32⟩
  | 13 => ⟨S32x1024, .f32⟩
  | 14 => ⟨S_, .i32⟩
  | 15 => ⟨S32, .i32⟩
  | 16 => ⟨S32, .i32⟩
  | 17 => ⟨S_, .i32⟩
  | 18 => ⟨S_, .i32⟩
  | 19 => ⟨S32, .i32⟩
  | 20 => ⟨S32, .i32⟩
  | 21 => ⟨S32, .i32⟩
  | 22 => ⟨S_, .i32⟩
  | 23 => ⟨S32, .i32⟩
  | 24 => ⟨S32, .i1⟩
  | 25 => ⟨S32, .i32⟩
  | 26 => ⟨S32, .i32⟩
  | 27 => ⟨S_, .i32⟩
  | 28 => ⟨S32, .i32⟩
  | 29 => ⟨S32, .i1⟩
  | 30 => ⟨S32, .i1⟩
  | 31 => ⟨S_, .i32⟩
  | 32 => ⟨S32, .i32⟩
  | 33 => ⟨S32, .i32⟩
  | 34 => ⟨S32, .i32⟩
  | 35 => ⟨S_, .i32⟩
  | 36 => ⟨S32, .i32⟩
  | 37 => ⟨S32, .i32⟩
  | 38 => ⟨S_, .i32⟩
  | 39 => ⟨S_, .i32⟩
  | 40 => ⟨S32, .i32⟩
  | 41 => ⟨S322, .i32⟩
  | 42 => ⟨S_, .i32⟩
  | 43 => ⟨S322, .i32⟩
  | 44 => ⟨S322, .i32⟩
  | 45 => ⟨S1x32, .i32⟩
  | 46 => ⟨S322x1, .i32⟩
  | 47 => ⟨S322x32, .i32⟩
  | 48 => ⟨S322x32, .i32⟩
  | 49 => ⟨S322x32, .i1⟩
  | 50 => ⟨S322x32, .i32⟩
  | 51 => ⟨S_, .i32⟩
  | 52 => ⟨S322, .i32⟩
  | 53 => ⟨S_, .i32⟩
  | 54 => ⟨S322, .i32⟩
  | 55 => ⟨S322, .i32⟩
  | 56 => ⟨S164864x1024, .f32⟩
  | 57 => ⟨S322x512x1024, .f32⟩
  | 58 => ⟨S_, .i32⟩
  | 59 => ⟨S322, .i32⟩
  | 60 => ⟨S322, .i1⟩
  | 61 => ⟨S_, .i32⟩
  | 62 => ⟨S322, .i32⟩
  | 63 => ⟨S322, .i32⟩
  | 64 => ⟨S322, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S322x1, .i32⟩
  | 82 => ⟨S322x1, .i32⟩
  | 83 => ⟨S322x1, .i32⟩
  | 84 => ⟨S322x3, .i32⟩
  | 85 => ⟨S322x1x1024x2048, .f32⟩
  | 86 => ⟨S322x1024x2048, .f32⟩
  | 87 => ⟨S322x512x2048, .f32⟩
  | 88 => ⟨S_, .i32⟩
  | 89 => ⟨S322, .i32⟩
  | 90 => ⟨S322, .i1⟩
  | 91 => ⟨S_, .i32⟩
  | 92 => ⟨S322, .i32⟩
  | 93 => ⟨S322, .i32⟩
  | 94 => ⟨S322, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S322x1, .i32⟩
  | 104 => ⟨S322x1, .i32⟩
  | 105 => ⟨S322x2, .i32⟩
  | 106 => ⟨S322x1x2048, .f32⟩
  | 107 => ⟨S322x2048, .f32⟩
  | 108 => ⟨S322x1x2048, .f32⟩
  | 109 => ⟨S322x512x2048, .f32⟩
  | 110 => ⟨S322x512x2048, .f32⟩
  | 111 => ⟨S322x512x1024, .f32⟩
  | 112 => ⟨S322x512x1024, .f32⟩
  | 113 => ⟨S_, .f32⟩
  | 114 => ⟨S322x512x1024, .f32⟩
  | 115 => ⟨S322x512x1024, .f32⟩
  | 116 => ⟨S_, .f32⟩
  | 117 => ⟨S_, .f32⟩
  | 118 => ⟨S_, .f32⟩
  | 119 => ⟨S322x512x1024, .f32⟩
  | 120 => ⟨S322x512x1024, .f32⟩
  | 121 => ⟨S_, .f32⟩
  | 122 => ⟨S322x512x1024, .f32⟩
  | 123 => ⟨S322x512x1024, .f32⟩
  | 124 => ⟨S_, .f32⟩
  | 125 => ⟨S322x512x1024, .f32⟩
  | 126 => ⟨S322x512x1024, .f32⟩
  | 127 => ⟨S322x512x1024, .f32⟩
  | _ => ⟨S32, .i32⟩

abbrev hbmTy0_1 (i : Nat) : BufTy := match i % 128 with
  | 0 => ⟨S322x512x1024, .f32⟩
  | 1 => ⟨S_, .f32⟩
  | 2 => ⟨S322x512x1024, .f32⟩
  | 3 => ⟨S322x512x1024, .f32⟩
  | 4 => ⟨S_, .f32⟩
  | 5 => ⟨S322x512x1024, .f32⟩
  | 6 => ⟨S322x512x1024, .f32⟩
  | 7 => ⟨S322x512x1024, .f32⟩
  | 8 => ⟨S_, .f32⟩
  | 9 => ⟨S322x512x1024, .f32⟩
  | 10 => ⟨S322x512x1024, .f32⟩
  | 11 => ⟨S322x512x1024, .f32⟩
  | 12 => ⟨S_, .i32⟩
  | 13 => ⟨S322, .i32⟩
  | 14 => ⟨S322, .i1⟩
  | 15 => ⟨S_, .i32⟩
  | 16 => ⟨S322, .i32⟩
  | 17 => ⟨S322, .i32⟩
  | 18 => ⟨S322, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S322x1, .i32⟩
  | 36 => ⟨S322x1, .i32⟩
  | 37 => ⟨S322x1, .i32⟩
  | 38 => ⟨S322x3, .i32⟩
  | 39 => ⟨S322x1x1024x1024, .f32⟩
  | 40 => ⟨S322x1024x1024, .f32⟩
  | 41 => ⟨S322x512x1024, .f32⟩
  | 42 => ⟨S_, .i32⟩
  | 43 => ⟨S322, .i32⟩
  | 44 => ⟨S322, .i1⟩
  | 45 => ⟨S_, .i32⟩
  | 46 => ⟨S322, .i32⟩
  | 47 => ⟨S322, .i32⟩
  | 48 => ⟨S322, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S322x1, .i32⟩
  | 58 => ⟨S322x1, .i32⟩
  | 59 => ⟨S322x2, .i32⟩
  | 60 => ⟨S322x1x1024, .f32⟩
  | 61 => ⟨S322x1024, .f32⟩
  | 62 => ⟨S322x1x1024, .f32⟩
  | 63 => ⟨S322x512x1024, .f32⟩
  | 64 => ⟨S322x512x1024, .f32⟩
  | 65 => ⟨S1, .i32⟩
  | 66 => ⟨S_, .i32⟩
  | 67 => ⟨S322, .i32⟩
  | 68 => ⟨S322, .i1⟩
  | 69 => ⟨S322x1x1, .i1⟩
  | 70 => ⟨S_, .f32⟩
  | 71 => ⟨S_, .f32⟩
  | 72 => ⟨S322x512x1024, .i1⟩
  | 73 => ⟨S322x512x1024, .f32⟩
  | 74 => ⟨S322x512x1024, .f32⟩
  | 75 => ⟨S164864x1024, .f32⟩
  | 76 => ⟨S164864x1024, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_call1_call0_c : Ref sig .tc := ⟨.hbm, 38, rfl⟩
abbrev main_call1_call0_v0 : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_3 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_5 : Ref sig .tc := ⟨.hbm, 58, rfl⟩
abbrev main_v28 : Ref sig .tc := ⟨.hbm, 59, rfl⟩
abbrev main_v29 : Ref sig .tc := ⟨.hbm, 60, rfl⟩
abbrev main_c_6 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_c_8 : Ref sig .tc := ⟨.hbm, 66, rfl⟩
abbrev main_v33 : Ref sig .tc := ⟨.hbm, 67, rfl⟩
abbrev main_c_9 : Ref sig .tc := ⟨.hbm, 68, rfl⟩
abbrev main_c_10 : Ref sig .tc := ⟨.hbm, 69, rfl⟩
abbrev main_v34 : Ref sig .tc := ⟨.hbm, 70, rfl⟩
abbrev main_c_11 : Ref sig .tc := ⟨.hbm, 71, rfl⟩
abbrev main_v35 : Ref sig .tc := ⟨.hbm, 72, rfl⟩
abbrev main_c_12 : Ref sig .tc := ⟨.hbm, 73, rfl⟩
abbrev main_c_13 : Ref sig .tc := ⟨.hbm, 74, rfl⟩
abbrev main_v36 : Ref sig .tc := ⟨.hbm, 75, rfl⟩
abbrev main_c_14 : Ref sig .tc := ⟨.hbm, 76, rfl⟩
abbrev main_c_15 : Ref sig .tc := ⟨.hbm, 77, rfl⟩
abbrev main_v37 : Ref sig .tc := ⟨.hbm, 78, rfl⟩
abbrev main_c_16 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_17 : Ref sig .tc := ⟨.hbm, 88, rfl⟩
abbrev main_v46 : Ref sig .tc := ⟨.hbm, 89, rfl⟩
abbrev main_v47 : Ref sig .tc := ⟨.hbm, 90, rfl⟩
abbrev main_c_18 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_19 : Ref sig .tc := ⟨.hbm, 95, rfl⟩
abbrev main_c_20 : Ref sig .tc := ⟨.hbm, 96, rfl⟩
abbrev main_v51 : Ref sig .tc := ⟨.hbm, 97, rfl⟩
abbrev main_c_21 : Ref sig .tc := ⟨.hbm, 98, rfl⟩
abbrev main_c_22 : Ref sig .tc := ⟨.hbm, 99, rfl⟩
abbrev main_v52 : Ref sig .tc := ⟨.hbm, 100, rfl⟩
abbrev main_c_23 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst : Ref sig .tc := ⟨.hbm, 113, rfl⟩
abbrev main_v64 : Ref sig .tc := ⟨.hbm, 114, rfl⟩
abbrev main_v65 : Ref sig .tc := ⟨.hbm, 115, rfl⟩
abbrev main_cst_24 : Ref sig .tc := ⟨.hbm, 116, rfl⟩
abbrev main_cst_25 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_v66 : Ref sig .tc := ⟨.hbm, 123, rfl⟩
abbrev main_cst_26 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_27 : Ref sig .tc := ⟨.hbm, 129, rfl⟩
abbrev main_v71 : Ref sig .tc := ⟨.hbm, 130, rfl⟩
abbrev main_v72 : Ref sig .tc := ⟨.hbm, 131, rfl⟩
abbrev main_cst_28 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_29 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_c_30 : Ref sig .tc := ⟨.hbm, 140, rfl⟩
abbrev main_v79 : Ref sig .tc := ⟨.hbm, 141, rfl⟩
abbrev main_v80 : Ref sig .tc := ⟨.hbm, 142, rfl⟩
abbrev main_c_31 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_c_32 : Ref sig .tc := ⟨.hbm, 147, rfl⟩
abbrev main_c_33 : Ref sig .tc := ⟨.hbm, 148, rfl⟩
abbrev main_v84 : Ref sig .tc := ⟨.hbm, 149, rfl⟩
abbrev main_c_34 : Ref sig .tc := ⟨.hbm, 150, rfl⟩
abbrev main_c_35 : Ref sig .tc := ⟨.hbm, 151, rfl⟩
abbrev main_v85 : Ref sig .tc := ⟨.hbm, 152, rfl⟩
abbrev main_c_36 : Ref sig .tc := ⟨.hbm, 153, rfl⟩
abbrev main_v86 : Ref sig .tc := ⟨.hbm, 154, rfl⟩
abbrev main_c_37 : Ref sig .tc := ⟨.hbm, 155, rfl⟩
abbrev main_c_38 : Ref sig .tc := ⟨.hbm, 156, rfl⟩
abbrev main_v87 : Ref sig .tc := ⟨.hbm, 157, rfl⟩
abbrev main_c_39 : Ref sig .tc := ⟨.hbm, 158, rfl⟩
abbrev main_c_40 : Ref sig .tc := ⟨.hbm, 159, rfl⟩
abbrev main_v88 : Ref sig .tc := ⟨.hbm, 160, rfl⟩
abbrev main_c_41 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_c_42 : Ref sig .tc := ⟨.hbm, 170, rfl⟩
abbrev main_v97 : Ref sig .tc := ⟨.hbm, 171, rfl⟩
abbrev main_v98 : Ref sig .tc := ⟨.hbm, 172, rfl⟩
abbrev main_c_43 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_c_44 : Ref sig .tc := ⟨.hbm, 177, rfl⟩
abbrev main_c_45 : Ref sig .tc := ⟨.hbm, 178, rfl⟩
abbrev main_v102 : Ref sig .tc := ⟨.hbm, 179, rfl⟩
abbrev main_c_46 : Ref sig .tc := ⟨.hbm, 180, rfl⟩
abbrev main_c_47 : Ref sig .tc := ⟨.hbm, 181, rfl⟩
abbrev main_v103 : Ref sig .tc := ⟨.hbm, 182, rfl⟩
abbrev main_c_48 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_49 : Ref sig .tc := ⟨.hbm, 198, rfl⟩
abbrev main_call3_v0 : Ref sig .tc := ⟨.hbm, 199, rfl⟩
abbrev main_call3_v1 : Ref sig .tc := ⟨.hbm, 200, rfl⟩
abbrev main_call3_v2 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩

abbrev nD : Nat := 1
abbrev τ : Topo := Topo.v7x

variable {F : FTy → Type} [FloatOps F]
-- ==== Proof.PI.Common.lean ====
/-
  The attention kernel's body as plain functions: the tile of keys or values a trip reads, the state the walk over the past
  tiles starts with (`start`), one trip (`trip`), the walk itself with a bound on the trips still to run (`walk`), and the
  block the body writes (`blockOut`). The word arithmetic of the tile's offset is read here as arithmetic on naturals.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead

@[expose] public section

noncomputable section

namespace Cert.Proof.PI

open Cert.KernelIdeal Cert.KernelIdeal.Gen
open Idealize.ShloMosaic Idealize.ShloMosaic.TcCoe

variable {F : FTy → Type} [FloatOps F] [Named F]

/-! ## Words -/

/-- The number of past tiles, as the kernel computes it. -/
theorem past_word (n : ℕ) : Scalar.muli (BitVec.ofNat 32 n) 1#32 = BitVec.ofNat 32 n := by
  unfold Scalar.muli IntOp.muli; simp

/-- The counter is below the number of past tiles: the test of the walk is the test on the carry. -/
theorem test_of_lt {j n : ℕ} (h : j < n) (hn : n < 64) (b : BitVec 1) :
    Scalar.andi (Scalar.cmpi .slt (BitVec.ofNat 32 j) (Scalar.muli (BitVec.ofNat 32 n) 1#32)) b = b := by
  rw [past_word]
  have e : Scalar.cmpi .slt (BitVec.ofNat 32 j) (BitVec.ofNat 32 n) = 1#1 := by
    show IntOp.cmpi .slt _ _ = _
    rw [WordCmp.cmpi_slt_eq, WordCmp.toInt_ofNat_of_lt (by omega), WordCmp.toInt_ofNat_of_lt (by omega)]
    simp [h]
  rw [e]; revert b; decide

/-- The counter has reached the number of past tiles: the test fails. -/
theorem test_of_ge {j n : ℕ} (h : n ≤ j) (hj : j < 128) (b : BitVec 1) :
    ¬ Scalar.andi (Scalar.cmpi .slt (BitVec.ofNat 32 j) (Scalar.muli (BitVec.ofNat 32 n) 1#32)) b = 1#1 := by
  rw [past_word]
  have e : Scalar.cmpi .slt (BitVec.ofNat 32 j) (BitVec.ofNat 32 n) = 0#1 := by
    show IntOp.cmpi .slt _ _ = _
    rw [WordCmp.cmpi_slt_eq, WordCmp.toInt_ofNat_of_lt (by omega), WordCmp.toInt_ofNat_of_lt (by omega)]
    rw [decide_eq_false (by omega)]; rfl
  rw [e]; revert b; decide

/-- The offset of the tile a trip reads, in rows. -/
theorem row_word {j n : ℕ} (h : j < n) (hn : n < 64) :
    Scalar.muli (Scalar.maxsi (Scalar.subi (Scalar.subi (Scalar.muli (BitVec.ofNat 32 n) 1#32) 1#32) (BitVec.ofNat 32 j)) 0#32) 256#32
      = BitVec.ofNat 32 (256 * (n - 1 - j)) := by
  rw [past_word]
  have e1 : Scalar.subi (BitVec.ofNat 32 n) 1#32 = BitVec.ofNat 32 (n - 1) := by
    apply BitVec.eq_of_toNat_eq; unfold Scalar.subi IntOp.subi
    rw [BitVec.toNat_sub]; simp only [BitVec.toNat_ofNat]; omega
  have e2 : Scalar.subi (BitVec.ofNat 32 (n - 1)) (BitVec.ofNat 32 j) = BitVec.ofNat 32 (n - 1 - j) := by
    apply BitVec.eq_of_toNat_eq; unfold Scalar.subi IntOp.subi
    rw [BitVec.toNat_sub]; simp only [BitVec.toNat_ofNat]; omega
  have e3 : Scalar.maxsi (BitVec.ofNat 32 (n - 1 - j)) 0#32 = BitVec.ofNat 32 (n - 1 - j) := by
    have hlt : n - 1 - j < 64 := by omega
    generalize n - 1 - j = a at hlt
    revert a; decide
  rw [e1, e2, e3]
  apply BitVec.eq_of_toNat_eq; unfold Scalar.muli IntOp.muli
  rw [BitVec.toNat_mul]; simp only [BitVec.toNat_ofNat]; omega

theorem first_row_word {n : ℕ} (hn : n < 64) :
    Scalar.muli (Scalar.maxsi (Scalar.subi (Scalar.subi (Scalar.muli (BitVec.ofNat 32 n) 1#32) 1#32) 0#32) 0#32) 256#32
      = BitVec.ofNat 32 (256 * (n - 1)) := by
  revert n; decide

theorem coord_lt (i : grid0.Coords) : (i 2).val < 64 := (i 2).isLt

theorem off1_eq (i : grid0.Coords) : k0_off1 i = ![0, 256 * ((i 2).val - 1), 0] := by
  have h := first_row_word (coord_lt i)
  unfold k0_off1
  simp only [h]
  funext a; fin_cases a
  · rfl
  · show (Scalar.indexCast (BitVec.ofNat 32 (256 * ((i 2).val - 1)))).toNat = _
    have := coord_lt i
    unfold Scalar.indexCast
    simp; omega
  · rfl

theorem off2_eq (i : grid0.Coords) {j : ℕ} (hj : j < (i 2).val) :
    k0_off2 i (BitVec.ofNat 32 j) = ![0, 256 * ((i 2).val - 1 - j), 0] := by
  have h := row_word hj (coord_lt i)
  unfold k0_off2
  simp only [h]
  funext a; fin_cases a
  · rfl
  · show (Scalar.indexCast (BitVec.ofNat 32 (256 * ((i 2).val - 1 - j)))).toNat = _
    have := coord_lt i
    unfold Scalar.indexCast
    simp; omega
  · rfl

/-- What the body assumes of the counter of a trip. -/
theorem chk_of_lt (i : grid0.Coords) {j : ℕ} (hj : j < (i 2).val) : k0_chk1 i (BitVec.ofNat 32 j) := by
  have hn := coord_lt i
  refine ⟨?_, fun a => ?_⟩
  · have h := row_word hj hn
    unfold k0_mult2
    simp only [h]
    rw [BitVec.toNat_ofNat]; omega
  · rw [off2_eq i hj]
    match a with
    | ⟨0, _⟩ => exact Nat.le_refl 1
    | ⟨1, _⟩ => show 256 * ((i 2).val - 1 - j) + 256 ≤ 16384; omega
    | ⟨2, _⟩ => exact Nat.le_refl 128

theorem next_word (j : ℕ) : Scalar.addi (BitVec.ofNat 32 j) 1#32 = BitVec.ofNat 32 (j + 1) := by
  unfold Scalar.addi IntOp.addi
  rw [BitVec.ofNat_add]

/-! ## The body as functions -/

/-- Rows `256·b … 256·b + 255` lie in an array of `16384` rows. -/
theorem rows_inb (b : ℕ) (hb : b < 64) : ∀ a, (![0, 256 * b, 0] : Fin 3 → ℕ) a + S1x256x128.size a ≤ S1x16384x128.size a := by
  intro a
  match a with
  | ⟨0, _⟩ => exact Nat.le_refl 1
  | ⟨1, _⟩ => show 256 * b + 256 ≤ 16384; omega
  | ⟨2, _⟩ => exact Nat.le_refl 128

/-- Their rectangle. -/
abbrev rows (b : ℕ) (hb : b < 64) : Rect S1x16384x128 := Rect.unit (s := S1x16384x128) ![0, 256 * b, 0] S1x256x128.size (rows_inb b hb)

/-- Rows `256·b … 256·b + 255` of an array of `16384` rows. -/
def tile (x : Vec F S1x16384x128 .bf16) (b : ℕ) : Vec F S1x256x128 .bf16 :=
  fun y => x ((rows (b % 64) (Nat.mod_lt _ (by decide))).toLoadRect.idx y)

/-- A load of a tile through a whole memref is the tile. -/
theorem load_tile {κ : Kind} {sp : Space} {mr : Memref sig κ sp S1x16384x128 .bf16} (hm : mr.IsWhole) (x : Vec F S1x16384x128 .bf16)
    {off : Fin 3 → ℕ} {b : ℕ} (hb : b < 64) (ho : off = ![0, 256 * b, 0]) (hi : ∀ a, off a + S1x256x128.size a ≤ S1x16384x128.size a) :
    mr.view.readAt (Elt F) (Rect.unit (s := S1x16384x128) off S1x256x128.size hi).toLoadRect (hm.unread x) = tile x b := by
  subst ho
  funext y
  rw [hm.readAt_unread]
  unfold tile
  have e : b % 64 = b := Nat.mod_eq_of_lt hb
  have : ∀ b', b' = b → ∀ h' : b' < 64, x ((rows b hb).toLoadRect.idx y) = x ((rows b' h').toLoadRect.idx y) := by
    intro b' h; subst h; intro _; rfl
  exact this _ e _

/-- A load of a whole block through a whole memref is the block. -/
theorem load_block {κ : Kind} {sp : Space} {e : EltTy} {mr : Memref sig κ sp S1x256x128 e} (hm : mr.IsWhole) (x : S1x256x128.Idx → Elt F e)
    (hi : ∀ a, (![0, 0, 0] : Fin 3 → ℕ) a + S1x256x128.size a ≤ S1x256x128.size a) :
    mr.view.readAt (Elt F) (Rect.unit (s := S1x256x128) ![0, 0, 0] S1x256x128.size hi).toLoadRect (hm.unread x) = x := by
  funext y
  rw [hm.readAt_unread]
  refine congrArg x (funext fun a => Fin.ext ?_)
  rw [LoadRect.idx_apply]
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The walk's state: the two heads' sums, their carries, the largest carry. -/
abbrev St (F : FTy → Type) := FVec F S256x128 .f32 × FVec F S256x128 .f32 × FVec F S256x1 .f32 × FVec F S256x1 .f32 × F .f32

/-- The number the largest carry is compared with. -/
abbrev thr : F .f32 := Named.named κ "zero_weight_log" 0xC2DC0000#32

/-- The lanes' numbers. -/
abbrev lanes : IVec S256x128 32 := iota .tc S256x128 32 [1] iota_S256x128_d1_w32

/-- The queries of the two heads. -/
def q0 (x0 : Vec F S1x256x128 .bf16) : FVec F S256x128 .bf16 := k0_pay10 x0
def q1 (x0 : Vec F S1x256x128 .bf16) : FVec F S256x128 .bf16 := k0_pay13 (k0_pay9 x0) lanes 64#32 k0_pay11 k0_pay12

/-- The two heads after the diagonal tile: sums and carries. -/
def acc0 (x0 x1 x2 : Vec F S1x256x128 .bf16) : FVec F S256x128 .f32 :=
  k0_pay21 (k0_pay15 x2) k0_pay16 (k0_pay17 (F := F)) (k0_pay18 (q0 x0) x1) (k0_pay19 (q0 x0) x1) (Scalar.ofBits .f32 0x00000000#32)
def car0 (x0 x1 : Vec F S1x256x128 .bf16) : FVec F S256x1 .f32 :=
  k0_pay22 k0_pay16 (k0_pay18 (q0 x0) x1) (k0_pay19 (q0 x0) x1)
def acc1 (x0 x1 x2 : Vec F S1x256x128 .bf16) : FVec F S256x128 .f32 :=
  k0_pay29 (k0_pay15 x2) k0_pay16 (k0_pay17 (F := F)) (k0_pay25 (q1 x0) (k0_pay14 x1)) (k0_pay26 (q1 x0) (k0_pay14 x1) k0_pay16)
    (k0_pay27 (q1 x0) (k0_pay14 x1) k0_pay16) (k0_pay28 (q1 x0) (k0_pay14 x1) k0_pay16)
def car1 (x0 x1 : Vec F S1x256x128 .bf16) : FVec F S256x1 .f32 :=
  k0_pay30 (k0_pay26 (q1 x0) (k0_pay14 x1) k0_pay16)

/-- Whether there is a past tile. -/
def live (n : ℕ) : BitVec 1 := Scalar.cmpi .sgt (Scalar.muli (BitVec.ofNat 32 n) 1#32) 0#32

/-- The two heads after the first past tile, of keys `kb` and values `vb`. -/
def fst0 (n : ℕ) (x0 x1 x2 kb vb : Vec F S1x256x128 .bf16) : FVec F S256x128 .f32 :=
  k0_pay38 (acc0 x0 x1 x2) (car0 x0 x1) (k0_pay31 (F := F)) (live n) (k0_pay33 vb) (k0_pay34 (q0 x0) kb) (k0_pay35 (q0 x0) kb)
def fcar0 (x0 x1 kb : Vec F S1x256x128 .bf16) : FVec F S256x1 .f32 :=
  k0_pay39 (car0 x0 x1) (k0_pay34 (q0 x0) kb) (k0_pay35 (q0 x0) kb)
def fst1 (n : ℕ) (x0 x1 x2 kb vb : Vec F S1x256x128 .bf16) : FVec F S256x128 .f32 :=
  k0_pay46 (acc1 x0 x1 x2) (car1 x0 x1) (k0_pay31 (F := F)) (live n) (k0_pay33 vb) (k0_pay42 (q1 x0) (k0_pay32 kb)) (k0_pay43 (q1 x0) (k0_pay32 kb))
    (k0_pay44 (q1 x0) (k0_pay32 kb)) (k0_pay45 (q1 x0) (k0_pay32 kb))
def fcar1 (x0 x1 kb : Vec F S1x256x128 .bf16) : FVec F S256x1 .f32 :=
  k0_pay47 (car1 x0 x1) (k0_pay43 (q1 x0) (k0_pay32 kb))
def start (n : ℕ) (x0 x1 x2 kb vb : Vec F S1x256x128 .bf16) : St F :=
  (fst0 n x0 x1 x2 kb vb, fst1 n x0 x1 x2 kb vb, fcar0 x0 x1 kb, fcar1 x0 x1 kb,
    k0_pay48 (car1 x0 x1) (fcar0 x0 x1 kb) (k0_pay43 (q1 x0) (k0_pay32 kb)))

/-- One trip, on the tile of keys `kb` and values `vb`; `u` is the triangular matrix. -/
def trip (a0 : FVec F S256x128 .bf16) (u : FVec F S256x256 .bf16) (a1 : FVec F S256x128 .bf16) (kb vb : Vec F S1x256x128 .bf16) (s : St F) : St F :=
  (k0_pay58 a0 u s.1 s.2.2.1 kb vb, k0_pay6 u a1 s.2.1 s.2.2.2.1 (k0_pay53 kb) (k0_pay54 vb), k0_pay2 s.2.2.1 (k0_pay59 a0 kb),
    k0_pay7 a1 s.2.2.2.1 (k0_pay53 kb), k0_pay8 a1 s.2.2.1 s.2.2.2.1 (k0_pay53 kb) (k0_pay59 a0 kb))

/-- The walk from counter `j` over the past tiles of `n`, with `k` trips at most still to run. -/
def walk (a0 : FVec F S256x128 .bf16) (u : FVec F S256x256 .bf16) (a1 : FVec F S256x128 .bf16) (x3 x4 : Vec F S1x16384x128 .bf16) (n : ℕ) :
    ℕ → ℕ → St F → St F
  | 0, _, s => s
  | k + 1, j, s => if Scalar.cmpf .ogt s.2.2.2.2 thr = 1#1
      then walk a0 u a1 x3 x4 n k (j + 1) (trip a0 u a1 (tile x3 (n - 1 - j)) (tile x4 (n - 1 - j)) s) else s

/-- The two heads side by side, as the body stores them. -/
def joined (a b : FVec F S256x128 .f32) : Vec F S1x256x128 .f32 :=
  k0_pay1 a b (k0_pay49 lanes) (k0_pay50 lanes) (k0_pay51 lanes) k0_pay52

/-- The state the walk ends with. -/
def ended (n : ℕ) (x0 x1 x2 : Vec F S1x256x128 .bf16) (x3 x4 : Vec F S1x16384x128 .bf16) : St F :=
  walk (q0 x0) (k0_pay31 (F := F)) (q1 x0) x3 x4 n (n - 1) 1 (start n x0 x1 x2 (tile x3 (n - 1)) (tile x4 (n - 1)))

/-- The block the body writes at query tile `n`. -/
def blockOut (n : ℕ) (x0 x1 x2 : Vec F S1x256x128 .bf16) (x3 x4 : Vec F S1x16384x128 .bf16) : Vec F S1x256x128 .f32 :=
  joined (ended n x0 x1 x2 x3 x4).1 (ended n x0 x1 x2 x3 x4).2.1

end Cert.Proof.PI

end
-- ==== Proof.PI.Body.lean ====
/-
  The attention kernel's body runs: on whole staging memrefs holding the point's blocks, it leaves the inputs as they were and
  the output holding `blockOut`. The walk over the past tiles is the label of the kernel's while; its specification is met by
  induction on the trips still to run.
-/
module

public import proofs.«01_k».proof.Proof.PI.Common

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The variants: the trips still to run. -/
abbrev 𝒱₀ : Variants := Variants.nat

section Label

variable (c : Dev nD) (i : grid0.Coords) (arg6 : Memref sig .tc .vmem S1x16384x128 .bf16) (harg6 : arg6.IsWhole)
  (arg7 : Memref sig .tc .vmem S1x16384x128 .bf16) (harg7 : arg7.IsWhole)
  (a0 : FVec F S256x128 .bf16) (u : FVec F S256x256 .bf16) (a1 : FVec F S256x128 .bf16)
  (x3 x4 : Vec F S1x16384x128 .bf16)

/-- The keys' and the values' buffers, held whole at their contents. -/
def held : sProp 𝕄 :=
  iprop((arg6.view.loc (c : Thread nD τ) ↦[arg6.view.set]{fullShare} harg6.unread x3)
    ∗ (arg7.view.loc (c : Thread nD τ) ↦[arg7.view.set]{fullShare} harg7.unread x4))

/-- What the label returns. -/
abbrev Res (F : FTy → Type) := BitVec 32 × St F

/-- The label's specification from counter `j` with `k` trips at most to run: the buffers are read only, and it returns some
    counter with the state the walk ends with. -/
def spec (k j : ℕ) (s : St F) : sWPT 𝕄 (Res F) := do
  sWPT.consume (held c arg6 harg6 arg7 harg7 x3 x4)
  let r ← sWPT.arbitrary
  sWPT.assume (r.2 = walk a0 u a1 x3 x4 (i 2).val k j s)
  sWPT.produce (held c arg6 harg6 arg7 harg7 x3 x4)
  pure r

theorem spec_apply (k j : ℕ) (s : St F) (K : Res F → sProp 𝕄) :
    spec c i arg6 harg6 arg7 harg7 a0 u a1 x3 x4 k j s K
      = iprop(held c arg6 harg6 arg7 harg7 x3 x4 ∗ ∀ r : Res F, ⌜r.2 = walk a0 u a1 x3 x4 (i 2).val k j s⌝
          -∗ (held c arg6 harg6 arg7 harg7 x3 x4 -∗ K r)) := rfl

set_option maxHeartbeats 1000000 in
theorem spec_le (E : Set ℕ) :
    ∀ k j, k = (i 2).val - j → j < 128 → ∀ (s : St F) (K : Res F → sProp 𝕄), spec c i arg6 harg6 arg7 harg7 a0 u a1 x3 x4 k j s K
      ⊢ wp frame (wpE (defs₀ (F := F)) 𝒱₀ (c : Thread nD τ) (some k)) E
          (defs₀ (F := F) .tc 1 ⟨i, arg6, harg6, arg7, harg7, a0, u, a1, BitVec.ofNat 32 j, s.1, s.2.1, s.2.2.1, s.2.2.2.1, s.2.2.2.2⟩) K := by
  have hn := coord_lt i
  intro k
  induction k with
  | zero =>
    intro j hj hj' s K
    rw [spec_apply]
    show _ ⊢ wp frame (wpE (defs₀ (F := F)) 𝒱₀ (c : Thread nD τ) (some 0)) E
      (cc0_while1 i arg6 harg6 arg7 harg7 a0 u a1 (BitVec.ofNat 32 j) s.1 s.2.1 s.2.2.1 s.2.2.2.1 s.2.2.2.2) K
    rw [cc0_while1_eq_skeleton]; unfold cc0_while1_skel
    simp only [test_of_ge (show (i 2).val ≤ j by omega) hj', ↓reduceIte, Prog.pure_eq_ret]
    iintro ⟨H, Hk⟩
    rw [wp_ret]; imodintro
    iapply Hk
    · ipureintro; rfl
    · iexact H
  | succ k ih =>
    intro j hj hj' s K
    have hjn : j < (i 2).val := by omega
    rw [spec_apply]
    show _ ⊢ wp frame (wpE (defs₀ (F := F)) 𝒱₀ (c : Thread nD τ) (some (k + 1))) E
      (cc0_while1 i arg6 harg6 arg7 harg7 a0 u a1 (BitVec.ofNat 32 j) s.1 s.2.1 s.2.2.1 s.2.2.2.1 s.2.2.2.2) K
    rw [cc0_while1_eq_skeleton]; unfold cc0_while1_skel
    simp only [test_of_lt hjn hn]
    by_cases ht : Scalar.cmpf .ogt s.2.2.2.2 (thr (F := F)) = 1#1
    · simp only [ht, ↓reduceIte, k0_part7_eq_skeleton]
      unfold k0_part7_skel
      simp only [Prog.lift, Prog.bind_op, Prog.bind_ret, Prog.pure_eq_ret]
      unfold held
      iintro ⟨⟨H6, H7⟩, Hk⟩
      iapply (wp_assume 𝒱₀ (c : Thread nD τ) (some (k + 1)) E (chk_of_lt i hjn))
      sl_step
      sl_step
      simp only [load_tile harg6 x3 (b := (i 2).val - 1 - j) (by omega) (off2_eq i hjn),
        load_tile harg7 x4 (b := (i 2).val - 1 - j) (by omega) (off2_eq i hjn), next_word]
      iapply (wp_call_spec 𝒱₀ (c : Thread nD τ) (some (k + 1)) E
        (spec c i arg6 harg6 arg7 harg7 a0 u a1 x3 x4 k (j + 1)
          (trip a0 u a1 (tile x3 ((i 2).val - 1 - j)) (tile x4 ((i 2).val - 1 - j)) s)) k
        (fun u hu => by cases hu; exact Nat.lt_succ_self k)
        (ih (j + 1) (by omega) (by omega) _))
      rw [spec_apply]; unfold held
      isplitl [H6 H7]
      · isplitl [H6]; · iexact H6
        iexact H7
      iintro %r %hr ⟨H6, H7⟩
      rw [wp_ret]; imodintro
      iapply Hk
      · ipureintro; rw [hr, walk, if_pos ht]
      · isplitl [H6]; · iexact H6
        iexact H7
    · simp only [ht, ↓reduceIte, Prog.pure_eq_ret]
      iintro ⟨H, Hk⟩
      rw [wp_ret]; imodintro
      iapply Hk
      · ipureintro; rw [walk, if_neg ht]
      · iexact H

end Label

end Cert.Proof.PI

end
-- ==== Proof.PI.Body2.lean ====
/-
  The whole body of the attention kernel at a grid point, on staging memrefs held whole at the point's blocks.
-/
module

public import proofs.«01_k».proof.Proof.PI.Body
public import Idealize.ShloMosaic.Lib.VecWindow

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a grid point: on the blocks `x0 … x4` it writes the block `blockOut`. -/
theorem body_run (c : Dev nD) (i : grid0.Coords) (arg3 : Memref sig .tc .vmem S1x256x128 .bf16) (harg3 : arg3.IsWhole)
    (arg4 : Memref sig .tc .vmem S1x256x128 .bf16) (harg4 : arg4.IsWhole) (arg5 : Memref sig .tc .vmem S1x256x128 .bf16) (harg5 : arg5.IsWhole)
    (arg6 : Memref sig .tc .vmem S1x16384x128 .bf16) (harg6 : arg6.IsWhole) (arg7 : Memref sig .tc .vmem S1x16384x128 .bf16) (harg7 : arg7.IsWhole)
    (arg8 : Memref sig .tc .vmem S1x256x128 .f32) (harg8 : arg8.IsWhole)
    (x0 x1 x2 : Vec F S1x256x128 .bf16) (x3 x4 : Vec F S1x16384x128 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (blockOut (i 2).val x0 x1 x2 x3 x4)) -∗ K ⟨⟩))
      ⊢ wp frame (wpE (defs₀ (F := F)) 𝒱₀ c none) E
          (cc0_attn_prompt i arg3 harg3 arg4 harg4 arg5 harg5 arg6 harg6 arg7 harg7 arg8 harg8) K := by
  have hn := coord_lt i
  simp only [cc0_attn_prompt_eq_skeleton]; unfold cc0_attn_prompt_skel
  simp only [k0_part6_eq_skeleton, k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2; obtain rfl := harg6.eq_unread hf3; obtain rfl := harg7.eq_unread hf4
  unfold k0_part1_skel k0_part2_skel k0_part3_skel k0_part4_skel k0_part5_skel k0_part6_skel
  simp only [Prog.lift, Prog.bind_op, Prog.bind_ret, Prog.pure_eq_ret]
  sl_step
  sl_step
  sl_step
  sl_step
  sl_step
  simp only [load_block harg3 x0, load_block harg4 x1, load_block harg5 x2,
    load_tile harg6 x3 (b := (i 2).val - 1) (by omega) (off1_eq i), load_tile harg7 x4 (b := (i 2).val - 1) (by omega) (off1_eq i)]
  iapply (wp_call_spec 𝒱₀ (c : Thread nD τ) none E
    (spec c i arg6 harg6 arg7 harg7 (q0 x0) (k0_pay31 (F := F)) (q1 x0) x3 x4 ((i 2).val - 1) 1
      (start (i 2).val x0 x1 x2 (tile x3 ((i 2).val - 1)) (tile x4 ((i 2).val - 1)))) ((i 2).val - 1)
    (fun u hu => nomatch hu)
    (spec_le c i arg6 harg6 arg7 harg7 (q0 x0) (k0_pay31 (F := F)) (q1 x0) x3 x4 E _ 1 rfl (by omega) _))
  rw [spec_apply]; unfold held
  isplitl [H3 H4]
  · isplitl [H3]; · iexact H3
    iexact H4
  iintro %r %hr ⟨H3, H4⟩
  sl_step
  sl_step
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  obtain ⟨j, s⟩ := r
  have hs : s = ended (i 2).val x0 x1 x2 x3 x4 := hr
  subst hs
  exact View.read_writes_full (Val := Elt F) arg8.view f5 (off := ![0, 0, 0]) inb_S1x256x128_S1x256x128_0_0_0 _ []

end Cert.Proof.PI

end
-- ==== Proof.PI.Run.lean ====
/-
  The launch of the attention kernel: the buffers when the pipeline starts, the blocks its points read, what a point leaves, and the run of the program.
-/
module

public import proofs.«01_k».proof.Proof.PI.Body2
public import Idealize.ShloMosaic.Lib.Pipeline.FrameBody
public import Idealize.ShloMosaic.Lib.Pipeline.Value
public import Idealize.ShloMosaic.Lib.Ring
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to the pipeline -/

/-- A device's buffers after the host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem host_main (𝒱 : Variants) : Pipeline.HMain (Ix := Unit) (Name := ℕ) (U := UR sig nD τ) (Lvl := ℕ) (cfgs (F := F)) 0 defs₀ 𝒱 m (main (F := F)) (V m) :=
  Pipeline.hmain_prefix (cfgs (F := F)) 0 defs₀ 𝒱 m main hostOps0 hostOps0_sub host_fresh main_chain

/-- The host operations leave argument 0 alone. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host operations leave argument 1 alone. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host operations leave argument 2 alone. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## What the points read and leave -/

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

abbrev ms0 (t : Fin (cfg0 (F := F)).N) : Memref sig .tc .vmem S1x256x128 .bf16 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S1x256x128 .bf16 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S1x256x128 .bf16 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S1x16384x128 .bf16 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S1x16384x128 .bf16 := win0_4.stage ((cfg0 (F := F)).slots t 4)
abbrev hs4 (t : Fin (cfg0 (F := F)).N) : (ms4 t).IsWhole := hstage0_4 (((cfg0 (F := F)).slots t 4).cast nbuf0_4)
abbrev ms5 (t : Fin (cfg0 (F := F)).N) : Memref sig .tc .vmem S1x256x128 .f32 := win0_5.stage ((cfg0 (F := F)).slots t 5)
abbrev hs5 (t : Fin (cfg0 (F := F)).N) : (ms5 t).IsWhole := hstage0_5 (((cfg0 (F := F)).slots t 5).cast nbuf0_5)

/-- The block point `t` leaves. -/
def outAt (c : Dev nD) (t : Fin (cfg0 (F := F)).N) : Vec F S1x256x128 .f32 :=
  blockOut (grid0.coords t 2).val (iblk m c 0 t) (iblk m c 1 t) (iblk m c 2 t) (iblk m c 3 t) (iblk m c 4 t)

/-- The proof data of the pipeline: the arrays as found, each input's block left in place, the output's block written. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = outAt m c t := rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body at a point -/

def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold outAt
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ (hs0 t) _ (hs1 t) _ (hs2 t) _ (hs3 t) _ (hs4 t) _ (hs5 t)
    (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  exact triple_restated (sound_body m c t) rfl .rfl fun _ => .rfl

/-! ## The run -/

set_option backward.isDefEq.respectTransparency.types false in
theorem run_quiescent : θ_run defs (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := host_main m 𝒱₀) (hA := A_eq m) (hΦ := fun _ _ => rfl)

/-- Every run ends, with the result array at what the write-backs leave in it, the arguments unchanged and every counter at zero. -/
theorem run : θ_run defs (onTc (τ := τ) (main (F := F))) ⟨m, fun _ => 0, ρ⟩ (fun r => (∀ c : Dev nD,
      r.2.mem ((c : Thread nD τ).loc main_v8) = (dats m 0 c).arrAt 5 (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => ⟨(h.1 c).1 5,
      ((h.1 c).2 main_arg0 (Pipeline.mem_restRefs_of main_arg0 (by decide) (show ∀ w : Fin 6, (spec0 w).arr.view.ref ≠ main_arg0 by decide))).trans (V_arg0 m c),
      ((h.1 c).2 main_arg1 (Pipeline.mem_restRefs_of main_arg1 (by decide) (show ∀ w : Fin 6, (spec0 w).arr.view.ref ≠ main_arg1 by decide))).trans (V_arg1 m c),
      ((h.1 c).2 main_arg2 (Pipeline.mem_restRefs_of main_arg2 (by decide) (show ∀ w : Fin 6, (spec0 w).arr.view.ref ≠ main_arg2 by decide))).trans (V_arg2 m c)⟩, h.2⟩) (run_quiescent m ρ)

end Cert.Proof.PI

end
-- ==== Proof.PI.Alg.lean ====
/-
  The stick-breaking attention of one query over the extended reals: the logarithms of a weight and of its complement,
  the sum over the keys from a position on (`car`, `att`), and how the two sums grow by one tile of 256 keys.
-/
module

public import Idealize.ShloMosaic.PureOps.Ideal
public import Idealize.ShloMosaic.PureOps.Ideal.Laws

@[expose] public section

noncomputable section

namespace Cert.Proof.PI

open Idealize.ShloMosaic

/-! ## Logarithms -/

def soft (z : EReal) : EReal := Ideal.log (1 + Ideal.exp (0 - max z (-z)))

/-- The logarithm of the logistic function. -/
def lb (z : EReal) : EReal := min z 0 - soft z

/-- The logarithm of its complement. -/
def lk (z : EReal) : EReal := min (0 - z) 0 - soft z

theorem soft_real (z : EReal) : ∃ x : ℝ, 0 ≤ x ∧ soft z = (x : EReal) := by
  unfold soft
  have key : ∃ y : ℝ, 0 ≤ y ∧ Ideal.exp (0 - max z (-z)) = (y : EReal) := by
    induction z using EReal.rec with
    | bot => exact ⟨0, le_refl _, by simp [Ideal.exp_bot]⟩
    | top => exact ⟨0, le_refl _, by simp [Ideal.exp_bot]⟩
    | coe x =>
      refine ⟨Real.exp (0 - max x (-x)), (Real.exp_pos _).le, ?_⟩
      have : (0 : EReal) - max (x : EReal) (-(x : EReal)) = ((0 - max x (-x) : ℝ) : EReal) := by
        rw [EReal.coe_sub, EReal.coe_strictMono.monotone.map_max, EReal.coe_neg]; rfl
      rw [this, Ideal.exp_coe]
  obtain ⟨y, hy, e⟩ := key
  rw [e]
  have : (1 : EReal) + (y : EReal) = ((1 + y : ℝ) : EReal) := by rw [EReal.coe_add]; rfl
  rw [this, Ideal.log_coe, if_neg (by linarith)]
  exact ⟨_, Real.log_nonneg (by linarith), rfl⟩

theorem soft_neg (z : EReal) : soft (-z) = soft z := by
  unfold soft; rw [neg_neg, max_comm]

theorem lk_ne_top (z : EReal) : lk z ≠ ⊤ := by
  obtain ⟨x, hx, e⟩ := soft_real z
  unfold lk; rw [e]
  intro h
  have h1 : min (0 - z) 0 - (x : EReal) ≤ 0 - (x : EReal) := EReal.sub_le_sub (min_le_right _ _) le_rfl
  rw [h, show (0 : EReal) - (x : EReal) = ((0 - x : ℝ) : EReal) by rw [EReal.coe_sub]; rfl] at h1
  exact absurd (top_le_iff.mp h1) (EReal.coe_ne_top _)

theorem neg_soft (z : EReal) : -(max (-z) 0 + Ideal.log1p (Ideal.exp (-(max (-z - 0) (-(-z - 0)))))) = lb z := by
  obtain ⟨x, hx, e⟩ := soft_real z
  have e' : Ideal.log1p (Ideal.exp (-(max (-z - 0) (-(-z - 0))))) = (x : EReal) := by
    rw [← e]; unfold soft Ideal.log1p
    rw [sub_zero, neg_neg, max_comm, zero_sub]
  unfold lb
  rw [e', e, EReal.neg_add (.inr (EReal.coe_ne_top _)) (.inr (EReal.coe_ne_bot _))]
  congr 1
  rcases le_total z 0 with h | h
  · rw [min_eq_left h, max_eq_left (by rwa [EReal.neg_nonneg] ), neg_neg]
  · rw [min_eq_right h, max_eq_right (by rw [← neg_zero]; exact EReal.neg_le_neg_iff.mpr h), neg_zero]

theorem neg_soft' (z : EReal) : -(max (-(-z)) 0 + Ideal.log1p (Ideal.exp (-(max (-(-z) - 0) (-(-(-z) - 0)))))) = lk z := by
  rw [neg_soft (-z)]
  unfold lb lk
  rw [soft_neg, zero_sub]

/-! ## Sums over the keys from a position on -/

/-- The number of positions. -/
abbrev NN : ℕ := 16384

/-- A key's term in the sum of the logarithms of the complements; zero at the keys the query does not see. -/
def fk (t : ℕ) (z : ℕ → EReal) (j : ℕ) : EReal := if j < t then lk (z j) else 0

/-- The sum of the terms of the keys from `b` on. -/
def car (t : ℕ) (z : ℕ → EReal) (b : ℕ) : EReal := ∑ j ∈ Finset.Ico b NN, fk t z j

/-- The weight of key `s`. -/
def wt (t : ℕ) (z : ℕ → EReal) (s : ℕ) : EReal := if s < t then Ideal.exp (lb (z s) + car t z (s + 1)) else 0

/-- The weighted sum of the values of the keys from `b` on. -/
def att (t : ℕ) (z v : ℕ → EReal) (b : ℕ) : EReal := ∑ s ∈ Finset.Ico b NN, wt t z s * v s

theorem fk_ne_top (t : ℕ) (z : ℕ → EReal) (j : ℕ) : fk t z j ≠ ⊤ := by
  unfold fk; split
  · exact lk_ne_top _
  · exact EReal.zero_ne_top

/-- A sum over a tile of 256 positions. -/
theorem sum_tile (g : ℕ → EReal) (b : ℕ) : ∑ c : Fin 256, g (b + c.val) = ∑ j ∈ Finset.Ico b (b + 256), g j := by
  rw [Finset.sum_Ico_eq_sum_range, Nat.add_sub_cancel_left, Fin.sum_univ_eq_sum_range (fun k => g (b + k)) 256]

/-- The sum over the later positions of a tile, taken with the triangular matrix of ones and zeros. -/
theorem sum_later (g : ℕ → EReal) (b c : ℕ) (hc : c < 256) :
    ∑ j : Fin 256, g (b + j.val) * (if c < j.val then (1 : EReal) else 0) = ∑ j ∈ Finset.Ico (b + c + 1) (b + 256), g j := by
  have e : ∀ j : Fin 256, g (b + j.val) * (if c < j.val then (1 : EReal) else 0) = (fun i => if b + c < i then g i else 0) (b + j.val) := by
    intro j
    by_cases h : c < j.val
    · rw [if_pos h, mul_one]; exact (if_pos (by omega)).symm
    · rw [if_neg h, mul_zero]; exact (if_neg (by omega)).symm
  rw [Finset.sum_congr rfl fun j _ => e j, sum_tile (fun i => if b + c < i then g i else 0) b, ← Finset.sum_filter]
  refine Finset.sum_congr (Finset.ext fun i => ?_) fun _ _ => rfl
  rw [Finset.mem_filter, Finset.mem_Ico, Finset.mem_Ico]
  omega

/-- The rest of a term after itself is taken away adds nothing. -/
theorem sub_self_mul_add (x u : EReal) (hx : x ≠ ⊤) (hu : u = 0 ∨ u = 1) : x * u + (x - x) * u = x * u := by
  rcases hu with rfl | rfl
  · simp
  · rw [mul_one, mul_one]
    induction x using EReal.rec with
    | bot => rw [EReal.bot_add]
    | top => exact absurd rfl hx
    | coe x => rw [← EReal.coe_sub, ← EReal.coe_add, sub_self, add_zero]

/-- The two halves of the split sum of the later positions of a tile make the sum. -/
theorem sum_split (g : Fin 256 → EReal) (hg : ∀ j, g j ≠ ⊤) (c : ℕ) :
    ∑ j : Fin 256, g j * (if c < j.val then (1 : EReal) else 0) + ∑ j : Fin 256, (g j - g j) * (if c < j.val then (1 : EReal) else 0)
      = ∑ j : Fin 256, g j * (if c < j.val then (1 : EReal) else 0) := by
  rw [← Finset.sum_add_distrib]
  refine Finset.sum_congr rfl fun j _ => sub_self_mul_add _ _ (hg j) ?_
  split
  · exact .inr rfl
  · exact .inl rfl

theorem car_split (t : ℕ) (z : ℕ → EReal) {a b : ℕ} (h : a ≤ b) (hb : b ≤ NN) :
    car t z a = ∑ j ∈ Finset.Ico a b, fk t z j + car t z b :=
  (Finset.sum_Ico_consecutive _ h hb).symm

theorem att_split (t : ℕ) (z v : ℕ → EReal) {a b : ℕ} (h : a ≤ b) (hb : b ≤ NN) :
    att t z v a = ∑ s ∈ Finset.Ico a b, wt t z s * v s + att t z v b :=
  (Finset.sum_Ico_consecutive _ h hb).symm

/-- No term from the query's position on. -/
theorem car_of_le (t : ℕ) (z : ℕ → EReal) {b : ℕ} (h : t ≤ b) : car t z b = 0 :=
  Finset.sum_eq_zero fun j hj => if_neg (by have := (Finset.mem_Ico.mp hj).1; omega)

theorem att_of_le (t : ℕ) (z v : ℕ → EReal) {b : ℕ} (h : t ≤ b) : att t z v b = 0 :=
  Finset.sum_eq_zero fun j hj => by
    unfold wt; rw [if_neg (by have := (Finset.mem_Ico.mp hj).1; omega), zero_mul]

/-! ## One tile -/

/-- The carry over a tile before the query. -/
theorem car_past (t : ℕ) (z : ℕ → EReal) (b : ℕ) (ht : b + 256 ≤ t) (hN : t ≤ NN) :
    car t z (b + 256) + ∑ c : Fin 256, lk (z (b + c.val)) = car t z b := by
  rw [car_split t z (Nat.le_add_right b 256) (by omega), add_comm, ← sum_tile]
  congr 1
  exact Finset.sum_congr rfl fun c _ => (if_pos (by have := c.isLt; omega)).symm

/-- The weighted sum over a tile before the query. -/
theorem att_past (t : ℕ) (z v : ℕ → EReal) (b : ℕ) (ht : b + 256 ≤ t) (hN : t ≤ NN) :
    att t z v (b + 256) + ∑ c : Fin 256, Ideal.exp (lb (z (b + c.val))
        + (∑ j : Fin 256, lk (z (b + j.val)) * (if c.val < j.val then (1 : EReal) else 0)
          + ∑ j : Fin 256, (lk (z (b + j.val)) - lk (z (b + j.val))) * (if c.val < j.val then (1 : EReal) else 0))
        + car t z (b + 256)) * v (b + c.val) = att t z v b := by
  rw [att_split t z v (Nat.le_add_right b 256) (by omega), add_comm, ← sum_tile (fun s => wt t z s * v s)]
  congr 1
  refine Finset.sum_congr rfl fun c _ => ?_
  have hc := c.isLt
  rw [sum_split (fun j => lk (z (b + j.val))) (fun _ => lk_ne_top _), sum_later (fun s => lk (z s)) b c.val hc]
  show _ = wt t z (b + c.val) * v (b + c.val)
  unfold wt
  rw [if_pos (by omega), car_split t z (show b + c.val + 1 ≤ b + 256 by omega) (by omega), add_assoc]
  congr 4
  exact Finset.sum_congr rfl fun j hj => (if_pos (by have := Finset.mem_Ico.mp hj; omega)).symm

/-- The carry over the query's own tile. -/
theorem car_diag (t : ℕ) (z : ℕ → EReal) (b r : ℕ) (ht : t = b + r) (hr : r < 256) (hN : b + 256 ≤ NN) :
    ∑ c : Fin 256, (if c.val < r then lk (z (b + c.val)) else 0) = car t z b := by
  rw [car_split t z (Nat.le_add_right b 256) hN, car_of_le t z (b := b + 256) (by omega), add_zero, ← sum_tile]
  refine Finset.sum_congr rfl fun c _ => ?_
  unfold fk
  by_cases h : c.val < r
  · rw [if_pos h, if_pos (by omega)]
  · rw [if_neg h, if_neg (by omega)]

/-- The weighted sum over the query's own tile. -/
theorem att_diag (t : ℕ) (z v : ℕ → EReal) (b r : ℕ) (ht : t = b + r) (hr : r < 256) (hN : b + 256 ≤ NN) :
    ∑ c : Fin 256, (if c.val < r then Ideal.exp (lb (z (b + c.val))
        + (∑ j : Fin 256, (if j.val < r then lk (z (b + j.val)) else 0) * (if c.val < j.val then (1 : EReal) else 0)
          + ∑ j : Fin 256, ((if j.val < r then lk (z (b + j.val)) else 0) - (if j.val < r then lk (z (b + j.val)) else 0))
              * (if c.val < j.val then (1 : EReal) else 0))) else 0) * v (b + c.val) = att t z v b := by
  rw [att_split t z v (Nat.le_add_right b 256) hN, att_of_le t z v (b := b + 256) (by omega), add_zero,
    ← sum_tile (fun s => wt t z s * v s)]
  refine Finset.sum_congr rfl fun c _ => ?_
  have hc := c.isLt
  have e : ∀ j : Fin 256, (if j.val < r then lk (z (b + j.val)) else 0) = fk t z (b + j.val) := by
    intro j
    unfold fk
    by_cases h : j.val < r
    · rw [if_pos h, if_pos (by omega)]
    · rw [if_neg h, if_neg (by omega)]
  simp only [e]
  rw [sum_split (fun j => fk t z (b + j.val)) (fun _ => fk_ne_top _ _ _), sum_later (fk t z) b c.val hc]
  unfold wt
  by_cases h : c.val < r
  · rw [if_pos h, if_pos (by omega), car_split t z (show b + c.val + 1 ≤ b + 256 by omega) hN,
      car_of_le t z (b := b + 256) (by omega), add_zero]
  · rw [if_neg h, if_neg (by omega)]

/-- Once the carry is `⊥`, the keys before it weigh nothing. -/
theorem att_dead (t : ℕ) (z v : ℕ → EReal) {b : ℕ} (hb : b ≤ NN) (h : car t z b = ⊥) : att t z v b = att t z v 0 := by
  rw [att_split t z v (Nat.zero_le b) hb, Finset.sum_eq_zero, zero_add]
  intro s hs
  have hs' := (Finset.mem_Ico.mp hs).2
  unfold wt
  split
  · rw [car_split t z (show s + 1 ≤ b by omega) hb, h, EReal.add_bot, EReal.add_bot, Ideal.exp_bot, zero_mul]
  · rw [zero_mul]

end Cert.Proof.PI

end
-- ==== Proof.PI.Pay.lean ====
/-
  The body's vector expressions read at an index, over the extended reals: the two heads' masked queries, one tile's weighted
  sum and its carry (on the query's own tile, on the first past tile, on a trip's tile), the test on the largest carry, and
  the block put together from the two heads.
-/
module

public import proofs.«01_k».proof.Proof.PI.Common
public import proofs.«01_k».proof.Proof.PI.Alg
public import Idealize.ShloMosaic.Lib.Pointwise

@[expose] public section

set_option maxRecDepth 16384

noncomputable section

namespace Cert.Proof.PI

open Cert.KernelIdeal Cert.KernelIdeal.Gen
open Idealize.ShloMosaic Idealize.ShloMosaic.TcCoe

/-- A tile of 256 rows and 128 lanes as a block holds it, and without the block's leading axis. -/
abbrev XV := Vec Ideal S1x256x128 .bf16
abbrev QV := FVec Ideal S256x128 .bf16
abbrev AV := FVec Ideal S256x128 .f32
abbrev CV := FVec Ideal S256x1 .f32

/-- The score of query row `r` against key row `c` of a tile. -/
def score (a : QV) (kb : XV) (r c : Fin 256) : EReal := ∑ k : Fin 128, a (ix2 r k) * kb (ix3 0 c k)

/-! ## Masks -/

theorem sel_slt {α : Type} (a b : Fin 256) (x y : α) :
    Scalar.select (IntOp.cmpi .slt (BitVec.ofNat 32 a.val) (BitVec.ofNat 32 b.val)) x y = if a.val < b.val then x else y := by
  have ha := a.isLt
  have hb := b.isLt
  rw [WordCmp.cmpi_slt_eq, WordCmp.toInt_ofNat_of_lt (by omega), WordCmp.toInt_ofNat_of_lt (by omega)]
  by_cases h : a.val < b.val
  · rw [decide_eq_true (by omega), if_pos h]; rfl
  · rw [decide_eq_false (by omega), if_neg h]; rfl

theorem sel_sgt {α : Type} (a b : Fin 256) (x y : α) :
    Scalar.select (IntOp.cmpi .sgt (BitVec.ofNat 32 a.val) (BitVec.ofNat 32 b.val)) x y = if b.val < a.val then x else y :=
  sel_slt b a x y

/-- The half a lane lies in, as the body computes it: the lane's number over 64, rounded down. -/
def half (l : ℕ) : BitVec 32 :=
  Scalar.select
    (IntOp.andi
      (IntOp.cmpi .ne
        (IntOp.subi (BitVec.setWidth 32 (IntOp.cmpi .sgt (BitVec.ofNat 32 l) 0#32))
          (BitVec.setWidth 32 (IntOp.cmpi .slt (BitVec.ofNat 32 l) 0#32)))
        (Scalar.subi (Scalar.extui (Scalar.cmpi .sgt 64#32 0#32)) (Scalar.extui (Scalar.cmpi .slt 64#32 0#32))))
      (IntOp.cmpi .ne (IntOp.remsi ArithUnit.vector (BitVec.ofNat 32 l) 64#32) 0#32))
    (IntOp.subi (IntOp.divsi ArithUnit.vector (BitVec.ofNat 32 l) 64#32) 1#32)
    (IntOp.divsi ArithUnit.vector (BitVec.ofNat 32 l) 64#32)

theorem half_zero : ∀ l : Fin 128, IntOp.cmpi .eq (half l.val) 0#32 = if l.val < 64 then 1#1 else 0#1 := by decide +kernel

theorem half_one : ∀ l : Fin 128, IntOp.cmpi .eq (half l.val) 1#32 = if l.val < 64 then 0#1 else 1#1 := by decide +kernel

theorem bit_cases : ∀ b : BitVec 1, b = 1#1 ∨ b = 0#1 := by decide

theorem sel_one {α : Type} (x y : α) : Scalar.select 1#1 x y = x := rfl
theorem sel_zero {α : Type} (x y : α) : Scalar.select 0#1 x y = y := rfl

/-! ## The two heads -/

theorem q0_at (x : XV) (r : Fin 256) (l : Fin 128) : q0 x (ix2 r l) = if l.val < 64 then x (ix3 0 r l) else 0 := by
  pointwise [q0, k0_pay9, k0_pay10]
  show Scalar.select (IntOp.cmpi .eq (half l.val) 0#32) (x (ix3 0 r l)) (0 : EReal) = _
  rw [half_zero l]
  split
  · exact sel_one _ _
  · exact sel_zero _ _

theorem q1_at (x : XV) (r : Fin 256) (l : Fin 128) : q1 x (ix2 r l) = if l.val < 64 then 0 else x (ix3 0 r l) := by
  pointwise [q1, k0_pay9, k0_pay13, k0_pay12, k0_pay11, lanes]
  show Scalar.select (IntOp.cmpi .eq (half l.val) 1#32) (x (ix3 0 r l)) (0 : EReal) = _
  rw [half_one l]
  split
  · exact sel_zero _ _
  · exact sel_one _ _

theorem joined_at (x y : AV) (r : Fin 256) (l : Fin 128) :
    joined x y (ix3 0 r l) = if l.val < 64 then x (ix2 r l) else y (ix2 r l) := by
  pointwise [joined, k0_pay1, k0_pay49, k0_pay50, k0_pay51, k0_pay52, lanes]
  show Scalar.select (IntOp.cmpi .eq (half l.val) 1#32) (y (ix2 r l)) (x (ix2 r l)) = _
  rw [half_one l]
  split
  · exact sel_zero _ _
  · exact sel_one _ _

/-! ## The query's own tile -/

/-- The weighted sum over the query's own tile. -/
def diagSum (g : Fin 256 → EReal) (v : Fin 256 → EReal) (r : ℕ) : EReal :=
  ∑ c : Fin 256, (if c.val < r then Ideal.exp (lb (g c)
    + (∑ j : Fin 256, (if j.val < r then lk (g j) else 0) * (if c.val < j.val then (1 : EReal) else 0)
      + ∑ j : Fin 256, ((if j.val < r then lk (g j) else 0) - (if j.val < r then lk (g j) else 0))
          * (if c.val < j.val then (1 : EReal) else 0))) else 0) * v c

/-- The carry over the query's own tile. -/
def diagCar (g : Fin 256 → EReal) (r : ℕ) : EReal := ∑ c : Fin 256, (if c.val < r then lk (g c) else 0)

theorem acc0_at (x y z : XV) (r : Fin 256) (l : Fin 128) :
    acc0 x y z (ix2 r l) = diagSum (score (q0 x) y r) (fun c => z (ix3 0 c l)) r.val := by
  unfold diagSum score lb lk soft
  pointwise [acc0, k0_pay21, k0_pay20, k0_pay19, k0_pay18, k0_pay17, k0_pay16, k0_pay15, k0_pay14]
  simp only [sel_slt, sel_sgt, Ideal.absf_def, ite_mul, mul_ite, zero_mul, mul_zero, mul_one]

theorem acc1_at (x y z : XV) (r : Fin 256) (l : Fin 128) :
    acc1 x y z (ix2 r l) = diagSum (score (q1 x) y r) (fun c => z (ix3 0 c l)) r.val := by
  unfold diagSum score lb lk soft
  pointwise [acc1, k0_pay29, k0_pay28, k0_pay27, k0_pay26, k0_pay25, k0_pay24, k0_pay23, k0_pay17, k0_pay16, k0_pay15, k0_pay14]
  simp only [sel_slt, sel_sgt, Ideal.absf_def, ite_mul, mul_ite, zero_mul, mul_zero, mul_one]

theorem car0_at (x y : XV) (r : Fin 256) : car0 x y (ix2 r 0) = diagCar (score (q0 x) y r) r.val := by
  unfold diagCar score lk soft
  pointwise [car0, k0_pay22, k0_pay20, k0_pay19, k0_pay18, k0_pay16, k0_pay14]
  simp only [sel_slt, Ideal.absf_def]

theorem car1_at (x y : XV) (r : Fin 256) : car1 x y (ix2 r 0) = diagCar (score (q1 x) y r) r.val := by
  unfold diagCar score lk soft
  pointwise [car1, k0_pay30, k0_pay26, k0_pay24, k0_pay23, k0_pay16, k0_pay14]
  simp only [sel_slt, Ideal.absf_def]

/-! ## A past tile -/

/-- The weighted sum over a past tile, the carry from the tiles after it being `w`. -/
def pastSum (g : Fin 256 → EReal) (v : Fin 256 → EReal) (w : EReal) : EReal :=
  ∑ c : Fin 256, Ideal.exp (lb (g c)
    + (∑ j : Fin 256, lk (g j) * (if c.val < j.val then (1 : EReal) else 0)
      + ∑ j : Fin 256, (lk (g j) - lk (g j)) * (if c.val < j.val then (1 : EReal) else 0)) + w) * v c

theorem trip0_at (a : QV) (s : AV) (w : CV) (kb vb : XV) (r : Fin 256) (l : Fin 128) :
    k0_pay58 a (k0_pay31 (F := Ideal)) s w kb vb (ix2 r l)
      = s (ix2 r l) + pastSum (score a kb r) (fun c => vb (ix3 0 c l)) (w (ix2 r 0)) := by
  unfold pastSum score lb lk soft
  pointwise [k0_pay58, k0_pay57, k0_pay56, k0_pay55, k0_pay54, k0_pay53, k0_pay31]
  simp only [sel_sgt, Ideal.absf_def, mul_ite, mul_zero, mul_one]

theorem trip1_at (a : QV) (s : AV) (w : CV) (kb vb : XV) (r : Fin 256) (l : Fin 128) :
    k0_pay6 (k0_pay31 (F := Ideal)) a s w (k0_pay53 kb) (k0_pay54 vb) (ix2 r l)
      = s (ix2 r l) + pastSum (score a kb r) (fun c => vb (ix3 0 c l)) (w (ix2 r 0)) := by
  unfold pastSum score lb lk soft
  pointwise [k0_pay6, k0_pay5, k0_pay4, k0_pay3, k0_pay54, k0_pay53, k0_pay31]
  simp only [sel_sgt, Ideal.absf_def, mul_ite, mul_zero, mul_one]

theorem tripc0_at (a : QV) (w : CV) (kb : XV) (r : Fin 256) :
    k0_pay2 w (k0_pay59 a kb) (ix2 r 0) = w (ix2 r 0) + ∑ c : Fin 256, lk (score a kb r c) := by
  unfold score lk soft
  pointwise [k0_pay2, k0_pay59, k0_pay57, k0_pay56, k0_pay55, k0_pay53]
  simp only [Ideal.absf_def]

theorem tripc1_at (a : QV) (w : CV) (kb : XV) (r : Fin 256) :
    k0_pay7 a w (k0_pay53 kb) (ix2 r 0) = w (ix2 r 0) + ∑ c : Fin 256, lk (score a kb r c) := by
  unfold score lk soft
  pointwise [k0_pay7, k0_pay5, k0_pay4, k0_pay3, k0_pay53]
  simp only [Ideal.absf_def]

theorem fst0_at (n : ℕ) (x y z kb vb : XV) (r : Fin 256) (l : Fin 128) :
    fst0 n x y z kb vb (ix2 r l) = acc0 x y z (ix2 r l)
      + Scalar.select (live n) (pastSum (score (q0 x) kb r) (fun c => vb (ix3 0 c l)) (car0 x y (ix2 r 0))) 0 := by
  unfold pastSum score lb lk soft
  unfold fst0
  rcases bit_cases (live n) with e | e <;> rw [e] <;>
  pointwise [ k0_pay38, k0_pay37, k0_pay36, k0_pay35, k0_pay34, k0_pay33, k0_pay32, k0_pay31] <;>
  simp only [sel_one, sel_zero, sel_sgt, Ideal.absf_def, mul_ite, mul_zero, mul_one]

theorem fst1_at (n : ℕ) (x y z kb vb : XV) (r : Fin 256) (l : Fin 128) :
    fst1 n x y z kb vb (ix2 r l) = acc1 x y z (ix2 r l)
      + Scalar.select (live n) (pastSum (score (q1 x) kb r) (fun c => vb (ix3 0 c l)) (car1 x y (ix2 r 0))) 0 := by
  unfold pastSum score lb lk soft
  unfold fst1
  rcases bit_cases (live n) with e | e <;> rw [e] <;>
  pointwise [ k0_pay46, k0_pay45, k0_pay44, k0_pay43, k0_pay42, k0_pay41, k0_pay40, k0_pay33, k0_pay32, k0_pay31] <;>
  simp only [sel_one, sel_zero, sel_sgt, Ideal.absf_def, mul_ite, mul_zero, mul_one]

theorem fcar0_at (x y kb : XV) (r : Fin 256) :
    fcar0 x y kb (ix2 r 0) = car0 x y (ix2 r 0) + ∑ c : Fin 256, lk (score (q0 x) kb r c) := by
  unfold score lk soft
  pointwise [fcar0, k0_pay39, k0_pay37, k0_pay36, k0_pay35, k0_pay34, k0_pay32]
  simp only [Ideal.absf_def]

theorem fcar1_at (x y kb : XV) (r : Fin 256) :
    fcar1 x y kb (ix2 r 0) = car1 x y (ix2 r 0) + ∑ c : Fin 256, lk (score (q1 x) kb r c) := by
  unfold score lk soft
  pointwise [fcar1, k0_pay47, k0_pay43, k0_pay41, k0_pay40, k0_pay32]
  simp only [Ideal.absf_def]

/-! ## The largest carry -/

theorem thr_eq : thr (F := Ideal) = (⊥ : EReal) := rfl

/-- The test on a number fails only at `⊥`. -/
theorem eq_bot_of_test (x : Ideal .f32) (h : ¬ Scalar.cmpf .ogt x (thr (F := Ideal)) = 1#1) : x = (⊥ : EReal) := by
  by_contra hx
  apply h
  show Ideal.cmp .ogt x (⊥ : EReal) = 1#1
  show BitVec.ofBool (decide ((⊥ : EReal) < x)) = 1#1
  rw [decide_eq_true (bot_lt_iff_ne_bot.mpr hx)]; rfl

/-- Where the larger of two maxima is `⊥`, so is every number under them. -/
theorem bot_of_max {i : EReal} {f g : Fin 256 × Fin 1 → EReal}
    (h : max (Finset.univ.fold max i f) (Finset.univ.fold max i g) = ⊥) (r : Fin 256) : f (r, 0) = ⊥ ∧ g (r, 0) = ⊥ := by
  obtain ⟨h1, h2⟩ := max_eq_bot.mp h
  exact ⟨le_bot_iff.mp (((Finset.fold_max_le _).mp (le_of_eq h1)).2 (r, 0) (Finset.mem_univ _)),
    le_bot_iff.mp (((Finset.fold_max_le _).mp (le_of_eq h2)).2 (r, 0) (Finset.mem_univ _))⟩

theorem tripmax_bot (a : QV) (w0 w1 : CV) (kb : QV) (v : FVec Ideal S256 .f32) (h : k0_pay8 a w0 w1 kb v = (⊥ : EReal)) (r : Fin 256) :
    k0_pay2 w0 v (ix2 r 0) = (⊥ : EReal) ∧ k0_pay7 a w1 kb (ix2 r 0) = (⊥ : EReal) := by
  pointwise [k0_pay8] at h
  exact bot_of_max h r

theorem fstmax_bot (x y kb : XV) (h : k0_pay48 (car1 x y) (fcar0 x y kb) (k0_pay43 (q1 x) (k0_pay32 kb)) = (⊥ : EReal)) (r : Fin 256) :
    fcar0 x y kb (ix2 r 0) = (⊥ : EReal) ∧ fcar1 x y kb (ix2 r 0) = (⊥ : EReal) := by
  unfold fcar1
  pointwise [k0_pay48] at h
  exact bot_of_max h r

end Cert.Proof.PI

end
-- ==== Proof.PI.Walk.lean ====
/-
  The walk over the past tiles, over the extended reals: whatever tile it stops at, the two heads' sums are the weighted sums
  over all keys (`att` from key 0 on), and so the block the body writes is read off (`blockOut_at`).
-/
module

public import proofs.«01_k».proof.Proof.PI.Pay

@[expose] public section

set_option maxRecDepth 16384

noncomputable section

namespace Cert.Proof.PI

open Cert.KernelIdeal Cert.KernelIdeal.Gen
open Idealize.ShloMosaic Idealize.ShloMosaic.TcCoe

/-- The keys or values of a head pair, at all positions. -/
abbrev WV := Vec Ideal S1x16384x128 .bf16

/-- Row `r`'s score against the key at each position. -/
def zrow (a : QV) (x : WV) (r : Fin 256) (s : ℕ) : EReal :=
  if h : s < NN then ∑ k : Fin 128, a (ix2 r k) * x (ix3 0 ⟨s, h⟩ k) else 0

/-- Lane `l` of the values at each position. -/
def vcol (x : WV) (l : Fin 128) (s : ℕ) : EReal := if h : s < NN then x (ix3 0 ⟨s, h⟩ l) else 0

/-- A block holds the rows of tile `b`. -/
def Holds (kb : XV) (x : WV) (b : ℕ) : Prop :=
  ∀ (c : Fin 256) (k : Fin 128) (h : 256 * b + c.val < NN), kb (ix3 0 c k) = x (ix3 0 ⟨256 * b + c.val, h⟩ k)

theorem tile_holds (x : WV) {b : ℕ} (hb : b < 64) : Holds (tile x b) x b := by
  intro c k h
  unfold tile
  congr 1
  refine funext fun a => Fin.ext ?_
  match a with
  | ⟨0, _⟩ => rfl
  | ⟨1, _⟩ => show 256 * (b % 64) + 1 * c.val = 256 * b + c.val; rw [Nat.mod_eq_of_lt hb, one_mul]
  | ⟨2, _⟩ => show 0 + 1 * k.val = k.val; omega

theorem score_holds {kb : XV} {x : WV} {b : ℕ} (hb : b < 64) (H : Holds kb x b) (a : QV) (r c : Fin 256) :
    score a kb r c = zrow a x r (256 * b + c.val) := by
  have h : 256 * b + c.val < NN := by have := c.isLt; show _ < 16384; omega
  unfold score zrow
  rw [dif_pos h]
  exact Finset.sum_congr rfl fun k _ => by rw [H c k h]

theorem col_holds {vb : XV} {x : WV} {b : ℕ} (hb : b < 64) (H : Holds vb x b) (l : Fin 128) (c : Fin 256) :
    vb (ix3 0 c l) = vcol x l (256 * b + c.val) := by
  have h : 256 * b + c.val < NN := by have := c.isLt; show _ < 16384; omega
  unfold vcol
  rw [dif_pos h, H c l h]

/-! ## One tile -/

theorem diagSum_holds {kb vb : XV} {x y : WV} {b : ℕ} (hb : b < 64) (H : Holds kb x b) (G : Holds vb y b) (a : QV) (r : Fin 256) (l : Fin 128) :
    diagSum (score a kb r) (fun c => vb (ix3 0 c l)) r.val = att (256 * b + r.val) (zrow a x r) (vcol y l) (256 * b) := by
  unfold diagSum
  simp only [score_holds hb H, col_holds hb G]
  exact att_diag _ _ _ _ _ rfl r.isLt (by show _ ≤ 16384; omega)

theorem diagCar_holds {kb : XV} {x : WV} {b : ℕ} (hb : b < 64) (H : Holds kb x b) (a : QV) (r : Fin 256) :
    diagCar (score a kb r) r.val = car (256 * b + r.val) (zrow a x r) (256 * b) := by
  unfold diagCar
  simp only [score_holds hb H]
  exact car_diag _ _ _ _ rfl r.isLt (by show _ ≤ 16384; omega)

theorem pastSum_holds {kb vb : XV} {x y : WV} {b n : ℕ} (hb : b < n) (hn : n < 64) (H : Holds kb x b) (G : Holds vb y b) (a : QV)
    (r : Fin 256) (l : Fin 128) {s w : EReal} (hs : s = att (256 * n + r.val) (zrow a x r) (vcol y l) (256 * (b + 1)))
    (hw : w = car (256 * n + r.val) (zrow a x r) (256 * (b + 1))) :
    s + pastSum (score a kb r) (fun c => vb (ix3 0 c l)) w = att (256 * n + r.val) (zrow a x r) (vcol y l) (256 * b) := by
  have := r.isLt
  unfold pastSum
  simp only [score_holds (show b < 64 by omega) H, col_holds (show b < 64 by omega) G]
  rw [hs, hw, Nat.mul_add, mul_one]
  exact att_past _ _ _ _ (by omega) (by show _ ≤ 16384; omega)

theorem pastCar_holds {kb : XV} {x : WV} {b n : ℕ} (hb : b < n) (hn : n < 64) (H : Holds kb x b) (a : QV)
    (r : Fin 256) {w : EReal} (hw : w = car (256 * n + r.val) (zrow a x r) (256 * (b + 1))) :
    w + ∑ c : Fin 256, lk (score a kb r c) = car (256 * n + r.val) (zrow a x r) (256 * b) := by
  have := r.isLt
  simp only [score_holds (show b < 64 by omega) H]
  rw [hw, Nat.mul_add, mul_one]
  exact car_past _ _ _ (by omega) (by show _ ≤ 16384; omega)

/-! ## The walk -/

/-- The state with the tiles from `m` on done. -/
structure Inv (a0 a1 : QV) (x y : WV) (n m : ℕ) (s : St Ideal) : Prop where
  sum0 : ∀ (r : Fin 256) (l : Fin 128), s.1 (ix2 r l) = att (256 * n + r.val) (zrow a0 x r) (vcol y l) (256 * m)
  sum1 : ∀ (r : Fin 256) (l : Fin 128), s.2.1 (ix2 r l) = att (256 * n + r.val) (zrow a1 x r) (vcol y l) (256 * m)
  car0 : ∀ r : Fin 256, s.2.2.1 (ix2 r 0) = car (256 * n + r.val) (zrow a0 x r) (256 * m)
  car1 : ∀ r : Fin 256, s.2.2.2.1 (ix2 r 0) = car (256 * n + r.val) (zrow a1 x r) (256 * m)
  top : s.2.2.2.2 = (⊥ : EReal) → ∀ r : Fin 256, s.2.2.1 (ix2 r 0) = (⊥ : EReal) ∧ s.2.2.2.1 (ix2 r 0) = (⊥ : EReal)

/-- The sums are over all the keys. -/
structure Done (a0 a1 : QV) (x y : WV) (n : ℕ) (s : St Ideal) : Prop where
  sum0 : ∀ (r : Fin 256) (l : Fin 128), s.1 (ix2 r l) = att (256 * n + r.val) (zrow a0 x r) (vcol y l) 0
  sum1 : ∀ (r : Fin 256) (l : Fin 128), s.2.1 (ix2 r l) = att (256 * n + r.val) (zrow a1 x r) (vcol y l) 0

theorem Inv.trip {a0 a1 : QV} {x y : WV} {n m : ℕ} {s : St Ideal} (I : Inv a0 a1 x y n (m + 1) s) (hm : m < n) (hn : n < 64) :
    Inv a0 a1 x y n m (PI.trip a0 (k0_pay31 (F := Ideal)) a1 (tile x m) (tile y m) s) := by
  have Hx := tile_holds x (show m < 64 by omega)
  have Hy := tile_holds y (show m < 64 by omega)
  refine ⟨fun r l => ?_, fun r l => ?_, fun r => ?_, fun r => ?_, fun h r => ?_⟩
  · exact (trip0_at _ _ _ _ _ _ _).trans (pastSum_holds hm hn Hx Hy a0 r l (I.sum0 r l) (I.car0 r))
  · exact (trip1_at _ _ _ _ _ _ _).trans (pastSum_holds hm hn Hx Hy a1 r l (I.sum1 r l) (I.car1 r))
  · exact (tripc0_at _ _ _ _).trans (pastCar_holds hm hn Hx a0 r (I.car0 r))
  · exact (tripc1_at _ _ _ _).trans (pastCar_holds hm hn Hx a1 r (I.car1 r))
  · exact tripmax_bot _ _ _ _ _ h r

theorem Inv.done {a0 a1 : QV} {x y : WV} {n m : ℕ} {s : St Ideal} (I : Inv a0 a1 x y n m s) (hm : m ≤ n) (hn : n < 64)
    (h : s.2.2.2.2 = (⊥ : EReal)) : Done a0 a1 x y n s := by
  have hb : 256 * m ≤ NN := by show _ ≤ 16384; omega
  exact ⟨fun r l => (I.sum0 r l).trans (att_dead _ _ _ hb ((I.car0 r).symm.trans (I.top h r).1)),
    fun r l => (I.sum1 r l).trans (att_dead _ _ _ hb ((I.car1 r).symm.trans (I.top h r).2))⟩

theorem walk_done (a0 a1 : QV) (x y : WV) (n : ℕ) (hn : n < 64) :
    ∀ (k j : ℕ) (s : St Ideal), k + j = n → Inv a0 a1 x y n k s → Done a0 a1 x y n (walk a0 (k0_pay31 (F := Ideal)) a1 x y n k j s)
  | 0, _, _, _, I => ⟨I.sum0, I.sum1⟩
  | k + 1, j, s, e, I => by
      unfold walk
      split
      · rw [show n - 1 - j = k by omega]
        exact walk_done a0 a1 x y n hn k (j + 1) _ (by omega) (I.trip (by omega) hn)
      · next h => exact I.done (by omega) hn (eq_bot_of_test _ h)

theorem live_zero : live 0 = 0#1 := by decide

theorem live_pos {n : ℕ} (h : 0 < n) (hn : n < 64) : live n = 1#1 := by
  unfold live
  rw [past_word]
  show IntOp.cmpi .sgt _ _ = _
  show IntOp.cmpi .slt 0#32 (BitVec.ofNat 32 n) = _
  rw [WordCmp.cmpi_slt_eq, WordCmp.toInt_ofNat_of_lt (by omega), WordCmp.toInt_ofNat_of_lt (by omega), decide_eq_true (by omega)]
  rfl

theorem ended_done (n : ℕ) (hn : n < 64) (x0 x1 x2 : XV) (x3 x4 : WV) (H1 : Holds x1 x3 n) (H2 : Holds x2 x4 n) :
    Done (q0 x0) (q1 x0) x3 x4 n (ended n x0 x1 x2 x3 x4) := by
  rcases Nat.eq_zero_or_pos n with rfl | hp
  · refine ⟨fun r l => ?_, fun r l => ?_⟩
    · refine (fst0_at _ _ _ _ _ _ _ _).trans ?_
      rw [live_zero, sel_zero, add_zero, acc0_at]
      exact diagSum_holds (by omega) H1 H2 _ r l
    · refine (fst1_at _ _ _ _ _ _ _ _).trans ?_
      rw [live_zero, sel_zero, add_zero, acc1_at]
      exact diagSum_holds (by omega) H1 H2 _ r l
  · obtain ⟨m, rfl⟩ : ∃ m, n = m + 1 := ⟨n - 1, by omega⟩
    have Hx := tile_holds x3 (show m < 64 by omega)
    have Hy := tile_holds x4 (show m < 64 by omega)
    have c0 : ∀ r : Fin 256, PI.car0 x0 x1 (ix2 r 0) = car (256 * (m + 1) + r.val) (zrow (q0 x0) x3 r) (256 * (m + 1)) :=
      fun r => (car0_at _ _ _).trans (diagCar_holds hn H1 _ r)
    have c1 : ∀ r : Fin 256, PI.car1 x0 x1 (ix2 r 0) = car (256 * (m + 1) + r.val) (zrow (q1 x0) x3 r) (256 * (m + 1)) :=
      fun r => (car1_at _ _ _).trans (diagCar_holds hn H1 _ r)
    refine walk_done (q0 x0) (q1 x0) x3 x4 (m + 1) hn m 1 _ rfl ⟨fun r l => ?_, fun r l => ?_, fun r => ?_, fun r => ?_, fun h r => ?_⟩
    · refine (fst0_at _ _ _ _ _ _ _ _).trans ?_
      rw [live_pos hp hn, sel_one]
      exact pastSum_holds (Nat.lt_succ_self m) hn Hx Hy _ r l ((acc0_at _ _ _ _ _).trans (diagSum_holds hn H1 H2 _ r l)) (c0 r)
    · refine (fst1_at _ _ _ _ _ _ _ _).trans ?_
      rw [live_pos hp hn, sel_one]
      exact pastSum_holds (Nat.lt_succ_self m) hn Hx Hy _ r l ((acc1_at _ _ _ _ _).trans (diagSum_holds hn H1 H2 _ r l)) (c1 r)
    · exact (fcar0_at _ _ _ _).trans (pastCar_holds (Nat.lt_succ_self m) hn Hx _ r (c0 r))
    · exact (fcar1_at _ _ _ _).trans (pastCar_holds (Nat.lt_succ_self m) hn Hx _ r (c1 r))
    · exact fstmax_bot _ _ _ h r

/-! ## The block -/

/-- A head's row of scores: the 64 lanes of the head. -/
theorem zrow_q0 (x0 : XV) (x3 : WV) (r : Fin 256) :
    zrow (q0 x0) x3 r = fun s => if h : s < NN then ∑ k : Fin 64, x0 (ix3 0 r ⟨k.val, by omega⟩) * x3 (ix3 0 ⟨s, h⟩ ⟨k.val, by omega⟩) else 0 := by
  funext s
  unfold zrow
  split
  · next h =>
    rw [Fin.sum_univ_add (a := 64) (b := 64) (fun k : Fin 128 => q0 x0 (ix2 r k) * x3 (ix3 0 ⟨s, h⟩ k))]
    rw [Finset.sum_eq_zero (f := fun i : Fin 64 => q0 x0 (ix2 r (Fin.natAdd 64 i)) * x3 (ix3 0 ⟨s, h⟩ (Fin.natAdd 64 i))), add_zero]
    · refine Finset.sum_congr rfl fun k _ => ?_
      rw [q0_at, if_pos (show (Fin.castAdd 64 k).val < 64 from k.isLt)]
      rfl
    · intro k _
      rw [q0_at, if_neg (by show ¬ 64 + k.val < 64; omega), zero_mul]
  · rfl

theorem zrow_q1 (x0 : XV) (x3 : WV) (r : Fin 256) :
    zrow (q1 x0) x3 r = fun s => if h : s < NN then ∑ k : Fin 64, x0 (ix3 0 r ⟨64 + k.val, by omega⟩) * x3 (ix3 0 ⟨s, h⟩ ⟨64 + k.val, by omega⟩) else 0 := by
  funext s
  unfold zrow
  split
  · next h =>
    rw [Fin.sum_univ_add (a := 64) (b := 64) (fun k : Fin 128 => q1 x0 (ix2 r k) * x3 (ix3 0 ⟨s, h⟩ k))]
    rw [Finset.sum_eq_zero (f := fun i : Fin 64 => q1 x0 (ix2 r (Fin.castAdd 64 i)) * x3 (ix3 0 ⟨s, h⟩ (Fin.castAdd 64 i))), zero_add]
    · refine Finset.sum_congr rfl fun k _ => ?_
      rw [q1_at, if_neg (by show ¬ 64 + k.val < 64; omega)]
      rfl
    · intro k _
      rw [q1_at, if_pos (show (Fin.castAdd 64 k).val < 64 from k.isLt), zero_mul]
  · rfl

/-- The block the body writes, at an index: head `e` of the pair, row `r`, lane `d` of the head. -/
theorem blockOut_at (n : ℕ) (hn : n < 64) (x0 x1 x2 : XV) (x3 x4 : WV) (H1 : Holds x1 x3 n) (H2 : Holds x2 x4 n)
    (r : Fin 256) (e : Fin 2) (d : Fin 64) :
    blockOut n x0 x1 x2 x3 x4 (ix3 0 r ⟨64 * e.val + d.val, by omega⟩)
      = att (256 * n + r.val)
          (fun s => if h : s < NN then ∑ k : Fin 64, x0 (ix3 0 r ⟨64 * e.val + k.val, by omega⟩) * x3 (ix3 0 ⟨s, h⟩ ⟨64 * e.val + k.val, by omega⟩) else 0)
          (vcol x4 ⟨64 * e.val + d.val, by omega⟩) 0 := by
  have D := ended_done n hn x0 x1 x2 x3 x4 H1 H2
  unfold blockOut
  rw [joined_at]
  match e with
  | ⟨0, _⟩ =>
    rw [if_pos (by show 64 * 0 + d.val < 64; omega), D.sum0, zrow_q0]
    simp only [Nat.mul_zero, Nat.zero_add]
  | ⟨1, _⟩ =>
    rw [if_neg (by show ¬ 64 * 1 + d.val < 64; omega), D.sum1, zrow_q1]
    rfl

end Cert.Proof.PI

end
-- ==== Proof.RI.Val.lean ====
/-
  The reference over the extended reals: its term named piece by piece, and its result read at an index as the weighted sum of
  the values over the keys before the query (`res_at`).
-/
module

public import proofs.«01_k».proof.Proof.PI.Alg
public import proofs.«01_k».proof.Proof.Gen.ReferenceIdeal.Run
public import Idealize.ShloMosaic.Lib.Pointwise
public import Idealize.ShloMosaic.Lib.Tactic
public import Idealize.ShloMosaic.Lib.WordCmp

@[expose] public section

set_option maxRecDepth 16384

noncomputable section

namespace Cert.Proof.RI

open Cert.ReferenceIdeal Cert.ReferenceIdeal.Gen Cert.ReferenceIdeal.Value
open Idealize.ShloMosaic Idealize.ShloMosaic.TcCoe
open Cert.Proof.PI

abbrev QKV := FVec Ideal S2x16384x8x64 .f32
abbrev ZV := FVec Ideal S2x8x16384x16384 .f32

/-- The scores. -/
def zz (q k : QKV) : ZV :=
  mulf (Host.dotGeneral dot_S2x16384x8x64_S2x16384x8x64_S2x8x16384x16384_3_3_1_1_02_02 none q k)
    (broadcastInDim S2x8x16384x16384 ![] bcast_S_S2x8x16384x16384 (constant S_ .f32 0x3E000000#32))

/-- A zero at every place. -/
def zero4 : ZV := broadcastInDim S2x8x16384x16384 ![] bcast_S_S2x8x16384x16384 (constant S_ .f32 0x00000000#32)

/-- The logarithm of the logistic function at `-x`, as the reference computes it. -/
def logsig (x : ZV) : ZV :=
  Host.negf (select (cmpf .une (subf x zero4) (subf x zero4)) (addf x zero4)
    (addf (maximumf x zero4) (Host.log1p (Host.exp (Host.negf (Host.absf (subf x zero4)))))))

/-- Where the key is before the query. -/
def vis : IVec S2x8x16384x16384 1 :=
  broadcastInDim S2x8x16384x16384 ![2, 3] bcast_S16384x16384_S2x8x16384x16384_2_3
    (cmpi .slt (broadcastInDim S16384x16384 ![0, 1] bcast_S1x16384_S16384x16384_0_1
        (broadcastInDim S1x16384 ![1] bcast_S16384_S1x16384_1 (iotaInDim S16384 32 0)))
      (broadcastInDim S16384x16384 ![0, 1] bcast_S16384x1_S16384x16384_0_1
        (broadcastInDim S16384x1 ![0] bcast_S16384_S16384x1_0 (iotaInDim S16384 32 0))))

/-- The triangular matrix. -/
def tri : FVec Ideal S16384x16384 .f32 :=
  uitofp .f32 (cmpi .sgt
    (broadcastInDim S16384x16384 ![0, 1] bcast_S16384x1_S16384x16384_0_1
      (broadcastInDim S16384x1 ![0] bcast_S16384_S16384x1_0 (iotaInDim S16384 32 0)))
    (broadcastInDim S16384x16384 ![0, 1] bcast_S1x16384_S16384x16384_0_1
      (broadcastInDim S1x16384 ![1] bcast_S16384_S1x16384_1 (iotaInDim S16384 32 0))))

/-- The terms of the sums over the later keys. -/
def keep (q k : QKV) : ZV := select vis (logsig (Host.negf (Host.negf (zz q k)))) zero4

/-- The weights. -/
def weights (q k : QKV) : ZV :=
  select vis (Host.exp (addf (logsig (Host.negf (zz q k)))
    (Host.dotGeneral dot_S2x8x16384x16384_S16384x16384_S2x8x16384x16384_3_0_012_1_n_n (some .fp32) (keep q k) tri))) zero4

/-- The result. -/
def refOut (q k v : QKV) : FVec Ideal S2x16384x512 .f32 :=
  shapeCast S2x16384x512 (transpose S2x16384x8x64 [0, 3, 1, 2]
    (Host.dotGeneral dot_S2x16384x8x64_S2x8x16384x16384_S2x8x64x16384_1_3_3_2_02_01 none v (weights q k))
    transposes_S2x8x64x16384_S2x16384x8x64_0_3_1_2) shapeCasts_S2x16384x8x64_S2x16384x512

theorem res_eq (m : (ℓ : Loc nD τ sig) → Buf (Elt Ideal) ℓ) (c : Dev nD) : res_main_v25 m c
    = refOut (m ((c.tc : Thread nD τ).loc main_arg0)) (m ((c.tc : Thread nD τ).loc main_arg1)) (m ((c.tc : Thread nD τ).loc main_arg2)) := rfl

theorem zz_at (q k : QKV) (b : Fin 2) (h : Fin 8) (t s : Fin 16384) :
    zz q k (ix4 b h t s) = (∑ d : Fin 64, q (ix4 b t h d) * k (ix4 b s h d)) * Ideal.ofBits .f32 0x3E000000#32 := by
  pointwise [zz]

theorem zero4_at (b : Fin 2) (h : Fin 8) (t s : Fin 16384) : zero4 (ix4 b h t s) = 0 := by
  pointwise [zero4]

theorem logsig_at (x : ZV) (b : Fin 2) (h : Fin 8) (t s : Fin 16384) :
    logsig x (ix4 b h t s) = -(max (x (ix4 b h t s)) 0
      + Ideal.log1p (Ideal.exp (-(max (x (ix4 b h t s) - 0) (-(x (ix4 b h t s) - 0)))))) := by
  pointwise [logsig, zero4]
  rw [if_neg (by simp), Ideal.absf_def]

/-- The score of query `t` against the key at each position, as a function of naturals. -/
def zf (q k : QKV) (b : Fin 2) (h : Fin 8) (t : Fin 16384) (s : ℕ) : EReal :=
  if hs : s < NN then (∑ d : Fin 64, q (ix4 b t h d) * k (ix4 b ⟨s, hs⟩ h d)) * Ideal.ofBits .f32 0x3E000000#32 else 0

/-- A lane of the values at each position. -/
def vf (v : QKV) (b : Fin 2) (h : Fin 8) (d : Fin 64) (s : ℕ) : EReal := if hs : s < NN then v (ix4 b ⟨s, hs⟩ h d) else 0

theorem zz_zf (q k : QKV) (b : Fin 2) (h : Fin 8) (t s : Fin 16384) : zz q k (ix4 b h t s) = zf q k b h t s.val := by
  unfold zf
  rw [zz_at, dif_pos s.isLt]

theorem sel_slt {α : Type} (a b : Fin 16384) (x y : α) :
    Scalar.select (IntOp.cmpi .slt (BitVec.ofNat 32 a.val) (BitVec.ofNat 32 b.val)) x y = if a.val < b.val then x else y := by
  have ha := a.isLt
  have hb := b.isLt
  rw [WordCmp.cmpi_slt_eq, WordCmp.toInt_ofNat_of_lt (by omega), WordCmp.toInt_ofNat_of_lt (by omega)]
  by_cases h : a.val < b.val
  · rw [decide_eq_true (by omega), if_pos h]; rfl
  · rw [decide_eq_false (by omega), if_neg h]; rfl

theorem tri_at (j s : Fin 16384) : tri (ix2 j s) = if s.val < j.val then (1 : EReal) else 0 := by
  pointwise [tri]
  have hs := s.isLt
  have hj := j.isLt
  show FloatOps.uitofp .f32 (IntOp.cmpi .slt (BitVec.ofNat 32 s.val) (BitVec.ofNat 32 j.val)) = _
  rw [WordCmp.cmpi_slt_eq, WordCmp.toInt_ofNat_of_lt (by omega), WordCmp.toInt_ofNat_of_lt (by omega)]
  by_cases h : s.val < j.val
  · rw [decide_eq_true (by omega), if_pos h]
    show (((1 : ℕ) : ℝ) : EReal) = 1
    norm_num
  · rw [decide_eq_false (by omega), if_neg h]
    show (((0 : ℕ) : ℝ) : EReal) = 0
    norm_num

theorem vis_sel {α : Type} (b : Fin 2) (h : Fin 8) (t s : Fin 16384) (x y : α) :
    Scalar.select (vis (ix4 b h t s)) x y = if s.val < t.val then x else y := by
  have e : vis (ix4 b h t s) = IntOp.cmpi .slt (BitVec.ofNat 32 s.val) (BitVec.ofNat 32 t.val) := by pointwise [vis]
  rw [e, sel_slt]

theorem negf_at (x : ZV) (b : Fin 2) (h : Fin 8) (t s : Fin 16384) : Host.negf x (ix4 b h t s) = -(x (ix4 b h t s)) := by
  pointwise

theorem keep_at (q k : QKV) (b : Fin 2) (h : Fin 8) (t s : Fin 16384) : keep q k (ix4 b h t s) = fk t.val (zf q k b h t) s.val := by
  pointwise [keep]
  rw [vis_sel, logsig_at, zero4_at, negf_at, negf_at, zz_zf, neg_soft']
  rfl

/-- A sum over all positions of the terms past position `s`. -/
theorem sum_after (f : ℕ → EReal) (s : ℕ) :
    ∑ j : Fin 16384, f j.val * (if s < j.val then (1 : EReal) else 0) = ∑ j ∈ Finset.Ico (s + 1) NN, f j := by
  have e : ∀ j : Fin 16384, f j.val * (if s < j.val then (1 : EReal) else 0) = (fun i => if s < i then f i else 0) j.val := by
    intro j
    by_cases h : s < j.val
    · rw [if_pos h, mul_one]; exact (if_pos h).symm
    · rw [if_neg h, mul_zero]; exact (if_neg h).symm
  rw [Finset.sum_congr rfl fun j _ => e j, Fin.sum_univ_eq_sum_range (fun i => if s < i then f i else 0), ← Finset.sum_filter]
  refine Finset.sum_congr (Finset.ext fun i => ?_) fun _ _ => rfl
  rw [Finset.mem_filter, Finset.mem_range, Finset.mem_Ico]
  show i < NN ∧ s < i ↔ _
  omega

theorem weights_at (q k : QKV) (b : Fin 2) (h : Fin 8) (t s : Fin 16384) : weights q k (ix4 b h t s) = wt t.val (zf q k b h t) s.val := by
  pointwise [weights]
  rw [vis_sel, logsig_at, zero4_at, negf_at, zz_zf, neg_soft]
  simp only [keep_at, tri_at]
  rw [sum_after (fk t.val (zf q k b h t)) s.val]
  rfl

/-- The result at batch `b`, position `t`, head `h`, lane `d`. -/
theorem refOut_at (q k v : QKV) (b : Fin 2) (h : Fin 8) (t : Fin 16384) (d : Fin 64) :
    refOut q k v (ix3 b t ⟨64 * h.val + d.val, by omega⟩) = att t.val (zf q k b h t) (vf v b h d) 0 := by
  have e : refOut q k v (ix3 b t ⟨64 * h.val + d.val, by omega⟩) = ∑ s : Fin 16384, v (ix4 b s h d) * weights q k (ix4 b h t s) := by
    pointwise [refOut]
  rw [e]
  unfold att
  rw [show Finset.Ico 0 NN = Finset.range 16384 from (Finset.range_eq_Ico 16384).symm,
    ← Fin.sum_univ_eq_sum_range (fun s => wt t.val (zf q k b h t) s * vf v b h d s) 16384]
  refine Finset.sum_congr rfl fun s _ => ?_
  rw [weights_at, mul_comm]
  unfold vf
  rw [dif_pos s.isLt]

end Cert.Proof.RI

end
-- ==== Proof.PI.Arr.lean ====
/-
  The result array after the run, over the extended reals: each input block read back to the program's arguments, and the array
  the write-backs leave equal to the reference's result (`arr_eq`).
-/
module

public import proofs.«01_k».proof.Proof.PI.Run
public import proofs.«01_k».proof.Proof.PI.Walk
public import proofs.«01_k».proof.Proof.RI.Val
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.Proof.PI

open Cert.KernelIdeal Cert.KernelIdeal.Gen
open Idealize.ShloMosaic Idealize.ShloMosaic.TcCoe Idealize.ShloMosaic.Tactic

/-! ## The host's operations -/

/-- The scale of the queries. -/
abbrev c8 : EReal := Ideal.ofBits .f32 0x3E000000#32

theorem c8_eq : c8 = ((1 / 8 : ℝ) : EReal) := by
  unfold c8
  simp [Ideal.ofBits, Ideal.ieee, -EReal.coe_mul]; norm_num

variable (m : (ℓ : Loc nD τ sig) → Buf (Elt Ideal) ℓ) (c : Dev nD)

/-- The queries, keys and values a device is given. -/
abbrev qArg : FVec Ideal S2x16384x8x64 .f32 := m ((c : Thread nD τ).loc main_arg0)
abbrev kArg : FVec Ideal S2x16384x8x64 .f32 := m ((c : Thread nD τ).loc main_arg1)
abbrev vArg : FVec Ideal S2x16384x8x64 .f32 := m ((c : Thread nD τ).loc main_arg2)

def qHost : FVec Ideal S2x16384x512 .bf16 :=
  truncf .bf16 (mulf (shapeCast S2x16384x512 (qArg m c) shapeCasts_S2x16384x8x64_S2x16384x512)
    (broadcastInDim S2x16384x512 ![] bcast_S_S2x16384x512 (constant S_ .f32 0x3E000000#32))) bitsLt_bf16_f32
def kHost : FVec Ideal S2x16384x512 .bf16 :=
  truncf .bf16 (shapeCast S2x16384x512 (kArg m c) shapeCasts_S2x16384x8x64_S2x16384x512) bitsLt_bf16_f32
def vHost : FVec Ideal S2x16384x512 .bf16 :=
  truncf .bf16 (shapeCast S2x16384x512 (vArg m c) shapeCasts_S2x16384x8x64_S2x16384x512) bitsLt_bf16_f32

theorem V_q : V m c main_v3 = qHost m c := by
  unfold V
  after_results_simp
  rfl

theorem V_k : V m c main_v5 = kHost m c := by
  unfold V
  after_results_simp
  rfl

theorem V_v : V m c main_v7 = vHost m c := by
  unfold V
  after_results_simp
  rfl

theorem qHost_at (b : Fin 2) (t : Fin 16384) (h : Fin 8) (d : Fin 64) :
    qHost m c (ix3 b t ⟨64 * h.val + d.val, by omega⟩) = qArg m c (ix4 b t h d) * c8 := by
  pointwise [qHost]

theorem kHost_at (b : Fin 2) (t : Fin 16384) (h : Fin 8) (d : Fin 64) :
    kHost m c (ix3 b t ⟨64 * h.val + d.val, by omega⟩) = kArg m c (ix4 b t h d) := by
  pointwise [kHost]

theorem vHost_at (b : Fin 2) (t : Fin 16384) (h : Fin 8) (d : Fin 64) :
    vHost m c (ix3 b t ⟨64 * h.val + d.val, by omega⟩) = vArg m c (ix4 b t h d) := by
  pointwise [vHost]

/-! ## The blocks -/

theorem ix_0 : ∀ t : Fin (cfg0 (F := Ideal)).N, win0_0.index t = ![(grid0.coords t 0).val, (grid0.coords t 2).val, (grid0.coords t 1).val] :=
  (by decide +kernel : ∀ t : Fin grid0.N, win0_0.index t = ![(grid0.coords t 0).val, (grid0.coords t 2).val, (grid0.coords t 1).val])
theorem ix_1 : ∀ t : Fin (cfg0 (F := Ideal)).N, win0_1.index t = ![(grid0.coords t 0).val, (grid0.coords t 2).val, (grid0.coords t 1).val] :=
  (by decide +kernel : ∀ t : Fin grid0.N, win0_1.index t = ![(grid0.coords t 0).val, (grid0.coords t 2).val, (grid0.coords t 1).val])
theorem ix_2 : ∀ t : Fin (cfg0 (F := Ideal)).N, win0_2.index t = ![(grid0.coords t 0).val, (grid0.coords t 2).val, (grid0.coords t 1).val] :=
  (by decide +kernel : ∀ t : Fin grid0.N, win0_2.index t = ![(grid0.coords t 0).val, (grid0.coords t 2).val, (grid0.coords t 1).val])
theorem ix_3 : ∀ t : Fin (cfg0 (F := Ideal)).N, win0_3.index t = ![(grid0.coords t 0).val, 0, (grid0.coords t 1).val] :=
  (by decide +kernel : ∀ t : Fin grid0.N, win0_3.index t = ![(grid0.coords t 0).val, 0, (grid0.coords t 1).val])
theorem ix_4 : ∀ t : Fin (cfg0 (F := Ideal)).N, win0_4.index t = ![(grid0.coords t 0).val, 0, (grid0.coords t 1).val] :=
  (by decide +kernel : ∀ t : Fin grid0.N, win0_4.index t = ![(grid0.coords t 0).val, 0, (grid0.coords t 1).val])
theorem ix_5 : ∀ t : Fin (cfg0 (F := Ideal)).N, win0_5.index t = ![(grid0.coords t 0).val, (grid0.coords t 2).val, (grid0.coords t 1).val] :=
  (by decide +kernel : ∀ t : Fin grid0.N, win0_5.index t = ![(grid0.coords t 0).val, (grid0.coords t 2).val, (grid0.coords t 1).val])

/-- The batch, the query tile and the head pair of a point. -/
theorem b_lt (t : Fin (cfg0 (F := Ideal)).N) : (grid0.coords t 0).val < 2 := (grid0.coords t 0).isLt
theorem n_lt (t : Fin (cfg0 (F := Ideal)).N) : (grid0.coords t 2).val < 64 := (grid0.coords t 2).isLt
theorem p_lt (t : Fin (cfg0 (F := Ideal)).N) : (grid0.coords t 1).val < 4 := (grid0.coords t 1).isLt

theorem blk0_at (t : Fin (cfg0 (F := Ideal)).N) (r : Fin 256) (l : Fin 128) : (iblk m c 0 t : XV) (ix3 0 r l)
    = qHost m c (ix3 ⟨_, b_lt t⟩ ⟨256 * (grid0.coords t 2).val + r.val, by have := n_lt t; omega⟩ ⟨128 * (grid0.coords t 1).val + l.val, by have := p_lt t; omega⟩) := by
  rw [← V_q]
  blk_simp [iblk]
  congr 1
  blk_ext [ix_0 t]

theorem blk1_holds (t : Fin (cfg0 (F := Ideal)).N) : Holds (iblk m c 1 t) (iblk m c 3 t) (grid0.coords t 2).val := by
  intro j k h
  blk_simp [iblk]
  show V m c main_v5 _ = V m c main_v5 _
  congr 1
  blk_ext [ix_1 t, ix_3 t]

theorem blk2_holds (t : Fin (cfg0 (F := Ideal)).N) : Holds (iblk m c 2 t) (iblk m c 4 t) (grid0.coords t 2).val := by
  intro j k h
  blk_simp [iblk]
  show V m c main_v7 _ = V m c main_v7 _
  congr 1
  blk_ext [ix_2 t, ix_4 t]

theorem blk3_at (t : Fin (cfg0 (F := Ideal)).N) (s : Fin 16384) (l : Fin 128) : (iblk m c 3 t : WV) (ix3 0 s l)
    = kHost m c (ix3 ⟨_, b_lt t⟩ s ⟨128 * (grid0.coords t 1).val + l.val, by have := p_lt t; omega⟩) := by
  rw [← V_k]
  blk_simp [iblk]
  congr 1
  blk_ext [ix_3 t]

theorem blk4_at (t : Fin (cfg0 (F := Ideal)).N) (s : Fin 16384) (l : Fin 128) : (iblk m c 4 t : WV) (ix3 0 s l)
    = vHost m c (ix3 ⟨_, b_lt t⟩ s ⟨128 * (grid0.coords t 1).val + l.val, by have := p_lt t; omega⟩) := by
  rw [← V_v]
  blk_simp [iblk]
  congr 1
  blk_ext [ix_4 t]

/-! ## The scale -/

theorem sum_scale {n : ℕ} (f : Fin n → EReal) : (∑ i, f i) * c8 = ∑ i, f i * c8 := by
  have h0 : (0 : EReal) ≤ c8 := by rw [c8_eq]; exact_mod_cast (by norm_num : (0 : ℝ) ≤ 1 / 8)
  have h1 : c8 ≠ ⊤ := by rw [c8_eq]; exact EReal.coe_ne_top _
  exact map_sum (⟨⟨fun x => x * c8, zero_mul _⟩, fun x y => EReal.right_distrib_of_nonneg_of_ne_top h0 h1 x y⟩ : EReal →+ EReal) f Finset.univ

/-! ## The array -/

/-- The block a point leaves, at an index, is the reference's result there. -/
theorem out_at (t : Fin (cfg0 (F := Ideal)).N) (r : Fin 256) (e : Fin 2) (d : Fin 64) :
    (outAt m c t : Vec Ideal S1x256x128 .f32) (ix3 0 r ⟨64 * e.val + d.val, by omega⟩)
      = RI.refOut (qArg m c) (kArg m c) (vArg m c)
          (ix3 ⟨_, b_lt t⟩ ⟨256 * (grid0.coords t 2).val + r.val, by have := n_lt t; omega⟩
            ⟨64 * (2 * (grid0.coords t 1).val + e.val) + d.val, by have := p_lt t; omega⟩) := by
  have hp := p_lt t
  have lane : ∀ k : Fin 64, (⟨128 * (grid0.coords t 1).val + (64 * e.val + k.val), by omega⟩ : Fin 512)
      = ⟨64 * (⟨2 * (grid0.coords t 1).val + e.val, by omega⟩ : Fin 8).val + k.val, by have := k.isLt; have := e.isLt; show 64 * (2 * (grid0.coords t 1).val + e.val) + k.val < 512; omega⟩ :=
    fun k => Fin.ext (by show 128 * (grid0.coords t 1).val + (64 * e.val + k.val) = 64 * (2 * (grid0.coords t 1).val + e.val) + k.val; omega)
  refine (blockOut_at _ (n_lt t) _ _ _ _ _ (blk1_holds m c t) (blk2_holds m c t) r e d).trans ?_
  refine Eq.trans ?_ (RI.refOut_at (qArg m c) (kArg m c) (vArg m c) ⟨_, b_lt t⟩ ⟨2 * (grid0.coords t 1).val + e.val, by omega⟩
    ⟨256 * (grid0.coords t 2).val + r.val, by have := n_lt t; omega⟩ d).symm
  congr 1
  · funext s
    unfold RI.zf
    split
    · next h =>
      rw [sum_scale]
      refine Finset.sum_congr rfl fun k _ => ?_
      rw [blk0_at, blk3_at, lane k, qHost_at, kHost_at, mul_assoc, mul_comm c8, ← mul_assoc]
    · rfl
  · funext s
    unfold vcol RI.vf
    split
    · next h => rw [blk4_at, lane d, vHost_at]
    · rfl

theorem arr_eq : (dats m 0 c).arrAt 5 (cfg0 (F := Ideal)).N = RI.refOut (qArg m c) (kArg m c) (vArg m c) := by
  refine (dats m 0 c).arrAt_eq_of_covers 5 _ (((cfg0 (F := Ideal)).win 5).covers_of_indexMap_surj rfl (by decide) fun β => ?_) fun t hf y => ?_
  · have h0 : (β 0).val < 2 := (β 0).isLt
    have h1 : (β 1).val < 64 := (β 1).isLt
    have h2 : (β 2).val < 4 := (β 2).isLt
    refine ⟨fun a => match a with | ⟨0, _⟩ => ⟨(β 0).val, h0⟩ | ⟨1, _⟩ => ⟨(β 2).val, h2⟩ | ⟨2, _⟩ => ⟨(β 1).val, h1⟩, fun a => ?_⟩
    match a with
    | ⟨0, _⟩ => show (BitVec.ofNat 32 (β 0).val).toNat = (β 0).val; rw [BitVec.toNat_ofNat]; omega
    | ⟨1, _⟩ => show (BitVec.ofNat 32 (β 1).val).toNat = (β 1).val; rw [BitVec.toNat_ofNat]; omega
    | ⟨2, _⟩ => show (BitVec.ofNat 32 (β 2).val).toNat = (β 2).val; rw [BitVec.toNat_ofNat]; omega
  · blk_simp
    rw [after_5]
    obtain ⟨r, l, rfl⟩ : ∃ (r : Fin 256) (l : Fin 128), y = ix3 0 r l := ⟨y 1, y 2, by
      refine (eq_ix3 y).trans ?_
      congr 1
      exact Fin.ext (by have : (y 0).val < 1 := (y 0).isLt; show (y 0).val = 0; omega)⟩
    have hl : l = ⟨64 * (⟨l.val / 64, by omega⟩ : Fin 2).val + (⟨l.val % 64, by omega⟩ : Fin 64).val, by
        show 64 * (l.val / 64) + l.val % 64 < 128; omega⟩ := Fin.ext (by show l.val = 64 * (l.val / 64) + l.val % 64; omega)
    have e := out_at m c t r ⟨l.val / 64, by omega⟩ ⟨l.val % 64, by omega⟩
    rw [← hl] at e
    refine e.trans ?_
    congr 1
    blk_ext [ix_5 t]

end Cert.Proof.PI

end
-- ==== Proof.JI.Run.lean ====
/-
  The projections' run: every execution of the two calls and the host's operations around them ends, with each buffer at what the
  fold through the program leaves in it (`run`).
-/
module

public import proofs.«01_k».proof.Proof.Gen.InprojIdeal.Frame

@[expose] public section

set_option maxRecDepth 16384

noncomputable section

namespace Cert.Proof.JI

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with the statement's
set_option backward.isDefEq.respectTransparency.types false in
/-- Every buffer that no scope holds ends at the contents after the last item of the program. -/
theorem run : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.Proof.JI

end
-- ==== Proof.JI.Spec.lean ====
/-
  One token's projection as plain sums over the extended reals: the normalised row, the entry of a column of the weights, and
  the gate's activation of an entry. Both programs are read back to these.
-/
module

public import Idealize.ShloMosaic.PureOps.Ideal
public import Idealize.ShloMosaic.Lib.Pointwise

@[expose] public section

noncomputable section

namespace Cert.Proof.JI

open Idealize.ShloMosaic

/-- A row divided by the root of its mean square, times the gain. -/
def hn (x g : Fin 1024 → EReal) (d : Fin 1024) : EReal :=
  x d * Ideal.rsqrt (Ideal.div (∑ j, x j * x j) (Ideal.ofBits .f32 0x44800000#32) + Ideal.ofBits .f32 0x3727C5AC#32) * g d

/-- The normalised row against column `n` of the weights. -/
def pr (x g : Fin 1024 → EReal) (W : Fin 1024 → Fin 2560 → EReal) (n : Fin 2560) : EReal := ∑ d, hn x g d * W d n

/-- The gate's activation. -/
def gel (p : EReal) : EReal :=
  p * (Ideal.ofBits .f32 0x3F000000#32 * (Ideal.ofBits .f32 0x3F800000#32
    + Ideal.tanh (Ideal.ofBits .f32 0x3F4C422A#32 * (p + Ideal.ofBits .f32 0x3D372713#32 * (p * (p * p))))))

end Cert.Proof.JI

end
-- ==== Proof.JI.Pay.lean ====
/-
  The bodies' vector expressions of the two projection calls read at an index, over the extended reals.
-/
module

public import proofs.«01_k».proof.Proof.JI.Spec
public import proofs.«01_k».proof.Proof.Gen.InprojIdeal.Skeleton
public import Idealize.ShloMosaic.Lib.Pointwise

@[expose] public section

set_option maxRecDepth 16384

noncomputable section

namespace Cert.Proof.JI

open Cert.InprojIdeal Cert.InprojIdeal.Gen
open Idealize.ShloMosaic Idealize.ShloMosaic.TcCoe

abbrev XB := Vec Ideal S512x1024 .f32
abbrev GB := Vec Ideal S1x1024 .f32
abbrev WB := Vec Ideal S1024x512 .bf16

/-- A row of a block. -/
abbrev row (x : XB) (r : Fin 512) : Fin 1024 → EReal := fun d => x (ix2 r d)
abbrev gr (g : GB) : Fin 1024 → EReal := fun d => g (ix2 0 d)

theorem pay3_at (x : XB) (g : GB) (r : Fin 512) (d : Fin 1024) : k0_pay3 (F := Ideal) x g (ix2 r d) = hn (row x r) (gr g) d := by
  pointwise [k0_pay3, hn]

/-- One entry of a section. -/
def ent (x : XB) (g : GB) (w : WB) (r n : Fin 512) : EReal := ∑ d : Fin 1024, hn (row x r) (gr g) d * w (ix2 d n)

theorem pay4_at (x : XB) (g : GB) (w : WB) (r n : Fin 512) :
    k0_pay4 (F := Ideal) x g w (ix2 r n) = ent x g w r n * Ideal.ofBits .f32 0x3E000000#32 := by
  pointwise [k0_pay4]
  simp only [pay3_at]
  rfl

theorem pay5_at (x : XB) (g : GB) (w : WB) (r n : Fin 512) : k0_pay5 (F := Ideal) x g w (ix2 r n) = ent x g w r n := by
  pointwise [k0_pay5]
  simp only [pay3_at]
  rfl

theorem pay6_at (x : XB) (g : GB) (w : WB) (r n : Fin 512) : k0_pay6 (F := Ideal) x g w (ix3 0 r n) = ent x g w r n := by
  pointwise [k0_pay6]
  rw [pay5_at]

theorem pay9_at (x : XB) (g : GB) (w : WB) (r n : Fin 512) : k0_pay9 (F := Ideal) (k0_pay3 x g) w (ix2 r n) = ent x g w r n :=
  pay5_at x g w r n

theorem pay10_at (x : XB) (g : GB) (w : WB) (r n : Fin 512) : k0_pay10 (F := Ideal) (k0_pay3 x g) w (ix3 0 r n) = ent x g w r n :=
  pay6_at x g w r n

theorem pay13_at (x : XB) (g : GB) (w : WB) (r n : Fin 512) : k0_pay13 (F := Ideal) (k0_pay3 x g) w (ix2 r n) = gel (ent x g w r n) := by
  have e : k0_pay13 (F := Ideal) (k0_pay3 x g) w (ix2 r n) = gel (k0_pay5 (F := Ideal) x g w (ix2 r n)) := by
    pointwise [k0_pay13, k0_pay5, gel]
  rw [e, pay5_at]

/-! ## The second call's, the same expressions -/

theorem pay4_at' (x : XB) (g : GB) (w : WB) (r n : Fin 512) :
    k1_pay4 (F := Ideal) x g w (ix2 r n) = ent x g w r n * Ideal.ofBits .f32 0x3E000000#32 := pay4_at x g w r n

theorem pay6_at' (x : XB) (g : GB) (w : WB) (r n : Fin 512) : k1_pay6 (F := Ideal) x g w (ix3 0 r n) = ent x g w r n :=
  pay6_at x g w r n

theorem pay9_at' (x : XB) (g : GB) (w : WB) (r n : Fin 512) : k1_pay9 (F := Ideal) (k1_pay3 x g) w (ix3 0 r n) = ent x g w r n :=
  pay6_at x g w r n

theorem pay11_at' (x : XB) (g : GB) (w : WB) (r n : Fin 512) : k1_pay11 (F := Ideal) (k1_pay3 x g) w (ix2 r n) = gel (ent x g w r n) :=
  pay13_at x g w r n

end Cert.Proof.JI

end
-- ==== Proof.JI.Host.lean ====
/-
  What the host hands the two projection calls, read at an index of the program's arguments.
-/
module

public import proofs.«01_k».proof.Proof.Gen.InprojIdeal.Frame
public import proofs.«01_k».proof.Proof.JI.Pay
public import Idealize.ShloMosaic.Lib.StableHlo.Run

@[expose] public section

set_option maxRecDepth 16384

noncomputable section

namespace Cert.Proof.JI

open Cert.InprojIdeal Cert.InprojIdeal.Gen
open Idealize.ShloMosaic Idealize.ShloMosaic.TcCoe Idealize.ShloMosaic.Tactic

variable (m : (ℓ : Loc nD τ sig) → Buf (Elt Ideal) ℓ) (ρ : Dev nD → PrngReg) (c : Dev nD)

/-- The two layers' inputs, the gains and the weights a device is given. -/
abbrev x0Arg : FVec Ideal S2x16384x1024 .f32 := m ((c : Thread nD τ).loc main_arg0)
abbrev x1Arg : FVec Ideal S2x16384x1024 .f32 := m ((c : Thread nD τ).loc main_arg1)
abbrev gArg : FVec Ideal S2x1024 .f32 := m ((c : Thread nD τ).loc main_arg2)
abbrev wArg : FVec Ideal S2x1024x2560 .f32 := m ((c : Thread nD τ).loc main_arg3)

/-- The inputs' rows, one after another. -/
def xHost (x : FVec Ideal S2x16384x1024 .f32) : FVec Ideal S32768x1024 .f32 := shapeCast S32768x1024 x shapeCasts_S2x16384x1024_S32768x1024
/-- The gains and weights of both layers. -/
def gAll (g : FVec Ideal S2x1024 .f32) : FVec Ideal S2x1x1024 .f32 := shapeCast S2x1x1024 g shapeCasts_S2x1024_S2x1x1024
def wAll (w : FVec Ideal S2x1024x2560 .f32) : FVec Ideal S2x1024x2560 .bf16 := truncf .bf16 w bitsLt_bf16_f32
/-- One layer's gain and weights. -/
def gHost0 (g : FVec Ideal S2x1x1024 .f32) : FVec Ideal S1x1024 .f32 :=
  shapeCast S1x1024 (extractStridedSlice S1x1x1024 ![0, 0, 0] g slices_S2x1x1024_S1x1x1024_0_0_0) shapeCasts_S1x1x1024_S1x1024
def wHost0 (w : FVec Ideal S2x1024x2560 .bf16) : FVec Ideal S1024x2560 .bf16 :=
  shapeCast S1024x2560 (extractStridedSlice S1x1024x2560 ![0, 0, 0] w slices_S2x1024x2560_S1x1024x2560_0_0_0) shapeCasts_S1x1024x2560_S1024x2560
def gHost1 (g : FVec Ideal S2x1x1024 .f32) : FVec Ideal S1x1024 .f32 :=
  shapeCast S1x1024 (extractStridedSlice S1x1x1024 ![1, 0, 0] g slices_S2x1x1024_S1x1x1024_1_0_0) shapeCasts_S1x1x1024_S1x1024
def wHost1 (w : FVec Ideal S2x1024x2560 .bf16) : FVec Ideal S1024x2560 .bf16 :=
  shapeCast S1024x2560 (extractStridedSlice S1x1024x2560 ![1, 0, 0] w slices_S2x1024x2560_S1x1024x2560_1_0_0) shapeCasts_S1x1024x2560_S1024x2560

/-! ## The stretches, from any contents -/

variable (V : Valuation τ sig (Elt Ideal))

theorem pre_v13 : StableHlo.after hostOps0_4 V (Proc.devRef .tc main_v13) = xHost (V (Proc.devRef .tc main_arg0)) := by
  after_results_simp; rfl
theorem pre_v14 : StableHlo.after hostOps0_4 V (Proc.devRef .tc main_v14) = xHost (V (Proc.devRef .tc main_arg1)) := by
  after_results_simp; rfl
theorem pre_v9 : StableHlo.after hostOps0_4 V (Proc.devRef .tc main_v9) = gAll (V (Proc.devRef .tc main_arg2)) := by
  after_results_simp; rfl
theorem pre_v10 : StableHlo.after hostOps0_4 V (Proc.devRef .tc main_v10) = wAll (V (Proc.devRef .tc main_arg3)) := by
  after_results_simp; rfl
theorem pre_v16 : StableHlo.after hostOps0_4 V (Proc.devRef .tc main_v16) = gHost0 (gAll (V (Proc.devRef .tc main_arg2))) := by
  after_results_simp; rfl
theorem pre_v18 : StableHlo.after hostOps0_4 V (Proc.devRef .tc main_v18) = wHost0 (wAll (V (Proc.devRef .tc main_arg3))) := by
  after_results_simp; rfl
theorem mid_v25 : StableHlo.after hostOps1 V (Proc.devRef .tc main_v25) = gHost1 (V (Proc.devRef .tc main_v9)) := by
  after_results_simp; rfl
theorem mid_v27 : StableHlo.after hostOps1 V (Proc.devRef .tc main_v27) = wHost1 (V (Proc.devRef .tc main_v10)) := by
  after_results_simp; rfl
theorem mid_v32_1 : StableHlo.after hostOps1 V (Proc.devRef .tc main_v32_1) = V (Proc.devRef .tc main_v23_1) := by
  after_results_simp; rfl
theorem mid_v32_2 : StableHlo.after hostOps1 V (Proc.devRef .tc main_v32_2) = V (Proc.devRef .tc main_v23_2) := by
  after_results_simp; rfl

/-! ## What the calls are entered with -/

theorem in0_x : V5 m ρ c main_v13 = xHost (x0Arg m c) :=
  (pre_v13 (W4 m ρ c)).trans (congrArg xHost (W4_args m ρ c main_arg0 (by decide)))
theorem in0_g : V5 m ρ c main_v16 = gHost0 (gAll (gArg m c)) :=
  (pre_v16 (W4 m ρ c)).trans (congrArg (fun g => gHost0 (gAll g)) (W4_args m ρ c main_arg2 (by decide)))
theorem in0_w : V5 m ρ c main_v18 = wHost0 (wAll (wArg m c)) :=
  (pre_v18 (W4 m ρ c)).trans (congrArg (fun g => wHost0 (wAll g)) (W4_args m ρ c main_arg3 (by decide)))

theorem in1_x : V7 m ρ c main_v14 = xHost (x1Arg m c) :=
  ((W7_of m ρ c main_v14 (by decide)).trans (W6_of m ρ c main_v14 (by decide))).trans
    ((pre_v14 (W4 m ρ c)).trans (congrArg xHost (W4_args m ρ c main_arg1 (by decide))))
theorem in1_g : V7 m ρ c main_v25 = gHost1 (gAll (gArg m c)) :=
  (mid_v25 (W6 m ρ c)).trans (congrArg gHost1 ((W6_of m ρ c main_v9 (by decide)).trans
    ((pre_v9 (W4 m ρ c)).trans (congrArg gAll (W4_args m ρ c main_arg2 (by decide))))))
theorem in1_w : V7 m ρ c main_v27 = wHost1 (wAll (wArg m c)) :=
  (mid_v27 (W6 m ρ c)).trans (congrArg wHost1 ((W6_of m ρ c main_v10 (by decide)).trans
    ((pre_v10 (W4 m ρ c)).trans (congrArg wAll (W4_args m ρ c main_arg3 (by decide))))))
theorem in1_k : V7 m ρ c main_v32_1 = (dat0 (V5 m ρ) c).arrAt 7 cfg0.N :=
  (mid_v32_1 (W6 m ρ c)).trans (W6_arr m ρ c 7)
theorem in1_v : V7 m ρ c main_v32_2 = (dat0 (V5 m ρ) c).arrAt 8 cfg0.N :=
  (mid_v32_2 (W6 m ρ c)).trans (W6_arr m ρ c 8)

/-! ## At an index -/

theorem xHost_at (x : FVec Ideal S2x16384x1024 .f32) (b : Fin 2) (t : Fin 16384) (d : Fin 1024) :
    xHost x (ix2 ⟨16384 * b.val + t.val, by omega⟩ d) = x (ix3 b t d) := by
  pointwise [xHost]
theorem gHost0_at (g : FVec Ideal S2x1024 .f32) (d : Fin 1024) : gHost0 (gAll g) (ix2 0 d) = g (ix2 0 d) := by
  pointwise [gHost0, gAll]
theorem gHost1_at (g : FVec Ideal S2x1024 .f32) (d : Fin 1024) : gHost1 (gAll g) (ix2 0 d) = g (ix2 1 d) := by
  pointwise [gHost1, gAll]
theorem wHost0_at (w : FVec Ideal S2x1024x2560 .f32) (d : Fin 1024) (n : Fin 2560) : wHost0 (wAll w) (ix2 d n) = w (ix3 0 d n) := by
  pointwise [wHost0, wAll]
theorem wHost1_at (w : FVec Ideal S2x1024x2560 .f32) (d : Fin 1024) (n : Fin 2560) : wHost1 (wAll w) (ix2 d n) = w (ix3 1 d n) := by
  pointwise [wHost1, wAll]

end Cert.Proof.JI

end
-- ==== Proof.JI.Out.lean ====
/-
  What one point of a projection call leaves in its staging buffers, read at an index.
-/
module

public import proofs.«01_k».proof.Proof.Gen.InprojIdeal.Frame
public import proofs.«01_k».proof.Proof.JI.Pay
public import Idealize.ShloMosaic.Lib.Pipeline.ValueKit

@[expose] public section

set_option maxRecDepth 16384

noncomputable section

namespace Cert.Proof.JI

open Cert.InprojIdeal Cert.InprojIdeal.Gen
open Idealize.ShloMosaic Idealize.ShloMosaic.TcCoe Idealize.ShloMosaic.Tactic

/-- One entry of a block's projection. -/
def bent (x : XB) (g : GB) (w : Vec Ideal S1024x2560 .bf16) (r : Fin 512) (n : Fin 2560) : EReal :=
  ∑ d : Fin 1024, hn (row x r) (gr g) d * w (ix2 d n)

/-- The sections of a block of weights. -/
theorem ent_sec (x : XB) (g : GB) (w : Vec Ideal S1024x2560 .bf16) (r n : Fin 512) :
    ent x g (View.ld w r0_2) r n = bent x g w r ⟨n.val, by omega⟩
    ∧ ent x g (View.ld w r0_4) r n = bent x g w r ⟨512 + n.val, by omega⟩
    ∧ ent x g (View.ld w r0_7) r n = bent x g w r ⟨1024 + n.val, by omega⟩
    ∧ ent x g (View.ld w r0_8) r n = bent x g w r ⟨1536 + n.val, by omega⟩ := by
  unfold ent bent
  refine ⟨?_, ?_, ?_, ?_⟩ <;>
  · refine Finset.sum_congr rfl fun d _ => congrArg (hn (row x r) (gr g) d * ·) ?_
    rw [View.ld_apply]
    congr 1
    blk_ext
    all_goals simp [r0_2, r0_4, r0_7, r0_8, Rect.idx_unit_val]

variable (x : XB) (g : GB) (w : Vec Ideal S1024x2560 .bf16) (p q : Vec Ideal S1x512 .f32) (s : Vec Ideal S512x512 .bf16) (r n : Fin 512)

theorem out6_at : out0_6 (F := Ideal) x g w p q s (ix2 r n) = bent x g w r ⟨n.val, by omega⟩ * Ideal.ofBits .f32 0x3E000000#32 := by
  rw [← (ent_sec x g w r n).1]
  frame_out
  exact pay4_at x g _ r n

theorem pay16_eq : k0_pay16 (F := Ideal) x g w p q s = k0_pay3 x g := by
  unfold k0_pay16
  rw [View.ld_unit_lit _ x (by decide), View.ld_unit_lit _ g (by decide)]

theorem out11_at : out0_11 (F := Ideal) x g w p q s (ix2 r n) = gel (bent x g w r ⟨1536 + n.val, by omega⟩) := by
  rw [← (ent_sec x g w r n).2.2.2]
  unfold out0_11
  rw [pay16_eq, View.canon_cons_unit_lit _ _ _ (by decide)]
  exact pay13_at x g _ r n

theorem out7_at : out0_7 (F := Ideal) x g w p q s (ix3 0 r n) = bent x g w r ⟨512 + n.val, by omega⟩ := by
  rw [← (ent_sec x g w r n).2.1]
  frame_out
  canon_tiles y h
  · exact absurd h0 (by show (0 : ℕ) ≠ _; omega)
  · have e : y = ix3 0 r n := by
      funext a
      fin_cases a
      · exact Fin.ext (by show (y 0).val = 0; omega)
      · exact Fin.ext h1.symm
      · exact Fin.ext h2.symm
    rw [e]
    exact pay6_at x g _ r n

theorem out8_at : out0_8 (F := Ideal) x g w p q s (ix3 0 r n) = bent x g w r ⟨1024 + n.val, by omega⟩ := by
  rw [← (ent_sec x g w r n).2.2.1]
  unfold out0_8
  rw [pay16_eq]
  canon_tiles y h
  · exact absurd h0 (by show (0 : ℕ) ≠ _; omega)
  · have e : y = ix3 0 r n := by
      funext a
      fin_cases a
      · exact Fin.ext (by show (y 0).val = 0; omega)
      · exact Fin.ext h1.symm
      · exact Fin.ext h2.symm
    rw [e]
    exact pay10_at x g _ r n

/-! ## The second call's -/

variable (V : (c : Dev nD) → (b : Ref sig .tc) → Buf (Elt Ideal) ((c : Thread nD τ).loc b)) (c : Dev nD) (t : Fin cfg1.N)

theorem outs6_at : (outsAt1 V c t).1 (ix2 r n)
    = bent (iblk1 V c 0 t) (iblk1 V c 1 t) (iblk1 V c 2 t) r ⟨n.val, by omega⟩ * Ideal.ofBits .f32 0x3E000000#32 := by
  rw [← (ent_sec (iblk1 V c 0 t) (iblk1 V c 1 t) (iblk1 V c 2 t) r n).1]
  unfold outsAt1
  frame_out
  exact pay4_at' _ _ _ r n

theorem outs7_at : (outsAt1 V c t).2.1 (ix3 0 r n)
    = bent (iblk1 V c 0 t) (iblk1 V c 1 t) (iblk1 V c 2 t) r ⟨512 + n.val, by omega⟩ := by
  rw [← (ent_sec (iblk1 V c 0 t) (iblk1 V c 1 t) (iblk1 V c 2 t) r n).2.1]
  unfold outsAt1
  frame_out
  exact pay6_at' _ _ _ r n

theorem outs8_at : (outsAt1 V c t).2.2.1 (ix3 0 r n)
    = bent (iblk1 V c 0 t) (iblk1 V c 1 t) (iblk1 V c 2 t) r ⟨1024 + n.val, by omega⟩ := by
  rw [← (ent_sec (iblk1 V c 0 t) (iblk1 V c 1 t) (iblk1 V c 2 t) r n).2.2.1]
  unfold outsAt1
  frame_out
  exact pay9_at' _ _ _ r n

theorem outs11_at : (outsAt1 V c t).2.2.2.2.2.1 (ix2 r n)
    = gel (bent (iblk1 V c 0 t) (iblk1 V c 1 t) (iblk1 V c 2 t) r ⟨1536 + n.val, by omega⟩) := by
  rw [← (ent_sec (iblk1 V c 0 t) (iblk1 V c 1 t) (iblk1 V c 2 t) r n).2.2.2]
  unfold outsAt1
  frame_out
  exact pay11_at' _ _ _ r n

end Cert.Proof.JI

end
-- ==== Proof.JR.Val.lean ====
/-
  The reference of the projections over the extended reals: its results named piece by piece and read at an index as one
  token's projection.
-/
module

public import proofs.«01_k».proof.Proof.JI.Spec
public import proofs.«01_k».proof.Proof.Gen.InprojReferenceIdeal
public import Idealize.ShloMosaic.Lib.Pointwise
public import Idealize.ShloMosaic.Lib.Tactic

@[expose] public section

set_option maxRecDepth 16384

noncomputable section

namespace Cert.Proof.JR

open Cert.InprojReferenceIdeal Cert.InprojReferenceIdeal.Gen
open Idealize.ShloMosaic Idealize.ShloMosaic.TcCoe
open Cert.Proof.JI

abbrev XV := FVec Ideal S2x16384x1024 .f32
abbrev GV := FVec Ideal S2x1024 .f32
abbrev WV := FVec Ideal S2x1024x2560 .f32
abbrev PV := FVec Ideal S2x16384x2560 .f32
abbrev SV := FVec Ideal S2x16384x512 .f32

/-- The rows divided by the roots of their mean squares. -/
def rmsn (x : XV) : XV :=
  mulf x (broadcastInDim S2x16384x1024 ![0, 1, 2] bcast_S2x16384x1_S2x16384x1024_0_1_2
    (Host.rsqrt (addf (Host.divf (broadcastInDim S2x16384x1 ![0, 1] bcast_S2x16384_S2x16384x1_0_1
      (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x3727C5AC#32)))))

/-- A gain at every row. -/
def gain (g : FVec Ideal S1x1024 .f32) : XV :=
  broadcastInDim S2x16384x1024 ![0, 1, 2] bcast_S1x1x1024_S2x16384x1024_0_1_2
    (broadcastInDim S1x1x1024 ![2] bcast_S1024_S1x1x1024_2 (shapeCast _ g shapeCasts_S1x1024_S1024))

/-- The rows' projections by one layer's gain and weights. -/
def proj (x : XV) (g : FVec Ideal S1x1024 .f32) (w : FVec Ideal S1x1024x2560 .f32) : PV :=
  Host.dotGeneral dot_S2x16384x1024_S1024x2560_S2x16384x2560_2_0_01_1_n_n none (mulf (rmsn x) (gain g))
    (shapeCast _ w shapeCasts_S1x1024x2560_S1024x2560)

/-- The projections by the first layer's gain and weights, and by the second's. -/
def proj0 (x : XV) (g : GV) (w : WV) : PV :=
  proj x (extractStridedSlice S1x1024 ![0, 0] g slices_S2x1024_S1x1024_0_0)
    (extractStridedSlice S1x1024x2560 ![0, 0, 0] w slices_S2x1024x2560_S1x1024x2560_0_0_0)
def proj1 (x : XV) (g : GV) (w : WV) : PV :=
  proj x (extractStridedSlice S1x1024 ![1, 0] g slices_S2x1024_S1x1024_1_0)
    (extractStridedSlice S1x1024x2560 ![1, 0, 0] w slices_S2x1024x2560_S1x1024x2560_1_0_0)

/-- The sections of a projection. -/
def secQ (p : PV) : SV := extractStridedSlice S2x16384x512 ![0, 0, 0] p slices_S2x16384x2560_S2x16384x512_0_0_0
def secK (p : PV) : SV := extractStridedSlice S2x16384x512 ![0, 0, 512] p slices_S2x16384x2560_S2x16384x512_0_0_512
def secV (p : PV) : SV := extractStridedSlice S2x16384x512 ![0, 0, 1024] p slices_S2x16384x2560_S2x16384x512_0_0_1024
def secU (p : PV) : SV := extractStridedSlice S2x16384x512 ![0, 0, 1536] p slices_S2x16384x2560_S2x16384x512_0_0_1536

/-- The same number at every place. -/
abbrev every (b : BitVec 32) : SV := broadcastInDim S2x16384x512 ![] bcast_S_S2x16384x512 (constant S_ .f32 b)

/-- The gate's activation of every entry. -/
def gelV (u : SV) : SV :=
  mulf u (mulf (every 0x3F000000#32) (addf (every 0x3F800000#32)
    (Host.tanh (mulf (every 0x3F4C422A#32) (addf u (mulf (every 0x3D372713#32) (mulf (mulf u u) u)))))))

/-- The rows of a batch, one after another. -/
abbrev rows (u : SV) : FVec Ideal S32768x512 .f32 := shapeCast _ u shapeCasts_S2x16384x512_S32768x512

/-- Two layers' rows, stacked. -/
def stack (a b : FVec Ideal S32768x512 .f32) : FVec Ideal S2x32768x512 .f32 :=
  concatenate S2x32768x512 0 [⟨S1x32768x512, broadcastInDim S1x32768x512 ![1, 2] bcast_S32768x512_S1x32768x512_1_2 a⟩,
    ⟨S1x32768x512, broadcastInDim S1x32768x512 ![1, 2] bcast_S32768x512_S1x32768x512_1_2 b⟩]
    concatenates_S1x32768x512_S1x32768x512_S2x32768x512_d0

/-- The results. -/
def keys (x0 x1 : XV) (g : GV) (w : WV) : FVec Ideal S2x32768x512 .f32 := stack (rows (secK (proj0 x0 g w))) (rows (secK (proj1 x1 g w)))
def vals (x0 x1 : XV) (g : GV) (w : WV) : FVec Ideal S2x32768x512 .f32 := stack (rows (secV (proj0 x0 g w))) (rows (secV (proj1 x1 g w)))
def qry (p : PV) : FVec Ideal S32768x512 .bf16 := truncf .bf16 (rows (mulf (secQ p) (every 0x3E000000#32))) bitsLt_bf16_f32
def gat (p : PV) : FVec Ideal S32768x512 .bf16 := truncf .bf16 (rows (gelV (secU p))) bitsLt_bf16_f32

/-! ## At an index -/

theorem rmsn_at (x : XV) (b : Fin 2) (t : Fin 16384) (d : Fin 1024) : rmsn x (ix3 b t d)
    = x (ix3 b t d) * Ideal.rsqrt (Ideal.div (∑ j : Fin 1024, x (ix3 b t j) * x (ix3 b t j)) (Ideal.ofBits .f32 0x44800000#32)
        + Ideal.ofBits .f32 0x3727C5AC#32) := by
  pointwise [rmsn]

theorem gain_at (g : FVec Ideal S1x1024 .f32) (b : Fin 2) (t : Fin 16384) (d : Fin 1024) : gain g (ix3 b t d) = g (ix2 0 d) := by
  pointwise [gain]

theorem proj_at (x : XV) (g : FVec Ideal S1x1024 .f32) (w : FVec Ideal S1x1024x2560 .f32) (b : Fin 2) (t : Fin 16384) (n : Fin 2560) :
    proj x g w (ix3 b t n) = pr (fun d => x (ix3 b t d)) (fun d => g (ix2 0 d)) (fun d n => w (ix3 0 d n)) n := by
  pointwise [proj]
  simp only [rmsn_at, gain_at]
  rfl

theorem proj0_at (x : XV) (g : GV) (w : WV) (b : Fin 2) (t : Fin 16384) (n : Fin 2560) :
    proj0 x g w (ix3 b t n) = pr (fun d => x (ix3 b t d)) (fun d => g (ix2 0 d)) (fun d n => w (ix3 0 d n)) n := by
  unfold proj0
  rw [proj_at]
  pointwise

theorem proj1_at (x : XV) (g : GV) (w : WV) (b : Fin 2) (t : Fin 16384) (n : Fin 2560) :
    proj1 x g w (ix3 b t n) = pr (fun d => x (ix3 b t d)) (fun d => g (ix2 1 d)) (fun d n => w (ix3 1 d n)) n := by
  unfold proj1
  rw [proj_at]
  pointwise

theorem gelV_at (u : SV) (b : Fin 2) (t : Fin 16384) (n : Fin 512) : gelV u (ix3 b t n) = gel (u (ix3 b t n)) := by
  pointwise [gelV, gel]
  rw [mul_assoc (u (ix3 b t n)) (u (ix3 b t n)) (u (ix3 b t n))]

theorem secQ_at (p : PV) (b : Fin 2) (t : Fin 16384) (n : Fin 512) : secQ p (ix3 b t n) = p (ix3 b t ⟨n.val, by omega⟩) := by
  pointwise [secQ]
theorem secK_at (p : PV) (b : Fin 2) (t : Fin 16384) (n : Fin 512) : secK p (ix3 b t n) = p (ix3 b t ⟨512 + n.val, by omega⟩) := by
  pointwise [secK]
theorem secV_at (p : PV) (b : Fin 2) (t : Fin 16384) (n : Fin 512) : secV p (ix3 b t n) = p (ix3 b t ⟨1024 + n.val, by omega⟩) := by
  pointwise [secV]
theorem secU_at (p : PV) (b : Fin 2) (t : Fin 16384) (n : Fin 512) : secU p (ix3 b t n) = p (ix3 b t ⟨1536 + n.val, by omega⟩) := by
  pointwise [secU]

/-- Row `16384 b + t` is row `t` of batch `b`. -/
theorem rows_at (u : SV) (b : Fin 2) (t : Fin 16384) (n : Fin 512) :
    rows u (ix2 ⟨16384 * b.val + t.val, by omega⟩ n) = u (ix3 b t n) := by
  pointwise

theorem stack_at0 (a b : FVec Ideal S32768x512 .f32) (r : Fin 32768) (n : Fin 512) : stack a b (ix3 0 r n) = a (ix2 r n) := by
  pointwise [stack]
theorem stack_at1 (a b : FVec Ideal S32768x512 .f32) (r : Fin 32768) (n : Fin 512) : stack a b (ix3 1 r n) = b (ix2 r n) := by
  pointwise [stack]

theorem qry_at (p : PV) (b : Fin 2) (t : Fin 16384) (n : Fin 512) :
    qry p (ix2 ⟨16384 * b.val + t.val, by omega⟩ n) = p (ix3 b t ⟨n.val, by omega⟩) * Ideal.ofBits .f32 0x3E000000#32 := by
  have e : qry p (ix2 ⟨16384 * b.val + t.val, by omega⟩ n)
      = rows (mulf (secQ p) (every 0x3E000000#32)) (ix2 ⟨16384 * b.val + t.val, by omega⟩ n) := rfl
  rw [e, rows_at]
  pointwise
  rw [secQ_at]

theorem gat_at (p : PV) (b : Fin 2) (t : Fin 16384) (n : Fin 512) :
    gat p (ix2 ⟨16384 * b.val + t.val, by omega⟩ n) = gel (p (ix3 b t ⟨1536 + n.val, by omega⟩)) := by
  have e : gat p (ix2 ⟨16384 * b.val + t.val, by omega⟩ n)
      = rows (gelV (secU p)) (ix2 ⟨16384 * b.val + t.val, by omega⟩ n) := rfl
  rw [e, rows_at, gelV_at, secU_at]

end Cert.Proof.JR

end
-- ==== Proof.JI.Arr.lean ====
/-
  The arrays the two projection calls leave, over the extended reals: each input block read back to the program's arguments, and
  each result of the program equal to the reference's.
-/
module

public import proofs.«01_k».proof.Proof.JI.Host
public import proofs.«01_k».proof.Proof.JI.Out
public import proofs.«01_k».proof.Proof.JR.Val
public import Idealize.ShloMosaic.Lib.Pipeline.ValueKit

@[expose] public section

set_option maxRecDepth 16384

noncomputable section

namespace Cert.Proof.JI

open Cert.InprojIdeal Cert.InprojIdeal.Gen
open Idealize.ShloMosaic Idealize.ShloMosaic.TcCoe Idealize.ShloMosaic.Tactic

variable (m : (ℓ : Loc nD τ sig) → Buf (Elt Ideal) ℓ) (ρ : Dev nD → PrngReg) (c : Dev nD)

/-! ## The blocks' places -/

theorem ix0_0 : ∀ t : Fin cfg0.N, win0_0.index t = ![t.val, 0] := (by decide +kernel : ∀ t : Fin grid0.N, win0_0.index t = ![t.val, 0])
theorem ix0_1 : ∀ t : Fin cfg0.N, win0_1.index t = ![0, 0] := (by decide +kernel : ∀ t : Fin grid0.N, win0_1.index t = ![0, 0])
theorem ix0_2 : ∀ t : Fin cfg0.N, win0_2.index t = ![0, 0] := (by decide +kernel : ∀ t : Fin grid0.N, win0_2.index t = ![0, 0])
theorem ix0_6 : ∀ t : Fin cfg0.N, win0_6.index t = ![t.val, 0] := (by decide +kernel : ∀ t : Fin grid0.N, win0_6.index t = ![t.val, 0])
theorem ix0_7 : ∀ t : Fin cfg0.N, win0_7.index t = ![0, t.val, 0] := (by decide +kernel : ∀ t : Fin grid0.N, win0_7.index t = ![0, t.val, 0])
theorem ix0_8 : ∀ t : Fin cfg0.N, win0_8.index t = ![0, t.val, 0] := (by decide +kernel : ∀ t : Fin grid0.N, win0_8.index t = ![0, t.val, 0])
theorem ix0_11 : ∀ t : Fin cfg0.N, win0_11.index t = ![t.val, 0] := (by decide +kernel : ∀ t : Fin grid0.N, win0_11.index t = ![t.val, 0])
theorem ix1_0 : ∀ t : Fin cfg1.N, win1_0.index t = ![t.val, 0] := (by decide +kernel : ∀ t : Fin grid1.N, win1_0.index t = ![t.val, 0])
theorem ix1_1 : ∀ t : Fin cfg1.N, win1_1.index t = ![0, 0] := (by decide +kernel : ∀ t : Fin grid1.N, win1_1.index t = ![0, 0])
theorem ix1_2 : ∀ t : Fin cfg1.N, win1_2.index t = ![0, 0] := (by decide +kernel : ∀ t : Fin grid1.N, win1_2.index t = ![0, 0])
theorem ix1_6 : ∀ t : Fin cfg1.N, win1_6.index t = ![t.val, 0] := (by decide +kernel : ∀ t : Fin grid1.N, win1_6.index t = ![t.val, 0])
theorem ix1_7 : ∀ t : Fin cfg1.N, win1_7.index t = ![1, t.val, 0] := (by decide +kernel : ∀ t : Fin grid1.N, win1_7.index t = ![1, t.val, 0])
theorem ix1_8 : ∀ t : Fin cfg1.N, win1_8.index t = ![1, t.val, 0] := (by decide +kernel : ∀ t : Fin grid1.N, win1_8.index t = ![1, t.val, 0])
theorem ix1_11 : ∀ t : Fin cfg1.N, win1_11.index t = ![t.val, 0] := (by decide +kernel : ∀ t : Fin grid1.N, win1_11.index t = ![t.val, 0])

/-- A point's number, and the batch and token of row `r` of its block. -/
theorem t0_lt (t : Fin cfg0.N) : t.val < 64 := t.isLt
theorem t1_lt (t : Fin cfg1.N) : t.val < 64 := t.isLt
abbrev bt {k : ℕ} (h : k < 64) : Fin 2 := ⟨k / 32, by omega⟩
abbrev tok {k : ℕ} (h : k < 64) (r : Fin 512) : Fin 16384 := ⟨512 * (k % 32) + r.val, by omega⟩
theorem place {k : ℕ} (h : k < 64) (r : Fin 512) : 16384 * (bt h).val + (tok h r).val = 512 * k + r.val := by
  show 16384 * (k / 32) + (512 * (k % 32) + r.val) = _; omega

/-! ## The first call's blocks -/

theorem b0_x (t : Fin cfg0.N) (r : Fin 512) (d : Fin 1024) :
    (iblk0 (V5 m ρ) c 0 t : XB) (ix2 r d) = x0Arg m c (ix3 (bt (t0_lt t)) (tok (t0_lt t) r) d) := by
  rw [← xHost_at (x0Arg m c), ← in0_x m ρ c]
  blk_simp [iblk0]
  congr 1
  have := place (t0_lt t) r
  blk_ext [ix0_0 t]

theorem b0_g (t : Fin cfg0.N) (d : Fin 1024) : (iblk0 (V5 m ρ) c 1 t : GB) (ix2 0 d) = gArg m c (ix2 0 d) := by
  rw [← gHost0_at (gArg m c), ← in0_g m ρ c]
  blk_simp [iblk0]
  congr 1
  blk_ext [ix0_1 t]

theorem b0_w (t : Fin cfg0.N) (d : Fin 1024) (n : Fin 2560) :
    (iblk0 (V5 m ρ) c 2 t : Vec Ideal S1024x2560 .bf16) (ix2 d n) = wArg m c (ix3 0 d n) := by
  rw [← wHost0_at (wArg m c), ← in0_w m ρ c]
  blk_simp [iblk0]
  congr 1
  blk_ext [ix0_2 t]

/-- The first layer's projection. -/
abbrev P0 : JR.PV := JR.proj0 (x0Arg m c) (gArg m c) (wArg m c)

theorem bent0 (t : Fin cfg0.N) (r : Fin 512) (n : Fin 2560) :
    bent (iblk0 (V5 m ρ) c 0 t) (iblk0 (V5 m ρ) c 1 t) (iblk0 (V5 m ρ) c 2 t) r n
      = P0 m c (ix3 (bt (t0_lt t)) (tok (t0_lt t) r) n) := by
  refine Eq.trans ?_ (JR.proj0_at _ _ _ _ _ _).symm
  have e1 : row (iblk0 (V5 m ρ) c 0 t) r = fun d => x0Arg m c (ix3 (bt (t0_lt t)) (tok (t0_lt t) r) d) := funext fun d => b0_x m ρ c t r d
  have e2 : gr (iblk0 (V5 m ρ) c 1 t) = fun d => gArg m c (ix2 0 d) := funext fun d => b0_g m ρ c t d
  unfold bent
  rw [e1, e2]
  refine Finset.sum_congr rfl fun d _ => congrArg _ (b0_w m ρ c t d n)

/-! ## The second call's -/

theorem b1_x (t : Fin cfg1.N) (r : Fin 512) (d : Fin 1024) :
    (iblk1 (V7 m ρ) c 0 t : XB) (ix2 r d) = x1Arg m c (ix3 (bt (t1_lt t)) (tok (t1_lt t) r) d) := by
  rw [← xHost_at (x1Arg m c), ← in1_x m ρ c]
  blk_simp [iblk1]
  congr 1
  have := place (t1_lt t) r
  blk_ext [ix1_0 t]

theorem b1_g (t : Fin cfg1.N) (d : Fin 1024) : (iblk1 (V7 m ρ) c 1 t : GB) (ix2 0 d) = gArg m c (ix2 1 d) := by
  rw [← gHost1_at (gArg m c), ← in1_g m ρ c]
  blk_simp [iblk1]
  congr 1
  blk_ext [ix1_1 t]

theorem b1_w (t : Fin cfg1.N) (d : Fin 1024) (n : Fin 2560) :
    (iblk1 (V7 m ρ) c 2 t : Vec Ideal S1024x2560 .bf16) (ix2 d n) = wArg m c (ix3 1 d n) := by
  rw [← wHost1_at (wArg m c), ← in1_w m ρ c]
  blk_simp [iblk1]
  congr 1
  blk_ext [ix1_2 t]

/-- The second layer's projection. -/
abbrev P1 : JR.PV := JR.proj1 (x1Arg m c) (gArg m c) (wArg m c)

theorem bent1 (t : Fin cfg1.N) (r : Fin 512) (n : Fin 2560) :
    bent (iblk1 (V7 m ρ) c 0 t) (iblk1 (V7 m ρ) c 1 t) (iblk1 (V7 m ρ) c 2 t) r n
      = P1 m c (ix3 (bt (t1_lt t)) (tok (t1_lt t) r) n) := by
  refine Eq.trans ?_ (JR.proj1_at _ _ _ _ _ _).symm
  have e1 : row (iblk1 (V7 m ρ) c 0 t) r = fun d => x1Arg m c (ix3 (bt (t1_lt t)) (tok (t1_lt t) r) d) := funext fun d => b1_x m ρ c t r d
  have e2 : gr (iblk1 (V7 m ρ) c 1 t) = fun d => gArg m c (ix2 1 d) := funext fun d => b1_g m ρ c t d
  unfold bent
  rw [e1, e2]
  refine Finset.sum_congr rfl fun d _ => congrArg _ (b1_w m ρ c t d n)

/-! ## The arrays of one layer each -/

theorem arr0_q : (dat0 (V5 m ρ) c).arrAt 6 cfg0.N = JR.qry (P0 m c) := by
  refine (dat0 (V5 m ρ) c).arrAt_eq_of_covers 6 _ (by decide +kernel) fun t hf y => ?_
  blk_simp
  rw [after0_6]
  obtain ⟨r, n, rfl⟩ : ∃ (r n : Fin 512), y = ix2 r n := ⟨y 0, y 1, eq_ix2 y⟩
  refine (out6_at _ _ _ _ _ _ r n).trans ?_
  rw [bent0, ← JR.qry_at]
  congr 1
  have := place (t0_lt t) r
  blk_ext [ix0_6 t]

theorem arr0_u : (dat0 (V5 m ρ) c).arrAt 11 cfg0.N = JR.gat (P0 m c) := by
  refine (dat0 (V5 m ρ) c).arrAt_eq_of_covers 11 _ (by decide +kernel) fun t hf y => ?_
  blk_simp
  rw [after0_11]
  obtain ⟨r, n, rfl⟩ : ∃ (r n : Fin 512), y = ix2 r n := ⟨y 0, y 1, eq_ix2 y⟩
  refine (out11_at _ _ _ _ _ _ r n).trans ?_
  rw [bent0, ← JR.gat_at]
  congr 1
  have := place (t0_lt t) r
  blk_ext [ix0_11 t]

theorem arr1_q : (dat1 (V7 m ρ) c).arrAt 6 cfg1.N = JR.qry (P1 m c) := by
  refine (dat1 (V7 m ρ) c).arrAt_eq_of_covers 6 _ (by decide +kernel) fun t hf y => ?_
  blk_simp
  rw [after1_6]
  obtain ⟨r, n, rfl⟩ : ∃ (r n : Fin 512), y = ix2 r n := ⟨y 0, y 1, eq_ix2 y⟩
  refine (outs6_at r n _ c t).trans ?_
  rw [bent1, ← JR.qry_at]
  congr 1
  have := place (t1_lt t) r
  blk_ext [ix1_6 t]

theorem arr1_u : (dat1 (V7 m ρ) c).arrAt 11 cfg1.N = JR.gat (P1 m c) := by
  refine (dat1 (V7 m ρ) c).arrAt_eq_of_covers 11 _ (by decide +kernel) fun t hf y => ?_
  blk_simp
  rw [after1_11]
  obtain ⟨r, n, rfl⟩ : ∃ (r n : Fin 512), y = ix2 r n := ⟨y 0, y 1, eq_ix2 y⟩
  refine (outs11_at r n _ c t).trans ?_
  rw [bent1, ← JR.gat_at]
  congr 1
  have := place (t1_lt t) r
  blk_ext [ix1_11 t]

/-! ## The arrays of both layers -/

/-- The keys and values of both layers at a row of one. -/
theorem keys_at0 (b : Fin 2) (t : Fin 16384) (n : Fin 512) :
    JR.keys (x0Arg m c) (x1Arg m c) (gArg m c) (wArg m c) (ix3 0 ⟨16384 * b.val + t.val, by omega⟩ n) = P0 m c (ix3 b t ⟨512 + n.val, by omega⟩) := by
  unfold JR.keys; rw [JR.stack_at0, JR.rows_at, JR.secK_at]
theorem keys_at1 (b : Fin 2) (t : Fin 16384) (n : Fin 512) :
    JR.keys (x0Arg m c) (x1Arg m c) (gArg m c) (wArg m c) (ix3 1 ⟨16384 * b.val + t.val, by omega⟩ n) = P1 m c (ix3 b t ⟨512 + n.val, by omega⟩) := by
  unfold JR.keys; rw [JR.stack_at1, JR.rows_at, JR.secK_at]
theorem vals_at0 (b : Fin 2) (t : Fin 16384) (n : Fin 512) :
    JR.vals (x0Arg m c) (x1Arg m c) (gArg m c) (wArg m c) (ix3 0 ⟨16384 * b.val + t.val, by omega⟩ n) = P0 m c (ix3 b t ⟨1024 + n.val, by omega⟩) := by
  unfold JR.vals; rw [JR.stack_at0, JR.rows_at, JR.secV_at]
theorem vals_at1 (b : Fin 2) (t : Fin 16384) (n : Fin 512) :
    JR.vals (x0Arg m c) (x1Arg m c) (gArg m c) (wArg m c) (ix3 1 ⟨16384 * b.val + t.val, by omega⟩ n) = P1 m c (ix3 b t ⟨1024 + n.val, by omega⟩) := by
  unfold JR.vals; rw [JR.stack_at1, JR.rows_at, JR.secV_at]

/-- The first call leaves the first layer's keys and values right. -/
theorem arr0_k (i : S2x32768x512.Idx) (h : (i 0).val = 0) :
    (dat0 (V5 m ρ) c).arrAt 7 cfg0.N i = JR.keys (x0Arg m c) (x1Arg m c) (gArg m c) (wArg m c) i := by
  refine ((dat0 (V5 m ρ) c).arrAt_forall_of_covers 7
    (fun i v => (i 0).val = 0 → v = JR.keys (x0Arg m c) (x1Arg m c) (gArg m c) (wArg m c) i) (by decide +kernel) (fun t hf y => ?_) i) h
  intro h0
  blk_simp at h0 ⊢
  rw [after0_7]
  have hy : (y 0).val = 0 := by simpa [ix0_7 t] using h0
  obtain ⟨r, n, rfl⟩ : ∃ (r n : Fin 512), y = ix3 0 r n := ⟨y 1, y 2, (eq_ix3 y).trans (by congr 1; exact Fin.ext hy)⟩
  refine (out7_at _ _ _ _ _ _ r n).trans ?_
  rw [bent0, ← keys_at0]
  congr 1
  have := place (t0_lt t) r
  blk_ext [ix0_7 t]

theorem arr0_v (i : S2x32768x512.Idx) (h : (i 0).val = 0) :
    (dat0 (V5 m ρ) c).arrAt 8 cfg0.N i = JR.vals (x0Arg m c) (x1Arg m c) (gArg m c) (wArg m c) i := by
  refine ((dat0 (V5 m ρ) c).arrAt_forall_of_covers 8
    (fun i v => (i 0).val = 0 → v = JR.vals (x0Arg m c) (x1Arg m c) (gArg m c) (wArg m c) i) (by decide +kernel) (fun t hf y => ?_) i) h
  intro h0
  blk_simp at h0 ⊢
  rw [after0_8]
  have hy : (y 0).val = 0 := by simpa [ix0_8 t] using h0
  obtain ⟨r, n, rfl⟩ : ∃ (r n : Fin 512), y = ix3 0 r n := ⟨y 1, y 2, (eq_ix3 y).trans (by congr 1; exact Fin.ext hy)⟩
  refine (out8_at _ _ _ _ _ _ r n).trans ?_
  rw [bent0, ← vals_at0]
  congr 1
  have := place (t0_lt t) r
  blk_ext [ix0_8 t]

/-- The second call writes the second layer's and keeps the first's. -/
theorem arr1_k : (dat1 (V7 m ρ) c).arrAt 7 cfg1.N = JR.keys (x0Arg m c) (x1Arg m c) (gArg m c) (wArg m c) := by
  refine (dat1 (V7 m ρ) c).arrAt_eq_of_coversWhere_of_agree 7 _ (fun β => β (0 : Fin 3) = 1) (by decide +kernel) (fun t hf y => ?_) (fun j hj => ?_)
  · blk_simp
    rw [after1_7]
    obtain ⟨r, n, rfl⟩ : ∃ (r n : Fin 512), y = ix3 0 r n := ⟨y 1, y 2, (eq_ix3 y).trans (by
      congr 1; exact Fin.ext (by have : (y 0).val < 1 := (y 0).isLt; show (y 0).val = 0; omega))⟩
    refine (outs7_at r n _ c t).trans ?_
    rw [bent1, ← keys_at1]
    congr 1
    have := place (t1_lt t) r
    blk_ext [ix1_7 t]
  · have h0 : (j 0).val = 0 := by
      have h2 : (j 0).val < 2 := (j 0).isLt
      have h1 : ¬ (j 0).val / 1 = 1 := hj
      omega
    exact (congrFun (in1_k m ρ c) j).trans (arr0_k m ρ c j h0)

theorem arr1_v : (dat1 (V7 m ρ) c).arrAt 8 cfg1.N = JR.vals (x0Arg m c) (x1Arg m c) (gArg m c) (wArg m c) := by
  refine (dat1 (V7 m ρ) c).arrAt_eq_of_coversWhere_of_agree 8 _ (fun β => β (0 : Fin 3) = 1) (by decide +kernel) (fun t hf y => ?_) (fun j hj => ?_)
  · blk_simp
    rw [after1_8]
    obtain ⟨r, n, rfl⟩ : ∃ (r n : Fin 512), y = ix3 0 r n := ⟨y 1, y 2, (eq_ix3 y).trans (by
      congr 1; exact Fin.ext (by have : (y 0).val < 1 := (y 0).isLt; show (y 0).val = 0; omega))⟩
    refine (outs8_at r n _ c t).trans ?_
    rw [bent1, ← vals_at1]
    congr 1
    have := place (t1_lt t) r
    blk_ext [ix1_8 t]
  · have h0 : (j 0).val = 0 := by
      have h2 : (j 0).val < 2 := (j 0).isLt
      have h1 : ¬ (j 0).val / 1 = 1 := hj
      omega
    exact (congrFun (in1_v m ρ c) j).trans (arr0_v m ρ c j h0)

/-! ## The results -/

theorem end_k : W8 m ρ c (Proc.devRef .tc main_v32_1) = JR.keys (x0Arg m c) (x1Arg m c) (gArg m c) (wArg m c) :=
  (W8_arr m ρ c 7).trans (arr1_k m ρ c)
theorem end_v : W8 m ρ c (Proc.devRef .tc main_v32_2) = JR.vals (x0Arg m c) (x1Arg m c) (gArg m c) (wArg m c) :=
  (W8_arr m ρ c 8).trans (arr1_v m ρ c)
theorem end_q0 : W8 m ρ c (Proc.devRef .tc main_v23_0) = JR.qry (P0 m c) :=
  ((W8_of_ne m ρ c main_v23_0 (by decide)).trans (W7_of m ρ c main_v23_0 (by decide))).trans ((W6_arr m ρ c 6).trans (arr0_q m ρ c))
theorem end_q1 : W8 m ρ c (Proc.devRef .tc main_v32_0) = JR.qry (P1 m c) :=
  (W8_arr m ρ c 6).trans (arr1_q m ρ c)
theorem end_u0 : W8 m ρ c (Proc.devRef .tc main_v23_5) = JR.gat (P0 m c) :=
  ((W8_of_ne m ρ c main_v23_5 (by decide)).trans (W7_of m ρ c main_v23_5 (by decide))).trans ((W6_arr m ρ c 11).trans (arr0_u m ρ c))
theorem end_u1 : W8 m ρ c (Proc.devRef .tc main_v32_5) = JR.gat (P1 m c) :=
  (W8_arr m ρ c 11).trans (arr1_u m ρ c)

end Cert.Proof.JI

end
-- ==== Proof.JR.Run.lean ====
/-
  The reference of the projections run: its results are the ones named in `JR.Val`.
-/
module

public import proofs.«01_k».proof.Proof.JR.Val
public import proofs.«01_k».proof.Proof.Gen.InprojReferenceIdeal.Run

@[expose] public section

set_option maxRecDepth 16384

noncomputable section

namespace Cert.Proof.JR

open Cert.InprojReferenceIdeal Cert.InprojReferenceIdeal.Gen
open Idealize.ShloMosaic Idealize.ShloMosaic.TcCoe Idealize.SL.Sem

variable (m : (ℓ : Loc nD τ sig) → Buf (Elt Ideal) ℓ) (ρ : Dev nD → PrngReg) (c : Dev nD)

abbrev x0Arg : XV := m ((c : Thread nD τ).loc main_arg0)
abbrev x1Arg : XV := m ((c : Thread nD τ).loc main_arg1)
abbrev gArg : GV := m ((c : Thread nD τ).loc main_arg2)
abbrev wArg : WV := m ((c : Thread nD τ).loc main_arg3)

/-- The reference ends with its results, its arguments unchanged. -/
theorem run : θ_run defs (onTc (τ := τ) (main (F := Ideal))) ⟨m, fun _ => 0, ρ⟩ fun r => ∀ c : Dev nD,
    (r.2.mem ((c.tc : Thread nD τ).loc main_v90) = keys (x0Arg m c) (x1Arg m c) (gArg m c) (wArg m c)
      ∧ r.2.mem ((c.tc : Thread nD τ).loc main_v93) = vals (x0Arg m c) (x1Arg m c) (gArg m c) (wArg m c)
      ∧ r.2.mem ((c.tc : Thread nD τ).loc main_v28) = qry (proj0 (x0Arg m c) (gArg m c) (wArg m c))
      ∧ r.2.mem ((c.tc : Thread nD τ).loc main_v72) = qry (proj1 (x1Arg m c) (gArg m c) (wArg m c))
      ∧ r.2.mem ((c.tc : Thread nD τ).loc main_v43) = gat (proj0 (x0Arg m c) (gArg m c) (wArg m c))
      ∧ r.2.mem ((c.tc : Thread nD τ).loc main_v87) = gat (proj1 (x1Arg m c) (gArg m c) (wArg m c)))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.InprojReferenceIdeal.Value.run (F := Ideal) m ρ)
  obtain ⟨h1, h2, h3, h4, h5, h6, hargs⟩ := h c
  refine ⟨⟨h1.trans ?_, h2.trans ?_, h3.trans ?_, h4.trans ?_, h5.trans ?_, h6.trans ?_⟩, hargs⟩
  · unfold keys stack secK proj0 proj1 proj rmsn gain; rfl
  · unfold vals stack secV proj0 proj1 proj rmsn gain; rfl
  · unfold qry secQ proj0 proj rmsn gain; rfl
  · unfold qry secQ proj1 proj rmsn gain; rfl
  · unfold Cert.InprojReferenceIdeal.Value.res_main_v43 gat gelV secU proj0 proj rmsn gain; rfl
  · unfold Cert.InprojReferenceIdeal.Value.res_main_v87 gat gelV secU proj1 proj rmsn gain; rfl

end Cert.Proof.JR

end
-- ==== Proof.SI.Run.lean ====
/-
  The projections' run: every execution of the two calls and the host's operations around them ends, with each buffer at what the
  fold through the program leaves in it (`run`).
-/
module

public import proofs.«01_k».proof.Proof.Gen.SampleInprojIdeal.Frame

@[expose] public section

set_option maxRecDepth 16384

noncomputable section

namespace Cert.Proof.SI

open Cert.SampleInprojIdeal Cert.SampleInprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with the statement's
set_option backward.isDefEq.respectTransparency.types false in
/-- Every buffer that no scope holds ends at the contents after the last item of the program. -/
theorem run : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.Proof.SI

end
-- ==== Proof.SI.Pay.lean ====
/-
  The bodies' vector expressions of the two projection calls read at an index, over the extended reals.
-/
module

public import proofs.«01_k».proof.Proof.JI.Spec
public import proofs.«01_k».proof.Proof.Gen.SampleInprojIdeal.Skeleton
public import Idealize.ShloMosaic.Lib.Pointwise

@[expose] public section

set_option maxRecDepth 16384

noncomputable section

namespace Cert.Proof.SI

open Cert.SampleInprojIdeal Cert.SampleInprojIdeal.Gen
open Cert.Proof.JI (hn pr gel)
open Idealize.ShloMosaic Idealize.ShloMosaic.TcCoe

abbrev XB := Vec Ideal S256x1024 .f32
abbrev GB := Vec Ideal S1x1024 .f32
abbrev WB := Vec Ideal S1024x512 .bf16

/-- A row of a block. -/
abbrev row (x : XB) (r : Fin 256) : Fin 1024 → EReal := fun d => x (ix2 r d)
abbrev gr (g : GB) : Fin 1024 → EReal := fun d => g (ix2 0 d)

theorem pay3_at (x : XB) (g : GB) (r : Fin 256) (d : Fin 1024) : k0_pay3 (F := Ideal) x g (ix2 r d) = hn (row x r) (gr g) d := by
  pointwise [k0_pay3, hn]

/-- One entry of a section. -/
def ent (x : XB) (g : GB) (w : WB) (r : Fin 256) (n : Fin 512) : EReal := ∑ d : Fin 1024, hn (row x r) (gr g) d * w (ix2 d n)

theorem pay4_at (x : XB) (g : GB) (w : WB) (r : Fin 256) (n : Fin 512) :
    k0_pay4 (F := Ideal) x g w (ix2 r n) = ent x g w r n * Ideal.ofBits .f32 0x3E000000#32 := by
  pointwise [k0_pay4]
  simp only [pay3_at]
  rfl

theorem pay5_at (x : XB) (g : GB) (w : WB) (r : Fin 256) (n : Fin 512) : k0_pay5 (F := Ideal) x g w (ix2 r n) = ent x g w r n := by
  pointwise [k0_pay5]
  simp only [pay3_at]
  rfl

theorem pay6_at (x : XB) (g : GB) (w : WB) (r : Fin 256) (n : Fin 512) : k0_pay6 (F := Ideal) x g w (ix3 0 r n) = ent x g w r n := by
  pointwise [k0_pay6]
  rw [pay5_at]

theorem pay9_at (x : XB) (g : GB) (w : WB) (r : Fin 256) (n : Fin 512) : k0_pay9 (F := Ideal) (k0_pay3 x g) w (ix2 r n) = ent x g w r n :=
  pay5_at x g w r n

theorem pay10_at (x : XB) (g : GB) (w : WB) (r : Fin 256) (n : Fin 512) : k0_pay10 (F := Ideal) (k0_pay3 x g) w (ix3 0 r n) = ent x g w r n :=
  pay6_at x g w r n

theorem pay13_at (x : XB) (g : GB) (w : WB) (r : Fin 256) (n : Fin 512) : k0_pay13 (F := Ideal) (k0_pay3 x g) w (ix2 r n) = gel (ent x g w r n) := by
  have e : k0_pay13 (F := Ideal) (k0_pay3 x g) w (ix2 r n) = gel (k0_pay5 (F := Ideal) x g w (ix2 r n)) := by
    pointwise [k0_pay13, k0_pay5, gel]
  rw [e, pay5_at]

/-! ## The second call's, the same expressions -/

theorem pay4_at' (x : XB) (g : GB) (w : WB) (r : Fin 256) (n : Fin 512) :
    k1_pay4 (F := Ideal) x g w (ix2 r n) = ent x g w r n * Ideal.ofBits .f32 0x3E000000#32 := pay4_at x g w r n

theorem pay6_at' (x : XB) (g : GB) (w : WB) (r : Fin 256) (n : Fin 512) : k1_pay6 (F := Ideal) x g w (ix3 0 r n) = ent x g w r n :=
  pay6_at x g w r n

theorem pay9_at' (x : XB) (g : GB) (w : WB) (r : Fin 256) (n : Fin 512) : k1_pay9 (F := Ideal) (k1_pay3 x g) w (ix3 0 r n) = ent x g w r n :=
  pay6_at x g w r n

theorem pay11_at' (x : XB) (g : GB) (w : WB) (r : Fin 256) (n : Fin 512) : k1_pay11 (F := Ideal) (k1_pay3 x g) w (ix2 r n) = gel (ent x g w r n) :=
  pay13_at x g w r n

end Cert.Proof.SI

end
-- ==== Proof.SI.Host.lean ====
/-
  What the host hands the two projection calls, read at an index of the program's arguments.
-/
module

public import proofs.«01_k».proof.Proof.Gen.SampleInprojIdeal.Frame
public import proofs.«01_k».proof.Proof.SI.Pay
public import Idealize.ShloMosaic.Lib.StableHlo.Run

@[expose] public section

set_option maxRecDepth 16384

noncomputable section

namespace Cert.Proof.SI

open Cert.SampleInprojIdeal Cert.SampleInprojIdeal.Gen
open Idealize.ShloMosaic Idealize.ShloMosaic.TcCoe Idealize.ShloMosaic.Tactic

variable (m : (ℓ : Loc nD τ sig) → Buf (Elt Ideal) ℓ) (ρ : Dev nD → PrngReg) (c : Dev nD)

/-- The two layers' inputs, the gains and the weights a device is given. -/
abbrev x0Arg : FVec Ideal S8x32x1024 .f32 := m ((c : Thread nD τ).loc main_arg0)
abbrev x1Arg : FVec Ideal S8x32x1024 .f32 := m ((c : Thread nD τ).loc main_arg1)
abbrev gArg : FVec Ideal S2x1024 .f32 := m ((c : Thread nD τ).loc main_arg2)
abbrev wArg : FVec Ideal S2x1024x2560 .f32 := m ((c : Thread nD τ).loc main_arg3)

/-- The inputs' rows, one after another. -/
def xHost (x : FVec Ideal S8x32x1024 .f32) : FVec Ideal S256x1024 .f32 := shapeCast S256x1024 x shapeCasts_S8x32x1024_S256x1024
/-- The gains and weights of both layers. -/
def gAll (g : FVec Ideal S2x1024 .f32) : FVec Ideal S2x1x1024 .f32 := shapeCast S2x1x1024 g shapeCasts_S2x1024_S2x1x1024
def wAll (w : FVec Ideal S2x1024x2560 .f32) : FVec Ideal S2x1024x2560 .bf16 := truncf .bf16 w bitsLt_bf16_f32
/-- One layer's gain and weights. -/
def gHost0 (g : FVec Ideal S2x1x1024 .f32) : FVec Ideal S1x1024 .f32 :=
  shapeCast S1x1024 (extractStridedSlice S1x1x1024 ![0, 0, 0] g slices_S2x1x1024_S1x1x1024_0_0_0) shapeCasts_S1x1x1024_S1x1024
def wHost0 (w : FVec Ideal S2x1024x2560 .bf16) : FVec Ideal S1024x2560 .bf16 :=
  shapeCast S1024x2560 (extractStridedSlice S1x1024x2560 ![0, 0, 0] w slices_S2x1024x2560_S1x1024x2560_0_0_0) shapeCasts_S1x1024x2560_S1024x2560
def gHost1 (g : FVec Ideal S2x1x1024 .f32) : FVec Ideal S1x1024 .f32 :=
  shapeCast S1x1024 (extractStridedSlice S1x1x1024 ![1, 0, 0] g slices_S2x1x1024_S1x1x1024_1_0_0) shapeCasts_S1x1x1024_S1x1024
def wHost1 (w : FVec Ideal S2x1024x2560 .bf16) : FVec Ideal S1024x2560 .bf16 :=
  shapeCast S1024x2560 (extractStridedSlice S1x1024x2560 ![1, 0, 0] w slices_S2x1024x2560_S1x1024x2560_1_0_0) shapeCasts_S1x1024x2560_S1024x2560

/-! ## The stretches, from any contents -/

variable (V : Valuation τ sig (Elt Ideal))

theorem pre_v13 : StableHlo.after hostOps0_4 V (Proc.devRef .tc main_v13) = xHost (V (Proc.devRef .tc main_arg0)) := by
  after_results_simp; rfl
theorem pre_v14 : StableHlo.after hostOps0_4 V (Proc.devRef .tc main_v14) = xHost (V (Proc.devRef .tc main_arg1)) := by
  after_results_simp; rfl
theorem pre_v9 : StableHlo.after hostOps0_4 V (Proc.devRef .tc main_v9) = gAll (V (Proc.devRef .tc main_arg2)) := by
  after_results_simp; rfl
theorem pre_v10 : StableHlo.after hostOps0_4 V (Proc.devRef .tc main_v10) = wAll (V (Proc.devRef .tc main_arg3)) := by
  after_results_simp; rfl
theorem pre_v16 : StableHlo.after hostOps0_4 V (Proc.devRef .tc main_v16) = gHost0 (gAll (V (Proc.devRef .tc main_arg2))) := by
  after_results_simp; rfl
theorem pre_v18 : StableHlo.after hostOps0_4 V (Proc.devRef .tc main_v18) = wHost0 (wAll (V (Proc.devRef .tc main_arg3))) := by
  after_results_simp; rfl
theorem mid_v25 : StableHlo.after hostOps1 V (Proc.devRef .tc main_v25) = gHost1 (V (Proc.devRef .tc main_v9)) := by
  after_results_simp; rfl
theorem mid_v27 : StableHlo.after hostOps1 V (Proc.devRef .tc main_v27) = wHost1 (V (Proc.devRef .tc main_v10)) := by
  after_results_simp; rfl
theorem mid_v32_1 : StableHlo.after hostOps1 V (Proc.devRef .tc main_v32_1) = V (Proc.devRef .tc main_v23_1) := by
  after_results_simp; rfl
theorem mid_v32_2 : StableHlo.after hostOps1 V (Proc.devRef .tc main_v32_2) = V (Proc.devRef .tc main_v23_2) := by
  after_results_simp; rfl

/-! ## What the calls are entered with -/

theorem in0_x : V5 m ρ c main_v13 = xHost (x0Arg m c) :=
  (pre_v13 (W4 m ρ c)).trans (congrArg xHost (W4_args m ρ c main_arg0 (by decide)))
theorem in0_g : V5 m ρ c main_v16 = gHost0 (gAll (gArg m c)) :=
  (pre_v16 (W4 m ρ c)).trans (congrArg (fun g => gHost0 (gAll g)) (W4_args m ρ c main_arg2 (by decide)))
theorem in0_w : V5 m ρ c main_v18 = wHost0 (wAll (wArg m c)) :=
  (pre_v18 (W4 m ρ c)).trans (congrArg (fun g => wHost0 (wAll g)) (W4_args m ρ c main_arg3 (by decide)))

theorem in1_x : V7 m ρ c main_v14 = xHost (x1Arg m c) :=
  ((W7_of m ρ c main_v14 (by decide)).trans (W6_of m ρ c main_v14 (by decide))).trans
    ((pre_v14 (W4 m ρ c)).trans (congrArg xHost (W4_args m ρ c main_arg1 (by decide))))
theorem in1_g : V7 m ρ c main_v25 = gHost1 (gAll (gArg m c)) :=
  (mid_v25 (W6 m ρ c)).trans (congrArg gHost1 ((W6_of m ρ c main_v9 (by decide)).trans
    ((pre_v9 (W4 m ρ c)).trans (congrArg gAll (W4_args m ρ c main_arg2 (by decide))))))
theorem in1_w : V7 m ρ c main_v27 = wHost1 (wAll (wArg m c)) :=
  (mid_v27 (W6 m ρ c)).trans (congrArg wHost1 ((W6_of m ρ c main_v10 (by decide)).trans
    ((pre_v10 (W4 m ρ c)).trans (congrArg wAll (W4_args m ρ c main_arg3 (by decide))))))
theorem in1_k : V7 m ρ c main_v32_1 = (dat0 (V5 m ρ) c).arrAt 7 cfg0.N :=
  (mid_v32_1 (W6 m ρ c)).trans (W6_arr m ρ c 7)
theorem in1_v : V7 m ρ c main_v32_2 = (dat0 (V5 m ρ) c).arrAt 8 cfg0.N :=
  (mid_v32_2 (W6 m ρ c)).trans (W6_arr m ρ c 8)

/-! ## At an index -/

theorem xHost_at (x : FVec Ideal S8x32x1024 .f32) (b : Fin 8) (t : Fin 32) (d : Fin 1024) :
    xHost x (ix2 ⟨32 * b.val + t.val, by omega⟩ d) = x (ix3 b t d) := by
  pointwise [xHost]
theorem gHost0_at (g : FVec Ideal S2x1024 .f32) (d : Fin 1024) : gHost0 (gAll g) (ix2 0 d) = g (ix2 0 d) := by
  pointwise [gHost0, gAll]
theorem gHost1_at (g : FVec Ideal S2x1024 .f32) (d : Fin 1024) : gHost1 (gAll g) (ix2 0 d) = g (ix2 1 d) := by
  pointwise [gHost1, gAll]
theorem wHost0_at (w : FVec Ideal S2x1024x2560 .f32) (d : Fin 1024) (n : Fin 2560) : wHost0 (wAll w) (ix2 d n) = w (ix3 0 d n) := by
  pointwise [wHost0, wAll]
theorem wHost1_at (w : FVec Ideal S2x1024x2560 .f32) (d : Fin 1024) (n : Fin 2560) : wHost1 (wAll w) (ix2 d n) = w (ix3 1 d n) := by
  pointwise [wHost1, wAll]

end Cert.Proof.SI

end
-- ==== Proof.SI.Out.lean ====
/-
  What one point of a projection call leaves in its staging buffers, read at an index.
-/
module

public import proofs.«01_k».proof.Proof.Gen.SampleInprojIdeal.Frame
public import proofs.«01_k».proof.Proof.SI.Pay
public import Idealize.ShloMosaic.Lib.Pipeline.ValueKit

@[expose] public section

set_option maxRecDepth 16384

noncomputable section

namespace Cert.Proof.SI

open Cert.SampleInprojIdeal Cert.SampleInprojIdeal.Gen
open Cert.Proof.JI (hn pr gel)
open Idealize.ShloMosaic Idealize.ShloMosaic.TcCoe Idealize.ShloMosaic.Tactic

/-- One entry of a block's projection. -/
def bent (x : XB) (g : GB) (w : Vec Ideal S1024x2560 .bf16) (r : Fin 256) (n : Fin 2560) : EReal :=
  ∑ d : Fin 1024, hn (row x r) (gr g) d * w (ix2 d n)

/-- The sections of a block of weights. -/
theorem ent_sec (x : XB) (g : GB) (w : Vec Ideal S1024x2560 .bf16) (r : Fin 256) (n : Fin 512) :
    ent x g (View.ld w r0_2) r n = bent x g w r ⟨n.val, by omega⟩
    ∧ ent x g (View.ld w r0_4) r n = bent x g w r ⟨512 + n.val, by omega⟩
    ∧ ent x g (View.ld w r0_7) r n = bent x g w r ⟨1024 + n.val, by omega⟩
    ∧ ent x g (View.ld w r0_8) r n = bent x g w r ⟨1536 + n.val, by omega⟩ := by
  unfold ent bent
  refine ⟨?_, ?_, ?_, ?_⟩ <;>
  · refine Finset.sum_congr rfl fun d _ => congrArg (hn (row x r) (gr g) d * ·) ?_
    rw [View.ld_apply]
    congr 1
    blk_ext
    all_goals simp [r0_2, r0_4, r0_7, r0_8, Rect.idx_unit_val]

variable (x : XB) (g : GB) (w : Vec Ideal S1024x2560 .bf16) (p q : Vec Ideal S1x512 .f32) (s : Vec Ideal S512x512 .bf16) (r : Fin 256) (n : Fin 512)

theorem out6_at : out0_6 (F := Ideal) x g w p q s (ix2 r n) = bent x g w r ⟨n.val, by omega⟩ * Ideal.ofBits .f32 0x3E000000#32 := by
  rw [← (ent_sec x g w r n).1]
  frame_out
  exact pay4_at x g _ r n

theorem pay16_eq : k0_pay16 (F := Ideal) x g w p q s = k0_pay3 x g := by
  unfold k0_pay16
  rw [View.ld_unit_lit _ x (by decide), View.ld_unit_lit _ g (by decide)]

theorem out11_at : out0_11 (F := Ideal) x g w p q s (ix2 r n) = gel (bent x g w r ⟨1536 + n.val, by omega⟩) := by
  rw [← (ent_sec x g w r n).2.2.2]
  unfold out0_11
  rw [pay16_eq, View.canon_cons_unit_lit _ _ _ (by decide)]
  exact pay13_at x g _ r n

theorem out7_at : out0_7 (F := Ideal) x g w p q s (ix3 0 r n) = bent x g w r ⟨512 + n.val, by omega⟩ := by
  rw [← (ent_sec x g w r n).2.1]
  frame_out
  canon_tiles y h
  · exact absurd h0 (by show (0 : ℕ) ≠ _; omega)
  · have e : y = ix3 0 r n := by
      funext a
      fin_cases a
      · exact Fin.ext (by show (y 0).val = 0; omega)
      · exact Fin.ext h1.symm
      · exact Fin.ext h2.symm
    rw [e]
    exact pay6_at x g _ r n

theorem out8_at : out0_8 (F := Ideal) x g w p q s (ix3 0 r n) = bent x g w r ⟨1024 + n.val, by omega⟩ := by
  rw [← (ent_sec x g w r n).2.2.1]
  unfold out0_8
  rw [pay16_eq]
  canon_tiles y h
  · exact absurd h0 (by show (0 : ℕ) ≠ _; omega)
  · have e : y = ix3 0 r n := by
      funext a
      fin_cases a
      · exact Fin.ext (by show (y 0).val = 0; omega)
      · exact Fin.ext h1.symm
      · exact Fin.ext h2.symm
    rw [e]
    exact pay10_at x g _ r n

/-! ## The second call's -/

variable (V : (c : Dev nD) → (b : Ref sig .tc) → Buf (Elt Ideal) ((c : Thread nD τ).loc b)) (c : Dev nD) (t : Fin cfg1.N)

theorem outs6_at : (outsAt1 V c t).1 (ix2 r n)
    = bent (iblk1 V c 0 t) (iblk1 V c 1 t) (iblk1 V c 2 t) r ⟨n.val, by omega⟩ * Ideal.ofBits .f32 0x3E000000#32 := by
  rw [← (ent_sec (iblk1 V c 0 t) (iblk1 V c 1 t) (iblk1 V c 2 t) r n).1]
  unfold outsAt1
  frame_out
  exact pay4_at' _ _ _ r n

theorem outs7_at : (outsAt1 V c t).2.1 (ix3 0 r n)
    = bent (iblk1 V c 0 t) (iblk1 V c 1 t) (iblk1 V c 2 t) r ⟨512 + n.val, by omega⟩ := by
  rw [← (ent_sec (iblk1 V c 0 t) (iblk1 V c 1 t) (iblk1 V c 2 t) r n).2.1]
  unfold outsAt1
  frame_out
  exact pay6_at' _ _ _ r n

theorem outs8_at : (outsAt1 V c t).2.2.1 (ix3 0 r n)
    = bent (iblk1 V c 0 t) (iblk1 V c 1 t) (iblk1 V c 2 t) r ⟨1024 + n.val, by omega⟩ := by
  rw [← (ent_sec (iblk1 V c 0 t) (iblk1 V c 1 t) (iblk1 V c 2 t) r n).2.2.1]
  unfold outsAt1
  frame_out
  exact pay9_at' _ _ _ r n

theorem outs11_at : (outsAt1 V c t).2.2.2.2.2.1 (ix2 r n)
    = gel (bent (iblk1 V c 0 t) (iblk1 V c 1 t) (iblk1 V c 2 t) r ⟨1536 + n.val, by omega⟩) := by
  rw [← (ent_sec (iblk1 V c 0 t) (iblk1 V c 1 t) (iblk1 V c 2 t) r n).2.2.2]
  unfold outsAt1
  frame_out
  exact pay11_at' _ _ _ r n

end Cert.Proof.SI

end
-- ==== Proof.SR.Val.lean ====
/-
  The reference of the projections over the extended reals: its results named piece by piece and read at an index as one
  token's projection.
-/
module

public import proofs.«01_k».proof.Proof.JI.Spec
public import proofs.«01_k».proof.Proof.Gen.SampleInprojReferenceIdeal
public import Idealize.ShloMosaic.Lib.Pointwise
public import Idealize.ShloMosaic.Lib.Tactic

@[expose] public section

set_option maxRecDepth 16384

noncomputable section

namespace Cert.Proof.SR

open Cert.SampleInprojReferenceIdeal Cert.SampleInprojReferenceIdeal.Gen
open Idealize.ShloMosaic Idealize.ShloMosaic.TcCoe
open Cert.Proof.JI (hn pr gel)

abbrev XV := FVec Ideal S8x32x1024 .f32
abbrev GV := FVec Ideal S2x1024 .f32
abbrev WV := FVec Ideal S2x1024x2560 .f32
abbrev PV := FVec Ideal S8x32x2560 .f32
abbrev SV := FVec Ideal S8x32x512 .f32

/-- The rows divided by the roots of their mean squares. -/
def rmsn (x : XV) : XV :=
  mulf x (broadcastInDim S8x32x1024 ![0, 1, 2] bcast_S8x32x1_S8x32x1024_0_1_2
    (Host.rsqrt (addf (Host.divf (broadcastInDim S8x32x1 ![0, 1] bcast_S8x32_S8x32x1_0_1
      (Host.reduceAdd (mulf x x) (constant S_ .f32 0x00000000#32) reducesTo_S8x32x1024_S8x32_d2 h_S_))
        (broadcastInDim S8x32x1 ![] bcast_S_S8x32x1 (constant S_ .f32 0x44800000#32)))
      (broadcastInDim S8x32x1 ![] bcast_S_S8x32x1 (constant S_ .f32 0x3727C5AC#32)))))

/-- A gain at every row. -/
def gain (g : FVec Ideal S1x1024 .f32) : XV :=
  broadcastInDim S8x32x1024 ![0, 1, 2] bcast_S1x1x1024_S8x32x1024_0_1_2
    (broadcastInDim S1x1x1024 ![2] bcast_S1024_S1x1x1024_2 (shapeCast _ g shapeCasts_S1x1024_S1024))

/-- The rows' projections by one layer's gain and weights. -/
def proj (x : XV) (g : FVec Ideal S1x1024 .f32) (w : FVec Ideal S1x1024x2560 .f32) : PV :=
  Host.dotGeneral dot_S8x32x1024_S1024x2560_S8x32x2560_2_0_01_1_n_n none (mulf (rmsn x) (gain g))
    (shapeCast _ w shapeCasts_S1x1024x2560_S1024x2560)

/-- The projections by the first layer's gain and weights, and by the second's. -/
def proj0 (x : XV) (g : GV) (w : WV) : PV :=
  proj x (extractStridedSlice S1x1024 ![0, 0] g slices_S2x1024_S1x1024_0_0)
    (extractStridedSlice S1x1024x2560 ![0, 0, 0] w slices_S2x1024x2560_S1x1024x2560_0_0_0)
def proj1 (x : XV) (g : GV) (w : WV) : PV :=
  proj x (extractStridedSlice S1x1024 ![1, 0] g slices_S2x1024_S1x1024_1_0)
    (extractStridedSlice S1x1024x2560 ![1, 0, 0] w slices_S2x1024x2560_S1x1024x2560_1_0_0)

/-- The sections of a projection. -/
def secQ (p : PV) : SV := extractStridedSlice S8x32x512 ![0, 0, 0] p slices_S8x32x2560_S8x32x512_0_0_0
def secK (p : PV) : SV := extractStridedSlice S8x32x512 ![0, 0, 512] p slices_S8x32x2560_S8x32x512_0_0_512
def secV (p : PV) : SV := extractStridedSlice S8x32x512 ![0, 0, 1024] p slices_S8x32x2560_S8x32x512_0_0_1024
def secU (p : PV) : SV := extractStridedSlice S8x32x512 ![0, 0, 1536] p slices_S8x32x2560_S8x32x512_0_0_1536

/-- The same number at every place. -/
abbrev every (b : BitVec 32) : SV := broadcastInDim S8x32x512 ![] bcast_S_S8x32x512 (constant S_ .f32 b)

/-- The gate's activation of every entry. -/
def gelV (u : SV) : SV :=
  mulf u (mulf (every 0x3F000000#32) (addf (every 0x3F800000#32)
    (Host.tanh (mulf (every 0x3F4C422A#32) (addf u (mulf (every 0x3D372713#32) (mulf (mulf u u) u)))))))

/-- The rows of a batch, one after another. -/
abbrev rows (u : SV) : FVec Ideal S256x512 .f32 := shapeCast _ u shapeCasts_S8x32x512_S256x512

/-- Two layers' rows, stacked. -/
def stack (a b : FVec Ideal S256x512 .f32) : FVec Ideal S2x256x512 .f32 :=
  concatenate S2x256x512 0 [⟨S1x256x512, broadcastInDim S1x256x512 ![1, 2] bcast_S256x512_S1x256x512_1_2 a⟩,
    ⟨S1x256x512, broadcastInDim S1x256x512 ![1, 2] bcast_S256x512_S1x256x512_1_2 b⟩]
    concatenates_S1x256x512_S1x256x512_S2x256x512_d0

/-- The results. -/
def keys (x0 x1 : XV) (g : GV) (w : WV) : FVec Ideal S2x256x512 .f32 := stack (rows (secK (proj0 x0 g w))) (rows (secK (proj1 x1 g w)))
def vals (x0 x1 : XV) (g : GV) (w : WV) : FVec Ideal S2x256x512 .f32 := stack (rows (secV (proj0 x0 g w))) (rows (secV (proj1 x1 g w)))
def qry (p : PV) : FVec Ideal S256x512 .bf16 := truncf .bf16 (rows (mulf (secQ p) (every 0x3E000000#32))) bitsLt_bf16_f32
def gat (p : PV) : FVec Ideal S256x512 .bf16 := truncf .bf16 (rows (gelV (secU p))) bitsLt_bf16_f32

/-! ## At an index -/

theorem rmsn_at (x : XV) (b : Fin 8) (t : Fin 32) (d : Fin 1024) : rmsn x (ix3 b t d)
    = x (ix3 b t d) * Ideal.rsqrt (Ideal.div (∑ j : Fin 1024, x (ix3 b t j) * x (ix3 b t j)) (Ideal.ofBits .f32 0x44800000#32)
        + Ideal.ofBits .f32 0x3727C5AC#32) := by
  pointwise [rmsn]

theorem gain_at (g : FVec Ideal S1x1024 .f32) (b : Fin 8) (t : Fin 32) (d : Fin 1024) : gain g (ix3 b t d) = g (ix2 0 d) := by
  pointwise [gain]

theorem proj_at (x : XV) (g : FVec Ideal S1x1024 .f32) (w : FVec Ideal S1x1024x2560 .f32) (b : Fin 8) (t : Fin 32) (n : Fin 2560) :
    proj x g w (ix3 b t n) = pr (fun d => x (ix3 b t d)) (fun d => g (ix2 0 d)) (fun d n => w (ix3 0 d n)) n := by
  pointwise [proj]
  simp only [rmsn_at, gain_at]
  rfl

theorem proj0_at (x : XV) (g : GV) (w : WV) (b : Fin 8) (t : Fin 32) (n : Fin 2560) :
    proj0 x g w (ix3 b t n) = pr (fun d => x (ix3 b t d)) (fun d => g (ix2 0 d)) (fun d n => w (ix3 0 d n)) n := by
  unfold proj0
  rw [proj_at]
  pointwise

theorem proj1_at (x : XV) (g : GV) (w : WV) (b : Fin 8) (t : Fin 32) (n : Fin 2560) :
    proj1 x g w (ix3 b t n) = pr (fun d => x (ix3 b t d)) (fun d => g (ix2 1 d)) (fun d n => w (ix3 1 d n)) n := by
  unfold proj1
  rw [proj_at]
  pointwise

theorem gelV_at (u : SV) (b : Fin 8) (t : Fin 32) (n : Fin 512) : gelV u (ix3 b t n) = gel (u (ix3 b t n)) := by
  pointwise [gelV, gel]
  rw [mul_assoc (u (ix3 b t n)) (u (ix3 b t n)) (u (ix3 b t n))]

theorem secQ_at (p : PV) (b : Fin 8) (t : Fin 32) (n : Fin 512) : secQ p (ix3 b t n) = p (ix3 b t ⟨n.val, by omega⟩) := by
  pointwise [secQ]
theorem secK_at (p : PV) (b : Fin 8) (t : Fin 32) (n : Fin 512) : secK p (ix3 b t n) = p (ix3 b t ⟨512 + n.val, by omega⟩) := by
  pointwise [secK]
theorem secV_at (p : PV) (b : Fin 8) (t : Fin 32) (n : Fin 512) : secV p (ix3 b t n) = p (ix3 b t ⟨1024 + n.val, by omega⟩) := by
  pointwise [secV]
theorem secU_at (p : PV) (b : Fin 8) (t : Fin 32) (n : Fin 512) : secU p (ix3 b t n) = p (ix3 b t ⟨1536 + n.val, by omega⟩) := by
  pointwise [secU]

/-- Row `32 b + t` is row `t` of batch `b`. -/
theorem rows_at (u : SV) (b : Fin 8) (t : Fin 32) (n : Fin 512) :
    rows u (ix2 ⟨32 * b.val + t.val, by omega⟩ n) = u (ix3 b t n) := by
  pointwise

theorem stack_at0 (a b : FVec Ideal S256x512 .f32) (r : Fin 256) (n : Fin 512) : stack a b (ix3 0 r n) = a (ix2 r n) := by
  pointwise [stack]
theorem stack_at1 (a b : FVec Ideal S256x512 .f32) (r : Fin 256) (n : Fin 512) : stack a b (ix3 1 r n) = b (ix2 r n) := by
  pointwise [stack]

theorem qry_at (p : PV) (b : Fin 8) (t : Fin 32) (n : Fin 512) :
    qry p (ix2 ⟨32 * b.val + t.val, by omega⟩ n) = p (ix3 b t ⟨n.val, by omega⟩) * Ideal.ofBits .f32 0x3E000000#32 := by
  have e : qry p (ix2 ⟨32 * b.val + t.val, by omega⟩ n)
      = rows (mulf (secQ p) (every 0x3E000000#32)) (ix2 ⟨32 * b.val + t.val, by omega⟩ n) := rfl
  rw [e, rows_at]
  pointwise
  rw [secQ_at]

theorem gat_at (p : PV) (b : Fin 8) (t : Fin 32) (n : Fin 512) :
    gat p (ix2 ⟨32 * b.val + t.val, by omega⟩ n) = gel (p (ix3 b t ⟨1536 + n.val, by omega⟩)) := by
  have e : gat p (ix2 ⟨32 * b.val + t.val, by omega⟩ n)
      = rows (gelV (secU p)) (ix2 ⟨32 * b.val + t.val, by omega⟩ n) := rfl
  rw [e, rows_at, gelV_at, secU_at]

end Cert.Proof.SR

end
-- ==== Proof.SI.Arr.lean ====
/-
  The arrays the two projection calls leave, over the extended reals: each input block read back to the program's arguments, and
  each result of the program equal to the reference's.
-/
module

public import proofs.«01_k».proof.Proof.SI.Host
public import proofs.«01_k».proof.Proof.SI.Out
public import proofs.«01_k».proof.Proof.SR.Val
public import Idealize.ShloMosaic.Lib.Pipeline.ValueKit

@[expose] public section

set_option maxRecDepth 16384

noncomputable section

namespace Cert.Proof.SI

open Cert.SampleInprojIdeal Cert.SampleInprojIdeal.Gen
open Cert.Proof.JI (hn pr gel)
open Idealize.ShloMosaic Idealize.ShloMosaic.TcCoe Idealize.ShloMosaic.Tactic

variable (m : (ℓ : Loc nD τ sig) → Buf (Elt Ideal) ℓ) (ρ : Dev nD → PrngReg) (c : Dev nD)

/-! ## The blocks' places -/

theorem ix0_0 : ∀ t : Fin cfg0.N, win0_0.index t = ![t.val, 0] := (by decide +kernel : ∀ t : Fin grid0.N, win0_0.index t = ![t.val, 0])
theorem ix0_1 : ∀ t : Fin cfg0.N, win0_1.index t = ![0, 0] := (by decide +kernel : ∀ t : Fin grid0.N, win0_1.index t = ![0, 0])
theorem ix0_2 : ∀ t : Fin cfg0.N, win0_2.index t = ![0, 0] := (by decide +kernel : ∀ t : Fin grid0.N, win0_2.index t = ![0, 0])
theorem ix0_6 : ∀ t : Fin cfg0.N, win0_6.index t = ![t.val, 0] := (by decide +kernel : ∀ t : Fin grid0.N, win0_6.index t = ![t.val, 0])
theorem ix0_7 : ∀ t : Fin cfg0.N, win0_7.index t = ![0, t.val, 0] := (by decide +kernel : ∀ t : Fin grid0.N, win0_7.index t = ![0, t.val, 0])
theorem ix0_8 : ∀ t : Fin cfg0.N, win0_8.index t = ![0, t.val, 0] := (by decide +kernel : ∀ t : Fin grid0.N, win0_8.index t = ![0, t.val, 0])
theorem ix0_11 : ∀ t : Fin cfg0.N, win0_11.index t = ![t.val, 0] := (by decide +kernel : ∀ t : Fin grid0.N, win0_11.index t = ![t.val, 0])
theorem ix1_0 : ∀ t : Fin cfg1.N, win1_0.index t = ![t.val, 0] := (by decide +kernel : ∀ t : Fin grid1.N, win1_0.index t = ![t.val, 0])
theorem ix1_1 : ∀ t : Fin cfg1.N, win1_1.index t = ![0, 0] := (by decide +kernel : ∀ t : Fin grid1.N, win1_1.index t = ![0, 0])
theorem ix1_2 : ∀ t : Fin cfg1.N, win1_2.index t = ![0, 0] := (by decide +kernel : ∀ t : Fin grid1.N, win1_2.index t = ![0, 0])
theorem ix1_6 : ∀ t : Fin cfg1.N, win1_6.index t = ![t.val, 0] := (by decide +kernel : ∀ t : Fin grid1.N, win1_6.index t = ![t.val, 0])
theorem ix1_7 : ∀ t : Fin cfg1.N, win1_7.index t = ![1, t.val, 0] := (by decide +kernel : ∀ t : Fin grid1.N, win1_7.index t = ![1, t.val, 0])
theorem ix1_8 : ∀ t : Fin cfg1.N, win1_8.index t = ![1, t.val, 0] := (by decide +kernel : ∀ t : Fin grid1.N, win1_8.index t = ![1, t.val, 0])
theorem ix1_11 : ∀ t : Fin cfg1.N, win1_11.index t = ![t.val, 0] := (by decide +kernel : ∀ t : Fin grid1.N, win1_11.index t = ![t.val, 0])

/-- A call has one point. The batch and token of row `r` of its block. -/
theorem t0_lt (t : Fin cfg0.N) : t.val < 1 := t.isLt
theorem t1_lt (t : Fin cfg1.N) : t.val < 1 := t.isLt
abbrev bt (r : Fin 256) : Fin 8 := ⟨r.val / 32, by omega⟩
abbrev tok (r : Fin 256) : Fin 32 := ⟨r.val % 32, by omega⟩
theorem place {k : ℕ} (h : k < 1) (r : Fin 256) : 32 * (bt r).val + (tok r).val = 256 * k + r.val := by
  show 32 * (r.val / 32) + r.val % 32 = _; omega

/-! ## The first call's blocks -/

theorem b0_x (t : Fin cfg0.N) (r : Fin 256) (d : Fin 1024) :
    (iblk0 (V5 m ρ) c 0 t : XB) (ix2 r d) = x0Arg m c (ix3 (bt r) (tok r) d) := by
  rw [← xHost_at (x0Arg m c), ← in0_x m ρ c]
  blk_simp [iblk0]
  congr 1
  have := place (t0_lt t) r
  blk_ext [ix0_0 t]

theorem b0_g (t : Fin cfg0.N) (d : Fin 1024) : (iblk0 (V5 m ρ) c 1 t : GB) (ix2 0 d) = gArg m c (ix2 0 d) := by
  rw [← gHost0_at (gArg m c), ← in0_g m ρ c]
  blk_simp [iblk0]
  congr 1
  blk_ext [ix0_1 t]

theorem b0_w (t : Fin cfg0.N) (d : Fin 1024) (n : Fin 2560) :
    (iblk0 (V5 m ρ) c 2 t : Vec Ideal S1024x2560 .bf16) (ix2 d n) = wArg m c (ix3 0 d n) := by
  rw [← wHost0_at (wArg m c), ← in0_w m ρ c]
  blk_simp [iblk0]
  congr 1
  blk_ext [ix0_2 t]

/-- The first layer's projection. -/
abbrev P0 : SR.PV := SR.proj0 (x0Arg m c) (gArg m c) (wArg m c)

theorem bent0 (t : Fin cfg0.N) (r : Fin 256) (n : Fin 2560) :
    bent (iblk0 (V5 m ρ) c 0 t) (iblk0 (V5 m ρ) c 1 t) (iblk0 (V5 m ρ) c 2 t) r n
      = P0 m c (ix3 (bt r) (tok r) n) := by
  refine Eq.trans ?_ (SR.proj0_at _ _ _ _ _ _).symm
  have e1 : row (iblk0 (V5 m ρ) c 0 t) r = fun d => x0Arg m c (ix3 (bt r) (tok r) d) := funext fun d => b0_x m ρ c t r d
  have e2 : gr (iblk0 (V5 m ρ) c 1 t) = fun d => gArg m c (ix2 0 d) := funext fun d => b0_g m ρ c t d
  unfold bent
  rw [e1, e2]
  refine Finset.sum_congr rfl fun d _ => congrArg _ (b0_w m ρ c t d n)

/-! ## The second call's -/

theorem b1_x (t : Fin cfg1.N) (r : Fin 256) (d : Fin 1024) :
    (iblk1 (V7 m ρ) c 0 t : XB) (ix2 r d) = x1Arg m c (ix3 (bt r) (tok r) d) := by
  rw [← xHost_at (x1Arg m c), ← in1_x m ρ c]
  blk_simp [iblk1]
  congr 1
  have := place (t1_lt t) r
  blk_ext [ix1_0 t]

theorem b1_g (t : Fin cfg1.N) (d : Fin 1024) : (iblk1 (V7 m ρ) c 1 t : GB) (ix2 0 d) = gArg m c (ix2 1 d) := by
  rw [← gHost1_at (gArg m c), ← in1_g m ρ c]
  blk_simp [iblk1]
  congr 1
  blk_ext [ix1_1 t]

theorem b1_w (t : Fin cfg1.N) (d : Fin 1024) (n : Fin 2560) :
    (iblk1 (V7 m ρ) c 2 t : Vec Ideal S1024x2560 .bf16) (ix2 d n) = wArg m c (ix3 1 d n) := by
  rw [← wHost1_at (wArg m c), ← in1_w m ρ c]
  blk_simp [iblk1]
  congr 1
  blk_ext [ix1_2 t]

/-- The second layer's projection. -/
abbrev P1 : SR.PV := SR.proj1 (x1Arg m c) (gArg m c) (wArg m c)

theorem bent1 (t : Fin cfg1.N) (r : Fin 256) (n : Fin 2560) :
    bent (iblk1 (V7 m ρ) c 0 t) (iblk1 (V7 m ρ) c 1 t) (iblk1 (V7 m ρ) c 2 t) r n
      = P1 m c (ix3 (bt r) (tok r) n) := by
  refine Eq.trans ?_ (SR.proj1_at _ _ _ _ _ _).symm
  have e1 : row (iblk1 (V7 m ρ) c 0 t) r = fun d => x1Arg m c (ix3 (bt r) (tok r) d) := funext fun d => b1_x m ρ c t r d
  have e2 : gr (iblk1 (V7 m ρ) c 1 t) = fun d => gArg m c (ix2 1 d) := funext fun d => b1_g m ρ c t d
  unfold bent
  rw [e1, e2]
  refine Finset.sum_congr rfl fun d _ => congrArg _ (b1_w m ρ c t d n)

/-! ## The arrays of one layer each -/

theorem arr0_q : (dat0 (V5 m ρ) c).arrAt 6 cfg0.N = SR.qry (P0 m c) := by
  refine (dat0 (V5 m ρ) c).arrAt_eq_of_covers 6 _ (by decide +kernel) fun t hf y => ?_
  blk_simp
  rw [after0_6]
  obtain ⟨r, n, rfl⟩ : ∃ (r : Fin 256) (n : Fin 512), y = ix2 r n := ⟨y 0, y 1, eq_ix2 y⟩
  refine (out6_at _ _ _ _ _ _ r n).trans ?_
  rw [bent0, ← SR.qry_at]
  congr 1
  have := place (t0_lt t) r
  blk_ext [ix0_6 t]

theorem arr0_u : (dat0 (V5 m ρ) c).arrAt 11 cfg0.N = SR.gat (P0 m c) := by
  refine (dat0 (V5 m ρ) c).arrAt_eq_of_covers 11 _ (by decide +kernel) fun t hf y => ?_
  blk_simp
  rw [after0_11]
  obtain ⟨r, n, rfl⟩ : ∃ (r : Fin 256) (n : Fin 512), y = ix2 r n := ⟨y 0, y 1, eq_ix2 y⟩
  refine (out11_at _ _ _ _ _ _ r n).trans ?_
  rw [bent0, ← SR.gat_at]
  congr 1
  have := place (t0_lt t) r
  blk_ext [ix0_11 t]

theorem arr1_q : (dat1 (V7 m ρ) c).arrAt 6 cfg1.N = SR.qry (P1 m c) := by
  refine (dat1 (V7 m ρ) c).arrAt_eq_of_covers 6 _ (by decide +kernel) fun t hf y => ?_
  blk_simp
  rw [after1_6]
  obtain ⟨r, n, rfl⟩ : ∃ (r : Fin 256) (n : Fin 512), y = ix2 r n := ⟨y 0, y 1, eq_ix2 y⟩
  refine (outs6_at r n _ c t).trans ?_
  rw [bent1, ← SR.qry_at]
  congr 1
  have := place (t1_lt t) r
  blk_ext [ix1_6 t]

theorem arr1_u : (dat1 (V7 m ρ) c).arrAt 11 cfg1.N = SR.gat (P1 m c) := by
  refine (dat1 (V7 m ρ) c).arrAt_eq_of_covers 11 _ (by decide +kernel) fun t hf y => ?_
  blk_simp
  rw [after1_11]
  obtain ⟨r, n, rfl⟩ : ∃ (r : Fin 256) (n : Fin 512), y = ix2 r n := ⟨y 0, y 1, eq_ix2 y⟩
  refine (outs11_at r n _ c t).trans ?_
  rw [bent1, ← SR.gat_at]
  congr 1
  have := place (t1_lt t) r
  blk_ext [ix1_11 t]

/-! ## The arrays of both layers -/

/-- The keys and values of both layers at a row of one. -/
theorem keys_at0 (b : Fin 8) (t : Fin 32) (n : Fin 512) :
    SR.keys (x0Arg m c) (x1Arg m c) (gArg m c) (wArg m c) (ix3 0 ⟨32 * b.val + t.val, by omega⟩ n) = P0 m c (ix3 b t ⟨512 + n.val, by omega⟩) := by
  unfold SR.keys; rw [SR.stack_at0, SR.rows_at, SR.secK_at]
theorem keys_at1 (b : Fin 8) (t : Fin 32) (n : Fin 512) :
    SR.keys (x0Arg m c) (x1Arg m c) (gArg m c) (wArg m c) (ix3 1 ⟨32 * b.val + t.val, by omega⟩ n) = P1 m c (ix3 b t ⟨512 + n.val, by omega⟩) := by
  unfold SR.keys; rw [SR.stack_at1, SR.rows_at, SR.secK_at]
theorem vals_at0 (b : Fin 8) (t : Fin 32) (n : Fin 512) :
    SR.vals (x0Arg m c) (x1Arg m c) (gArg m c) (wArg m c) (ix3 0 ⟨32 * b.val + t.val, by omega⟩ n) = P0 m c (ix3 b t ⟨1024 + n.val, by omega⟩) := by
  unfold SR.vals; rw [SR.stack_at0, SR.rows_at, SR.secV_at]
theorem vals_at1 (b : Fin 8) (t : Fin 32) (n : Fin 512) :
    SR.vals (x0Arg m c) (x1Arg m c) (gArg m c) (wArg m c) (ix3 1 ⟨32 * b.val + t.val, by omega⟩ n) = P1 m c (ix3 b t ⟨1024 + n.val, by omega⟩) := by
  unfold SR.vals; rw [SR.stack_at1, SR.rows_at, SR.secV_at]

/-- The first call leaves the first layer's keys and values right. -/
theorem arr0_k (i : S2x256x512.Idx) (h : (i 0).val = 0) :
    (dat0 (V5 m ρ) c).arrAt 7 cfg0.N i = SR.keys (x0Arg m c) (x1Arg m c) (gArg m c) (wArg m c) i := by
  refine ((dat0 (V5 m ρ) c).arrAt_forall_of_covers 7
    (fun i v => (i 0).val = 0 → v = SR.keys (x0Arg m c) (x1Arg m c) (gArg m c) (wArg m c) i) (by decide +kernel) (fun t hf y => ?_) i) h
  intro h0
  blk_simp at h0 ⊢
  rw [after0_7]
  have hy : (y 0).val = 0 := by simpa [ix0_7 t] using h0
  obtain ⟨r, n, rfl⟩ : ∃ (r : Fin 256) (n : Fin 512), y = ix3 0 r n := ⟨y 1, y 2, (eq_ix3 y).trans (by congr 1; exact Fin.ext hy)⟩
  refine (out7_at _ _ _ _ _ _ r n).trans ?_
  rw [bent0, ← keys_at0]
  congr 1
  have := place (t0_lt t) r
  blk_ext [ix0_7 t]

theorem arr0_v (i : S2x256x512.Idx) (h : (i 0).val = 0) :
    (dat0 (V5 m ρ) c).arrAt 8 cfg0.N i = SR.vals (x0Arg m c) (x1Arg m c) (gArg m c) (wArg m c) i := by
  refine ((dat0 (V5 m ρ) c).arrAt_forall_of_covers 8
    (fun i v => (i 0).val = 0 → v = SR.vals (x0Arg m c) (x1Arg m c) (gArg m c) (wArg m c) i) (by decide +kernel) (fun t hf y => ?_) i) h
  intro h0
  blk_simp at h0 ⊢
  rw [after0_8]
  have hy : (y 0).val = 0 := by simpa [ix0_8 t] using h0
  obtain ⟨r, n, rfl⟩ : ∃ (r : Fin 256) (n : Fin 512), y = ix3 0 r n := ⟨y 1, y 2, (eq_ix3 y).trans (by congr 1; exact Fin.ext hy)⟩
  refine (out8_at _ _ _ _ _ _ r n).trans ?_
  rw [bent0, ← vals_at0]
  congr 1
  have := place (t0_lt t) r
  blk_ext [ix0_8 t]

/-- The second call writes the second layer's and keeps the first's. -/
theorem arr1_k : (dat1 (V7 m ρ) c).arrAt 7 cfg1.N = SR.keys (x0Arg m c) (x1Arg m c) (gArg m c) (wArg m c) := by
  refine (dat1 (V7 m ρ) c).arrAt_eq_of_coversWhere_of_agree 7 _ (fun β => β (0 : Fin 3) = 1) (by decide +kernel) (fun t hf y => ?_) (fun j hj => ?_)
  · blk_simp
    rw [after1_7]
    obtain ⟨r, n, rfl⟩ : ∃ (r : Fin 256) (n : Fin 512), y = ix3 0 r n := ⟨y 1, y 2, (eq_ix3 y).trans (by
      congr 1; exact Fin.ext (by have : (y 0).val < 1 := (y 0).isLt; show (y 0).val = 0; omega))⟩
    refine (outs7_at r n _ c t).trans ?_
    rw [bent1, ← keys_at1]
    congr 1
    have := place (t1_lt t) r
    blk_ext [ix1_7 t]
  · have h0 : (j 0).val = 0 := by
      have h2 : (j 0).val < 2 := (j 0).isLt
      have h1 : ¬ (j 0).val / 1 = 1 := hj
      omega
    exact (congrFun (in1_k m ρ c) j).trans (arr0_k m ρ c j h0)

theorem arr1_v : (dat1 (V7 m ρ) c).arrAt 8 cfg1.N = SR.vals (x0Arg m c) (x1Arg m c) (gArg m c) (wArg m c) := by
  refine (dat1 (V7 m ρ) c).arrAt_eq_of_coversWhere_of_agree 8 _ (fun β => β (0 : Fin 3) = 1) (by decide +kernel) (fun t hf y => ?_) (fun j hj => ?_)
  · blk_simp
    rw [after1_8]
    obtain ⟨r, n, rfl⟩ : ∃ (r : Fin 256) (n : Fin 512), y = ix3 0 r n := ⟨y 1, y 2, (eq_ix3 y).trans (by
      congr 1; exact Fin.ext (by have : (y 0).val < 1 := (y 0).isLt; show (y 0).val = 0; omega))⟩
    refine (outs8_at r n _ c t).trans ?_
    rw [bent1, ← vals_at1]
    congr 1
    have := place (t1_lt t) r
    blk_ext [ix1_8 t]
  · have h0 : (j 0).val = 0 := by
      have h2 : (j 0).val < 2 := (j 0).isLt
      have h1 : ¬ (j 0).val / 1 = 1 := hj
      omega
    exact (congrFun (in1_v m ρ c) j).trans (arr0_v m ρ c j h0)

/-! ## The results -/

theorem end_k : W8 m ρ c (Proc.devRef .tc main_v32_1) = SR.keys (x0Arg m c) (x1Arg m c) (gArg m c) (wArg m c) :=
  (W8_arr m ρ c 7).trans (arr1_k m ρ c)
theorem end_v : W8 m ρ c (Proc.devRef .tc main_v32_2) = SR.vals (x0Arg m c) (x1Arg m c) (gArg m c) (wArg m c) :=
  (W8_arr m ρ c 8).trans (arr1_v m ρ c)
theorem end_q0 : W8 m ρ c (Proc.devRef .tc main_v23_0) = SR.qry (P0 m c) :=
  ((W8_of_ne m ρ c main_v23_0 (by decide)).trans (W7_of m ρ c main_v23_0 (by decide))).trans ((W6_arr m ρ c 6).trans (arr0_q m ρ c))
theorem end_q1 : W8 m ρ c (Proc.devRef .tc main_v32_0) = SR.qry (P1 m c) :=
  (W8_arr m ρ c 6).trans (arr1_q m ρ c)
theorem end_u0 : W8 m ρ c (Proc.devRef .tc main_v23_5) = SR.gat (P0 m c) :=
  ((W8_of_ne m ρ c main_v23_5 (by decide)).trans (W7_of m ρ c main_v23_5 (by decide))).trans ((W6_arr m ρ c 11).trans (arr0_u m ρ c))
theorem end_u1 : W8 m ρ c (Proc.devRef .tc main_v32_5) = SR.gat (P1 m c) :=
  (W8_arr m ρ c 11).trans (arr1_u m ρ c)

end Cert.Proof.SI

end
-- ==== Proof.SR.Run.lean ====
/-
  The reference of the projections run: its results are the ones named in `SR.Val`.
-/
module

public import proofs.«01_k».proof.Proof.SR.Val
public import proofs.«01_k».proof.Proof.Gen.SampleInprojReferenceIdeal.Run

@[expose] public section

set_option maxRecDepth 16384

noncomputable section

namespace Cert.Proof.SR

open Cert.SampleInprojReferenceIdeal Cert.SampleInprojReferenceIdeal.Gen
open Idealize.ShloMosaic Idealize.ShloMosaic.TcCoe Idealize.SL.Sem

variable (m : (ℓ : Loc nD τ sig) → Buf (Elt Ideal) ℓ) (ρ : Dev nD → PrngReg) (c : Dev nD)

abbrev x0Arg : XV := m ((c : Thread nD τ).loc main_arg0)
abbrev x1Arg : XV := m ((c : Thread nD τ).loc main_arg1)
abbrev gArg : GV := m ((c : Thread nD τ).loc main_arg2)
abbrev wArg : WV := m ((c : Thread nD τ).loc main_arg3)

/-- The reference ends with its results, its arguments unchanged. -/
theorem run : θ_run defs (onTc (τ := τ) (main (F := Ideal))) ⟨m, fun _ => 0, ρ⟩ fun r => ∀ c : Dev nD,
    (r.2.mem ((c.tc : Thread nD τ).loc main_v90) = keys (x0Arg m c) (x1Arg m c) (gArg m c) (wArg m c)
      ∧ r.2.mem ((c.tc : Thread nD τ).loc main_v93) = vals (x0Arg m c) (x1Arg m c) (gArg m c) (wArg m c)
      ∧ r.2.mem ((c.tc : Thread nD τ).loc main_v28) = qry (proj0 (x0Arg m c) (gArg m c) (wArg m c))
      ∧ r.2.mem ((c.tc : Thread nD τ).loc main_v72) = qry (proj1 (x1Arg m c) (gArg m c) (wArg m c))
      ∧ r.2.mem ((c.tc : Thread nD τ).loc main_v43) = gat (proj0 (x0Arg m c) (gArg m c) (wArg m c))
      ∧ r.2.mem ((c.tc : Thread nD τ).loc main_v87) = gat (proj1 (x1Arg m c) (gArg m c) (wArg m c)))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.SampleInprojReferenceIdeal.Value.run (F := Ideal) m ρ)
  obtain ⟨h1, h2, h3, h4, h5, h6, hargs⟩ := h c
  refine ⟨⟨h1.trans ?_, h2.trans ?_, h3.trans ?_, h4.trans ?_, h5.trans ?_, h6.trans ?_⟩, hargs⟩
  · unfold keys stack secK proj0 proj1 proj rmsn gain; rfl
  · unfold vals stack secV proj0 proj1 proj rmsn gain; rfl
  · unfold qry secQ proj0 proj rmsn gain; rfl
  · unfold qry secQ proj1 proj rmsn gain; rfl
  · unfold Cert.SampleInprojReferenceIdeal.Value.res_main_v43 gat gelV secU proj0 proj rmsn gain; rfl
  · unfold Cert.SampleInprojReferenceIdeal.Value.res_main_v87 gat gelV secU proj1 proj rmsn gain; rfl

end Cert.Proof.SR

end
-- ==== Proof.EI.Common.lean ====
/-
  The expert call's body as plain functions: the two weight matrices of a block's expert as the body keeps them between blocks
  (cast, and the columns of the first interleaved by chunks of 256), and the block the body writes from them.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pointwise

@[expose] public section

set_option maxRecDepth 16384

noncomputable section

namespace Cert.Proof.EI

open Cert.ExpertsIdeal Cert.ExpertsIdeal.Gen
open Idealize.ShloMosaic Idealize.ShloMosaic.TcCoe

variable {F : FTy → Type} [FloatOps F]

/-- Where column `c` of the kept matrix comes from: each 512 columns are 256 gate columns, then the 256 linear ones. -/
def col (c : Fin 2048) : Fin 2048 := ⟨c.val / 512 * 256 + c.val % 256 + c.val % 512 / 256 * 1024, by omega⟩

/-- The first weight matrix as kept. -/
def gu (x : Vec F S1x1x1024x2048 .f32) : Vec F S1024x2048 .bf16 :=
  fun y => FloatOps.truncf .bf16 bitsLt_bf16_f32 (x (ix4 0 0 (y 0) (col (y 1))))

/-- The second weight matrix as kept. -/
def wdc (x : Vec F S1x1x1024x1024 .f32) : Vec F S1024x1024 .bf16 :=
  fun y => FloatOps.truncf .bf16 bitsLt_bf16_f32 (x (ix4 0 0 (y 0) (y 1)))

theorem pay3_at (v : Vec F S1x1x128x256 .f32) (x : S128x256.Idx) :
    k0_pay3 v x = FloatOps.truncf .bf16 bitsLt_bf16_f32 (v (ix4 0 0 (x 0) (x 1))) := by
  pointwise [k0_pay3]

theorem pay11_at (v : Vec F S1x1x128x1024 .f32) (x : S128x1024.Idx) :
    k0_pay11 v x = FloatOps.truncf .bf16 bitsLt_bf16_f32 (v (ix4 0 0 (x 0) (x 1))) := by
  pointwise [k0_pay11]

/-- A rectangle of a vector. -/
abbrev sub {s : Shape} {e : EltTy} (x : Vec F s e) (off size : Fin s.rank → ℕ) (inb : ∀ a, off a + size a ≤ s.size a) :
    Vec F (Rect.unit (s := s) off size inb).shape e := fun y => x ((Rect.unit (s := s) off size inb).toLoadRect.idx y)

/-- The columns `512·j …` of the first kept matrix. -/
abbrev g0 (s : Vec F S1024x2048 .bf16) : Vec F S1024x512 .bf16 := sub s ![0, 0] S1024x512.size inb_S1024x2048_S1024x512_0_0
abbrev g1 (s : Vec F S1024x2048 .bf16) : Vec F S1024x512 .bf16 := sub s ![0, 512] S1024x512.size inb_S1024x2048_S1024x512_0_512
abbrev g2 (s : Vec F S1024x2048 .bf16) : Vec F S1024x512 .bf16 := sub s ![0, 1024] S1024x512.size inb_S1024x2048_S1024x512_0_1024
abbrev g3 (s : Vec F S1024x2048 .bf16) : Vec F S1024x512 .bf16 := sub s ![0, 1536] S1024x512.size inb_S1024x2048_S1024x512_0_1536

/-- The rows `256·j …` of the second kept matrix. -/
abbrev d0 (s : Vec F S1024x1024 .bf16) : Vec F S256x1024 .bf16 := sub s ![0, 0] S256x1024.size inb_S1024x1024_S256x1024_0_0
abbrev d1 (s : Vec F S1024x1024 .bf16) : Vec F S256x1024 .bf16 := sub s ![256, 0] S256x1024.size inb_S1024x1024_S256x1024_256_0
abbrev d2 (s : Vec F S1024x1024 .bf16) : Vec F S256x1024 .bf16 := sub s ![512, 0] S256x1024.size inb_S1024x1024_S256x1024_512_0
abbrev d3 (s : Vec F S1024x1024 .bf16) : Vec F S256x1024 .bf16 := sub s ![768, 0] S256x1024.size inb_S1024x1024_S256x1024_768_0

/-- Chunks of the first bias. -/
abbrev b0 (s : Vec F S1x1x1x2048 .f32) : Vec F S1x1x1x256 .f32 := sub s ![0, 0, 0, 0] S1x1x1x256.size inb_S1x1x1x2048_S1x1x1x256_0_0_0_0
abbrev b1 (s : Vec F S1x1x1x2048 .f32) : Vec F S1x1x1x256 .f32 := sub s ![0, 0, 0, 256] S1x1x1x256.size inb_S1x1x1x2048_S1x1x1x256_0_0_0_256
abbrev b2 (s : Vec F S1x1x1x2048 .f32) : Vec F S1x1x1x256 .f32 := sub s ![0, 0, 0, 512] S1x1x1x256.size inb_S1x1x1x2048_S1x1x1x256_0_0_0_512
abbrev b3 (s : Vec F S1x1x1x2048 .f32) : Vec F S1x1x1x256 .f32 := sub s ![0, 0, 0, 768] S1x1x1x256.size inb_S1x1x1x2048_S1x1x1x256_0_0_0_768
abbrev c0 (s : Vec F S1x1x1x2048 .f32) : Vec F S1x1x1x256 .f32 := sub s ![0, 0, 0, 1024] S1x1x1x256.size inb_S1x1x1x2048_S1x1x1x256_0_0_0_1024
abbrev c1 (s : Vec F S1x1x1x2048 .f32) : Vec F S1x1x1x256 .f32 := sub s ![0, 0, 0, 1280] S1x1x1x256.size inb_S1x1x1x2048_S1x1x1x256_0_0_0_1280
abbrev c2 (s : Vec F S1x1x1x2048 .f32) : Vec F S1x1x1x256 .f32 := sub s ![0, 0, 0, 1536] S1x1x1x256.size inb_S1x1x1x2048_S1x1x1x256_0_0_0_1536
abbrev c3 (s : Vec F S1x1x1x2048 .f32) : Vec F S1x1x1x256 .f32 := sub s ![0, 0, 0, 1792] S1x1x1x256.size inb_S1x1x1x2048_S1x1x1x256_0_0_0_1792

/-- The sums after one, two and three chunks. -/
def acc1 (x : Vec F S512x1024 .bf16) (s : Vec F S1024x2048 .bf16) (b : Vec F S1x1x1x2048 .f32) (d : Vec F S1024x1024 .bf16) : FVec F S512x1024 .f32 :=
  k0_pay12 x (g0 s) (b0 b) (c0 b) (d0 d)
def acc2 (x : Vec F S512x1024 .bf16) (s : Vec F S1024x2048 .bf16) (b : Vec F S1x1x1x2048 .f32) (d : Vec F S1024x1024 .bf16) : FVec F S512x1024 .f32 :=
  k0_pay15 (acc1 x s b d) (k0_pay13 x (g1 s)) (k0_pay14 x (g1 s)) (b1 b) (c1 b) (d1 d)
def acc3 (x : Vec F S512x1024 .bf16) (s : Vec F S1024x2048 .bf16) (b : Vec F S1x1x1x2048 .f32) (d : Vec F S1024x1024 .bf16) : FVec F S512x1024 .f32 :=
  k0_pay20 (acc2 x s b d) (k0_pay17 x (g2 s) (b2 b)) (k0_pay18 x (g2 s)) (k0_pay19 (c2 b)) (d2 d)

/-- The block a valid point writes. -/
def ffn (x : Vec F S512x1024 .bf16) (s : Vec F S1024x2048 .bf16) (b : Vec F S1x1x1x2048 .f32) (d : Vec F S1024x1024 .bf16)
    (e : Vec F S1x1x1x1024 .f32) : Vec F S512x1024 .bf16 :=
  k0_pay1 (acc3 x s b d) (k0_pay22 x (g3 s) (b3 b)) (k0_pay23 x (g3 s) (c3 b)) (k0_pay24 (F := F)) (d3 d) e

end Cert.Proof.EI

end
-- ==== Proof.EI.Tables.lean ====
/-
  The two tables the expert call is told of: the expert of each block of 512 rows and whether the block holds rows of an expert at all,
  as functions of the experts' ends (the running sum of their row counts, each rounded up to whole blocks). Whatever the ends are, the
  first table names one of the 32 experts, the second holds zeros and ones, and the ones come first.
-/
module

public import proofs.«01_k».proof.Proof.EI.Common

@[expose] public section

set_option maxRecDepth 16384

noncomputable section

namespace Cert.Proof.EI

open Cert.ExpertsIdeal Cert.ExpertsIdeal.Gen
open Idealize.ShloMosaic Idealize.ShloMosaic.TcCoe

variable {F : FTy → Type} [FloatOps F]

/-- The first row of each block. -/
def starts : S322.Idx → BitVec 32 := muli (iotaInDim S322 32 0) (broadcastInDim S322 ![] bcast_S_S322 (constantI S_ 32 512#32))

/-- Whether expert `e` ends at or before the first row of block `b`, as a word. -/
def ended (p : S32.Idx → BitVec 32) : S322x32.Idx → BitVec 32 :=
  extui 32 (cmpi .sle (broadcastInDim S322x32 ![0, 1] bcast_S1x32_S322x32_0_1 (broadcastInDim S1x32 ![1] bcast_S32_S1x32_1 p))
    (broadcastInDim S322x32 ![0, 1] bcast_S322x1_S322x32_0_1 (broadcastInDim S322x1 ![0] bcast_S322_S322x1_0 starts))) natLt_1_32

/-- The expert of each block. -/
def be (p : S32.Idx → BitVec 32) : S322.Idx → BitVec 32 :=
  minsi (Host.reduce IntOp.addi (ended p) (constantI S_ 32 0#32) reducesTo_S322x32_S322_d1 h_S_)
    (broadcastInDim S322 ![] bcast_S_S322 (constantI S_ 32 31#32))

/-- Whether each block holds rows of an expert, as a word. -/
def bv (p : S32.Idx → BitVec 32) : S322.Idx → BitVec 32 :=
  extui 32 (cmpi .slt starts (broadcastInDim S322 ![] bcast_S_S322
    (shapeCast S_ (extractStridedSlice S1 ![31] p slices_S32_S1_31) shapeCasts_S1_S_))) natLt_1_32

theorem starts_at (x : S322.Idx) : starts x = BitVec.ofNat 32 ((x 0).val * 512) := by
  pointwise [starts]
  simp [IntOp.muli, BitVec.ofNat_mul]

theorem ended_or (p : S32.Idx → BitVec 32) (x : S322x32.Idx) : ended p x = 0#32 ∨ ended p x = 1#32 := by
  have key : ∀ b : BitVec 1, b.setWidth 32 = 0#32 ∨ b.setWidth 32 = 1#32 := by decide
  exact key _

theorem bv_or (p : S32.Idx → BitVec 32) (x : S322.Idx) : bv p x = 0#32 ∨ bv p x = 1#32 := by
  have key : ∀ b : BitVec 1, b.setWidth 32 = 0#32 ∨ b.setWidth 32 = 1#32 := by decide
  exact key _

theorem bv_at (p : S32.Idx → BitVec 32) (x : S322.Idx) :
    bv p x = if (BitVec.ofNat 32 ((x 0).val * 512)).slt (p (ix1 31)) then 1#32 else 0#32 := by
  rw [← starts_at]
  pointwise [bv]
  unfold IntOp.cmpi
  cases (starts x).slt (p (ix1 31)) <;> rfl

/-- A sum of words none of which is over one. -/
theorem fold_le {ι : Type} (f : ι → BitVec 32) (hf : ∀ i, f i = 0#32 ∨ f i = 1#32) (l : List ι) (a : BitVec 32)
    (h : a.toNat + l.length < 2 ^ 32) : (l.foldl (fun r n => IntOp.addi r (f n)) a).toNat ≤ a.toNat + l.length := by
  induction l generalizing a with
  | nil => simp
  | cons i l ih =>
    simp only [List.foldl_cons, List.length_cons] at h ⊢
    have h1 : (IntOp.addi a (f i)).toNat ≤ a.toNat + 1 := by
      unfold IntOp.addi
      rcases hf i with e | e <;> rw [e, BitVec.toNat_add]
      · simp; omega
      · rw [Nat.mod_eq_of_lt (by simp; omega)]; simp
    exact (ih _ (by omega)).trans (by omega)

theorem be_lt (p : S32.Idx → BitVec 32) (x : S322.Idx) : (be p x).toNat < 32 := by
  have h1 : ∀ s : BitVec 32, s.toNat < 2 ^ 31 → (IntOp.minsi s 31#32).toNat < 32 := by
    intro s hs
    unfold IntOp.minsi
    split
    · rename_i h
      simp only [BitVec.slt, decide_eq_true_eq, BitVec.toInt_eq_toNat_cond] at h
      rw [if_pos (by omega), if_pos (by decide)] at h
      have h31 : (31#32).toNat = 31 := rfl
      omega
    · decide
  refine h1 _ ?_
  have hl : ((List.finRange S322x32.numel).filter fun n => reducesTo_S322x32_S322_d1.drop (S322x32.rowMajor.symm n) = x).length ≤ 10304 :=
    (List.length_filter_le _ _).trans (le_of_eq (by rw [List.length_finRange]; decide))
  have h0 : ((constantI S_ 32 0#32 : S_.Idx → BitVec 32) (Shape.Idx.first h_S_)).toNat = 0 := rfl
  refine lt_of_le_of_lt (fold_le (fun n => ended p (S322x32.rowMajor.symm n)) (fun n => ended_or p _) _ _ ?_) ?_
  all_goals omega

/-- The blocks of rows come before the others. -/
theorem bv_pred (p : S32.Idx → BitVec 32) (x y : S322.Idx) (h : (y 0).val + 1 = (x 0).val) (hx : bv p x = 1#32) : bv p y = 1#32 := by
  rw [bv_at] at hx ⊢
  have hx1 : (x 0).val < 322 := (x 0).isLt
  split at hx
  case isFalse => exact absurd hx (by decide)
  rename_i h1
  rw [if_pos]
  simp only [BitVec.slt, decide_eq_true_eq, BitVec.toInt_ofNat] at h1 ⊢
  refine lt_trans ?_ h1
  have e : ∀ n : ℕ, n < 322 → (BitVec.ofNat 32 (n * 512)).toInt = n * 512 := by
    intro n hn
    rw [BitVec.toInt_eq_toNat_cond, BitVec.toNat_ofNat, Nat.mod_eq_of_lt (by omega), if_pos (by omega)]
    push_cast; rfl
  rw [e _ (by omega), e _ hx1]
  omega

end Cert.Proof.EI

end
-- ==== Proof.E.Tables.lean ====
/-
  The two tables the expert call is told of: the expert of each block of 512 rows and whether the block holds rows of an expert at all,
  as functions of the experts' ends (the running sum of their row counts, each rounded up to whole blocks). Whatever the ends are, the
  first table names one of the 32 experts, the second holds zeros and ones, and the ones come first.
-/
module

public import proofs.«01_k».proof.Proof.E.Common
public import proofs.«01_k».proof.Proof.EI.Tables

@[expose] public section

set_option maxRecDepth 16384

noncomputable section

namespace Cert.Proof.E

open Cert.Experts Cert.Experts.Gen
open Idealize.ShloMosaic Idealize.ShloMosaic.TcCoe

variable {F : FTy → Type} [FloatOps F]

/-- The first row of each block. -/
def starts : S322.Idx → BitVec 32 := muli (iotaInDim S322 32 0) (broadcastInDim S322 ![] bcast_S_S322 (constantI S_ 32 512#32))

/-- Whether expert `e` ends at or before the first row of block `b`, as a word. -/
def ended (p : S32.Idx → BitVec 32) : S322x32.Idx → BitVec 32 :=
  extui 32 (cmpi .sle (broadcastInDim S322x32 ![0, 1] bcast_S1x32_S322x32_0_1 (broadcastInDim S1x32 ![1] bcast_S32_S1x32_1 p))
    (broadcastInDim S322x32 ![0, 1] bcast_S322x1_S322x32_0_1 (broadcastInDim S322x1 ![0] bcast_S322_S322x1_0 starts))) natLt_1_32

/-- The expert of each block. -/
def be (p : S32.Idx → BitVec 32) : S322.Idx → BitVec 32 :=
  minsi (Host.reduce IntOp.addi (ended p) (constantI S_ 32 0#32) reducesTo_S322x32_S322_d1 h_S_)
    (broadcastInDim S322 ![] bcast_S_S322 (constantI S_ 32 31#32))

/-- Whether each block holds rows of an expert, as a word. -/
def bv (p : S32.Idx → BitVec 32) : S322.Idx → BitVec 32 :=
  extui 32 (cmpi .slt starts (broadcastInDim S322 ![] bcast_S_S322
    (shapeCast S_ (extractStridedSlice S1 ![31] p slices_S32_S1_31) shapeCasts_S1_S_))) natLt_1_32

theorem starts_at (x : S322.Idx) : starts x = BitVec.ofNat 32 ((x 0).val * 512) := EI.starts_at x

theorem bv_or (p : S32.Idx → BitVec 32) (x : S322.Idx) : bv p x = 0#32 ∨ bv p x = 1#32 := EI.bv_or p x

theorem bv_at (p : S32.Idx → BitVec 32) (x : S322.Idx) :
    bv p x = if (BitVec.ofNat 32 ((x 0).val * 512)).slt (p (ix1 31)) then 1#32 else 0#32 := EI.bv_at p x

theorem be_lt (p : S32.Idx → BitVec 32) (x : S322.Idx) : (be p x).toNat < 32 := EI.be_lt p x

/-- The blocks of rows come before the others. -/
theorem bv_pred (p : S32.Idx → BitVec 32) (x y : S322.Idx) (h : (y 0).val + 1 = (x 0).val) (hx : bv p x = 1#32) : bv p y = 1#32 :=
  EI.bv_pred p x y h hx

end Cert.Proof.E

end
-- ==== Proof.EI.Loop.lean ====
/-
  The loop of the expert call's body: eight trips, each casting 128 rows of the two weight matrices into the kept ones.
-/
module

public import proofs.«01_k».proof.Proof.EI.Common
public import Idealize.ShloMosaic.Lib.Exec

@[expose] public section

set_option maxRecDepth 16384

noncomputable section

namespace Cert.Proof.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.nat

theorem pay_eq (k : Fin k0_t1_loop.trips) : k0_pay4 (F := F) = k0_pay3 := rfl

/-- A piece of 256 columns: the rows `128·k …` of the columns from `a`, cast, are the kept matrix's columns from `b`. -/
theorem piece9 {arg4 : Memref sig .tc .vmem S1x1x1024x2048 .f32} (harg4 : arg4.IsWhole) (x4 : Vec F S1x1x1024x2048 .f32) (k a b : ℕ) (hk : k < 8)
    (ha : ∀ n : Fin 2048, ∀ m : ℕ, m < 256 → n.val = b + m → (col n).val = a + m)
    (off4 : Fin 4 → ℕ) (i4 : ∀ t, off4 t + S1x1x128x256.size t ≤ S1x1x1024x2048.size t) (h4 : off4 = ![0, 0, 128 * k, a])
    (off9 : Fin 2 → ℕ) (i9 : ∀ t, off9 t + S128x256.size t ≤ S1024x2048.size t) (h9 : off9 = ![128 * k, b]) (x : S128x256.Idx) :
    k0_pay3 (arg4.view.readAt (Elt F) (Rect.unit (s := S1x1x1024x2048) off4 S1x1x128x256.size i4).toLoadRect (harg4.unread x4)) x
      = gu x4 ((Rect.unit (s := S1024x2048) off9 S128x256.size i9).emb x) := by
  subst h4 h9
  rw [pay3_at, harg4.readAt_unread]
  unfold gu
  congr 2
  funext t
  apply Fin.ext
  match t with
  | ⟨0, _⟩ => rfl
  | ⟨1, _⟩ => rfl
  | ⟨2, _⟩ => rfl
  | ⟨3, _⟩ =>
    refine (?_ : a + 1 * (x 1).val = _).trans (ha _ (x 1).val (x 1).isLt ?_).symm
    · omega
    · show b + 1 * (x 1).val = _; omega

theorem piece10 {arg6 : Memref sig .tc .vmem S1x1x1024x1024 .f32} (harg6 : arg6.IsWhole) (x6 : Vec F S1x1x1024x1024 .f32) (k : ℕ) (hk : k < 8)
    (off6 : Fin 4 → ℕ) (i6 : ∀ t, off6 t + S1x1x128x1024.size t ≤ S1x1x1024x1024.size t) (h6 : off6 = ![0, 0, 128 * k, 0])
    (off10 : Fin 2 → ℕ) (i10 : ∀ t, off10 t + S128x1024.size t ≤ S1024x1024.size t) (h10 : off10 = ![128 * k, 0]) (x : S128x1024.Idx) :
    k0_pay11 (arg6.view.readAt (Elt F) (Rect.unit (s := S1x1x1024x1024) off6 S1x1x128x1024.size i6).toLoadRect (harg6.unread x6)) x
      = wdc x6 ((Rect.unit (s := S1024x1024) off10 S128x1024.size i10).emb x) := by
  subst h6 h10
  rw [pay11_at, harg6.readAt_unread]
  unfold wdc
  congr 2
  funext t
  apply Fin.ext
  match t with
  | ⟨0, _⟩ => rfl
  | ⟨1, _⟩ => rfl
  | ⟨2, _⟩ => rfl
  | ⟨3, _⟩ => rfl

/-- Rows already cast lie in none of the trip's pieces. -/
theorem row9 {k b : ℕ} {y : S1024x2048.Idx} (hlo : (y 0).val < 128 * k) {off : Fin 2 → ℕ} (i9 : ∀ t, off t + S128x256.size t ≤ S1024x2048.size t)
    (h : off = ![128 * k, b]) : y ∉ (Rect.unit (s := S1024x2048) off S128x256.size i9).set := by
  subst h
  intro hm
  have h0 : 128 * k ≤ (y 0).val := (Rect.mem_set_unit.mp hm 0).1
  omega

theorem row10 {k b : ℕ} {y : S1024x1024.Idx} (hlo : (y 0).val < 128 * k) {off : Fin 2 → ℕ} (i10 : ∀ t, off t + S128x1024.size t ≤ S1024x1024.size t)
    (h : off = ![128 * k, b]) : y ∉ (Rect.unit (s := S1024x1024) off S128x1024.size i10).set := by
  subst h
  intro hm
  have h0 : 128 * k ≤ (y 0).val := (Rect.mem_set_unit.mp hm 0).1
  omega

/-- A trip's rows lie in its pieces, by columns. -/
theorem mem9 {k b : ℕ} {y : S1024x2048.Idx} (hlo : ¬(y 0).val < 128 * k) (hy : (y 0).val < 128 * (k + 1)) (hb : (y 1).val / 256 * 256 = b)
    {off : Fin 2 → ℕ} (i9 : ∀ t, off t + S128x256.size t ≤ S1024x2048.size t) (h : off = ![128 * k, b]) :
    y ∈ (Rect.unit (s := S1024x2048) off S128x256.size i9).set := by
  subst h
  refine Rect.mem_set_unit.mpr fun t => ?_
  match t with
  | ⟨0, _⟩ => exact ⟨by show 128 * k ≤ (y 0).val; omega, by show (y 0).val < 128 * k + 128; omega⟩
  | ⟨1, _⟩ => exact ⟨by show b ≤ (y 1).val; omega, by show (y 1).val < b + 256; omega⟩

section Trip

variable (c : Dev nD) (i : grid0.Coords) (arg1 : Memref sig .tc .smem S322 .i32) (harg1 : arg1.IsWhole) (arg2 : Memref sig .tc .smem S322 .i32) (harg2 : arg2.IsWhole) (arg3 : Memref sig .tc .vmem S512x1024 .bf16) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
  (x4 : Vec F S1x1x1024x2048 .f32) (x6 : Vec F S1x1x1024x1024 .f32)

/-- Before trip `k`: the rows below `128·k` of the kept matrices are the cast ones. -/
def inv (k : ℕ) (_ : Unit) : sProp 𝕄 :=
  iprop((arg4.view.loc (c : Thread nD τ) ↦[arg4.view.set]{fullShare} harg4.unread x4)
    ∗ (arg6.view.loc (c : Thread nD τ) ↦[arg6.view.set]{fullShare} harg6.unread x6)
    ∗ (∃ f, (arg9.view.loc (c : Thread nD τ) ↦[arg9.view.set]{fullShare} f) ∗ ⌜∀ y : S1024x2048.Idx, (y 0).val < 128 * k → arg9.view.read (Elt F) f y = gu x4 y⌝)
    ∗ (∃ f, (arg10.view.loc (c : Thread nD τ) ↦[arg10.view.set]{fullShare} f) ∗ ⌜∀ y : S1024x1024.Idx, (y 0).val < 128 * k → arg10.view.read (Elt F) f y = wdc x6 y⌝))

set_option maxHeartbeats 2000000 in
theorem step (E : Set ℕ) (k : Fin k0_t1_loop.trips) (acc : Unit) :
    inv c arg4 harg4 arg6 harg6 arg9 arg10 x4 x6 k.val acc
      ⊢ wp frame (wpE (defs₀ (F := F)) 𝒱₀ (c : Thread nD τ) none) E (k0_t1_body (F := F) i arg1 harg1 arg2 harg2 arg3 harg3 arg4 harg4 arg5 harg5 arg6 harg6 arg7 harg7 arg8 harg8 arg9 harg9 arg10 harg10 k acc)
        (inv c arg4 harg4 arg6 harg6 arg9 arg10 x4 x6 (k.val + 1)) := by
  have hk : k.val < 8 := Nat.lt_of_lt_of_le k.isLt k0_t1_abs.2.1
  unfold inv k0_t1_body
  iintro ⟨H4, H6, ⟨%f9, H9, %h9⟩, ⟨%f10, H10, %h10⟩⟩
  sl_exec
  sl_step
  isplitl [H4]; · iexact H4
  isplitl [H6]; · iexact H6
  isplitl [H9]
  · iexists _; isplitl [H9]; · iexact H9
    ipureintro
    intro y hy
    by_cases hlo : (y 0).val < 128 * k.val
    · rw [View.read_writes_apply_of_forall_not_mem]
      · exact h9 y hlo
      · intro p hp
        simp only [List.mem_cons, List.not_mem_nil, _root_.or_false] at hp
        rcases hp with rfl | rfl | rfl | rfl | rfl | rfl | rfl | rfl <;>
        first
        | exact row9 hlo (k0_off4_inb k) (k0_off4_eq k)
        | exact row9 hlo (k0_off6_inb k) (k0_off6_eq k)
        | exact row9 hlo (k0_off8_inb k) (k0_off8_eq k)
        | exact row9 hlo (k0_off10_inb k) (k0_off10_eq k)
        | exact row9 hlo (k0_off12_inb k) (k0_off12_eq k)
        | exact row9 hlo (k0_off14_inb k) (k0_off14_eq k)
        | exact row9 hlo (k0_off16_inb k) (k0_off16_eq k)
        | exact row9 hlo (k0_off18_inb k) (k0_off18_eq k)
    · refine View.read_writes_apply_of_pieces (G := gu x4) _ _ _ ?_ y ?_
      · intro p hp x
        simp only [List.mem_cons, List.not_mem_nil, _root_.or_false] at hp
        rcases hp with rfl | rfl | rfl | rfl | rfl | rfl | rfl | rfl
        · exact piece9 harg4 x4 k.val 1792 1792 hk (fun n m hm hn => by unfold col; dsimp only; omega) _ (k0_off17_inb k) (k0_off17_eq k) _ (k0_off18_inb k) (k0_off18_eq k) x
        · exact piece9 harg4 x4 k.val 768 1536 hk (fun n m hm hn => by unfold col; dsimp only; omega) _ (k0_off15_inb k) (k0_off15_eq k) _ (k0_off16_inb k) (k0_off16_eq k) x
        · exact piece9 harg4 x4 k.val 1536 1280 hk (fun n m hm hn => by unfold col; dsimp only; omega) _ (k0_off13_inb k) (k0_off13_eq k) _ (k0_off14_inb k) (k0_off14_eq k) x
        · exact piece9 harg4 x4 k.val 512 1024 hk (fun n m hm hn => by unfold col; dsimp only; omega) _ (k0_off11_inb k) (k0_off11_eq k) _ (k0_off12_inb k) (k0_off12_eq k) x
        · exact piece9 harg4 x4 k.val 1280 768 hk (fun n m hm hn => by unfold col; dsimp only; omega) _ (k0_off9_inb k) (k0_off9_eq k) _ (k0_off10_inb k) (k0_off10_eq k) x
        · exact piece9 harg4 x4 k.val 256 512 hk (fun n m hm hn => by unfold col; dsimp only; omega) _ (k0_off7_inb k) (k0_off7_eq k) _ (k0_off8_inb k) (k0_off8_eq k) x
        · exact piece9 harg4 x4 k.val 1024 256 hk (fun n m hm hn => by unfold col; dsimp only; omega) _ (k0_off5_inb k) (k0_off5_eq k) _ (k0_off6_inb k) (k0_off6_eq k) x
        · exact piece9 harg4 x4 k.val 0 0 hk (fun n m hm hn => by unfold col; dsimp only; omega) _ (k0_off3_inb k) (k0_off3_eq k) _ (k0_off4_inb k) (k0_off4_eq k) x
      · have hc : (y 1).val < 2048 := (y 1).isLt
        obtain h | h | h | h | h | h | h | h : ((y 1).val / 256 = 0) ∨ ((y 1).val / 256 = 1) ∨ ((y 1).val / 256 = 2) ∨ ((y 1).val / 256 = 3) ∨ ((y 1).val / 256 = 4) ∨ ((y 1).val / 256 = 5) ∨ ((y 1).val / 256 = 6) ∨ ((y 1).val / 256 = 7) := by omega
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem9 hlo hy (by omega) (k0_off4_inb k) (k0_off4_eq k)⟩
        · exact ⟨_, List.mem_cons_of_mem _ (List.mem_cons_of_mem _ (List.mem_cons_of_mem _ (List.mem_cons_of_mem _ (List.mem_cons_of_mem _ (List.mem_cons_of_mem _ (List.mem_cons_self)))))), mem9 hlo hy (by omega) (k0_off6_inb k) (k0_off6_eq k)⟩
        · exact ⟨_, List.mem_cons_of_mem _ (List.mem_cons_of_mem _ (List.mem_cons_of_mem _ (List.mem_cons_of_mem _ (List.mem_cons_of_mem _ (List.mem_cons_self))))), mem9 hlo hy (by omega) (k0_off8_inb k) (k0_off8_eq k)⟩
        · exact ⟨_, List.mem_cons_of_mem _ (List.mem_cons_of_mem _ (List.mem_cons_of_mem _ (List.mem_cons_of_mem _ (List.mem_cons_self)))), mem9 hlo hy (by omega) (k0_off10_inb k) (k0_off10_eq k)⟩
        · exact ⟨_, List.mem_cons_of_mem _ (List.mem_cons_of_mem _ (List.mem_cons_of_mem _ (List.mem_cons_self))), mem9 hlo hy (by omega) (k0_off12_inb k) (k0_off12_eq k)⟩
        · exact ⟨_, List.mem_cons_of_mem _ (List.mem_cons_of_mem _ (List.mem_cons_self)), mem9 hlo hy (by omega) (k0_off14_inb k) (k0_off14_eq k)⟩
        · exact ⟨_, List.mem_cons_of_mem _ (List.mem_cons_self), mem9 hlo hy (by omega) (k0_off16_inb k) (k0_off16_eq k)⟩
        · exact ⟨_, List.mem_cons_self, mem9 hlo hy (by omega) (k0_off18_inb k) (k0_off18_eq k)⟩
  iexists _; isplitl [H10]; · iexact H10
  ipureintro
  intro y hy
  by_cases hlo : (y 0).val < 128 * k.val
  · rw [View.read_writes_apply_of_forall_not_mem]
    · exact h10 y hlo
    · intro p hp
      simp only [List.mem_cons, List.not_mem_nil, _root_.or_false] at hp
      subst hp
      exact row10 hlo (k0_off20_inb k) (k0_off20_eq k)
  · refine View.read_writes_apply_of_pieces (G := wdc x6) _ _ _ ?_ y ?_
    · intro p hp x
      simp only [List.mem_cons, List.not_mem_nil, _root_.or_false] at hp
      subst hp
      exact piece10 harg6 x6 k.val hk _ (k0_off19_inb k) (k0_off19_eq k) _ (k0_off20_inb k) (k0_off20_eq k) x
    · refine ⟨_, List.mem_cons_self, (Rect.mem_set_unit (inb := k0_off20_inb k)).mpr ?_⟩
      rw [k0_off20_eq k]; intro t
      have hc : (y 1).val < 1024 := (y 1).isLt
      match t with
      | ⟨0, _⟩ => exact ⟨by show 128 * k.val ≤ (y 0).val; omega, by show (y 0).val < 128 * k.val + 128; omega⟩
      | ⟨1, _⟩ => exact ⟨by show 0 ≤ (y 1).val; omega, by show (y 1).val < 0 + 1024; omega⟩

set_option warn.classDefReducibility false in
/-- The loop by this invariant. -/
@[sl_loop] def loopInv (E : Set ℕ) :
    Idealize.ShloMosaic.LoopInv (M := 𝕄) Idealize.ShloMosaic.frame (wpE (defs₀ (F := F)) 𝒱₀ (c : Thread nD τ) none) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10) where
  inv := inv c arg4 harg4 arg6 harg6 arg9 arg10 x4 x6
  step := step c i arg1 harg1 arg2 harg2 arg3 harg3 arg4 harg4 arg5 harg5 arg6 harg6 arg7 harg7 arg8 harg8 arg9 harg9 arg10 harg10 x4 x6 E

end Trip

end Cert.Proof.EI

end
-- ==== Proof.EI.Body.lean ====
/-
  The whole body of the expert call at a grid point: on staging memrefs held whole at the point's blocks and the two tables held at
  their contents, in the three cases — a valid block of a new expert, a valid block of the same expert, a block past the end.
-/
module

public import proofs.«01_k».proof.Proof.EI.Loop
public import Idealize.ShloMosaic.Lib.VecWindow

@[expose] public section

set_option maxRecDepth 16384

noncomputable section

namespace Cert.Proof.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem ld_whole {sp : Space} {s : Shape} {e : EltTy} {m : Memref sig .tc sp s e} (hm : m.IsWhole) (x : Vec F s e) {off : Fin s.rank → ℕ} (ho : ∀ a, off a = 0)
    (inb : ∀ a, off a + s.size a ≤ s.size a) :
    m.view.readAt (Elt F) (Rect.unit (s := s) off s.size inb).toLoadRect (hm.unread x) = x := by
  funext y
  rw [hm.readAt_unread]
  congr 1
  funext t
  apply Fin.ext
  show off t + 1 * (y t).val = (y t).val
  rw [ho t]; omega

/-- The written block from the parts as they are loaded. -/
theorem ffn_of (x : Vec F S512x1024 .bf16) (s : Vec F S1024x2048 .bf16) (b : Vec F S1x1x1x2048 .f32) (d : Vec F S1024x1024 .bf16) (e : Vec F S1x1x1x1024 .f32)
    {x' : Vec F S512x1024 .bf16} {g0' g1' g2' g3' : Vec F S1024x512 .bf16} {b0' b1' b2' b3' c0' c1' c2' c3' : Vec F S1x1x1x256 .f32}
    {d0' d1' d2' d3' : Vec F S256x1024 .bf16} {e' : Vec F S1x1x1x1024 .f32}
    (hx : x' = x) (hg0 : g0' = g0 s) (hg1 : g1' = g1 s) (hg2 : g2' = g2 s) (hg3 : g3' = g3 s)
    (hb0 : b0' = b0 b) (hb1 : b1' = b1 b) (hb2 : b2' = b2 b) (hb3 : b3' = b3 b) (hc0 : c0' = c0 b) (hc1 : c1' = c1 b) (hc2 : c2' = c2 b) (hc3 : c3' = c3 b)
    (hd0 : d0' = d0 d) (hd1 : d1' = d1 d) (hd2 : d2' = d2 d) (hd3 : d3' = d3 d) (he : e' = e) :
    k0_pay1 (k0_pay20 (k0_pay15 (k0_pay12 x' g0' b0' c0' d0') (k0_pay13 x' g1') (k0_pay14 x' g1') b1' c1' d1')
        (k0_pay17 x' g2' b2') (k0_pay18 x' g2') (k0_pay19 c2') d2') (k0_pay22 x' g3' b3') (k0_pay23 x' g3' c3') (k0_pay24 (F := F)) d3' e'
      = ffn x s b d e := by
  subst hx hg0 hg1 hg2 hg3 hb0 hb1 hb2 hb3 hc0 hc1 hc2 hc3 hd0 hd1 hd2 hd3 he
  rfl

/-! ## The words of the body's tests -/

/-- The word a table holds at a point, the point before it, as the body loads them. -/
abbrev wd (T : S322.Idx → BitVec 32) (off : Fin 1 → ℕ) (h : ∀ a, off a + S1.size a ≤ S322.size a) : BitVec 32 :=
  T ((Rect.unit (s := S322) off S1.size h).emb (Shape.Idx.first (numel1_S1.symm ▸ Nat.one_pos)))

/-- The test of the loads: the block is valid and its expert is not that of the block before. -/
abbrev loads (i : grid0.Coords) (v1 v5 v9 : BitVec 32) : Prop :=
  Scalar.cmpi .ne (Scalar.extui (Scalar.andi (Scalar.cmpi .sgt v1 0#32) (Scalar.ori (Scalar.cmpi .eq (BitVec.ofNat 32 (i 0).val) 0#32) (Scalar.cmpi .ne v5 v9))) : BitVec 32) 0#32 = 1#1

set_option maxHeartbeats 4000000 in
/-- A block past the end: zeros, the kept matrices left as they were. -/
theorem body_off (c : Dev nD) (i : grid0.Coords) (arg1 : Memref sig .tc .smem S322 .i32) (harg1 : arg1.IsWhole) (arg2 : Memref sig .tc .smem S322 .i32) (harg2 : arg2.IsWhole) (arg3 : Memref sig .tc .vmem S512x1024 .bf16) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (X1 : BufTy.Contents (Elt F) arg1.view.ty) (X2 : BufTy.Contents (Elt F) arg2.view.ty)
    (x3 : Vec F S512x1024 .bf16) (x4 : Vec F S1x1x1024x2048 .f32) (x5 : Vec F S1x1x1x2048 .f32) (x6 : Vec F S1x1x1024x1024 .f32) (x7 : Vec F S1x1x1x1024 .f32)
    (v1 v5 v9 : BitVec 32) (hv1 : (arg2.view.readAt (Elt F) (Rect.unit (s := S322) (k0_off1 i) S1.size (k0_off1_inb i)).toLoadRect X2 (Shape.Idx.first (numel1_S1.symm ▸ Nat.one_pos))) = v1) (hv5 : (arg1.view.readAt (Elt F) (Rect.unit (s := S322) (k0_off1 i) S1.size (k0_off1_inb i)).toLoadRect X1 (Shape.Idx.first (numel1_S1.symm ▸ Nat.one_pos))) = v5) (hv9 : (arg1.view.readAt (Elt F) (Rect.unit (s := S322) (k0_off2 i) S1.size (k0_off2_inb i)).toLoadRect X1 (Shape.Idx.first (numel1_S1.symm ▸ Nat.one_pos))) = v9) (hv18 : (arg2.view.readAt (Elt F) (Rect.unit (s := S322) (k0_off21 i) S1.size (k0_off21_inb i)).toLoadRect X2 (Shape.Idx.first (numel1_S1.symm ▸ Nat.one_pos))) = v1)
    (hl : ¬ loads i v1 v5 v9) (h2 : ¬ k0_cond2 v1 = 1#1) (h3 : k0_cond3 v1 = 1#1) (s9 : Vec F S1024x2048 .bf16) (s10 : Vec F S1024x1024 .bf16) (E : Set ℕ) (K : PUnit → sProp 𝕄) :
    iprop((∃ d, owns (c : Thread nD τ) arg8 fullShare d)
        ∗ (arg1.view.loc (c : Thread nD τ) ↦[arg1.view.set]{fullShare.right} X1) ∗ (arg2.view.loc (c : Thread nD τ) ↦[arg2.view.set]{fullShare.right} X2)
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg9 fullShare s9 ∗ owns (c : Thread nD τ) arg10 fullShare s10
        ∗ (iprop(owns (c : Thread nD τ) arg8 fullShare (k0_pay2 (F := F))
            ∗ (arg1.view.loc (c : Thread nD τ) ↦[arg1.view.set]{fullShare.right} X1) ∗ (arg2.view.loc (c : Thread nD τ) ↦[arg2.view.set]{fullShare.right} X2)
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg9 fullShare s9 ∗ owns (c : Thread nD τ) arg10 fullShare s10) -∗ K ⟨⟩))
      ⊢ wp frame (wpE (defs₀ (F := F)) 𝒱₀ c none) E (cc0_moe i arg1 harg1 arg2 harg2 arg3 harg3 arg4 harg4 arg5 harg5 arg6 harg6 arg7 harg7 arg8 harg8 arg9 harg9 arg10 harg10) K := by
  simp only [cc0_moe_eq_skeleton]; unfold cc0_moe_skel
  unfold owns
  iintro ⟨⟨%d8, %f8, -, H8⟩, H1, H2, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7
  obtain rfl := harg9.eq_unread hf9; obtain rfl := harg10.eq_unread hf10
  have h3' := h3
  rw [← hv18] at h3'
  subst hv1 hv5 hv9
  sl_exec (disch := first | exact hl | exact h2 | exact h3')
  sl_step
  iapply Hk
  isplitl [H8]
  · iexists _; isplitr
    swap; · iexact H8
    ipureintro; exact View.read_writes_full (Val := Elt F) arg8.view f8 (off := ![0, 0]) inb_S512x1024_S512x1024_0_0 _ []
  isplitl [H1]; · iexact H1
  isplitl [H2]; · iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  iexists _; isplitr; · ipureintro; exact harg10.read_unread _
  iexact H10

set_option maxHeartbeats 4000000 in
/-- A valid block of the expert of the block before: the kept matrices are read as they are. -/
theorem body_keep (c : Dev nD) (i : grid0.Coords) (arg1 : Memref sig .tc .smem S322 .i32) (harg1 : arg1.IsWhole) (arg2 : Memref sig .tc .smem S322 .i32) (harg2 : arg2.IsWhole) (arg3 : Memref sig .tc .vmem S512x1024 .bf16) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (X1 : BufTy.Contents (Elt F) arg1.view.ty) (X2 : BufTy.Contents (Elt F) arg2.view.ty)
    (x3 : Vec F S512x1024 .bf16) (x4 : Vec F S1x1x1024x2048 .f32) (x5 : Vec F S1x1x1x2048 .f32) (x6 : Vec F S1x1x1024x1024 .f32) (x7 : Vec F S1x1x1x1024 .f32)
    (v1 v5 v9 : BitVec 32) (hv1 : (arg2.view.readAt (Elt F) (Rect.unit (s := S322) (k0_off1 i) S1.size (k0_off1_inb i)).toLoadRect X2 (Shape.Idx.first (numel1_S1.symm ▸ Nat.one_pos))) = v1) (hv5 : (arg1.view.readAt (Elt F) (Rect.unit (s := S322) (k0_off1 i) S1.size (k0_off1_inb i)).toLoadRect X1 (Shape.Idx.first (numel1_S1.symm ▸ Nat.one_pos))) = v5) (hv9 : (arg1.view.readAt (Elt F) (Rect.unit (s := S322) (k0_off2 i) S1.size (k0_off2_inb i)).toLoadRect X1 (Shape.Idx.first (numel1_S1.symm ▸ Nat.one_pos))) = v9) (hv18 : (arg2.view.readAt (Elt F) (Rect.unit (s := S322) (k0_off21 i) S1.size (k0_off21_inb i)).toLoadRect X2 (Shape.Idx.first (numel1_S1.symm ▸ Nat.one_pos))) = v1)
    (hl : ¬ loads i v1 v5 v9) (h2 : k0_cond2 v1 = 1#1) (h3 : ¬ k0_cond3 v1 = 1#1) (s9 : Vec F S1024x2048 .bf16) (s10 : Vec F S1024x1024 .bf16) (E : Set ℕ) (K : PUnit → sProp 𝕄) :
    iprop((∃ d, owns (c : Thread nD τ) arg8 fullShare d)
        ∗ (arg1.view.loc (c : Thread nD τ) ↦[arg1.view.set]{fullShare.right} X1) ∗ (arg2.view.loc (c : Thread nD τ) ↦[arg2.view.set]{fullShare.right} X2)
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg9 fullShare s9 ∗ owns (c : Thread nD τ) arg10 fullShare s10
        ∗ (iprop(owns (c : Thread nD τ) arg8 fullShare (ffn x3 s9 x5 s10 x7)
            ∗ (arg1.view.loc (c : Thread nD τ) ↦[arg1.view.set]{fullShare.right} X1) ∗ (arg2.view.loc (c : Thread nD τ) ↦[arg2.view.set]{fullShare.right} X2)
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg9 fullShare s9 ∗ owns (c : Thread nD τ) arg10 fullShare s10) -∗ K ⟨⟩))
      ⊢ wp frame (wpE (defs₀ (F := F)) 𝒱₀ c none) E (cc0_moe i arg1 harg1 arg2 harg2 arg3 harg3 arg4 harg4 arg5 harg5 arg6 harg6 arg7 harg7 arg8 harg8 arg9 harg9 arg10 harg10) K := by
  simp only [cc0_moe_eq_skeleton]; unfold cc0_moe_skel
  unfold owns
  iintro ⟨⟨%d8, %f8, -, H8⟩, H1, H2, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7
  obtain rfl := harg9.eq_unread hf9; obtain rfl := harg10.eq_unread hf10
  have h3' := h3
  rw [← hv18] at h3'
  subst hv1 hv5 hv9
  sl_exec (disch := first | exact hl | exact h2 | exact h3')
  sl_step
  iapply Hk
  isplitl [H8]
  · iexists _; isplitr
    swap; · iexact H8
    ipureintro; refine (View.read_writes_full (Val := Elt F) arg8.view f8 (off := ![0, 0]) inb_S512x1024_S512x1024_0_0 _ []).trans ?_
    exact ffn_of x3 _ x5 _ x7 (ld_whole harg3 x3 (off := ![0, 0]) (by decide) inb_S512x1024_S512x1024_0_0)
      (funext fun _ => harg9.readAt_unread _ _ _) (funext fun _ => harg9.readAt_unread _ _ _) (funext fun _ => harg9.readAt_unread _ _ _) (funext fun _ => harg9.readAt_unread _ _ _)
      (funext fun _ => harg5.readAt_unread _ _ _) (funext fun _ => harg5.readAt_unread _ _ _) (funext fun _ => harg5.readAt_unread _ _ _) (funext fun _ => harg5.readAt_unread _ _ _)
      (funext fun _ => harg5.readAt_unread _ _ _) (funext fun _ => harg5.readAt_unread _ _ _) (funext fun _ => harg5.readAt_unread _ _ _) (funext fun _ => harg5.readAt_unread _ _ _)
      (funext fun _ => harg10.readAt_unread _ _ _) (funext fun _ => harg10.readAt_unread _ _ _) (funext fun _ => harg10.readAt_unread _ _ _) (funext fun _ => harg10.readAt_unread _ _ _)
      (ld_whole harg7 x7 (off := ![0, 0, 0, 0]) (by decide) inb_S1x1x1x1024_S1x1x1x1024_0_0_0_0)
  isplitl [H1]; · iexact H1
  isplitl [H2]; · iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  iexists _; isplitr; · ipureintro; exact harg10.read_unread _
  iexact H10

set_option maxHeartbeats 4000000 in
/-- A valid block of a new expert: the matrices are cast and kept, and then read. -/
theorem body_load (c : Dev nD) (i : grid0.Coords) (arg1 : Memref sig .tc .smem S322 .i32) (harg1 : arg1.IsWhole) (arg2 : Memref sig .tc .smem S322 .i32) (harg2 : arg2.IsWhole) (arg3 : Memref sig .tc .vmem S512x1024 .bf16) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (X1 : BufTy.Contents (Elt F) arg1.view.ty) (X2 : BufTy.Contents (Elt F) arg2.view.ty)
    (x3 : Vec F S512x1024 .bf16) (x4 : Vec F S1x1x1024x2048 .f32) (x5 : Vec F S1x1x1x2048 .f32) (x6 : Vec F S1x1x1024x1024 .f32) (x7 : Vec F S1x1x1x1024 .f32)
    (v1 v5 v9 : BitVec 32) (hv1 : (arg2.view.readAt (Elt F) (Rect.unit (s := S322) (k0_off1 i) S1.size (k0_off1_inb i)).toLoadRect X2 (Shape.Idx.first (numel1_S1.symm ▸ Nat.one_pos))) = v1) (hv5 : (arg1.view.readAt (Elt F) (Rect.unit (s := S322) (k0_off1 i) S1.size (k0_off1_inb i)).toLoadRect X1 (Shape.Idx.first (numel1_S1.symm ▸ Nat.one_pos))) = v5) (hv9 : (arg1.view.readAt (Elt F) (Rect.unit (s := S322) (k0_off2 i) S1.size (k0_off2_inb i)).toLoadRect X1 (Shape.Idx.first (numel1_S1.symm ▸ Nat.one_pos))) = v9) (hv18 : (arg2.view.readAt (Elt F) (Rect.unit (s := S322) (k0_off21 i) S1.size (k0_off21_inb i)).toLoadRect X2 (Shape.Idx.first (numel1_S1.symm ▸ Nat.one_pos))) = v1)
    (hl : loads i v1 v5 v9) (h2 : k0_cond2 v1 = 1#1) (h3 : ¬ k0_cond3 v1 = 1#1) (E : Set ℕ) (K : PUnit → sProp 𝕄) :
    iprop((∃ d, owns (c : Thread nD τ) arg8 fullShare d)
        ∗ (arg1.view.loc (c : Thread nD τ) ↦[arg1.view.set]{fullShare.right} X1) ∗ (arg2.view.loc (c : Thread nD τ) ↦[arg2.view.set]{fullShare.right} X2)
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg9 fullShare d) ∗ (∃ d, owns (c : Thread nD τ) arg10 fullShare d)
        ∗ (iprop(owns (c : Thread nD τ) arg8 fullShare (ffn x3 (gu x4) x5 (wdc x6) x7)
            ∗ (arg1.view.loc (c : Thread nD τ) ↦[arg1.view.set]{fullShare.right} X1) ∗ (arg2.view.loc (c : Thread nD τ) ↦[arg2.view.set]{fullShare.right} X2)
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg9 fullShare (gu x4) ∗ owns (c : Thread nD τ) arg10 fullShare (wdc x6)) -∗ K ⟨⟩))
      ⊢ wp frame (wpE (defs₀ (F := F)) 𝒱₀ c none) E (cc0_moe i arg1 harg1 arg2 harg2 arg3 harg3 arg4 harg4 arg5 harg5 arg6 harg6 arg7 harg7 arg8 harg8 arg9 harg9 arg10 harg10) K := by
  simp only [cc0_moe_eq_skeleton]; unfold cc0_moe_skel
  unfold owns
  iintro ⟨⟨%d8, %f8, -, H8⟩, H1, H2, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, Hk⟩
  obtain rfl := harg3.eq_unread hf3; obtain rfl := harg4.eq_unread hf4; obtain rfl := harg5.eq_unread hf5; obtain rfl := harg6.eq_unread hf6; obtain rfl := harg7.eq_unread hf7
  have h3' := h3
  rw [← hv18] at h3'
  subst hv1 hv5 hv9
  sl_exec (disch := first | exact hl | exact h2 | exact h3')
  sl_step
  obtain rfl := harg9.eq_unread (funext fun y => hL3 y (lt_of_lt_of_le (y 0).isLt (by decide)))
  obtain rfl := harg10.eq_unread (funext fun y => hL5 y (lt_of_lt_of_le (y 0).isLt (by decide)))
  iapply Hk
  isplitl [H8]
  · iexists _; isplitr
    swap; · iexact H8
    ipureintro; refine (View.read_writes_full (Val := Elt F) arg8.view f8 (off := ![0, 0]) inb_S512x1024_S512x1024_0_0 _ []).trans ?_
    exact ffn_of x3 _ x5 _ x7 (ld_whole harg3 x3 (off := ![0, 0]) (by decide) inb_S512x1024_S512x1024_0_0)
      (funext fun _ => harg9.readAt_unread _ _ _) (funext fun _ => harg9.readAt_unread _ _ _) (funext fun _ => harg9.readAt_unread _ _ _) (funext fun _ => harg9.readAt_unread _ _ _)
      (funext fun _ => harg5.readAt_unread _ _ _) (funext fun _ => harg5.readAt_unread _ _ _) (funext fun _ => harg5.readAt_unread _ _ _) (funext fun _ => harg5.readAt_unread _ _ _)
      (funext fun _ => harg5.readAt_unread _ _ _) (funext fun _ => harg5.readAt_unread _ _ _) (funext fun _ => harg5.readAt_unread _ _ _) (funext fun _ => harg5.readAt_unread _ _ _)
      (funext fun _ => harg10.readAt_unread _ _ _) (funext fun _ => harg10.readAt_unread _ _ _) (funext fun _ => harg10.readAt_unread _ _ _) (funext fun _ => harg10.readAt_unread _ _ _)
      (ld_whole harg7 x7 (off := ![0, 0, 0, 0]) (by decide) inb_S1x1x1x1024_S1x1x1x1024_0_0_0_0)
  isplitl [H1]; · iexact H1
  isplitl [H2]; · iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  iexists _; isplitr; · ipureintro; exact harg10.read_unread _
  iexact H10

end Cert.Proof.EI

end
-- ==== Proof.EI.Host.lean ====
/-
  The expert call up to its kernel: the buffers after the host operations, the two tables among them, and the pipeline at those tables.
-/
module

public import proofs.«01_k».proof.Proof.EI.Body
public import proofs.«01_k».proof.Proof.EI.Tables
public import Idealize.ShloMosaic.Lib.Pipeline.FrameBody
public import Idealize.ShloMosaic.Lib.Pipeline.Value
public import Idealize.ShloMosaic.Lib.Ring
public import Idealize.ShloMosaic.Lib.Claim

@[expose] public section

set_option maxRecDepth 16384

noncomputable section

namespace Cert.Proof.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The host operations, stretch by stretch. -/
abbrev hostOps : List (List (HloOp τ sig (Elt F))) := [hostOps0, hostOps0_1, hostOps0_2, hostOps0_3, hostOps0_4]

/-- A device's buffers after the host operations. -/
abbrev V (c : Dev nD) (b : Ref sig .tc) : Buf (Elt F) ((c : Thread nD τ).loc b) :=
  StableHlo.after (hostOps (F := F)).flatten (fun b => m (c, b)) b

/-- A device's buffers once the experts' ends are known. -/
def W (c : Dev nD) : Valuation τ sig (Elt F) :=
  StableHlo.after ([hostOps0, hostOps0_1, hostOps0_2, hostOps0_3] : List (List (HloOp τ sig (Elt F)))).flatten (fun b => m (c, b))

/-- The experts' ends. -/
def pend (c : Dev nD) : S32.Idx → BitVec 32 := W m c (Proc.devRef .tc main_v7)

theorem V_W (c : Dev nD) (b : Ref sig .tc) : V m c b = StableHlo.after (hostOps0_4 (F := F)) (W m c) b := rfl

theorem host_sub : (hostOps (F := F)).Forall fun ops => ops.Forall fun op => op.bufs ⊆ StableHlo.tcRefs τ sig :=
  ⟨hostOps0_sub, hostOps0_1_sub, hostOps0_2_sub, hostOps0_3_sub, hostOps0_4_sub⟩

theorem host_fresh : (hostOps (F := F)).Forall fun ops => ops.Forall fun op => op.fresh = ∅ := by
  simp only [List.Forall]; repeat' constructor

theorem V_arg0 (c : Dev nD) : V m c main_arg0 = m ((c : Thread nD τ).loc main_arg0) :=
  StableHlo.after_of_forall_not_mem (b := Proc.devRef .tc main_arg0) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg5 (c : Dev nD) : V m c main_arg5 = m ((c : Thread nD τ).loc main_arg5) :=
  StableHlo.after_of_forall_not_mem (b := Proc.devRef .tc main_arg5) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_be (c : Dev nD) : V m c main_v19 = be (pend m c) := by
  rw [V_W]; unfold pend; generalize W m c = U; after_results_simp; rfl

theorem V_bv (c : Dev nD) : V m c main_v24 = bv (pend m c) := by
  rw [V_W]; unfold pend; generalize W m c = U; after_results_simp; rfl

/-- The tables. -/
def tbl (p : S32.Idx → BitVec 32) : pre0.Contents (Elt F) := fun
  | ⟨0, _⟩ => be p
  | ⟨1, _⟩ => bv p
  | ⟨_ + 2, h⟩ => absurd h (by simp)

theorem coord_lt (i : grid0.Coords) : (i 0).val < 322 := (i 0).isLt

/-- The block a grid point works on, as an index of the tables. -/
def pt (i : grid0.Coords) : S322.Idx := ix1 ⟨(i 0).val, coord_lt i⟩

theorem off1_val (i : grid0.Coords) : k0_off1 i = ![(i 0).val] := by
  have h := coord_lt i
  funext a; fin_cases a
  show (BitVec.ofNat 32 (i 0).val).toNat = _
  rw [BitVec.toNat_ofNat, Nat.mod_eq_of_lt (by omega)]; rfl

theorem off21_val (i : grid0.Coords) : k0_off21 i = ![(i 0).val] := off1_val i

/-- The block before a grid point's. -/
theorem off2_val (i : grid0.Coords) : k0_off2 i = ![(i 0).val - 1] := by
  have h := coord_lt i
  have key : ∀ n : ℕ, n < 322 → (Scalar.maxsi (Scalar.subi (BitVec.ofNat 32 n) 1#32) 0#32).toNat = n - 1 := by
    intro n hn
    rcases Nat.eq_zero_or_pos n with rfl | hp
    · decide
    · have e : Scalar.subi (BitVec.ofNat 32 n) 1#32 = BitVec.ofNat 32 (n - 1) := by
        apply BitVec.eq_of_toNat_eq
        simp only [Scalar.subi, IntOp.subi, BitVec.toNat_sub, BitVec.toNat_ofNat]
        omega
      rw [e]
      unfold Scalar.maxsi IntOp.maxsi
      split
      · rename_i h1
        simp only [BitVec.slt, decide_eq_true_eq, BitVec.toInt_eq_toNat_cond, BitVec.toNat_ofNat] at h1
        rw [BitVec.toNat_ofNat]
        omega
      · rename_i h1
        simp only [BitVec.slt, decide_eq_true_eq, BitVec.toInt_eq_toNat_cond, BitVec.toNat_ofNat] at h1
        simp only [BitVec.toNat_ofNat]
        omega
  funext a; fin_cases a
  exact key _ h

/-- The word a rectangle of one element of a table names. -/
theorem emb_unit (off : Fin 1 → ℕ) (inb : ∀ a, off a + S1.size a ≤ S322.size a) (n : Fin 322) (h : off = ![n.val]) :
    (Rect.unit (s := S322) off S1.size inb).emb (Shape.Idx.first (numel1_S1.symm ▸ Nat.one_pos)) = ix1 n := by
  subst h
  funext a; fin_cases a; rfl

theorem tbl_ok (p : S32.Idx → BitVec 32) : ok0 (F := F) (tbl p) := by
  have hv : ∀ i : grid0.Coords, (tbl (F := F) p).at 0 (Rect.unit (s := S322) (k0_off1 i) S1.size (k0_off1_inb i)) numel1_S1 = be p (pt i) := fun i =>
    congrArg (be p) (emb_unit _ _ ⟨(i 0).val, coord_lt i⟩ (off1_val i))
  have hb : ∀ i : grid0.Coords, ((tbl (F := F) p).at 0 (Rect.unit (s := S322) (k0_off1 i) S1.size (k0_off1_inb i)) numel1_S1).toNat < 32 := fun i => by
    rw [hv i]; exact be_lt p _
  unfold ok0
  refine ⟨fun i => ⟨?_, .inl rfl⟩, fun i => ⟨?_, .inl rfl⟩, fun i => ⟨?_, .inl rfl⟩, fun i => ⟨?_, .inl rfl⟩⟩
  · intro a
    have h := hb i
    fin_cases a
    · show (0 + 1) * 1 ≤ 2; omega
    · refine (show ∀ n : ℕ, n < 32 → (n + 1) * 1 ≤ 32 by omega) _ h
    · show (0 + 1) * 1024 ≤ 1024; omega
    · show (0 + 1) * 2048 ≤ 2048; omega
  · intro a
    have h := hb i
    fin_cases a
    · show (0 + 1) * 1 ≤ 2; omega
    · refine (show ∀ n : ℕ, n < 32 → (n + 1) * 1 ≤ 32 by omega) _ h
    · show (0 + 1) * 1 ≤ 1; omega
    · show (0 + 1) * 2048 ≤ 2048; omega
  · intro a
    have h := hb i
    fin_cases a
    · show (0 + 1) * 1 ≤ 2; omega
    · refine (show ∀ n : ℕ, n < 32 → (n + 1) * 1 ≤ 32 by omega) _ h
    · show (0 + 1) * 1024 ≤ 1024; omega
    · show (0 + 1) * 1024 ≤ 1024; omega
  · intro a
    have h := hb i
    fin_cases a
    · show (0 + 1) * 1 ≤ 2; omega
    · refine (show ∀ n : ℕ, n < 32 → (n + 1) * 1 ≤ 32 by omega) _ h
    · show (0 + 1) * 1 ≤ 1; omega
    · show (0 + 1) * 1024 ≤ 1024; omega

/-- The tables as the pipeline takes them. -/
def adm (p : S32.Idx → BitVec 32) : (pcfg0 (F := F)).Adm := ⟨tbl p, tbl_ok p⟩

end Cert.Proof.EI

end
-- ==== Proof.EI.Run.lean ====
/-
  The launch of the expert call's kernel: the blocks its points read, what a point leaves, the two weight matrices kept from point to
  point, and the run of the program.
-/
module

public import proofs.«01_k».proof.Proof.EI.Host
public import Idealize.ShloMosaic.Lib.Pipeline.ValueKit
public import Idealize.ShloMosaic.Lib.Pipeline.Covers

@[expose] public section

set_option maxRecDepth 16384

noncomputable section

namespace Cert.Proof.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The experts' ends the pipeline runs at. -/
abbrev ends : S32.Idx → BitVec 32 := pend m 0

/-- The pipeline at its tables. -/
abbrev cfgA : Cfg sig Λ₀ := cfg0 (F := F) (adm (ends m))

/-- The same as the one pipeline of the program. -/
abbrev admA : (p : Fin 1) → (pcfgs (F := F) p).Adm := fun _ => adm (ends m)

/-! ## The points -/

theorem coord_val : ∀ t : Fin grid0.N, (grid0.coords t 0).val = t.val := by decide +kernel

theorem lt_N (t : Fin grid0.N) : t.val < 322 := lt_of_lt_of_eq t.isLt N_0

/-- The block a point works on, as an index of the tables. -/
def ptN (n : ℕ) (h : n < 322) : S322.Idx := ix1 ⟨n, h⟩

/-- The expert of a block. -/
def ex (p : S32.Idx → BitVec 32) (x : S322.Idx) : Fin 32 := ⟨(be p x).toNat, be_lt p x⟩

theorem word_at (T : S322.Idx → BitVec 32) (off : Fin 1 → ℕ) (inb : ∀ a, off a + S1.size a ≤ S322.size a) (n : ℕ) (hn : n < 322) (h : off = ![n]) :
    T ((Rect.unit (s := S322) off S1.size inb).emb (Shape.Idx.first (numel1_S1.symm ▸ Nat.one_pos))) = T (ptN n hn) :=
  congrArg T (emb_unit off inb ⟨n, hn⟩ h)

theorem idle_5 (i : grid0.Coords) : (cfgA m).idle 5 i = false := by
  have e1 : (tbl (F := F) (ends m)).atD 1 (k0_off1 i) = bv (ends m) (pt i) := by
    have hh : ∀ a : Fin 1, k0_off1 i a + 1 ≤ S322.size a := fun a => by
      rw [off1_val]; fin_cases a; exact coord_lt i
    unfold Pipeline.Prefetch.Contents.atD
    split
    case isTrue h =>
      refine congrArg (bv (ends m)) ?_
      funext a; fin_cases a
      exact Fin.ext (congrFun (off1_val i) 0)
    case isFalse h => exact absurd hh h
  have e2 : (tbl (F := F) (ends m)).atD 1 (k0_off21 i) = bv (ends m) (pt i) := e1
  show (!(k0_cond2 ((tbl (F := F) (ends m)).atD 1 (k0_off1 i)) == 1#1) && !(k0_cond3 ((tbl (F := F) (ends m)).atD 1 (k0_off21 i)) == 1#1)) = false
  rw [e1, e2]
  rcases bv_or (ends m) (pt i) with e | e <;> rw [e] <;> decide

theorem loads_zero (i : grid0.Coords) (v5 v9 : BitVec 32) : ¬ loads i 0#32 v5 v9 := by
  have key : ∀ b : BitVec 1, ¬ Scalar.cmpi .ne (Scalar.extui (Scalar.andi (Scalar.cmpi .sgt (0#32 : BitVec 32) 0#32) b) : BitVec 32) 0#32 = 1#1 := by decide
  exact key _

theorem loads_one (i : grid0.Coords) (v5 v9 : BitVec 32) : loads i 1#32 v5 v9 ↔ ((i 0).val = 0 ∨ v5 ≠ v9) := by
  have key : ∀ a b : Bool, (Scalar.cmpi .ne (Scalar.extui (Scalar.andi (Scalar.cmpi .sgt (1#32 : BitVec 32) 0#32) (Scalar.ori (BitVec.ofBool a) (BitVec.ofBool b))) : BitVec 32) 0#32 = 1#1) ↔ (a = true ∨ b = true) := by decide
  refine (key _ _).trans (or_congr ?_ ?_)
  · rw [beq_iff_eq]
    have h := coord_lt i
    constructor
    · intro e
      have e' := congrArg BitVec.toNat e
      rw [BitVec.toNat_ofNat, Nat.mod_eq_of_lt (by omega)] at e'
      exact e'
    · intro e; rw [e]
  · simp

/-! ## What the points read and leave -/

/-- Window `w`'s block at point `t`. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- An expert's weight matrices. -/
def wgu (c : Dev nD) (e : Fin 32) : Vec F S1x1x1024x2048 .f32 := fun x => V m c main_arg2 (ix4 0 e (x 2) (x 3))
def wdn (c : Dev nD) (e : Fin 32) : Vec F S1x1x1024x1024 .f32 := fun x => V m c main_arg4 (ix4 0 e (x 2) (x 3))

theorem ix_w (t : Fin (cfgA m).N) : ((tbl (F := F) (ends m)).at 0 (Rect.unit (s := S322) (k0_off1 (grid0.coords t)) S1.size (k0_off1_inb (grid0.coords t))) numel1_S1)
    = be (ends m) (ptN t.val (lt_N t)) :=
  word_at (be (ends m)) _ _ _ (lt_N t) ((off1_val _).trans (by rw [coord_val]))

theorem ix_1 (t : Fin (cfgA m).N) : ((cfgA m).win 1).index t = ![0, (ex (ends m) (ptN t.val (lt_N t))).val, 0, 0] := by
  funext a; fin_cases a
  · rfl
  · have e := congrArg BitVec.toNat (ix_w m t)
    exact e
  · rfl
  · rfl
theorem ix_3 (t : Fin (cfgA m).N) : ((cfgA m).win 3).index t = ![0, (ex (ends m) (ptN t.val (lt_N t))).val, 0, 0] := by
  funext a; fin_cases a
  · rfl
  · have e := congrArg BitVec.toNat (ix_w m t)
    exact e
  · rfl
  · rfl

theorem iblk_1 (c : Dev nD) (t : Fin (cfgA m).N) : (iblk m c 1 t : Vec F S1x1x1024x2048 .f32) = wgu m c (ex (ends m) (ptN t.val (lt_N t))) := by
  funext x
  unfold wgu
  blk_simp [iblk]
  congr 1
  blk_ext [ix_1 m t]
theorem iblk_3 (c : Dev nD) (t : Fin (cfgA m).N) : (iblk m c 3 t : Vec F S1x1x1024x1024 .f32) = wdn m c (ex (ends m) (ptN t.val (lt_N t))) := by
  funext x
  unfold wdn
  blk_simp [iblk]
  congr 1
  blk_ext [ix_3 m t]

abbrev ms0 (t : Fin (cfgA m).N) : Memref sig .tc .vmem S512x1024 .bf16 := spec0_0.stage ((cfgA m).slots t 0)
abbrev hs0 (t : Fin (cfgA m).N) : (ms0 m t).IsWhole := hstage0_0 (((cfgA m).slots t 0).cast nbuf0_0)
abbrev ms1 (t : Fin (cfgA m).N) : Memref sig .tc .vmem S1x1x1024x2048 .f32 := spec0_1.stage ((cfgA m).slots t 1)
abbrev hs1 (t : Fin (cfgA m).N) : (ms1 m t).IsWhole := hstage0_1 (((cfgA m).slots t 1).cast nbuf0_1)
abbrev ms2 (t : Fin (cfgA m).N) : Memref sig .tc .vmem S1x1x1x2048 .f32 := spec0_2.stage ((cfgA m).slots t 2)
abbrev hs2 (t : Fin (cfgA m).N) : (ms2 m t).IsWhole := hstage0_2 (((cfgA m).slots t 2).cast nbuf0_2)
abbrev ms3 (t : Fin (cfgA m).N) : Memref sig .tc .vmem S1x1x1024x1024 .f32 := spec0_3.stage ((cfgA m).slots t 3)
abbrev hs3 (t : Fin (cfgA m).N) : (ms3 m t).IsWhole := hstage0_3 (((cfgA m).slots t 3).cast nbuf0_3)
abbrev ms4 (t : Fin (cfgA m).N) : Memref sig .tc .vmem S1x1x1x1024 .f32 := spec0_4.stage ((cfgA m).slots t 4)
abbrev hs4 (t : Fin (cfgA m).N) : (ms4 m t).IsWhole := hstage0_4 (((cfgA m).slots t 4).cast nbuf0_4)
abbrev ms5 (t : Fin (cfgA m).N) : Memref sig .tc .vmem S512x1024 .bf16 := spec0_5.stage ((cfgA m).slots t 5)
abbrev hs5 (t : Fin (cfgA m).N) : (ms5 m t).IsWhole := hstage0_5 (((cfgA m).slots t 5).cast nbuf0_5)

/-- The block point `t` leaves: the expert's mathematics on a block of rows, zeros past the end. -/
@[irreducible] def outAt (c : Dev nD) (t : Fin (cfgA m).N) : Vec F S512x1024 .bf16 :=
  if bv (ends m) (ptN t.val (lt_N t)) = 1#32 then
    ffn (iblk m c 0 t) (gu (wgu m c (ex (ends m) (ptN t.val (lt_N t))))) (iblk m c 2 t) (wdc (wdn m c (ex (ends m) (ptN t.val (lt_N t))))) (iblk m c 4 t)
  else k0_pay2 (F := F)

/-- What is known of the kept matrices after block `n`. -/
def Kept (c : Dev nD) (n : ℕ) (s9 : Vec F S1024x2048 .bf16) (s10 : Vec F S1024x1024 .bf16) : Prop :=
  ∀ h : n < 322, bv (ends m) (ptN n h) = 1#32 → s9 = gu (wgu m c (ex (ends m) (ptN n h))) ∧ s10 = wdc (wdn m c (ex (ends m) (ptN n h)))

/-- The tables as the body holds them. -/
def tables (c : Dev nD) : sProp 𝕄 :=
  iprop(((Memref.whole main_v19).view.loc (c : Thread nD τ) ↦[(Memref.whole main_v19).view.set]{fullShare.right} (show BufTy.Contents (Elt F) (Memref.whole main_v19).view.ty from be (ends m)))
    ∗ ((Memref.whole main_v24).view.loc (c : Thread nD τ) ↦[(Memref.whole main_v24).view.set]{fullShare.right} (show BufTy.Contents (Elt F) (Memref.whole main_v24).view.ty from bv (ends m))))

/-- Between points: the kept matrices, the random number register, the tables. -/
def inv0 (c : Dev nD) (n : ℕ) : sProp 𝕄 :=
  iprop(∃ s9 : Vec F S1024x2048 .bf16, ∃ s10 : Vec F S1024x1024 .bf16, ⌜∀ k, k + 1 = n → Kept m c k s9 s10⌝
    ∗ owns (c : Thread nD τ) (Memref.whole cc0_scratch0) fullShare s9 ∗ owns (c : Thread nD τ) (Memref.whole cc0_scratch1) fullShare s10
    ∗ (∃ r, prngReg c r) ∗ tables m c)

/-- The proof data of the pipeline. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := inv0 m c t.val
  q _ := fullShare
  owed _ := 0

theorem A_eq (c : Dev nD) (w : Fin (cfgA m).W) : (dats m 0 c).A w = V m c (Pipeline.arrRef spec0 w) := by
  dsimp only [dats]

theorem after_0 (c : Dev nD) (t : Fin (cfgA m).N) : (dats m 0 c).after 0 t = iblk m c 0 t := Eq.trans rfl rfl
theorem after_1 (c : Dev nD) (t : Fin (cfgA m).N) : (dats m 0 c).after 1 t = iblk m c 1 t := Eq.trans rfl rfl
theorem after_2 (c : Dev nD) (t : Fin (cfgA m).N) : (dats m 0 c).after 2 t = iblk m c 2 t := Eq.trans rfl rfl
theorem after_3 (c : Dev nD) (t : Fin (cfgA m).N) : (dats m 0 c).after 3 t = iblk m c 3 t := Eq.trans rfl rfl
theorem after_4 (c : Dev nD) (t : Fin (cfgA m).N) : (dats m 0 c).after 4 t = iblk m c 4 t := Eq.trans rfl rfl
theorem after_5 (c : Dev nD) (t : Fin (cfgA m).N) : (dats m 0 c).after 5 t = outAt m c t := Eq.trans rfl rfl

theorem before_0 (c : Dev nD) (t : Fin (cfgA m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgA m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body at a point -/

/-- The body's program at point `t`. -/
abbrev bodyAt (t : Fin (cfgA m).N) := cc0_moe (F := F) (grid0.coords t) (Memref.whole main_v19) (Memref.isWhole_whole _) (Memref.whole main_v24) (Memref.isWhole_whole _)
  (ms0 m t) (hs0 m t) (ms1 m t) (hs1 m t) (ms2 m t) (hs2 m t) (ms3 m t) (hs3 m t) (ms4 m t) (hs4 m t) (ms5 m t) (hs5 m t) (Memref.whole cc0_scratch0) (Memref.isWhole_whole _) (Memref.whole cc0_scratch1) (Memref.isWhole_whole _)

def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

def bodyPost (c : Dev nD) (t : Fin (cfgA m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t))

set_option maxHeartbeats 1600000 in
theorem sound_body (c : Dev nD) (t : Fin (cfgA m).N) :
    bodyPre m c t ⊢ wp frame (wpE (defs₀ (F := F)) 𝒱₀ c none) Set.univ (bodyAt m t) (fun _ => bodyPost m c t) := by
  unfold bodyPre bodyPost bodyAt
  simp only [before_0, before_1, before_2, before_3, before_4]
  rw [show (dats m 0 c).Φ t.castSucc = inv0 m c t.val from rfl, show (dats m 0 c).Φ t.succ = inv0 m c (t.val + 1) from rfl,
    show (dats m 0 c).owesAt () t.succ = (dats m 0 c).owesAt () t.castSucc from rfl,
    after_0, after_1, after_2, after_3, after_4, after_5]
  have ht := lt_N t
  have hc : (grid0.coords t 0).val = t.val := coord_val t
  have o1 : k0_off1 (grid0.coords t) = ![t.val] := (off1_val _).trans (by rw [hc])
  have o2 : k0_off2 (grid0.coords t) = ![t.val - 1] := (off2_val _).trans (by rw [hc])
  have hv1 := word_at (bv (ends m)) _ (k0_off1_inb (grid0.coords t)) t.val ht o1
  have hv18 := word_at (bv (ends m)) _ (k0_off21_inb (grid0.coords t)) t.val ht o1
  have hv5 := word_at (be (ends m)) _ (k0_off1_inb (grid0.coords t)) t.val ht o1
  have hv9 := word_at (be (ends m)) _ (k0_off2_inb (grid0.coords t)) (t.val - 1) (by omega) o2
  unfold outAt inv0 tables
  iintro ⟨⟨%s9, %s10, %hk9, S9, S10, R, T1, T2⟩, Ho, ⟨%d0, H0⟩, ⟨%d1, H1⟩, ⟨%d2, H2⟩, ⟨%d3, H3⟩, ⟨%d4, H4⟩, ⟨%d5, H5⟩⟩
  rcases bv_or (ends m) (ptN t.val ht) with e | e
  case inl =>
    rw [if_neg (by rw [e]; decide)]
    rw [e] at hv1 hv18
    iapply (body_off c (grid0.coords t) (Memref.whole main_v19) (Memref.isWhole_whole _) (Memref.whole main_v24) (Memref.isWhole_whole _)
        (ms0 m t) (hs0 m t) (ms1 m t) (hs1 m t) (ms2 m t) (hs2 m t) (ms3 m t) (hs3 m t) (ms4 m t) (hs4 m t) (ms5 m t) (hs5 m t) (Memref.whole cc0_scratch0) (Memref.isWhole_whole _) (Memref.whole cc0_scratch1) (Memref.isWhole_whole _)
        (be (ends m)) (bv (ends m)) (iblk m c 0 t) (iblk m c 1 t) (iblk m c 2 t) (iblk m c 3 t) (iblk m c 4 t) _ _ _ hv1 hv5 hv9 hv18 (loads_zero _ _ _) (by decide) (by decide) s9 s10 Set.univ _)
    isplitl [H5]; · iexists _; iexact H5
    isplitl [T1]; · iexact T1
    isplitl [T2]; · iexact T2
    isplitl [H0]; · iexact H0
    isplitl [H1]; · iexact H1
    isplitl [H2]; · iexact H2
    isplitl [H3]; · iexact H3
    isplitl [H4]; · iexact H4
    isplitl [S9]; · iexact S9
    isplitl [S10]; · iexact S10
    iintro ⟨H5, T1, T2, H0, H1, H2, H3, H4, S9, S10⟩
    isplitl [S9 S10 R T1 T2]
    · iexists _; iexists _
      isplitr
      swap
      · isplitl [S9]; · iexact S9
        isplitl [S10]; · iexact S10
        isplitl [R]; · iexact R
        isplitl [T1]; · iexact T1
        iexact T2
      ipureintro
      intro k hk
      intro h hb
      obtain rfl : k = t.val := by omega
      rw [e] at hb; exact absurd hb (by decide)
    isplitl [Ho]; · iexact Ho
    isplitl [H0]; · iexact H0
    isplitl [H1]; · iexact H1
    isplitl [H2]; · iexact H2
    isplitl [H3]; · iexact H3
    isplitl [H4]; · iexact H4
    iexact H5
  case inr =>
    rw [if_pos e]
    rw [e] at hv1 hv18
    by_cases hl : loads (grid0.coords t) 1#32 (be (ends m) (ptN t.val ht)) (be (ends m) (ptN (t.val - 1) (by omega)))
    case pos =>
      rw [← iblk_1 m c t, ← iblk_3 m c t]
      iapply (body_load c (grid0.coords t) (Memref.whole main_v19) (Memref.isWhole_whole _) (Memref.whole main_v24) (Memref.isWhole_whole _)
          (ms0 m t) (hs0 m t) (ms1 m t) (hs1 m t) (ms2 m t) (hs2 m t) (ms3 m t) (hs3 m t) (ms4 m t) (hs4 m t) (ms5 m t) (hs5 m t) (Memref.whole cc0_scratch0) (Memref.isWhole_whole _) (Memref.whole cc0_scratch1) (Memref.isWhole_whole _)
          (be (ends m)) (bv (ends m)) (iblk m c 0 t) (iblk m c 1 t) (iblk m c 2 t) (iblk m c 3 t) (iblk m c 4 t) _ _ _ hv1 hv5 hv9 hv18 hl (by decide) (by decide) Set.univ _)
      isplitl [H5]; · iexists _; iexact H5
      isplitl [T1]; · iexact T1
      isplitl [T2]; · iexact T2
      isplitl [H0]; · iexact H0
      isplitl [H1]; · iexact H1
      isplitl [H2]; · iexact H2
      isplitl [H3]; · iexact H3
      isplitl [H4]; · iexact H4
      isplitl [S9]; · iexists _; iexact S9
      isplitl [S10]; · iexists _; iexact S10
      iintro ⟨H5, T1, T2, H0, H1, H2, H3, H4, S9, S10⟩
      isplitl [S9 S10 R T1 T2]
      · iexists _; iexists _
        isplitr
        swap
        · isplitl [S9]; · iexact S9
          isplitl [S10]; · iexact S10
          isplitl [R]; · iexact R
          isplitl [T1]; · iexact T1
          iexact T2
        ipureintro
        intro k hk
        intro h hb
        obtain rfl : k = t.val := by omega
        exact ⟨by rw [iblk_1], by rw [iblk_3]⟩
      isplitl [Ho]; · iexact Ho
      isplitl [H0]; · iexact H0
      isplitl [H1]; · iexact H1
      isplitl [H2]; · iexact H2
      isplitl [H3]; · iexact H3
      isplitl [H4]; · iexact H4
      iexact H5
    case neg =>
      have hl' := hl
      rw [loads_one, not_or, not_not, hc] at hl'
      obtain ⟨h0, heq⟩ := hl'
      have hee : ex (ends m) (ptN t.val ht) = ex (ends m) (ptN (t.val - 1) (by omega)) := by
        unfold ex; apply Fin.ext; show (be (ends m) _).toNat = (be (ends m) _).toNat; rw [heq]
      have hp : bv (ends m) (ptN (t.val - 1) (by omega)) = 1#32 :=
        bv_pred (ends m) (ptN t.val ht) (ptN (t.val - 1) (by omega)) (by show t.val - 1 + 1 = t.val; omega) e
      obtain ⟨e9, e10⟩ := hk9 (t.val - 1) (by omega) (by omega) hp
      rw [← hee] at e9 e10
      rw [← e9, ← e10]
      iapply (body_keep c (grid0.coords t) (Memref.whole main_v19) (Memref.isWhole_whole _) (Memref.whole main_v24) (Memref.isWhole_whole _)
          (ms0 m t) (hs0 m t) (ms1 m t) (hs1 m t) (ms2 m t) (hs2 m t) (ms3 m t) (hs3 m t) (ms4 m t) (hs4 m t) (ms5 m t) (hs5 m t) (Memref.whole cc0_scratch0) (Memref.isWhole_whole _) (Memref.whole cc0_scratch1) (Memref.isWhole_whole _)
          (be (ends m)) (bv (ends m)) (iblk m c 0 t) (iblk m c 1 t) (iblk m c 2 t) (iblk m c 3 t) (iblk m c 4 t) _ _ _ hv1 hv5 hv9 hv18 hl (by decide) (by decide) s9 s10 Set.univ _)
      isplitl [H5]; · iexists _; iexact H5
      isplitl [T1]; · iexact T1
      isplitl [T2]; · iexact T2
      isplitl [H0]; · iexact H0
      isplitl [H1]; · iexact H1
      isplitl [H2]; · iexact H2
      isplitl [H3]; · iexact H3
      isplitl [H4]; · iexact H4
      isplitl [S9]; · iexact S9
      isplitl [S10]; · iexact S10
      iintro ⟨H5, T1, T2, H0, H1, H2, H3, H4, S9, S10⟩
      isplitl [S9 S10 R T1 T2]
      · iexists _; iexists _
        isplitr
        swap
        · isplitl [S9]; · iexact S9
          isplitl [S10]; · iexact S10
          isplitl [R]; · iexact R
          isplitl [T1]; · iexact T1
          iexact T2
        ipureintro
        intro k hk
        intro h hb
        obtain rfl : k = t.val := by omega
        exact ⟨e9, e10⟩
      isplitl [Ho]; · iexact Ho
      isplitl [H0]; · iexact H0
      isplitl [H1]; · iexact H1
      isplitl [H2]; · iexact H2
      isplitl [H3]; · iexact H3
      isplitl [H4]; · iexact H4
      iexact H5

theorem body_row (t : Fin (cfgA m).N) :
    defs₀ (F := F) .tc (cfgA m).body ((cfgA m).bodyArgs t ((cfgA m).slots t)) = bodyAt m t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  refine triple_restated (sound_body m c t) rfl .rfl fun _ => ?_
  rw [idle_5 m]
  exact .rfl

/-! ## The run -/

/-- The two tables as the launch hands them over. -/
theorem prefHeld_pair (c : Dev nD) (q : Fin 2 → PosShare TreeShare) (v : pre0.Contents (Elt F)) :
    (Pipeline.prefHeld pre0 c q v : sProp 𝕄)
      = iprop((((c : Thread nD τ).loc main_v19) ↦{q 0} (show Buf (Elt F) ((c : Thread nD τ).loc main_v19) from v 0))
          ∗ (((c : Thread nD τ).loc main_v24) ↦{q 1} (show Buf (Elt F) ((c : Thread nD τ).loc main_v24) from v 1))) := by
  unfold Pipeline.prefHeld
  rw [show (Finset.univ : Finset (Fin 2)) = insert 0 {1} from by decide, bigSep_insert (by decide), bigSep_singleton]
  rfl

theorem in_inv (c : Dev nD) : iprop(Pipeline.ΦA spec0 c ∗ Pipeline.ΦT pre0 (tbl (F := F) (ends m)) c) ⊢ (inv0 m c 0 : sProp 𝕄) := by
  unfold Pipeline.ΦA Pipeline.ΦT inv0 tables
  simp only [owns_whole]
  rw [scopedRest0_eq, prefHeld_pair, show (Memref.whole main_v19).view.set = Finset.univ from View.set_whole _, show (Memref.whole main_v24).view.set = Finset.univ from View.set_whole _]
  iintro ⟨⟨⟨⟨%f9, S9⟩, ⟨%f10, S10⟩⟩, R⟩, T1, T2⟩
  iexists f9; iexists f10
  isplitr
  · ipureintro; intro k hk; omega
  isplitl [S9]; · iexact S9
  isplitl [S10]; · iexact S10
  isplitl [R]; · iexact R
  isplitl [T1]; · iexact T1
  iexact T2

theorem out_inv (c : Dev nD) (n : ℕ) : (inv0 m c n : sProp 𝕄) ⊢ Pipeline.ΦA spec0 c := by
  unfold Pipeline.ΦA inv0
  simp only [owns_whole]
  rw [scopedRest0_eq]
  iintro ⟨%s9, %s10, -, S9, S10, R, -⟩
  isplitr [R]
  · isplitl [S9]
    · iexists s9; iexact S9
    iexists s10; iexact S10
  iexact R

set_option backward.isDefEq.respectTransparency.types false in
theorem run_quiescent : θ_run defs (onTc (τ := τ) (main (F := F))) (s₀ m ρ)
    (fun r => Pipeline.FramePost (Pipeline.pin (pcfgs (F := F)) (admA m)) (dats m) 0 (V m) r ∧ r.2.sem = fun _ => 0) :=
  Pipeline.θ_run_frameP_track (Q' := _) (pcfgs (F := F)) (admA m) (dats m) (0 : Fin 1) launch0 defs₀ 𝒱₀ m ρ main
    (hbody := fun c => (body_obligation m c).loose) (hshare := fun c => (dats m 0 c).share_full fun _ => rfl)
    (howed := fun _ _ => rfl) (V := V m)
    (hmain := Pipeline.hmainP_prefixes (pcfgs (F := F)) 0 defs₀ 𝒱₀ m main (hostOps (F := F)) host_sub host_fresh main_chain)
    (hA := A_eq m)
    (hpf := fun c k => by
      obtain rfl : c = 0 := Subsingleton.elim _ _
      match k with
      | ⟨0, _⟩ => exact V_be m 0
      | ⟨1, _⟩ => exact V_bv m 0)
    (hin := fun c => in_inv m c) (hout := fun c => out_inv m c _)

/-- Every run ends, with the result array at what the write-backs leave in it, the arguments unchanged and every counter at zero. -/
theorem run : θ_run defs (onTc (τ := τ) (main (F := F))) ⟨m, fun _ => 0, ρ⟩ (fun r => (∀ c : Dev nD,
      r.2.mem ((c : Thread nD τ).loc main_v27) = (dats m 0 c).arrAt 5 (cfgA m).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r h => ⟨fun c => ⟨(h.1 c).1 5,
      ((h.1 c).2 main_arg0 (Pipeline.mem_restRefs_of main_arg0 (by decide) (show ∀ w : Fin 6, (spec0 w).arr.view.ref ≠ main_arg0 by decide))).trans (V_arg0 m c),
      ((h.1 c).1 0).trans (((dats m 0 c).arrAt_in 0 rfl _).trans (V_arg1 m c)),
      ((h.1 c).1 1).trans (((dats m 0 c).arrAt_in 1 rfl _).trans (V_arg2 m c)),
      ((h.1 c).2 main_arg3 (Pipeline.mem_restRefs_of main_arg3 (by decide) (show ∀ w : Fin 6, (spec0 w).arr.view.ref ≠ main_arg3 by decide))).trans (V_arg3 m c),
      ((h.1 c).1 3).trans (((dats m 0 c).arrAt_in 3 rfl _).trans (V_arg4 m c)),
      ((h.1 c).2 main_arg5 (Pipeline.mem_restRefs_of main_arg5 (by decide) (show ∀ w : Fin 6, (spec0 w).arr.view.ref ≠ main_arg5 by decide))).trans (V_arg5 m c)⟩, h.2⟩) (run_quiescent m ρ)

end Cert.Proof.EI

end
-- ==== Proof.EI.Spec.lean ====
/-
  One row of an expert's block as plain sums over the extended reals: the hidden columns, the gated activation of a pair of them, and
  the row the second matrix makes of the activations. Both programs are read back to these.
-/
module

public import Idealize.ShloMosaic.PureOps.Ideal
public import Idealize.ShloMosaic.Lib.Pointwise

@[expose] public section

noncomputable section

namespace Cert.Proof.EI

open Idealize.ShloMosaic

/-- A row against column `n` of the first matrix, and its bias. -/
def hid (x : Fin 1024 → EReal) (w : Fin 1024 → Fin 2048 → EReal) (b : Fin 2048 → EReal) (n : Fin 2048) : EReal := ∑ k, x k * w k n + b n

/-- The gate's column bounded above. -/
def gcl (g : EReal) : EReal := min g (Ideal.ofBits .f32 0x40E00000#32)

/-- The linear column bounded on both sides. -/
def lcl (l : EReal) : EReal := min (Ideal.ofBits .f32 0x40E00000#32) (max (Ideal.ofBits .f32 0xC0E00000#32) l)

/-- The activation of a gate column and a linear column. -/
def act (g l : EReal) : EReal :=
  gcl g * Ideal.logistic (Ideal.ofBits .f32 0x3FD9DB23#32 * gcl g) * (lcl l + 1)

/-- The activation of hidden column `f` of a row. -/
def hact (x : Fin 1024 → EReal) (w : Fin 1024 → Fin 2048 → EReal) (b : Fin 2048 → EReal) (f : Fin 1024) : EReal :=
  act (hid x w b ⟨f.val, by omega⟩) (hid x w b ⟨1024 + f.val, by omega⟩)

/-- A row's result. -/
def rowOut (x : Fin 1024 → EReal) (w : Fin 1024 → Fin 2048 → EReal) (b : Fin 2048 → EReal) (d : Fin 1024 → Fin 1024 → EReal)
    (e : Fin 1024 → EReal) (j : Fin 1024) : EReal := ∑ f, hact x w b f * d f j + e j

/-- A sum over 1024 columns is the sum of the sums over its four chunks of 256. -/
theorem sum_four (h : Fin 1024 → EReal) : ∑ f, h f = ∑ i : Fin 256, h ⟨i.val, by omega⟩ + ∑ i : Fin 256, h ⟨256 + i.val, by omega⟩
    + ∑ i : Fin 256, h ⟨512 + i.val, by omega⟩ + ∑ i : Fin 256, h ⟨768 + i.val, by omega⟩ := by
  have e3 := Fin.sum_univ_add (a := 768) (b := 256) h
  have e2 := Fin.sum_univ_add (a := 512) (b := 256) fun i => h (Fin.castAdd 256 i)
  have e1 := Fin.sum_univ_add (a := 256) (b := 256) fun i => h (Fin.castAdd 256 (Fin.castAdd 256 i))
  exact e3.trans (congrArg (· + _) (e2.trans (congrArg (· + _) e1)))

end Cert.Proof.EI

end
-- ==== Proof.EI.Pay.lean ====
/-
  The block a valid point writes, read at a row and a column over the extended reals.
-/
module

public import proofs.«01_k».proof.Proof.EI.Common
public import proofs.«01_k».proof.Proof.EI.Spec

@[expose] public section

set_option maxRecDepth 16384

noncomputable section

namespace Cert.Proof.EI

open Cert.ExpertsIdeal Cert.ExpertsIdeal.Gen
open Idealize.ShloMosaic Idealize.ShloMosaic.TcCoe

/-- A row of a chunk of the first product. -/
abbrev mm (x : Vec Ideal S512x1024 .bf16) (g : Vec Ideal S1024x512 .bf16) (r : Fin 512) (n : Fin 512) : EReal :=
  ∑ k : Fin 1024, x (ix2 r k) * g (ix2 k n)

/-- What a chunk of hidden columns adds to a row. -/
abbrev part (x : Vec Ideal S512x1024 .bf16) (g : Vec Ideal S1024x512 .bf16) (b c : Vec Ideal S1x1x1x256 .f32) (d : Vec Ideal S256x1024 .bf16)
    (r : Fin 512) (j : Fin 1024) : EReal :=
  ∑ i : Fin 256, act (mm x g r ⟨i.val, by omega⟩ + b (ix4 0 0 0 i)) (mm x g r ⟨256 + i.val, by omega⟩ + c (ix4 0 0 0 i)) * d (ix2 i j)

variable (x : Vec Ideal S512x1024 .bf16) (g : Vec Ideal S1024x512 .bf16) (b c : Vec Ideal S1x1x1x256 .f32) (d : Vec Ideal S256x1024 .bf16)

theorem pay12_at (r : Fin 512) (j : Fin 1024) : k0_pay12 x g b c d (ix2 r j) = part x g b c d r j := by
  pointwise [k0_pay12, act, gcl, lcl]
  rfl

theorem pay13_at (r n : Fin 512) : k0_pay13 x g (ix2 r n) = mm x g r n := by
  pointwise [k0_pay13]

theorem pay15_at (a : FVec Ideal S512x1024 .f32) (r : Fin 512) (j : Fin 1024) :
    k0_pay15 a (k0_pay13 x g) (k0_pay14 x g) b c d (ix2 r j) = a (ix2 r j) + part x g b c d r j := by
  pointwise [k0_pay15, k0_pay14, k0_pay13, act, gcl, lcl]
  rfl

theorem pay20_at (a : FVec Ideal S512x1024 .f32) (r : Fin 512) (j : Fin 1024) :
    k0_pay20 a (k0_pay17 x g b) (k0_pay18 x g) (k0_pay19 c) d (ix2 r j) = a (ix2 r j) + part x g b c d r j := by
  pointwise [k0_pay20, k0_pay17, k0_pay18, k0_pay19, k0_pay16, act, gcl, lcl]
  rfl

theorem pay1_at (a : FVec Ideal S512x1024 .f32) (e : Vec Ideal S1x1x1x1024 .f32) (r : Fin 512) (j : Fin 1024) :
    k0_pay1 a (k0_pay22 x g b) (k0_pay23 x g c) (k0_pay24 (F := Ideal)) d e (ix2 r j)
      = a (ix2 r j) + part x g b c d r j + e (ix4 0 0 0 j) := by
  pointwise [k0_pay1, k0_pay22, k0_pay23, k0_pay24, k0_pay21, act, gcl, lcl]
  rfl

/-! ## The chunks of the kept matrices and of the bias -/

section Chunks

variable (w : Vec Ideal S1x1x1024x2048 .f32) (dw : Vec Ideal S1x1x1024x1024 .f32) (bb : Vec Ideal S1x1x1x2048 .f32)

/-- The columns of the first matrix, the columns of its bias and the rows of the second matrix, by position. -/
abbrev wc (k : Fin 1024) (n : Fin 2048) : EReal := w (ix4 0 0 k n)
abbrev bc (n : Fin 2048) : EReal := bb (ix4 0 0 0 n)
abbrev dc (f j : Fin 1024) : EReal := dw (ix4 0 0 f j)

theorem gu_at (k : Fin 1024) (n n' : Fin 2048) (h : n'.val = n.val / 512 * 256 + n.val % 256 + n.val % 512 / 256 * 1024) :
    gu w (ix2 k n) = wc w k n' := by
  have e : col n = n' := Fin.ext h.symm
  exact congrArg (fun z => w (ix4 0 0 k z)) e

theorem wdc_at (f j : Fin 1024) : wdc dw (ix2 f j) = dc dw f j := rfl

theorem g0_at (s : Vec Ideal S1024x2048 .bf16) (k : Fin 1024) (n : Fin 512) : g0 s (ix2 k n) = s (ix2 k ⟨0 + n.val, by omega⟩) :=
  congrArg s (funext fun a => Fin.ext (match a with
    | ⟨0, _⟩ => (by show 0 + 1 * k.val = k.val; omega)
    | ⟨1, _⟩ => (by show 0 + 1 * n.val = 0 + n.val; omega)))
theorem d0_at (s : Vec Ideal S1024x1024 .bf16) (i : Fin 256) (j : Fin 1024) : d0 s (ix2 i j) = s (ix2 ⟨0 + i.val, by omega⟩ j) :=
  congrArg s (funext fun a => Fin.ext (match a with
    | ⟨0, _⟩ => (by show 0 + 1 * i.val = 0 + i.val; omega)
    | ⟨1, _⟩ => (by show 0 + 1 * j.val = j.val; omega)))
theorem b0_at (i : Fin 256) : b0 bb (ix4 0 0 0 i) = bc bb ⟨0 + i.val, by omega⟩ :=
  congrArg bb (funext fun a => Fin.ext (match a with
    | ⟨0, _⟩ => rfl | ⟨1, _⟩ => rfl | ⟨2, _⟩ => rfl
    | ⟨3, _⟩ => (by show 0 + 1 * i.val = 0 + i.val; omega)))
theorem c0_at (i : Fin 256) : c0 bb (ix4 0 0 0 i) = bc bb ⟨1024 + i.val, by omega⟩ :=
  congrArg bb (funext fun a => Fin.ext (match a with
    | ⟨0, _⟩ => rfl | ⟨1, _⟩ => rfl | ⟨2, _⟩ => rfl
    | ⟨3, _⟩ => (by show 1024 + 1 * i.val = 1024 + i.val; omega)))

theorem part0_at (r : Fin 512) (j : Fin 1024) :
    part x (g0 (gu w)) (b0 bb) (c0 bb) (d0 (wdc dw)) r j
      = ∑ i : Fin 256, hact (fun k => x (ix2 r k)) (wc w) (bc bb) ⟨0 + i.val, by omega⟩ * dc dw ⟨0 + i.val, by omega⟩ j := by
  refine Finset.sum_congr rfl fun i _ => ?_
  have e1 : mm x (g0 (gu w)) r ⟨i.val, by omega⟩ = ∑ k : Fin 1024, x (ix2 r k) * wc w k ⟨0 + i.val, by omega⟩ :=
    Finset.sum_congr rfl fun k _ => congrArg (x (ix2 r k) * ·) ((g0_at (gu w) k _).trans (gu_at w k _ _ (by dsimp only; omega)))
  have e2 : mm x (g0 (gu w)) r ⟨256 + i.val, by omega⟩ = ∑ k : Fin 1024, x (ix2 r k) * wc w k ⟨1024 + (0 + i.val), by omega⟩ :=
    Finset.sum_congr rfl fun k _ => congrArg (x (ix2 r k) * ·) ((g0_at (gu w) k _).trans (gu_at w k _ _ (by dsimp only; omega)))
  have e3 : c0 bb (ix4 0 0 0 i) = bc bb ⟨1024 + (0 + i.val), by omega⟩ :=
    (c0_at bb i).trans (congrArg (bc bb) (Fin.ext (by dsimp only; omega)))
  rw [e1, e2, e3, b0_at, d0_at, wdc_at]
  rfl

theorem g1_at (s : Vec Ideal S1024x2048 .bf16) (k : Fin 1024) (n : Fin 512) : g1 s (ix2 k n) = s (ix2 k ⟨512 + n.val, by omega⟩) :=
  congrArg s (funext fun a => Fin.ext (match a with
    | ⟨0, _⟩ => (by show 0 + 1 * k.val = k.val; omega)
    | ⟨1, _⟩ => (by show 512 + 1 * n.val = 512 + n.val; omega)))
theorem d1_at (s : Vec Ideal S1024x1024 .bf16) (i : Fin 256) (j : Fin 1024) : d1 s (ix2 i j) = s (ix2 ⟨256 + i.val, by omega⟩ j) :=
  congrArg s (funext fun a => Fin.ext (match a with
    | ⟨0, _⟩ => (by show 256 + 1 * i.val = 256 + i.val; omega)
    | ⟨1, _⟩ => (by show 0 + 1 * j.val = j.val; omega)))
theorem b1_at (i : Fin 256) : b1 bb (ix4 0 0 0 i) = bc bb ⟨256 + i.val, by omega⟩ :=
  congrArg bb (funext fun a => Fin.ext (match a with
    | ⟨0, _⟩ => rfl | ⟨1, _⟩ => rfl | ⟨2, _⟩ => rfl
    | ⟨3, _⟩ => (by show 256 + 1 * i.val = 256 + i.val; omega)))
theorem c1_at (i : Fin 256) : c1 bb (ix4 0 0 0 i) = bc bb ⟨1280 + i.val, by omega⟩ :=
  congrArg bb (funext fun a => Fin.ext (match a with
    | ⟨0, _⟩ => rfl | ⟨1, _⟩ => rfl | ⟨2, _⟩ => rfl
    | ⟨3, _⟩ => (by show 1280 + 1 * i.val = 1280 + i.val; omega)))

theorem part1_at (r : Fin 512) (j : Fin 1024) :
    part x (g1 (gu w)) (b1 bb) (c1 bb) (d1 (wdc dw)) r j
      = ∑ i : Fin 256, hact (fun k => x (ix2 r k)) (wc w) (bc bb) ⟨256 + i.val, by omega⟩ * dc dw ⟨256 + i.val, by omega⟩ j := by
  refine Finset.sum_congr rfl fun i _ => ?_
  have e1 : mm x (g1 (gu w)) r ⟨i.val, by omega⟩ = ∑ k : Fin 1024, x (ix2 r k) * wc w k ⟨256 + i.val, by omega⟩ :=
    Finset.sum_congr rfl fun k _ => congrArg (x (ix2 r k) * ·) ((g1_at (gu w) k _).trans (gu_at w k _ _ (by dsimp only; omega)))
  have e2 : mm x (g1 (gu w)) r ⟨256 + i.val, by omega⟩ = ∑ k : Fin 1024, x (ix2 r k) * wc w k ⟨1024 + (256 + i.val), by omega⟩ :=
    Finset.sum_congr rfl fun k _ => congrArg (x (ix2 r k) * ·) ((g1_at (gu w) k _).trans (gu_at w k _ _ (by dsimp only; omega)))
  have e3 : c1 bb (ix4 0 0 0 i) = bc bb ⟨1024 + (256 + i.val), by omega⟩ :=
    (c1_at bb i).trans (congrArg (bc bb) (Fin.ext (by dsimp only; omega)))
  rw [e1, e2, e3, b1_at, d1_at, wdc_at]
  rfl

theorem g2_at (s : Vec Ideal S1024x2048 .bf16) (k : Fin 1024) (n : Fin 512) : g2 s (ix2 k n) = s (ix2 k ⟨1024 + n.val, by omega⟩) :=
  congrArg s (funext fun a => Fin.ext (match a with
    | ⟨0, _⟩ => (by show 0 + 1 * k.val = k.val; omega)
    | ⟨1, _⟩ => (by show 1024 + 1 * n.val = 1024 + n.val; omega)))
theorem d2_at (s : Vec Ideal S1024x1024 .bf16) (i : Fin 256) (j : Fin 1024) : d2 s (ix2 i j) = s (ix2 ⟨512 + i.val, by omega⟩ j) :=
  congrArg s (funext fun a => Fin.ext (match a with
    | ⟨0, _⟩ => (by show 512 + 1 * i.val = 512 + i.val; omega)
    | ⟨1, _⟩ => (by show 0 + 1 * j.val = j.val; omega)))
theorem b2_at (i : Fin 256) : b2 bb (ix4 0 0 0 i) = bc bb ⟨512 + i.val, by omega⟩ :=
  congrArg bb (funext fun a => Fin.ext (match a with
    | ⟨0, _⟩ => rfl | ⟨1, _⟩ => rfl | ⟨2, _⟩ => rfl
    | ⟨3, _⟩ => (by show 512 + 1 * i.val = 512 + i.val; omega)))
theorem c2_at (i : Fin 256) : c2 bb (ix4 0 0 0 i) = bc bb ⟨1536 + i.val, by omega⟩ :=
  congrArg bb (funext fun a => Fin.ext (match a with
    | ⟨0, _⟩ => rfl | ⟨1, _⟩ => rfl | ⟨2, _⟩ => rfl
    | ⟨3, _⟩ => (by show 1536 + 1 * i.val = 1536 + i.val; omega)))

theorem part2_at (r : Fin 512) (j : Fin 1024) :
    part x (g2 (gu w)) (b2 bb) (c2 bb) (d2 (wdc dw)) r j
      = ∑ i : Fin 256, hact (fun k => x (ix2 r k)) (wc w) (bc bb) ⟨512 + i.val, by omega⟩ * dc dw ⟨512 + i.val, by omega⟩ j := by
  refine Finset.sum_congr rfl fun i _ => ?_
  have e1 : mm x (g2 (gu w)) r ⟨i.val, by omega⟩ = ∑ k : Fin 1024, x (ix2 r k) * wc w k ⟨512 + i.val, by omega⟩ :=
    Finset.sum_congr rfl fun k _ => congrArg (x (ix2 r k) * ·) ((g2_at (gu w) k _).trans (gu_at w k _ _ (by dsimp only; omega)))
  have e2 : mm x (g2 (gu w)) r ⟨256 + i.val, by omega⟩ = ∑ k : Fin 1024, x (ix2 r k) * wc w k ⟨1024 + (512 + i.val), by omega⟩ :=
    Finset.sum_congr rfl fun k _ => congrArg (x (ix2 r k) * ·) ((g2_at (gu w) k _).trans (gu_at w k _ _ (by dsimp only; omega)))
  have e3 : c2 bb (ix4 0 0 0 i) = bc bb ⟨1024 + (512 + i.val), by omega⟩ :=
    (c2_at bb i).trans (congrArg (bc bb) (Fin.ext (by dsimp only; omega)))
  rw [e1, e2, e3, b2_at, d2_at, wdc_at]
  rfl

theorem g3_at (s : Vec Ideal S1024x2048 .bf16) (k : Fin 1024) (n : Fin 512) : g3 s (ix2 k n) = s (ix2 k ⟨1536 + n.val, by omega⟩) :=
  congrArg s (funext fun a => Fin.ext (match a with
    | ⟨0, _⟩ => (by show 0 + 1 * k.val = k.val; omega)
    | ⟨1, _⟩ => (by show 1536 + 1 * n.val = 1536 + n.val; omega)))
theorem d3_at (s : Vec Ideal S1024x1024 .bf16) (i : Fin 256) (j : Fin 1024) : d3 s (ix2 i j) = s (ix2 ⟨768 + i.val, by omega⟩ j) :=
  congrArg s (funext fun a => Fin.ext (match a with
    | ⟨0, _⟩ => (by show 768 + 1 * i.val = 768 + i.val; omega)
    | ⟨1, _⟩ => (by show 0 + 1 * j.val = j.val; omega)))
theorem b3_at (i : Fin 256) : b3 bb (ix4 0 0 0 i) = bc bb ⟨768 + i.val, by omega⟩ :=
  congrArg bb (funext fun a => Fin.ext (match a with
    | ⟨0, _⟩ => rfl | ⟨1, _⟩ => rfl | ⟨2, _⟩ => rfl
    | ⟨3, _⟩ => (by show 768 + 1 * i.val = 768 + i.val; omega)))
theorem c3_at (i : Fin 256) : c3 bb (ix4 0 0 0 i) = bc bb ⟨1792 + i.val, by omega⟩ :=
  congrArg bb (funext fun a => Fin.ext (match a with
    | ⟨0, _⟩ => rfl | ⟨1, _⟩ => rfl | ⟨2, _⟩ => rfl
    | ⟨3, _⟩ => (by show 1792 + 1 * i.val = 1792 + i.val; omega)))

theorem part3_at (r : Fin 512) (j : Fin 1024) :
    part x (g3 (gu w)) (b3 bb) (c3 bb) (d3 (wdc dw)) r j
      = ∑ i : Fin 256, hact (fun k => x (ix2 r k)) (wc w) (bc bb) ⟨768 + i.val, by omega⟩ * dc dw ⟨768 + i.val, by omega⟩ j := by
  refine Finset.sum_congr rfl fun i _ => ?_
  have e1 : mm x (g3 (gu w)) r ⟨i.val, by omega⟩ = ∑ k : Fin 1024, x (ix2 r k) * wc w k ⟨768 + i.val, by omega⟩ :=
    Finset.sum_congr rfl fun k _ => congrArg (x (ix2 r k) * ·) ((g3_at (gu w) k _).trans (gu_at w k _ _ (by dsimp only; omega)))
  have e2 : mm x (g3 (gu w)) r ⟨256 + i.val, by omega⟩ = ∑ k : Fin 1024, x (ix2 r k) * wc w k ⟨1024 + (768 + i.val), by omega⟩ :=
    Finset.sum_congr rfl fun k _ => congrArg (x (ix2 r k) * ·) ((g3_at (gu w) k _).trans (gu_at w k _ _ (by dsimp only; omega)))
  have e3 : c3 bb (ix4 0 0 0 i) = bc bb ⟨1024 + (768 + i.val), by omega⟩ :=
    (c3_at bb i).trans (congrArg (bc bb) (Fin.ext (by dsimp only; omega)))
  rw [e1, e2, e3, b3_at, d3_at, wdc_at]
  rfl

end Chunks

/-- The block a valid point writes, at a row and a column. -/
theorem ffn_at (w : Vec Ideal S1x1x1024x2048 .f32) (bb : Vec Ideal S1x1x1x2048 .f32) (dw : Vec Ideal S1x1x1024x1024 .f32)
    (e : Vec Ideal S1x1x1x1024 .f32) (r : Fin 512) (j : Fin 1024) :
    ffn x (gu w) bb (wdc dw) e (ix2 r j)
      = rowOut (fun k => x (ix2 r k)) (wc w) (bc bb) (dc dw) (fun j => e (ix4 0 0 0 j)) j := by
  unfold ffn acc3 acc2 acc1
  rw [pay1_at, pay20_at, pay15_at, pay12_at, part0_at, part1_at, part2_at, part3_at]
  unfold rowOut
  rw [sum_four fun f => hact (fun k => x (ix2 r k)) (wc w) (bc bb) f * dc dw f j]
  simp only [Nat.zero_add]

end Cert.Proof.EI

end
-- ==== Proof.ER.Val.lean ====
/-
  The reference of the expert call over the extended reals: its result named piece by piece and read at a row and a column as
  one row's plain sums.
-/
module

public import proofs.«01_k».proof.Proof.EI.Spec
public import proofs.«01_k».proof.Proof.EI.Tables
public import proofs.«01_k».proof.Proof.Gen.ExpertsReferenceIdeal
public import Idealize.ShloMosaic.Lib.Pointwise
public import Idealize.ShloMosaic.Lib.Tactic

@[expose] public section

set_option maxRecDepth 16384

noncomputable section

namespace Cert.Proof.ER

open Cert.ExpertsReferenceIdeal Cert.ExpertsReferenceIdeal.Gen
open Idealize.ShloMosaic Idealize.ShloMosaic.TcCoe
open Cert.Proof.EI (hid gcl lcl act hact rowOut)

abbrev CV := S32.Idx → BitVec 32
abbrev TV := S322.Idx → BitVec 32
abbrev XV := FVec Ideal S164864x1024 .bf16
abbrev WV := FVec Ideal S2x32x1024x2048 .f32
abbrev BV := FVec Ideal S2x32x2048 .f32
abbrev DV := FVec Ideal S2x32x1024x1024 .f32
abbrev EV := FVec Ideal S2x32x1024 .f32

/-- The quotients by 512, rounded down. -/
def quot (y : CV) : CV :=
  select (andi (cmpi .ne (signi y) (broadcastInDim S32 ![] bcast_S_S32 (signi (id (constantI S_ 32 512#32)))))
      (cmpi .ne (Host.remsi y (broadcastInDim S32 ![] bcast_S_S32 (id (constantI S_ 32 512#32)))) (broadcastInDim S32 ![] bcast_S_S32 (constantI S_ 32 0#32))))
    (subi (Host.divsi y (broadcastInDim S32 ![] bcast_S_S32 (id (constantI S_ 32 512#32)))) (broadcastInDim S32 ![] bcast_S_S32 (constantI S_ 32 1#32)))
    (Host.divsi y (broadcastInDim S32 ![] bcast_S_S32 (id (constantI S_ 32 512#32))))

/-- 512 of each. -/
def times (y : CV) : CV := muli y (broadcastInDim S32 ![] bcast_S_S32 (constantI S_ 32 512#32))

/-- The running sums. -/
def sums (y : CV) : CV :=
  Host.reduceWindow IntOp.addi ![32] ![1] ![31] ![0] y (broadcastInDim S_ ![] bcast_S_S_ (constantI S_ 32 0#32))
    reduceWindows_S32_S32_w32s1p31_0 h_S_

/-- The experts' ends, from the counts plus 511: the running sums of the counts, each rounded up to whole blocks of 512 rows. -/
def ends (y : CV) : CV := sums (times (quot y))

/-- The counts plus 511. -/
def up (n : CV) : CV := addi n (broadcastInDim S32 ![] bcast_S_S32 (constantI S_ 32 511#32))

/-- The first row of each block. -/
def starts : TV := muli (iotaInDim S322 32 0) (broadcastInDim S322 ![] bcast_S_S322 (constantI S_ 32 512#32))

/-- The expert of each block. -/
def be (p : CV) : TV :=
  minsi (Host.reduce IntOp.addi (extui 32 (cmpi .sle (broadcastInDim S322x32 ![0, 1] bcast_S1x32_S322x32_0_1 (broadcastInDim S1x32 ![1] bcast_S32_S1x32_1 p))
      (broadcastInDim S322x32 ![0, 1] bcast_S322x1_S322x32_0_1 (broadcastInDim S322x1 ![0] bcast_S322_S322x1_0 starts))) natLt_1_32)
    (constantI S_ 32 0#32) reducesTo_S322x32_S322_d1 h_S_) (broadcastInDim S322 ![] bcast_S_S322 (constantI S_ 32 31#32))

theorem be_eq (p : CV) : be p = Cert.Proof.EI.be p := rfl

theorem be_lt (p : CV) (b : Fin 322) : (be p (ix1 b)).toNat < 32 := Cert.Proof.EI.be_lt p (ix1 b)

/-- The expert of a block. -/
def ex (p : CV) (b : Fin 322) : Fin 32 := ⟨(be p (ix1 b)).toNat, be_lt p b⟩

/-- A table's entries, a negative one counted from the end. -/
def wrap (e : TV) : TV :=
  select (cmpi .slt e (broadcastInDim S322 ![] bcast_S_S322 (constantI S_ 32 0#32))) (addi e (broadcastInDim S322 ![] bcast_S_S322 (constantI S_ 32 32#32))) e

theorem wrap_at (p : CV) (b : Fin 322) : wrap (be p) (ix1 b) = be p (ix1 b) := by
  have h := be_lt p b
  have key : ∀ w : BitVec 32, w.toNat < 32 → IntOp.cmpi .slt w 0#32 = 0#1 := by
    intro w hw
    have : w.slt 0#32 = false := by
      simp only [BitVec.slt, decide_eq_false_iff_not, BitVec.toInt_eq_toNat_cond]
      rw [if_pos (by omega)]; simp
    unfold IntOp.cmpi
    simp [this]
  have e : wrap (be p) (ix1 b) = if IntOp.cmpi .slt (be p (ix1 b)) 0#32 = 1#1 then IntOp.addi (be p (ix1 b)) 32#32 else be p (ix1 b) := rfl
  rw [e, key _ h, if_neg (by decide)]

/-- A position along an axis taken whole. -/
def zero (n : BitVec 32) : S322x1.Idx → BitVec 32 :=
  broadcastInDim S322x1 ![] bcast_S_S322x1 (select (cmpi .slt (constantI S_ 32 0#32) (constantI S_ 32 0#32)) (addi (constantI S_ 32 0#32) (constantI S_ 32 n)) (constantI S_ 32 0#32))

/-- The places a block's matrix and a block's bias start at. -/
def at3 (e : TV) (n k : BitVec 32) : S322x3.Idx → BitVec 32 :=
  concatenate S322x3 1 [⟨S322x1, broadcastInDim S322x1 ![0] bcast_S322_S322x1_0 e⟩, ⟨S322x1, zero n⟩, ⟨S322x1, zero k⟩]
    concatenates_S322x1_S322x1_S322x1_S322x3_d1
def at2 (e : TV) (n : BitVec 32) : S322x2.Idx → BitVec 32 :=
  concatenate S322x2 1 [⟨S322x1, broadcastInDim S322x1 ![0] bcast_S322_S322x1_0 e⟩, ⟨S322x1, zero n⟩] concatenates_S322x1_S322x1_S322x2_d1

theorem at3_at (e : TV) (n k : BitVec 32) (b : Fin 322) : at3 e n k (ix2 b 0) = e (ix1 b) := by
  pointwise [at3]
theorem at2_at (e : TV) (n : BitVec 32) (b : Fin 322) : at2 e n (ix2 b 0) = e (ix1 b) := by
  pointwise [at2]

theorem gather_w (x : FVec Ideal S32x1024x2048 .f32) (i : S322x3.Idx → BitVec 32) (b : Fin 322) (k : Fin 1024) (n : Fin 2048) (e : Fin 32)
    (h : i (ix2 b 0) = BitVec.ofNat 32 e.val) :
    Host.gather gather_S32x1024x2048_S322x3_S322x1x1024x2048_123_n_n_n_012_1_110242048 x i (ix4 b 0 k n) = x (ix3 e k n) := by
  unfold Host.gather
  refine congrArg x (funext fun a => Fin.ext ?_)
  show (gather_S32x1024x2048_S322x3_S322x1x1024x2048_123_n_n_n_012_1_110242048).start (ix4 b 0 k n) i a + (gather_S32x1024x2048_S322x3_S322x1x1024x2048_123_n_n_n_012_1_110242048).batchCoord (ix4 b 0 k n) a + (gather_S32x1024x2048_S322x3_S322x1x1024x2048_123_n_n_n_012_1_110242048).offCoord (ix4 b 0 k n) a = _
  rw [GatherDims.batchCoord_eq_zero _ _ _ List.not_mem_nil]
  match a with
  | ⟨0, _⟩ =>
    have hs : (gather_S32x1024x2048_S322x3_S322x1x1024x2048_123_n_n_n_012_1_110242048).siIdx (ix4 b 0 k n) ⟨0, by decide⟩ = ix2 b 0 := by
      funext z; refine Fin.ext ?_
      match z with
      | ⟨0, _⟩ => rfl
      | ⟨1, _⟩ => rfl
    have e1 : (gather_S32x1024x2048_S322x3_S322x1x1024x2048_123_n_n_n_012_1_110242048).start (ix4 b 0 k n) i ⟨0, by decide⟩ = min (i (ix2 b 0)).toInt.toNat 31 := by
      rw [← hs]; rfl
    have e2 : (gather_S32x1024x2048_S322x3_S322x1x1024x2048_123_n_n_n_012_1_110242048).offCoord (ix4 b 0 k n) ⟨0, by decide⟩ = 0 := rfl
    have e3 : (BitVec.ofNat 32 e.val).toInt.toNat = e.val := by
      have := e.isLt
      rw [BitVec.toInt_eq_toNat_cond, BitVec.toNat_ofNat, Nat.mod_eq_of_lt (by omega), if_pos (by omega)]; rfl
    refine (congrArg₂ (fun u v => u + 0 + v) e1 e2).trans ?_
    rw [h, e3]
    show min e.val 31 + 0 + 0 = e.val
    have := e.isLt; omega
  | ⟨1, _⟩ =>
    have e1 : (gather_S32x1024x2048_S322x3_S322x1x1024x2048_123_n_n_n_012_1_110242048).start (ix4 b 0 k n) i ⟨1, by decide⟩ = 0 := Nat.min_zero _
    have e2 : (gather_S32x1024x2048_S322x3_S322x1x1024x2048_123_n_n_n_012_1_110242048).offCoord (ix4 b 0 k n) ⟨1, by decide⟩ = k.val := rfl
    refine (congrArg₂ (fun u v => u + 0 + v) e1 e2).trans ?_
    show 0 + 0 + k.val = k.val
    omega
  | ⟨2, _⟩ =>
    have e1 : (gather_S32x1024x2048_S322x3_S322x1x1024x2048_123_n_n_n_012_1_110242048).start (ix4 b 0 k n) i ⟨2, by decide⟩ = 0 := Nat.min_zero _
    have e2 : (gather_S32x1024x2048_S322x3_S322x1x1024x2048_123_n_n_n_012_1_110242048).offCoord (ix4 b 0 k n) ⟨2, by decide⟩ = n.val := rfl
    refine (congrArg₂ (fun u v => u + 0 + v) e1 e2).trans ?_
    show 0 + 0 + n.val = n.val
    omega

theorem gather_d (x : FVec Ideal S32x1024x1024 .f32) (i : S322x3.Idx → BitVec 32) (b : Fin 322) (k : Fin 1024) (n : Fin 1024) (e : Fin 32)
    (h : i (ix2 b 0) = BitVec.ofNat 32 e.val) :
    Host.gather gather_S32x1024x1024_S322x3_S322x1x1024x1024_123_n_n_n_012_1_110241024 x i (ix4 b 0 k n) = x (ix3 e k n) := by
  unfold Host.gather
  refine congrArg x (funext fun a => Fin.ext ?_)
  show (gather_S32x1024x1024_S322x3_S322x1x1024x1024_123_n_n_n_012_1_110241024).start (ix4 b 0 k n) i a + (gather_S32x1024x1024_S322x3_S322x1x1024x1024_123_n_n_n_012_1_110241024).batchCoord (ix4 b 0 k n) a + (gather_S32x1024x1024_S322x3_S322x1x1024x1024_123_n_n_n_012_1_110241024).offCoord (ix4 b 0 k n) a = _
  rw [GatherDims.batchCoord_eq_zero _ _ _ List.not_mem_nil]
  match a with
  | ⟨0, _⟩ =>
    have hs : (gather_S32x1024x1024_S322x3_S322x1x1024x1024_123_n_n_n_012_1_110241024).siIdx (ix4 b 0 k n) ⟨0, by decide⟩ = ix2 b 0 := by
      funext z; refine Fin.ext ?_
      match z with
      | ⟨0, _⟩ => rfl
      | ⟨1, _⟩ => rfl
    have e1 : (gather_S32x1024x1024_S322x3_S322x1x1024x1024_123_n_n_n_012_1_110241024).start (ix4 b 0 k n) i ⟨0, by decide⟩ = min (i (ix2 b 0)).toInt.toNat 31 := by
      rw [← hs]; rfl
    have e2 : (gather_S32x1024x1024_S322x3_S322x1x1024x1024_123_n_n_n_012_1_110241024).offCoord (ix4 b 0 k n) ⟨0, by decide⟩ = 0 := rfl
    have e3 : (BitVec.ofNat 32 e.val).toInt.toNat = e.val := by
      have := e.isLt
      rw [BitVec.toInt_eq_toNat_cond, BitVec.toNat_ofNat, Nat.mod_eq_of_lt (by omega), if_pos (by omega)]; rfl
    refine (congrArg₂ (fun u v => u + 0 + v) e1 e2).trans ?_
    rw [h, e3]
    show min e.val 31 + 0 + 0 = e.val
    have := e.isLt; omega
  | ⟨1, _⟩ =>
    have e1 : (gather_S32x1024x1024_S322x3_S322x1x1024x1024_123_n_n_n_012_1_110241024).start (ix4 b 0 k n) i ⟨1, by decide⟩ = 0 := Nat.min_zero _
    have e2 : (gather_S32x1024x1024_S322x3_S322x1x1024x1024_123_n_n_n_012_1_110241024).offCoord (ix4 b 0 k n) ⟨1, by decide⟩ = k.val := rfl
    refine (congrArg₂ (fun u v => u + 0 + v) e1 e2).trans ?_
    show 0 + 0 + k.val = k.val
    omega
  | ⟨2, _⟩ =>
    have e1 : (gather_S32x1024x1024_S322x3_S322x1x1024x1024_123_n_n_n_012_1_110241024).start (ix4 b 0 k n) i ⟨2, by decide⟩ = 0 := Nat.min_zero _
    have e2 : (gather_S32x1024x1024_S322x3_S322x1x1024x1024_123_n_n_n_012_1_110241024).offCoord (ix4 b 0 k n) ⟨2, by decide⟩ = n.val := rfl
    refine (congrArg₂ (fun u v => u + 0 + v) e1 e2).trans ?_
    show 0 + 0 + n.val = n.val
    omega

theorem gather_b (x : FVec Ideal S32x2048 .f32) (i : S322x2.Idx → BitVec 32) (b : Fin 322) (n : Fin 2048) (e : Fin 32)
    (h : i (ix2 b 0) = BitVec.ofNat 32 e.val) :
    Host.gather gather_S32x2048_S322x2_S322x1x2048_12_n_n_n_01_1_12048 x i (ix3 b 0 n) = x (ix2 e n) := by
  unfold Host.gather
  refine congrArg x (funext fun a => Fin.ext ?_)
  show (gather_S32x2048_S322x2_S322x1x2048_12_n_n_n_01_1_12048).start (ix3 b 0 n) i a + (gather_S32x2048_S322x2_S322x1x2048_12_n_n_n_01_1_12048).batchCoord (ix3 b 0 n) a + (gather_S32x2048_S322x2_S322x1x2048_12_n_n_n_01_1_12048).offCoord (ix3 b 0 n) a = _
  rw [GatherDims.batchCoord_eq_zero _ _ _ List.not_mem_nil]
  match a with
  | ⟨0, _⟩ =>
    have hs : (gather_S32x2048_S322x2_S322x1x2048_12_n_n_n_01_1_12048).siIdx (ix3 b 0 n) ⟨0, by decide⟩ = ix2 b 0 := by
      funext z; refine Fin.ext ?_
      match z with
      | ⟨0, _⟩ => rfl
      | ⟨1, _⟩ => rfl
    have e1 : (gather_S32x2048_S322x2_S322x1x2048_12_n_n_n_01_1_12048).start (ix3 b 0 n) i ⟨0, by decide⟩ = min (i (ix2 b 0)).toInt.toNat 31 := by
      rw [← hs]; rfl
    have e2 : (gather_S32x2048_S322x2_S322x1x2048_12_n_n_n_01_1_12048).offCoord (ix3 b 0 n) ⟨0, by decide⟩ = 0 := rfl
    have e3 : (BitVec.ofNat 32 e.val).toInt.toNat = e.val := by
      have := e.isLt
      rw [BitVec.toInt_eq_toNat_cond, BitVec.toNat_ofNat, Nat.mod_eq_of_lt (by omega), if_pos (by omega)]; rfl
    refine (congrArg₂ (fun u v => u + 0 + v) e1 e2).trans ?_
    rw [h, e3]
    show min e.val 31 + 0 + 0 = e.val
    have := e.isLt; omega
  | ⟨1, _⟩ =>
    have e1 : (gather_S32x2048_S322x2_S322x1x2048_12_n_n_n_01_1_12048).start (ix3 b 0 n) i ⟨1, by decide⟩ = 0 := Nat.min_zero _
    have e2 : (gather_S32x2048_S322x2_S322x1x2048_12_n_n_n_01_1_12048).offCoord (ix3 b 0 n) ⟨1, by decide⟩ = n.val := rfl
    refine (congrArg₂ (fun u v => u + 0 + v) e1 e2).trans ?_
    show 0 + 0 + n.val = n.val
    omega

theorem gather_e (x : FVec Ideal S32x1024 .f32) (i : S322x2.Idx → BitVec 32) (b : Fin 322) (n : Fin 1024) (e : Fin 32)
    (h : i (ix2 b 0) = BitVec.ofNat 32 e.val) :
    Host.gather gather_S32x1024_S322x2_S322x1x1024_12_n_n_n_01_1_11024 x i (ix3 b 0 n) = x (ix2 e n) := by
  unfold Host.gather
  refine congrArg x (funext fun a => Fin.ext ?_)
  show (gather_S32x1024_S322x2_S322x1x1024_12_n_n_n_01_1_11024).start (ix3 b 0 n) i a + (gather_S32x1024_S322x2_S322x1x1024_12_n_n_n_01_1_11024).batchCoord (ix3 b 0 n) a + (gather_S32x1024_S322x2_S322x1x1024_12_n_n_n_01_1_11024).offCoord (ix3 b 0 n) a = _
  rw [GatherDims.batchCoord_eq_zero _ _ _ List.not_mem_nil]
  match a with
  | ⟨0, _⟩ =>
    have hs : (gather_S32x1024_S322x2_S322x1x1024_12_n_n_n_01_1_11024).siIdx (ix3 b 0 n) ⟨0, by decide⟩ = ix2 b 0 := by
      funext z; refine Fin.ext ?_
      match z with
      | ⟨0, _⟩ => rfl
      | ⟨1, _⟩ => rfl
    have e1 : (gather_S32x1024_S322x2_S322x1x1024_12_n_n_n_01_1_11024).start (ix3 b 0 n) i ⟨0, by decide⟩ = min (i (ix2 b 0)).toInt.toNat 31 := by
      rw [← hs]; rfl
    have e2 : (gather_S32x1024_S322x2_S322x1x1024_12_n_n_n_01_1_11024).offCoord (ix3 b 0 n) ⟨0, by decide⟩ = 0 := rfl
    have e3 : (BitVec.ofNat 32 e.val).toInt.toNat = e.val := by
      have := e.isLt
      rw [BitVec.toInt_eq_toNat_cond, BitVec.toNat_ofNat, Nat.mod_eq_of_lt (by omega), if_pos (by omega)]; rfl
    refine (congrArg₂ (fun u v => u + 0 + v) e1 e2).trans ?_
    rw [h, e3]
    show min e.val 31 + 0 + 0 = e.val
    have := e.isLt; omega
  | ⟨1, _⟩ =>
    have e1 : (gather_S32x1024_S322x2_S322x1x1024_12_n_n_n_01_1_11024).start (ix3 b 0 n) i ⟨1, by decide⟩ = 0 := Nat.min_zero _
    have e2 : (gather_S32x1024_S322x2_S322x1x1024_12_n_n_n_01_1_11024).offCoord (ix3 b 0 n) ⟨1, by decide⟩ = n.val := rfl
    refine (congrArg₂ (fun u v => u + 0 + v) e1 e2).trans ?_
    show 0 + 0 + n.val = n.val
    omega

/-! ## The pieces -/

/-- The rows, block by block. -/
def xb (x : XV) : FVec Ideal S322x512x1024 .f32 := shapeCast _ (extf .f32 x bitsLt_bf16_f32) shapeCasts_S164864x1024_S322x512x1024

/-- Each block's matrices and biases. -/
def gw (w : WV) (e : TV) : FVec Ideal S322x1024x2048 .f32 :=
  shapeCast _ (Host.gather gather_S32x1024x2048_S322x3_S322x1x1024x2048_123_n_n_n_012_1_110242048
    (shapeCast _ (extractStridedSlice S1x32x1024x2048 ![0, 0, 0, 0] w slices_S2x32x1024x2048_S1x32x1024x2048_0_0_0_0) shapeCasts_S1x32x1024x2048_S32x1024x2048)
    (at3 (wrap e) 1024#32 2048#32)) shapeCasts_S322x1x1024x2048_S322x1024x2048
def gb (w : BV) (e : TV) : FVec Ideal S322x2048 .f32 :=
  shapeCast _ (Host.gather gather_S32x2048_S322x2_S322x1x2048_12_n_n_n_01_1_12048
    (shapeCast _ (extractStridedSlice S1x32x2048 ![0, 0, 0] w slices_S2x32x2048_S1x32x2048_0_0_0) shapeCasts_S1x32x2048_S32x2048)
    (at2 (wrap e) 2048#32)) shapeCasts_S322x1x2048_S322x2048
def gd (w : DV) (e : TV) : FVec Ideal S322x1024x1024 .f32 :=
  shapeCast _ (Host.gather gather_S32x1024x1024_S322x3_S322x1x1024x1024_123_n_n_n_012_1_110241024
    (shapeCast _ (extractStridedSlice S1x32x1024x1024 ![0, 0, 0, 0] w slices_S2x32x1024x1024_S1x32x1024x1024_0_0_0_0) shapeCasts_S1x32x1024x1024_S32x1024x1024)
    (at3 (wrap e) 1024#32 1024#32)) shapeCasts_S322x1x1024x1024_S322x1024x1024
def ge (w : EV) (e : TV) : FVec Ideal S322x1024 .f32 :=
  shapeCast _ (Host.gather gather_S32x1024_S322x2_S322x1x1024_12_n_n_n_01_1_11024
    (shapeCast _ (extractStridedSlice S1x32x1024 ![0, 0, 0] w slices_S2x32x1024_S1x32x1024_0_0_0) shapeCasts_S1x32x1024_S32x1024)
    (at2 (wrap e) 1024#32)) shapeCasts_S322x1x1024_S322x1024

/-- The hidden columns. -/
def hidden (x : FVec Ideal S322x512x1024 .f32) (w : FVec Ideal S322x1024x2048 .f32) (b : FVec Ideal S322x2048 .f32) : FVec Ideal S322x512x2048 .f32 :=
  addf (Host.dotGeneral dot_S322x512x1024_S322x1024x2048_S322x512x2048_2_1_1_2_0_0 none x w)
    (broadcastInDim S322x512x2048 ![0, 1, 2] bcast_S322x1x2048_S322x512x2048_0_1_2 (broadcastInDim S322x1x2048 ![0, 2] bcast_S322x2048_S322x1x2048_0_2 b))

/-- The same number at every place. -/
abbrev every (b : BitVec 32) : FVec Ideal S322x512x1024 .f32 := broadcastInDim S322x512x1024 ![] bcast_S_S322x512x1024 (constant S_ .f32 b)
abbrev every' (b : BitVec 32) : FVec Ideal S322x512x1024 .f32 := broadcastInDim S322x512x1024 ![] bcast_S_S322x512x1024 (id (constant S_ .f32 b))

/-- The gate's columns, bounded above. -/
def gate (h : FVec Ideal S322x512x2048 .f32) : FVec Ideal S322x512x1024 .f32 :=
  minimumf (extractStridedSlice S322x512x1024 ![0, 0, 0] h slices_S322x512x2048_S322x512x1024_0_0_0) (every 0x40E00000#32)

/-- The activations. -/
def actv (h : FVec Ideal S322x512x2048 .f32) : FVec Ideal S322x512x1024 .f32 :=
  mulf (mulf (gate h) (Host.divf (every 0x3F800000#32) (addf (every 0x3F800000#32) (Host.exp (Host.negf (mulf (every 0x3FD9DB23#32) (gate h)))))))
    (addf (minimumf (every' 0x40E00000#32) (maximumf (every' 0xC0E00000#32)
      (extractStridedSlice S322x512x1024 ![0, 0, 1024] h slices_S322x512x2048_S322x512x1024_0_0_1024))) (every 0x3F800000#32))

/-- Every block's rows as the experts make them. -/
def made (x : XV) (w : WV) (b : BV) (d : DV) (e : EV) (t : TV) : FVec Ideal S322x512x1024 .f32 :=
  addf (Host.dotGeneral dot_S322x512x1024_S322x1024x1024_S322x512x1024_2_1_1_2_0_0 none (actv (hidden (xb x) (gw w t) (gb b t))) (gd d t))
    (broadcastInDim S322x512x1024 ![0, 1, 2] bcast_S322x1x1024_S322x512x1024_0_1_2 (broadcastInDim S322x1x1024 ![0, 2] bcast_S322x1024_S322x1x1024_0_2 (ge e t)))

/-- Whether each block holds an expert's rows. -/
def holds (p : CV) : S322.Idx → BitVec 1 :=
  cmpi .slt starts (broadcastInDim S322 ![] bcast_S_S322 (shapeCast _ (extractStridedSlice S1 ![31] p slices_S32_S1_31) shapeCasts_S1_S_))

/-- The result from the experts' ends. -/
def outOf (p : CV) (x : XV) (w : WV) (b : BV) (d : DV) (e : EV) : FVec Ideal S164864x1024 .bf16 :=
  truncf .bf16 (shapeCast _ (select (broadcastInDim S322x512x1024 ![0, 1, 2] bcast_S322x1x1_S322x512x1024_0_1_2
      (broadcastInDim S322x1x1 ![0] bcast_S322_S322x1x1_0 (holds p)))
    (made x w b d e (be p)) (every' 0x00000000#32)) shapeCasts_S322x512x1024_S164864x1024) bitsLt_bf16_f32

/-- The result. -/
def out (n : CV) (x : XV) (w : WV) (b : BV) (d : DV) (e : EV) : FVec Ideal S164864x1024 .bf16 := outOf (ends (up n)) x w b d e

/-! ## At an index -/

theorem xb_at (x : XV) (b : Fin 322) (r : Fin 512) (k : Fin 1024) : xb x (ix3 b r k) = x (ix2 ⟨b.val * 512 + r.val, by omega⟩ k) := by
  pointwise [xb]

theorem ex_word (p : CV) (b : Fin 322) : wrap (be p) (ix1 b) = BitVec.ofNat 32 (ex p b).val := by
  rw [wrap_at]
  show be p (ix1 b) = BitVec.ofNat 32 (be p (ix1 b)).toNat
  simp

theorem gw_at (w : WV) (p : CV) (b : Fin 322) (k : Fin 1024) (n : Fin 2048) : gw w (be p) (ix3 b k n) = w (ix4 0 (ex p b) k n) := by
  have e : gw w (be p) (ix3 b k n) = Host.gather gather_S32x1024x2048_S322x3_S322x1x1024x2048_123_n_n_n_012_1_110242048
      (shapeCast _ (extractStridedSlice S1x32x1024x2048 ![0, 0, 0, 0] w slices_S2x32x1024x2048_S1x32x1024x2048_0_0_0_0) shapeCasts_S1x32x1024x2048_S32x1024x2048)
      (at3 (wrap (be p)) 1024#32 2048#32) (ix4 b 0 k n) := by
    pointwise [gw]
  rw [e, gather_w _ _ _ _ _ (ex p b) ((at3_at _ _ _ _).trans (ex_word p b))]
  pointwise
theorem gb_at (w : BV) (p : CV) (b : Fin 322) (n : Fin 2048) : gb w (be p) (ix2 b n) = w (ix3 0 (ex p b) n) := by
  have e : gb w (be p) (ix2 b n) = Host.gather gather_S32x2048_S322x2_S322x1x2048_12_n_n_n_01_1_12048
      (shapeCast _ (extractStridedSlice S1x32x2048 ![0, 0, 0] w slices_S2x32x2048_S1x32x2048_0_0_0) shapeCasts_S1x32x2048_S32x2048)
      (at2 (wrap (be p)) 2048#32) (ix3 b 0 n) := by
    pointwise [gb]
  rw [e, gather_b _ _ _ _ (ex p b) ((at2_at _ _ _).trans (ex_word p b))]
  pointwise
theorem gd_at (w : DV) (p : CV) (b : Fin 322) (k : Fin 1024) (n : Fin 1024) : gd w (be p) (ix3 b k n) = w (ix4 0 (ex p b) k n) := by
  have e : gd w (be p) (ix3 b k n) = Host.gather gather_S32x1024x1024_S322x3_S322x1x1024x1024_123_n_n_n_012_1_110241024
      (shapeCast _ (extractStridedSlice S1x32x1024x1024 ![0, 0, 0, 0] w slices_S2x32x1024x1024_S1x32x1024x1024_0_0_0_0) shapeCasts_S1x32x1024x1024_S32x1024x1024)
      (at3 (wrap (be p)) 1024#32 1024#32) (ix4 b 0 k n) := by
    pointwise [gd]
  rw [e, gather_d _ _ _ _ _ (ex p b) ((at3_at _ _ _ _).trans (ex_word p b))]
  pointwise
theorem ge_at (w : EV) (p : CV) (b : Fin 322) (n : Fin 1024) : ge w (be p) (ix2 b n) = w (ix3 0 (ex p b) n) := by
  have e : ge w (be p) (ix2 b n) = Host.gather gather_S32x1024_S322x2_S322x1x1024_12_n_n_n_01_1_11024
      (shapeCast _ (extractStridedSlice S1x32x1024 ![0, 0, 0] w slices_S2x32x1024_S1x32x1024_0_0_0) shapeCasts_S1x32x1024_S32x1024)
      (at2 (wrap (be p)) 1024#32) (ix3 b 0 n) := by
    pointwise [ge]
  rw [e, gather_e _ _ _ _ (ex p b) ((at2_at _ _ _).trans (ex_word p b))]
  pointwise

theorem hidden_at (x : FVec Ideal S322x512x1024 .f32) (w : FVec Ideal S322x1024x2048 .f32) (v : FVec Ideal S322x2048 .f32)
    (b : Fin 322) (r : Fin 512) (n : Fin 2048) :
    hidden x w v (ix3 b r n) = hid (fun k => x (ix3 b r k)) (fun k n => w (ix3 b k n)) (fun n => v (ix2 b n)) n := by
  pointwise [hidden, hid]

theorem actv_at (h : FVec Ideal S322x512x2048 .f32) (b : Fin 322) (r : Fin 512) (f : Fin 1024) :
    actv h (ix3 b r f) = act (h (ix3 b r ⟨f.val, by omega⟩)) (h (ix3 b r ⟨1024 + f.val, by omega⟩)) := by
  pointwise [actv, gate, act, gcl, lcl]
  rfl

theorem made_at (x : XV) (w : WV) (v : BV) (d : DV) (e : EV) (p : CV) (b : Fin 322) (r : Fin 512) (j : Fin 1024) :
    made x w v d e (be p) (ix3 b r j)
      = rowOut (fun k => x (ix2 ⟨b.val * 512 + r.val, by omega⟩ k)) (fun k n => w (ix4 0 (ex p b) k n)) (fun n => v (ix3 0 (ex p b) n))
          (fun f j => d (ix4 0 (ex p b) f j)) (fun j => e (ix3 0 (ex p b) j)) j := by
  have e1 : made x w v d e (be p) (ix3 b r j)
      = ∑ f : Fin 1024, actv (hidden (xb x) (gw w (be p)) (gb v (be p))) (ix3 b r f) * gd d (be p) (ix3 b f j) + ge e (be p) (ix2 b j) := by
    pointwise [made]
  rw [e1]
  simp only [actv_at, hidden_at, xb_at, gw_at, gb_at, gd_at, ge_at]
  rfl

/-- The result at a row and a column. -/
theorem outOf_at (p : CV) (x : XV) (w : WV) (v : BV) (d : DV) (e : EV) (b : Fin 322) (r : Fin 512) (j : Fin 1024) :
    outOf p x w v d e (ix2 ⟨b.val * 512 + r.val, by omega⟩ j)
      = if (starts (ix1 b)).slt (p (ix1 31)) then
          rowOut (fun k => x (ix2 ⟨b.val * 512 + r.val, by omega⟩ k)) (fun k n => w (ix4 0 (ex p b) k n)) (fun n => v (ix3 0 (ex p b) n))
            (fun f j => d (ix4 0 (ex p b) f j)) (fun j => e (ix3 0 (ex p b) j)) j
        else 0 := by
  have e1 : outOf p x w v d e (ix2 ⟨b.val * 512 + r.val, by omega⟩ j)
      = if IntOp.cmpi .slt (starts (ix1 b)) (p (ix1 31)) = 1#1 then made x w v d e (be p) (ix3 b r j) else 0 := by
    pointwise [outOf, holds]
    have z : (id (constant S_ .f32 0x00000000#32) : FVec Ideal S_ .f32) ix0 = (0 : EReal) := Ideal.ofBits_zero_f32
    rw [z]
    rfl
  rw [e1, made_at]
  unfold IntOp.cmpi
  cases (starts (ix1 b)).slt (p (ix1 31)) <;> simp

end Cert.Proof.ER

end
-- ==== Proof.EI.Arr.lean ====
/-
  The result array after the run, over the extended reals: each input block read back to the program's arguments, and the array
  the write-backs leave equal to the reference's result (`arr_eq`).
-/
module

public import proofs.«01_k».proof.Proof.EI.Run
public import proofs.«01_k».proof.Proof.EI.Pay
public import proofs.«01_k».proof.Proof.ER.Val
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.Proof.EI

open Cert.ExpertsIdeal Cert.ExpertsIdeal.Gen
open Idealize.ShloMosaic Idealize.ShloMosaic.TcCoe Idealize.ShloMosaic.Tactic

variable (m : (ℓ : Loc nD τ sig) → Buf (Elt Ideal) ℓ) (c : Dev nD)

/-- The counts, the rows and the experts' matrices and biases a device is given. -/
abbrev nArg : S32.Idx → BitVec 32 := m ((c : Thread nD τ).loc main_arg0)
abbrev xArg : FVec Ideal S164864x1024 .bf16 := m ((c : Thread nD τ).loc main_arg1)
abbrev wArg : FVec Ideal S2x32x1024x2048 .f32 := m ((c : Thread nD τ).loc main_arg2)
abbrev bArg : FVec Ideal S2x32x2048 .f32 := m ((c : Thread nD τ).loc main_arg3)
abbrev dArg : FVec Ideal S2x32x1024x1024 .f32 := m ((c : Thread nD τ).loc main_arg4)
abbrev eArg : FVec Ideal S2x32x1024 .f32 := m ((c : Thread nD τ).loc main_arg5)

/-! ## The host's operations -/

/-- The counts plus 512, less one. -/
def up (n : S32.Idx → BitVec 32) : S32.Idx → BitVec 32 :=
  subi (addi n (broadcastInDim S32 ![] bcast_S_S32 (constantI S_ 32 512#32))) (broadcastInDim S32 ![] bcast_S_S32 (constantI S_ 32 1#32))

theorem up_eq (n : S32.Idx → BitVec 32) : up n = ER.up n := by
  funext x
  show n x + 512#32 - 1#32 = n x + 511#32
  rw [BitVec.sub_eq_add_neg, BitVec.add_assoc]
  rfl

section Stretches

variable (U : Valuation τ sig (Elt Ideal))

theorem st0 : StableHlo.after hostOps0 U (Proc.devRef .tc main_v3) = up (U (Proc.devRef .tc main_arg0)) := by
  after_results_simp; rfl
theorem st0' : StableHlo.after hostOps0 U (Proc.devRef .tc main_c_1) = constantI S_ 32 512#32 := by
  after_results_simp
theorem st1 (h : U (Proc.devRef .tc main_c_1) = constantI S_ 32 512#32) :
    StableHlo.after hostOps0_1 U (Proc.devRef .tc main_v4) = ER.quot (U (Proc.devRef .tc main_v3)) := by
  after_results_simp
  rw [h]
  unfold ER.quot
  rfl
theorem st2 : StableHlo.after hostOps0_2 U (Proc.devRef .tc main_v6) = ER.times (U (Proc.devRef .tc main_v4)) := by
  after_results_simp; rfl
attribute [local irreducible] Host.reduceWindow in
theorem st3 : StableHlo.after hostOps0_3 U (Proc.devRef .tc main_v7) = ER.sums (U (Proc.devRef .tc main_v6)) := by
  after_results_simp; unfold ER.sums; rfl

end Stretches

theorem pend_eq : pend m c = ER.ends (ER.up (nArg m c)) := by
  have e : pend m c = StableHlo.after hostOps0_3 (StableHlo.after hostOps0_2 (StableHlo.after hostOps0_1 (StableHlo.after hostOps0 (fun b => m (c, b)))))
      (Proc.devRef .tc main_v7) := rfl
  rw [e, st3, st2, st1 _ (st0' _), st0]
  exact congrArg ER.ends (up_eq (nArg m c))

theorem V_b1 : V m c main_v25 = broadcastInDim S2x32x1x2048 ![0, 1, 3] bcast_S2x32x2048_S2x32x1x2048_0_1_3 (bArg m c) := by
  unfold V
  after_results_simp
  rfl

theorem V_b2 : V m c main_v26 = broadcastInDim S2x32x1x1024 ![0, 1, 3] bcast_S2x32x1024_S2x32x1x1024_0_1_3 (eArg m c) := by
  unfold V
  after_results_simp
  rfl

/-! ## The blocks -/

theorem ix_0 (t : Fin (cfgA m).N) : ((cfgA m).win 0).index t = ![t.val, 0] := by
  have h := lt_N t
  funext a; fin_cases a
  · show (BitVec.ofNat 32 (grid0.coords t 0).val).toNat = t.val
    rw [coord_val, BitVec.toNat_ofNat]; omega
  · rfl

theorem ix_5 (t : Fin (cfgA m).N) : ((cfgA m).win 5).index t = ![t.val, 0] := by
  have h := lt_N t
  funext a; fin_cases a
  · show (BitVec.ofNat 32 (grid0.coords t 0).val).toNat = t.val
    rw [coord_val, BitVec.toNat_ofNat]; omega
  · rfl

theorem ix_2 (t : Fin (cfgA m).N) : ((cfgA m).win 2).index t = ![0, (ex (ends m) (ptN t.val (lt_N t))).val, 0, 0] := by
  funext a; fin_cases a
  · rfl
  · have e := congrArg BitVec.toNat (ix_w m t)
    exact e
  · rfl
  · rfl

theorem ix_4 (t : Fin (cfgA m).N) : ((cfgA m).win 4).index t = ![0, (ex (ends m) (ptN t.val (lt_N t))).val, 0, 0] := by
  funext a; fin_cases a
  · rfl
  · have e := congrArg BitVec.toNat (ix_w m t)
    exact e
  · rfl
  · rfl

theorem blk0_at (t : Fin (cfgA m).N) (r : Fin 512) (k : Fin 1024) : (iblk m c 0 t : Vec Ideal S512x1024 .bf16) (ix2 r k)
    = xArg m c (ix2 ⟨t.val * 512 + r.val, by have := lt_N t; omega⟩ k) := by
  rw [show xArg m c = V m c main_arg1 from (V_arg1 m c).symm]
  blk_simp [iblk]
  congr 1
  blk_ext [ix_0 m t]

theorem blk2_at (t : Fin (cfgA m).N) (n : Fin 2048) : (iblk m c 2 t : Vec Ideal S1x1x1x2048 .f32) (ix4 0 0 0 n)
    = bArg m c (ix3 0 (ex (ends m) (ptN t.val (lt_N t))) n) := by
  have e : (iblk m c 2 t : Vec Ideal S1x1x1x2048 .f32) (ix4 0 0 0 n) = V m c main_v25 (ix4 0 (ex (ends m) (ptN t.val (lt_N t))) 0 n) := by
    blk_simp [iblk]
    congr 1
    blk_ext [ix_2 m t]
  rw [e, V_b1]
  pointwise

theorem blk4_at (t : Fin (cfgA m).N) (n : Fin 1024) : (iblk m c 4 t : Vec Ideal S1x1x1x1024 .f32) (ix4 0 0 0 n)
    = eArg m c (ix3 0 (ex (ends m) (ptN t.val (lt_N t))) n) := by
  have e : (iblk m c 4 t : Vec Ideal S1x1x1x1024 .f32) (ix4 0 0 0 n) = V m c main_v26 (ix4 0 (ex (ends m) (ptN t.val (lt_N t))) 0 n) := by
    blk_simp [iblk]
    congr 1
    blk_ext [ix_4 m t]
  rw [e, V_b2]
  pointwise

/-! ## The array -/

theorem pay2_at (x : S512x1024.Idx) : k0_pay2 (F := Ideal) x = 0 := Ideal.ofBits_zero_bf16

/-- A point's block at a row and a column. -/
theorem out_at (t : Fin (cfgA m).N) (r : Fin 512) (j : Fin 1024) : outAt m c t (ix2 r j)
    = ER.outOf (ends m) (xArg m c) (wArg m c) (bArg m c) (dArg m c) (eArg m c) (ix2 ⟨t.val * 512 + r.val, by have := lt_N t; omega⟩ j) := by
  refine Eq.trans ?_ (ER.outOf_at (ends m) (xArg m c) (wArg m c) (bArg m c) (dArg m c) (eArg m c) ⟨t.val, lt_N t⟩ r j).symm
  have hb := bv_at (ends m) (ptN t.val (lt_N t))
  have hs : ER.starts (ix1 ⟨t.val, lt_N t⟩) = BitVec.ofNat 32 ((ptN t.val (lt_N t) 0).val * 512) := starts_at (ptN t.val (lt_N t))
  rw [hs]
  unfold outAt
  by_cases hc : (BitVec.ofNat 32 ((ptN t.val (lt_N t) 0).val * 512)).slt (ends m (ix1 31)) = true
  · rw [if_pos hc] at hb
    rw [if_pos hb, if_pos hc]
    refine (ffn_at (iblk m c 0 t : Vec Ideal S512x1024 .bf16) _ (iblk m c 2 t : Vec Ideal S1x1x1x2048 .f32) _ (iblk m c 4 t : Vec Ideal S1x1x1x1024 .f32) r j).trans ?_
    have e1 : (fun k => (iblk m c 0 t : Vec Ideal S512x1024 .bf16) (ix2 r k))
        = fun k => xArg m c (ix2 ⟨t.val * 512 + r.val, by have := lt_N t; omega⟩ k) := funext fun k => blk0_at m c t r k
    have e2 : bc (iblk m c 2 t : Vec Ideal S1x1x1x2048 .f32) = fun n => bArg m c (ix3 0 (ex (ends m) (ptN t.val (lt_N t))) n) :=
      funext fun n => blk2_at m c t n
    have e4 : (fun n => (iblk m c 4 t : Vec Ideal S1x1x1x1024 .f32) (ix4 0 0 0 n)) = fun n => eArg m c (ix3 0 (ex (ends m) (ptN t.val (lt_N t))) n) :=
      funext fun n => blk4_at m c t n
    have e3 : wc (wgu m c (ex (ends m) (ptN t.val (lt_N t)))) = fun k n => wArg m c (ix4 0 (ex (ends m) (ptN t.val (lt_N t))) k n) := by
      funext k n; unfold wc wgu; rw [V_arg2]; rfl
    have e5 : dc (wdn m c (ex (ends m) (ptN t.val (lt_N t)))) = fun k n => dArg m c (ix4 0 (ex (ends m) (ptN t.val (lt_N t))) k n) := by
      funext k n; unfold dc wdn; rw [V_arg4]; rfl
    rw [e1, e2, e3, e4, e5]
    rfl
  · rw [if_neg hc] at hb
    rw [if_neg (by rw [hb]; decide), if_neg hc, pay2_at]

theorem ends_eq : ends m = ER.ends (ER.up (nArg m c)) := by
  obtain rfl : c = 0 := Subsingleton.elim _ _
  exact pend_eq m 0

theorem arr_eq : (dats m 0 c).arrAt 5 (cfgA m).N = ER.out (nArg m c) (xArg m c) (wArg m c) (bArg m c) (dArg m c) (eArg m c) := by
  refine (dats m 0 c).arrAt_eq_of_covers 5 _ (((cfgA m).win 5).covers_of_indexMap_surj rfl (fun a : Fin 2 => match a with
      | ⟨0, _⟩ => (by show 0 < 512; decide)
      | ⟨1, _⟩ => (by show 0 < 1024; decide)) fun β => ?_) fun t hf y => ?_
  · have h0 : (β (0 : Fin 2)).val < 322 := lt_of_lt_of_eq (β (0 : Fin 2)).isLt (show (164864 + 512 - 1) / 512 = 322 by decide)
    have h1 : (β (1 : Fin 2)).val < 1 := lt_of_lt_of_eq (β (1 : Fin 2)).isLt (show (1024 + 1024 - 1) / 1024 = 1 by decide)
    refine ⟨fun a => match a with | ⟨0, _⟩ => ⟨(β (0 : Fin 2)).val, h0⟩, fun a => ?_⟩
    match a with
    | ⟨0, _⟩ => show (BitVec.ofNat 32 (β (0 : Fin 2)).val).toNat = (β (0 : Fin 2)).val; rw [BitVec.toNat_ofNat]; omega
    | ⟨1, _⟩ => show 0 = (β (1 : Fin 2)).val; omega
  · blk_simp
    rw [after_5]
    obtain ⟨r, l, rfl⟩ : ∃ (r : Fin 512) (l : Fin 1024), y = ix2 r l := ⟨y (0 : Fin 2), y (1 : Fin 2), eq_ix2 (n0 := 512) (n1 := 1024) y⟩
    refine (out_at m c t r l).trans ?_
    unfold ER.out
    rw [← ends_eq m c]
    congr 1
    blk_ext [ix_5 m t]

end Cert.Proof.EI

end
-- ==== Proof.ER.Run.lean ====
/-
  The reference of the expert call run: its result is the one named in `ER.Val`.
-/
module

public import proofs.«01_k».proof.Proof.ER.Val
public import proofs.«01_k».proof.Proof.Gen.ExpertsReferenceIdeal.Run

@[expose] public section

set_option maxRecDepth 16384

noncomputable section

namespace Cert.Proof.ER

open Cert.ExpertsReferenceIdeal Cert.ExpertsReferenceIdeal.Gen
open Idealize.ShloMosaic Idealize.ShloMosaic.TcCoe Idealize.SL.Sem

variable (m : (ℓ : Loc nD τ sig) → Buf (Elt Ideal) ℓ) (ρ : Dev nD → PrngReg) (c : Dev nD)

abbrev nArg : CV := m ((c : Thread nD τ).loc main_arg0)
abbrev xArg : XV := m ((c : Thread nD τ).loc main_arg1)
abbrev wArg : WV := m ((c : Thread nD τ).loc main_arg2)
abbrev bArg : BV := m ((c : Thread nD τ).loc main_arg3)
abbrev dArg : DV := m ((c : Thread nD τ).loc main_arg4)
abbrev eArg : EV := m ((c : Thread nD τ).loc main_arg5)

open Cert.ExpertsReferenceIdeal.Value in
theorem v13_eq (V0 : Valuation τ sig (Elt Ideal)) : res_main_v13 V0 = ends (up (V0 (Proc.devRef .tc main_arg0))) := by
  unfold res_main_v13 res_main_call0_v2 res_main_call0_v0 res_main_v9 ends sums times quot up
  rfl

open Cert.ExpertsReferenceIdeal.Value in
theorem v25_eq (V0 : Valuation τ sig (Elt Ideal)) : res_main_v25 V0 = be (ends (up (V0 (Proc.devRef .tc main_arg0)))) := by
  unfold res_main_v25
  rw [v13_eq]
  rfl

open Cert.ExpertsReferenceIdeal.Value in
theorem v61_eq (V0 : Valuation τ sig (Elt Ideal)) : res_main_v61 V0
    = hidden (xb (V0 (Proc.devRef .tc main_arg1))) (gw (V0 (Proc.devRef .tc main_arg2)) (be (ends (up (V0 (Proc.devRef .tc main_arg0))))))
        (gb (V0 (Proc.devRef .tc main_arg3)) (be (ends (up (V0 (Proc.devRef .tc main_arg0)))))) := by
  unfold res_main_v61
  rw [v25_eq]
  rfl

/-- The reference ends with its result, its arguments unchanged. -/
theorem run : θ_run defs (onTc (τ := τ) (main (F := Ideal))) ⟨m, fun _ => 0, ρ⟩ fun r => ∀ c : Dev nD,
    r.2.mem ((c.tc : Thread nD τ).loc main_v120) = out (nArg m c) (xArg m c) (wArg m c) (bArg m c) (dArg m c) (eArg m c)
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.ExpertsReferenceIdeal.Value.run (F := Ideal) m ρ)
  obtain ⟨h1, hargs⟩ := h c
  refine ⟨h1.trans ?_, hargs⟩
  unfold Cert.ExpertsReferenceIdeal.Value.res_main_v65
  rw [v61_eq, v25_eq, v13_eq]
  rfl

end Cert.Proof.ER

end
-- ==== Proof.F.Tables.lean ====
/-
  The two tables the second layer's expert call is told of: the expert of each block of 512 rows and whether the block holds rows of an expert at all,
  as functions of the experts' ends (the running sum of their row counts, each rounded up to whole blocks). Whatever the ends are, the
  first table names one of the 32 experts, the second holds zeros and ones, and the ones come first.
-/
module

public import proofs.«01_k».proof.Proof.F.Common
public import proofs.«01_k».proof.Proof.EI.Tables

@[expose] public section

set_option maxRecDepth 16384

noncomputable section

namespace Cert.Proof.F

open Cert.NextExperts Cert.NextExperts.Gen
open Idealize.ShloMosaic Idealize.ShloMosaic.TcCoe

variable {F : FTy → Type} [FloatOps F]

/-- The first row of each block. -/
def starts : S322.Idx → BitVec 32 := muli (iotaInDim S322 32 0) (broadcastInDim S322 ![] bcast_S_S322 (constantI S_ 32 512#32))

/-- Whether expert `e` ends at or before the first row of block `b`, as a word. -/
def ended (p : S32.Idx → BitVec 32) : S322x32.Idx → BitVec 32 :=
  extui 32 (cmpi .sle (broadcastInDim S322x32 ![0, 1] bcast_S1x32_S322x32_0_1 (broadcastInDim S1x32 ![1] bcast_S32_S1x32_1 p))
    (broadcastInDim S322x32 ![0, 1] bcast_S322x1_S322x32_0_1 (broadcastInDim S322x1 ![0] bcast_S322_S322x1_0 starts))) natLt_1_32

/-- The expert of each block. -/
def be (p : S32.Idx → BitVec 32) : S322.Idx → BitVec 32 :=
  minsi (Host.reduce IntOp.addi (ended p) (constantI S_ 32 0#32) reducesTo_S322x32_S322_d1 h_S_)
    (broadcastInDim S322 ![] bcast_S_S322 (constantI S_ 32 31#32))

/-- Whether each block holds rows of an expert, as a word. -/
def bv (p : S32.Idx → BitVec 32) : S322.Idx → BitVec 32 :=
  extui 32 (cmpi .slt starts (broadcastInDim S322 ![] bcast_S_S322
    (shapeCast S_ (extractStridedSlice S1 ![31] p slices_S32_S1_31) shapeCasts_S1_S_))) natLt_1_32

theorem starts_at (x : S322.Idx) : starts x = BitVec.ofNat 32 ((x 0).val * 512) := EI.starts_at x

theorem bv_or (p : S32.Idx → BitVec 32) (x : S322.Idx) : bv p x = 0#32 ∨ bv p x = 1#32 := EI.bv_or p x

theorem bv_at (p : S32.Idx → BitVec 32) (x : S322.Idx) :
    bv p x = if (BitVec.ofNat 32 ((x 0).val * 512)).slt (p (ix1 31)) then 1#32 else 0#32 := EI.bv_at p x

theorem be_lt (p : S32.Idx → BitVec 32) (x : S322.Idx) : (be p x).toNat < 32 := EI.be_lt p x

/-- The blocks of rows come before the others. -/
theorem bv_pred (p : S32.Idx → BitVec 32) (x y : S322.Idx) (h : (y 0).val + 1 = (x 0).val) (hx : bv p x = 1#32) : bv p y = 1#32 :=
  EI.bv_pred p x y h hx

end Cert.Proof.F

end
-- ==== Proof.FI.Common.lean ====
/-
  The second layer's expert call's body as plain functions: the two weight matrices of a block's expert as the body keeps them between blocks
  (cast, and the columns of the first interleaved by chunks of 256), and the block the body writes from them.
-/
module

public import proofs.«01_k».proof.Proof.Gen.NextExpertsIdeal.Launch
public import proofs.«01_k».proof.Proof.Gen.NextExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pointwise

@[expose] public section

set_option maxRecDepth 16384

noncomputable section

namespace Cert.Proof.FI

open Cert.NextExpertsIdeal Cert.NextExpertsIdeal.Gen
open Idealize.ShloMosaic Idealize.ShloMosaic.TcCoe

variable {F : FTy → Type} [FloatOps F]

/-- Where column `c` of the kept matrix comes from: each 512 columns are 256 gate columns, then the 256 linear ones. -/
def col (c : Fin 2048) : Fin 2048 := ⟨c.val / 512 * 256 + c.val % 256 + c.val % 512 / 256 * 1024, by omega⟩

/-- The first weight matrix as kept. -/
def gu (x : Vec F S1x1x1024x2048 .f32) : Vec F S1024x2048 .bf16 :=
  fun y => FloatOps.truncf .bf16 bitsLt_bf16_f32 (x (ix4 0 0 (y 0) (col (y 1))))

/-- The second weight matrix as kept. -/
def wdc (x : Vec F S1x1x1024x1024 .f32) : Vec F S1024x1024 .bf16 :=
  fun y => FloatOps.truncf .bf16 bitsLt_bf16_f32 (x (ix4 0 0 (y 0) (y 1)))

theorem pay3_at (v : Vec F S1x1x128x256 .f32) (x : S128x256.Idx) :
    k0_pay3 v x = FloatOps.truncf .bf16 bitsLt_bf16_f32 (v (ix4 0 0 (x 0) (x 1))) := by
  pointwise [k0_pay3]

theorem pay11_at (v : Vec F S1x1x128x1024 .f32) (x : S128x1024.Idx) :
    k0_pay11 v x = FloatOps.truncf .bf16 bitsLt_bf16_f32 (v (ix4 0 0 (x 0) (x 1))) := by
  pointwise [k0_pay11]

/-- A rectangle of a vector. -/
abbrev sub {s : Shape} {e : EltTy} (x : Vec F s e) (off size : Fin s.rank → ℕ) (inb : ∀ a, off a + size a ≤ s.size a) :
    Vec F (Rect.unit (s := s) off size inb).shape e := fun y => x ((Rect.unit (s := s) off size inb).toLoadRect.idx y)

/-- The columns `512·j …` of the first kept matrix. -/
abbrev g0 (s : Vec F S1024x2048 .bf16) : Vec F S1024x512 .bf16 := sub s ![0, 0] S1024x512.size inb_S1024x2048_S1024x512_0_0
abbrev g1 (s : Vec F S1024x2048 .bf16) : Vec F S1024x512 .bf16 := sub s ![0, 512] S1024x512.size inb_S1024x2048_S1024x512_0_512
abbrev g2 (s : Vec F S1024x2048 .bf16) : Vec F S1024x512 .bf16 := sub s ![0, 1024] S1024x512.size inb_S1024x2048_S1024x512_0_1024
abbrev g3 (s : Vec F S1024x2048 .bf16) : Vec F S1024x512 .bf16 := sub s ![0, 1536] S1024x512.size inb_S1024x2048_S1024x512_0_1536

/-- The rows `256·j …` of the second kept matrix. -/
abbrev d0 (s : Vec F S1024x1024 .bf16) : Vec F S256x1024 .bf16 := sub s ![0, 0] S256x1024.size inb_S1024x1024_S256x1024_0_0
abbrev d1 (s : Vec F S1024x1024 .bf16) : Vec F S256x1024 .bf16 := sub s ![256, 0] S256x1024.size inb_S1024x1024_S256x1024_256_0
abbrev d2 (s : Vec F S1024x1024 .bf16) : Vec F S256x1024 .bf16 := sub s ![512, 0] S256x1024.size inb_S1024x1024_S256x1024_512_0
abbrev d3 (s : Vec F S1024x1024 .bf16) : Vec F S256x1024 .bf16 := sub s ![768, 0] S256x1024.size inb_S1024x1024_S256x1024_768_0

/-- Chunks of the first bias. -/
abbrev b0 (s : Vec F S1x1x1x2048 .f32) : Vec F S1x1x1x256 .f32 := sub s ![0, 0, 0, 0] S1x1x1x256.size inb_S1x1x1x2048_S1x1x1x256_0_0_0_0
abbrev b1 (s : Vec F S1x1x1x2048 .f32) : Vec F S1x1x1x256 .f32 := sub s ![0, 0, 0, 256] S1x1x1x256.size inb_S1x1x1x2048_S1x1x1x256_0_0_0_256
abbrev b2 (s : Vec F S1x1x1x2048 .f32) : Vec F S1x1x1x256 .f32 := sub s ![0, 0, 0, 512] S1x1x1x256.size inb_S1x1x1x2048_S1x1x1x256_0_0_0_512
abbrev b3 (s : Vec F S1x1x1x2048 .f32) : Vec F S1x1x1x256 .f32 := sub s ![0, 0, 0, 768] S1x1x1x256.size inb_S1x1x1x2048_S1x1x1x256_0_0_0_768
abbrev c0 (s : Vec F S1x1x1x2048 .f32) : Vec F S1x1x1x256 .f32 := sub s ![0, 0, 0, 1024] S1x1x1x256.size inb_S1x1x1x2048_S1x1x1x256_0_0_0_1024
abbrev c1 (s : Vec F S1x1x1x2048 .f32) : Vec F S1x1x1x256 .f32 := sub s ![0, 0, 0, 1280] S1x1x1x256.size inb_S1x1x1x2048_S1x1x1x256_0_0_0_1280
abbrev c2 (s : Vec F S1x1x1x2048 .f32) : Vec F S1x1x1x256 .f32 := sub s ![0, 0, 0, 1536] S1x1x1x256.size inb_S1x1x1x2048_S1x1x1x256_0_0_0_1536
abbrev c3 (s : Vec F S1x1x1x2048 .f32) : Vec F S1x1x1x256 .f32 := sub s ![0, 0, 0, 1792] S1x1x1x256.size inb_S1x1x1x2048_S1x1x1x256_0_0_0_1792

/-- The sums after one, two and three chunks. -/
def acc1 (x : Vec F S512x1024 .bf16) (s : Vec F S1024x2048 .bf16) (b : Vec F S1x1x1x2048 .f32) (d : Vec F S1024x1024 .bf16) : FVec F S512x1024 .f32 :=
  k0_pay12 x (g0 s) (b0 b) (c0 b) (d0 d)
def acc2 (x : Vec F S512x1024 .bf16) (s : Vec F S1024x2048 .bf16) (b : Vec F S1x1x1x2048 .f32) (d : Vec F S1024x1024 .bf16) : FVec F S512x1024 .f32 :=
  k0_pay15 (acc1 x s b d) (k0_pay13 x (g1 s)) (k0_pay14 x (g1 s)) (b1 b) (c1 b) (d1 d)
def acc3 (x : Vec F S512x1024 .bf16) (s : Vec F S1024x2048 .bf16) (b : Vec F S1x1x1x2048 .f32) (d : Vec F S1024x1024 .bf16) : FVec F S512x1024 .f32 :=
  k0_pay20 (acc2 x s b d) (k0_pay17 x (g2 s) (b2 b)) (k0_pay18 x (g2 s)) (k0_pay19 (c2 b)) (d2 d)

/-- The block a valid point writes. -/
def ffn (x : Vec F S512x1024 .bf16) (s : Vec F S1024x2048 .bf16) (b : Vec F S1x1x1x2048 .f32) (d : Vec F S1024x1024 .bf16)
    (e : Vec F S1x1x1x1024 .f32) : Vec F S512x1024 .bf16 :=
  k0_pay1 (acc3 x s b d) (k0_pay22 x (g3 s) (b3 b)) (k0_pay23 x (g3 s) (c3 b)) (k0_pay24 (F := F)) (d3 d) e

end Cert.Proof.FI

end
-- ==== Proof.FI.Loop.lean ====
/-
  The loop of the second layer's expert call's body: eight trips, each casting 128 rows of the two weight matrices into the kept ones.
-/
module

public import proofs.«01_k».proof.Proof.FI.Common
public import Idealize.ShloMosaic.Lib.Exec

@[expose] public section

set_option maxRecDepth 16384

noncomputable section

namespace Cert.Proof.FI

open Cert.NextExpertsIdeal Cert.NextExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.nat

theorem pay_eq (k : Fin k0_t1_loop.trips) : k0_pay4 (F := F) = k0_pay3 := rfl

/-- A piece of 256 columns: the rows `128·k …` of the columns from `a`, cast, are the kept matrix's columns from `b`. -/
theorem piece9 {arg4 : Memref sig .tc .vmem S1x1x1024x2048 .f32} (harg4 : arg4.IsWhole) (x4 : Vec F S1x1x1024x2048 .f32) (k a b : ℕ) (hk : k < 8)
    (ha : ∀ n : Fin 2048, ∀ m : ℕ, m < 256 → n.val = b + m → (col n).val = a + m)
    (off4 : Fin 4 → ℕ) (i4 : ∀ t, off4 t + S1x1x128x256.size t ≤ S1x1x1024x2048.size t) (h4 : off4 = ![0, 0, 128 * k, a])
    (off9 : Fin 2 → ℕ) (i9 : ∀ t, off9 t + S128x256.size t ≤ S1024x2048.size t) (h9 : off9 = ![128 * k, b]) (x : S128x256.Idx) :
    k0_pay3 (arg4.view.readAt (Elt F) (Rect.unit (s := S1x1x1024x2048) off4 S1x1x128x256.size i4).toLoadRect (harg4.unread x4)) x
      = gu x4 ((Rect.unit (s := S1024x2048) off9 S128x256.size i9).emb x) := by
  subst h4 h9
  rw [pay3_at, harg4.readAt_unread]
  unfold gu
  congr 2
  funext t
  apply Fin.ext
  match t with
  | ⟨0, _⟩ => rfl
  | ⟨1, _⟩ => rfl
  | ⟨2, _⟩ => rfl
  | ⟨3, _⟩ =>
    refine (?_ : a + 1 * (x 1).val = _).trans (ha _ (x 1).val (x 1).isLt ?_).symm
    · omega
    · show b + 1 * (x 1).val = _; omega

theorem piece10 {arg6 : Memref sig .tc .vmem S1x1x1024x1024 .f32} (harg6 : arg6.IsWhole) (x6 : Vec F S1x1x1024x1024 .f32) (k : ℕ) (hk : k < 8)
    (off6 : Fin 4 → ℕ) (i6 : ∀ t, off6 t + S1x1x128x1024.size t ≤ S1x1x1024x1024.size t) (h6 : off6 = ![0, 0, 128 * k, 0])
    (off10 : Fin 2 → ℕ) (i10 : ∀ t, off10 t + S128x1024.size t ≤ S1024x1024.size t) (h10 : off10 = ![128 * k, 0]) (x : S128x1024.Idx) :
    k0_pay11 (arg6.view.readAt (Elt F) (Rect.unit (s := S1x1x1024x1024) off6 S1x1x128x1024.size i6).toLoadRect (harg6.unread x6)) x
      = wdc x6 ((Rect.unit (s := S1024x1024) off10 S128x1024.size i10).emb x) := by
  subst h6 h10
  rw [pay11_at, harg6.readAt_unread]
  unfold wdc
  congr 2
  funext t
  apply Fin.ext
  match t with
  | ⟨0, _⟩ => rfl
  | ⟨1, _⟩ => rfl
  | ⟨2, _⟩ => rfl
  | ⟨3, _⟩ => rfl

/-- Rows already cast lie in none of the trip's pieces. -/
theorem row9 {k b : ℕ} {y : S1024x2048.Idx} (hlo : (y 0).val < 128 * k) {off : Fin 2 → ℕ} (i9 : ∀ t, off t + S128x256.size t ≤ S1024x2048.size t)
    (h : off = ![128 * k, b]) : y ∉ (Rect.unit (s := S1024x2048) off S128x256.size i9).set := by
  subst h
  intro hm
  have h0 : 128 * k ≤ (y 0).val := (Rect.mem_set_unit.mp hm 0).1
  omega

theorem row10 {k b : ℕ} {y : S1024x1024.Idx} (hlo : (y 0).val < 128 * k) {off : Fin 2 → ℕ} (i10 : ∀ t, off t + S128x1024.size t ≤ S1024x1024.size t)
    (h : off = ![128 * k, b]) : y ∉ (Rect.unit (s := S1024x1024) off S128x1024.size i10).set := by
  subst h
  intro hm
  have h0 : 128 * k ≤ (y 0).val := (Rect.mem_set_unit.mp hm 0).1
  omega

/-- A trip's rows lie in its pieces, by columns. -/
theorem mem9 {k b : ℕ} {y : S1024x2048.Idx} (hlo : ¬(y 0).val < 128 * k) (hy : (y 0).val < 128 * (k + 1)) (hb : (y 1).val / 256 * 256 = b)
    {off : Fin 2 → ℕ} (i9 : ∀ t, off t + S128x256.size t ≤ S1024x2048.size t) (h : off = ![128 * k, b]) :
    y ∈ (Rect.unit (s := S1024x2048) off S128x256.size i9).set := by
  subst h
  refine Rect.mem_set_unit.mpr fun t => ?_
  match t with
  | ⟨0, _⟩ => exact ⟨by show 128 * k ≤ (y 0).val; omega, by show (y 0).val < 128 * k + 128; omega⟩
  | ⟨1, _⟩ => exact ⟨by show b ≤ (y 1).val; omega, by show (y 1).val < b + 256; omega⟩

section Trip

variable (c : Dev nD) (i : grid0.Coords) (arg1 : Memref sig .tc .smem S322 .i32) (harg1 : arg1.IsWhole) (arg2 : Memref sig .tc .smem S322 .i32) (harg2 : arg2.IsWhole) (arg3 : Memref sig .tc .vmem S512x1024 .bf16) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
  (x4 : Vec F S1x1x1024x2048 .f32) (x6 : Vec F S1x1x1024x1024 .f32)

/-- Before trip `k`: the rows below `128·k` of the kept matrices are the cast ones. -/
def inv (k : ℕ) (_ : Unit) : sProp 𝕄 :=
  iprop((arg4.view.loc (c : Thread nD τ) ↦[arg4.view.set]{fullShare} harg4.unread x4)
    ∗ (arg6.view.loc (c : Thread nD τ) ↦[arg6.view.set]{fullShare} harg6.unread x6)
    ∗ (∃ f, (arg9.view.loc (c : Thread nD τ) ↦[arg9.view.set]{fullShare} f) ∗ ⌜∀ y : S1024x2048.Idx, (y 0).val < 128 * k → arg9.view.read (Elt F) f y = gu x4 y⌝)
    ∗ (∃ f, (arg10.view.loc (c : Thread nD τ) ↦[arg10.view.set]{fullShare} f) ∗ ⌜∀ y : S1024x1024.Idx, (y 0).val < 128 * k → arg10.view.read (Elt F) f y = wdc x6 y⌝))

set_option maxHeartbeats 2000000 in
theorem step (E : Set ℕ) (k : Fin k0_t1_loop.trips) (acc : Unit) :
    inv c arg4 harg4 arg6 harg6 arg9 arg10 x4 x6 k.val acc
      ⊢ wp frame (wpE (defs₀ (F := F)) 𝒱₀ (c : Thread nD τ) none) E (k0_t1_body (F := F) i arg1 harg1 arg2 harg2 arg3 harg3 arg4 harg4 arg5 harg5 arg6 harg6 arg7 harg7 arg8 harg8 arg9 harg9 arg10 harg10 k acc)
        (inv c arg4 harg4 arg6 harg6 arg9 arg10 x4 x6 (k.val + 1)) := by
  have hk : k.val < 8 := Nat.lt_of_lt_of_le k.isLt k0_t1_abs.2.1
  unfold inv k0_t1_body
  iintro ⟨H4, H6, ⟨%f9, H9, %h9⟩, ⟨%f10, H10, %h10⟩⟩
  sl_exec
  sl_step
  isplitl [H4]; · iexact H4
  isplitl [H6]; · iexact H6
  isplitl [H9]
  · iexists _; isplitl [H9]; · iexact H9
    ipureintro
    intro y hy
    by_cases hlo : (y 0).val < 128 * k.val
    · rw [View.read_writes_apply_of_forall_not_mem]
      · exact h9 y hlo
      · intro p hp
        simp only [List.mem_cons, List.not_mem_nil, _root_.or_false] at hp
        rcases hp with rfl | rfl | rfl | rfl | rfl | rfl | rfl | rfl <;>
        first
        | exact row9 hlo (k0_off4_inb k) (k0_off4_eq k)
        | exact row9 hlo (k0_off6_inb k) (k0_off6_eq k)
        | exact row9 hlo (k0_off8_inb k) (k0_off8_eq k)
        | exact row9 hlo (k0_off10_inb k) (k0_off10_eq k)
        | exact row9 hlo (k0_off12_inb k) (k0_off12_eq k)
        | exact row9 hlo (k0_off14_inb k) (k0_off14_eq k)
        | exact row9 hlo (k0_off16_inb k) (k0_off16_eq k)
        | exact row9 hlo (k0_off18_inb k) (k0_off18_eq k)
    · refine View.read_writes_apply_of_pieces (G := gu x4) _ _ _ ?_ y ?_
      · intro p hp x
        simp only [List.mem_cons, List.not_mem_nil, _root_.or_false] at hp
        rcases hp with rfl | rfl | rfl | rfl | rfl | rfl | rfl | rfl
        · exact piece9 harg4 x4 k.val 1792 1792 hk (fun n m hm hn => by unfold col; dsimp only; omega) _ (k0_off17_inb k) (k0_off17_eq k) _ (k0_off18_inb k) (k0_off18_eq k) x
        · exact piece9 harg4 x4 k.val 768 1536 hk (fun n m hm hn => by unfold col; dsimp only; omega) _ (k0_off15_inb k) (k0_off15_eq k) _ (k0_off16_inb k) (k0_off16_eq k) x
        · exact piece9 harg4 x4 k.val 1536 1280 hk (fun n m hm hn => by unfold col; dsimp only; omega) _ (k0_off13_inb k) (k0_off13_eq k) _ (k0_off14_inb k) (k0_off14_eq k) x
        · exact piece9 harg4 x4 k.val 512 1024 hk (fun n m hm hn => by unfold col; dsimp only; omega) _ (k0_off11_inb k) (k0_off11_eq k) _ (k0_off12_inb k) (k0_off12_eq k) x
        · exact piece9 harg4 x4 k.val 1280 768 hk (fun n m hm hn => by unfold col; dsimp only; omega) _ (k0_off9_inb k) (k0_off9_eq k) _ (k0_off10_inb k) (k0_off10_eq k) x
        · exact piece9 harg4 x4 k.val 256 512 hk (fun n m hm hn => by unfold col; dsimp only; omega) _ (k0_off7_inb k) (k0_off7_eq k) _ (k0_off8_inb k) (k0_off8_eq k) x
        · exact piece9 harg4 x4 k.val 1024 256 hk (fun n m hm hn => by unfold col; dsimp only; omega) _ (k0_off5_inb k) (k0_off5_eq k) _ (k0_off6_inb k) (k0_off6_eq k) x
        · exact piece9 harg4 x4 k.val 0 0 hk (fun n m hm hn => by unfold col; dsimp only; omega) _ (k0_off3_inb k) (k0_off3_eq k) _ (k0_off4_inb k) (k0_off4_eq k) x
      · have hc : (y 1).val < 2048 := (y 1).isLt
        obtain h | h | h | h | h | h | h | h : ((y 1).val / 256 = 0) ∨ ((y 1).val / 256 = 1) ∨ ((y 1).val / 256 = 2) ∨ ((y 1).val / 256 = 3) ∨ ((y 1).val / 256 = 4) ∨ ((y 1).val / 256 = 5) ∨ ((y 1).val / 256 = 6) ∨ ((y 1).val / 256 = 7) := by omega
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem9 hlo hy (by omega) (k0_off4_inb k) (k0_off4_eq k)⟩
        · exact ⟨_, List.mem_cons_of_mem _ (List.mem_cons_of_mem _ (List.mem_cons_of_mem _ (List.mem_cons_of_mem _ (List.mem_cons_of_mem _ (List.mem_cons_of_mem _ (List.mem_cons_self)))))), mem9 hlo hy (by omega) (k0_off6_inb k) (k0_off6_eq k)⟩
        · exact ⟨_, List.mem_cons_of_mem _ (List.mem_cons_of_mem _ (List.mem_cons_of_mem _ (List.mem_cons_of_mem _ (List.mem_cons_of_mem _ (List.mem_cons_self))))), mem9 hlo hy (by omega) (k0_off8_inb k) (k0_off8_eq k)⟩
        · exact ⟨_, List.mem_cons_of_mem _ (List.mem_cons_of_mem _ (List.mem_cons_of_mem _ (List.mem_cons_of_mem _ (List.mem_cons_self)))), mem9 hlo hy (by omega) (k0_off10_inb k) (k0_off10_eq k)⟩
        · exact ⟨_, List.mem_cons_of_mem _ (List.mem_cons_of_mem _ (List.mem_cons_of_mem _ (List.mem_cons_self))), mem9 hlo hy (by omega) (k0_off12_inb k) (k0_off12_eq k)⟩
        · exact ⟨_, List.mem_cons_of_mem _ (List.mem_cons_of_mem _ (List.mem_cons_self)), mem9 hlo hy (by omega) (k0_off14_inb k) (k0_off14_eq k)⟩
        · exact ⟨_, List.mem_cons_of_mem _ (List.mem_cons_self), mem9 hlo hy (by omega) (k0_off16_inb k) (k0_off16_eq k)⟩
        · exact ⟨_, List.mem_cons_self, mem9 hlo hy (by omega) (k0_off18_inb k) (k0_off18_eq k)⟩
  iexists _; isplitl [H10]; · iexact H10
  ipureintro
  intro y hy
  by_cases hlo : (y 0).val < 128 * k.val
  · rw [View.read_writes_apply_of_forall_not_mem]
    · exact h10 y hlo
    · intro p hp
      simp only [List.mem_cons, List.not_mem_nil, _root_.or_false] at hp
      subst hp
      exact row10 hlo (k0_off20_inb k) (k0_off20_eq k)
  · refine View.read_writes_apply_of_pieces (G := wdc x6) _ _ _ ?_ y ?_
    · intro p hp x
      simp only [List.mem_cons, List.not_mem_nil, _root_.or_false] at hp
      subst hp
      exact piece10 harg6 x6 k.val hk _ (k0_off19_inb k) (k0_off19_eq k) _ (k0_off20_inb k) (k0_off20_eq k) x
    · refine ⟨_, List.mem_cons_self, (Rect.mem_set_unit (inb := k0_off20_inb k)).mpr ?_⟩
      rw [k0_off20_eq k]; intro t
      have hc : (y 1).val < 1024 := (y 1).isLt
      match t with
      | ⟨0, _⟩ => exact ⟨by show 128 * k.val ≤ (y 0).val; omega, by show (y 0).val < 128 * k.val + 128; omega⟩
      | ⟨1, _⟩ => exact ⟨by show 0 ≤ (y 1).val; omega, by show (y 1).val < 0 + 1024; omega⟩

set_option warn.classDefReducibility false in
/-- The loop by this invariant. -/
@[sl_loop] def loopInv (E : Set ℕ) :
    Idealize.ShloMosaic.LoopInv (M := 𝕄) Idealize.ShloMosaic.frame (wpE (defs₀ (F := F)) 𝒱₀ (c : Thread nD τ) none) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10) where
  inv := inv c arg4 harg4 arg6 harg6 arg9 arg10 x4 x6
  step := step c i arg1 harg1 arg2 harg2 arg3 harg3 arg4 harg4 arg5 harg5 arg6 harg6 arg7 harg7 arg8 harg8 arg9 harg9 arg10 harg10 x4 x6 E

end Trip

end Cert.Proof.FI

end
-- ==== Proof.FI.Body.lean ====
/-
  The whole body of the second layer's expert call at a grid point: on staging memrefs held whole at the point's blocks and the two tables held at
  their contents, in the three cases — a valid block of a new expert, a valid block of the same expert, a block past the end.
-/
module

public import proofs.«01_k».proof.Proof.FI.Loop
public import Idealize.ShloMosaic.Lib.VecWindow

@[expose] public section

set_option maxRecDepth 16384

noncomputable section

namespace Cert.Proof.FI

open Cert.NextExpertsIdeal Cert.NextExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem ld_whole {sp : Space} {s : Shape} {e : EltTy} {m : Memref sig .tc sp s e} (hm : m.IsWhole) (x : Vec F s e) {off : Fin s.rank → ℕ} (ho : ∀ a, off a = 0)
    (inb : ∀ a, off a + s.size a ≤ s.size a) :
    m.view.readAt (Elt F) (Rect.unit (s := s) off s.size inb).toLoadRect (hm.unread x) = x := by
  funext y
  rw [hm.readAt_unread]
  congr 1
  funext t
  apply Fin.ext
  show off t + 1 * (y t).val = (y t).val
  rw [ho t]; omega

/-- The written block from the parts as they are loaded. -/
theorem ffn_of (x : Vec F S512x1024 .bf16) (s : Vec F S1024x2048 .bf16) (b : Vec F S1x1x1x2048 .f32) (d : Vec F S1024x1024 .bf16) (e : Vec F S1x1x1x1024 .f32)
    {x' : Vec F S512x1024 .bf16} {g0' g1' g2' g3' : Vec F S1024x512 .bf16} {b0' b1' b2' b3' c0' c1' c2' c3' : Vec F S1x1x1x256 .f32}
    {d0' d1' d2' d3' : Vec F S256x1024 .bf16} {e' : Vec F S1x1x1x1024 .f32}
    (hx : x' = x) (hg0 : g0' = g0 s) (hg1 : g1' = g1 s) (hg2 : g2' = g2 s) (hg3 : g3' = g3 s)
    (hb0 : b0' = b0 b) (hb1 : b1' = b1 b) (hb2 : b2' = b2 b) (hb3 : b3' = b3 b) (hc0 : c0' = c0 b) (hc1 : c1' = c1 b) (hc2 : c2' = c2 b) (hc3 : c3' = c3 b)
    (hd0 : d0' = d0 d) (hd1 : d1' = d1 d) (hd2 : d2' = d2 d) (hd3 : d3' = d3 d) (he : e' = e) :
    k0_pay1 (k0_pay20 (k0_pay15 (k0_pay12 x' g0' b0' c0' d0') (k0_pay13 x' g1') (k0_pay14 x' g1') b1' c1' d1')
        (k0_pay17 x' g2' b2') (k0_pay18 x' g2') (k0_pay19 c2') d2') (k0_pay22 x' g3' b3') (k0_pay23 x' g3' c3') (k0_pay24 (F := F)) d3' e'
      = ffn x s b d e := by
  subst hx hg0 hg1 hg2 hg3 hb0 hb1 hb2 hb3 hc0 hc1 hc2 hc3 hd0 hd1 hd2 hd3 he
  rfl

/-! ## The words of the body's tests -/

/-- The word a table holds at a point, the point before it, as the body loads them. -/
abbrev wd (T : S322.Idx → BitVec 32) (off : Fin 1 → ℕ) (h : ∀ a, off a + S1.size a ≤ S322.size a) : BitVec 32 :=
  T ((Rect.unit (s := S322) off S1.size h).emb (Shape.Idx.first (numel1_S1.symm ▸ Nat.one_pos)))

/-- The test of the loads: the block is valid and its expert is not that of the block before. -/
abbrev loads (i : grid0.Coords) (v1 v5 v9 : BitVec 32) : Prop :=
  Scalar.cmpi .ne (Scalar.extui (Scalar.andi (Scalar.cmpi .sgt v1 0#32) (Scalar.ori (Scalar.cmpi .eq (BitVec.ofNat 32 (i 0).val) 0#32) (Scalar.cmpi .ne v5 v9))) : BitVec 32) 0#32 = 1#1

set_option maxHeartbeats 4000000 in
/-- A block past the end: zeros, the kept matrices left as they were. -/
theorem body_off (c : Dev nD) (i : grid0.Coords) (arg1 : Memref sig .tc .smem S322 .i32) (harg1 : arg1.IsWhole) (arg2 : Memref sig .tc .smem S322 .i32) (harg2 : arg2.IsWhole) (arg3 : Memref sig .tc .vmem S512x1024 .bf16) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (X1 : BufTy.Contents (Elt F) arg1.view.ty) (X2 : BufTy.Contents (Elt F) arg2.view.ty)
    (x3 : Vec F S512x1024 .bf16) (x4 : Vec F S1x1x1024x2048 .f32) (x5 : Vec F S1x1x1x2048 .f32) (x6 : Vec F S1x1x1024x1024 .f32) (x7 : Vec F S1x1x1x1024 .f32)
    (v1 v5 v9 : BitVec 32) (hv1 : (arg2.view.readAt (Elt F) (Rect.unit (s := S322) (k0_off1 i) S1.size (k0_off1_inb i)).toLoadRect X2 (Shape.Idx.first (numel1_S1.symm ▸ Nat.one_pos))) = v1) (hv5 : (arg1.view.readAt (Elt F) (Rect.unit (s := S322) (k0_off1 i) S1.size (k0_off1_inb i)).toLoadRect X1 (Shape.Idx.first (numel1_S1.symm ▸ Nat.one_pos))) = v5) (hv9 : (arg1.view.readAt (Elt F) (Rect.unit (s := S322) (k0_off2 i) S1.size (k0_off2_inb i)).toLoadRect X1 (Shape.Idx.first (numel1_S1.symm ▸ Nat.one_pos))) = v9) (hv18 : (arg2.view.readAt (Elt F) (Rect.unit (s := S322) (k0_off21 i) S1.size (k0_off21_inb i)).toLoadRect X2 (Shape.Idx.first (numel1_S1.symm ▸ Nat.one_pos))) = v1)
    (hl : ¬ loads i v1 v5 v9) (h2 : ¬ k0_cond2 v1 = 1#1) (h3 : k0_cond3 v1 = 1#1) (s9 : Vec F S1024x2048 .bf16) (s10 : Vec F S1024x1024 .bf16) (E : Set ℕ) (K : PUnit → sProp 𝕄) :
    iprop((∃ d, owns (c : Thread nD τ) arg8 fullShare d)
        ∗ (arg1.view.loc (c : Thread nD τ) ↦[arg1.view.set]{fullShare.right} X1) ∗ (arg2.view.loc (c : Thread nD τ) ↦[arg2.view.set]{fullShare.right} X2)
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg9 fullShare s9 ∗ owns (c : Thread nD τ) arg10 fullShare s10
        ∗ (iprop(owns (c : Thread nD τ) arg8 fullShare (k0_pay2 (F := F))
            ∗ (arg1.view.loc (c : Thread nD τ) ↦[arg1.view.set]{fullShare.right} X1) ∗ (arg2.view.loc (c : Thread nD τ) ↦[arg2.view.set]{fullShare.right} X2)
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg9 fullShare s9 ∗ owns (c : Thread nD τ) arg10 fullShare s10) -∗ K ⟨⟩))
      ⊢ wp frame (wpE (defs₀ (F := F)) 𝒱₀ c none) E (cc0_moe i arg1 harg1 arg2 harg2 arg3 harg3 arg4 harg4 arg5 harg5 arg6 harg6 arg7 harg7 arg8 harg8 arg9 harg9 arg10 harg10) K := by
  simp only [cc0_moe_eq_skeleton]; unfold cc0_moe_skel
  unfold owns
  iintro ⟨⟨%d8, %f8, -, H8⟩, H1, H2, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7
  obtain rfl := harg9.eq_unread hf9; obtain rfl := harg10.eq_unread hf10
  have h3' := h3
  rw [← hv18] at h3'
  subst hv1 hv5 hv9
  sl_exec (disch := first | exact hl | exact h2 | exact h3')
  sl_step
  iapply Hk
  isplitl [H8]
  · iexists _; isplitr
    swap; · iexact H8
    ipureintro; exact View.read_writes_full (Val := Elt F) arg8.view f8 (off := ![0, 0]) inb_S512x1024_S512x1024_0_0 _ []
  isplitl [H1]; · iexact H1
  isplitl [H2]; · iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  iexists _; isplitr; · ipureintro; exact harg10.read_unread _
  iexact H10

set_option maxHeartbeats 4000000 in
/-- A valid block of the expert of the block before: the kept matrices are read as they are. -/
theorem body_keep (c : Dev nD) (i : grid0.Coords) (arg1 : Memref sig .tc .smem S322 .i32) (harg1 : arg1.IsWhole) (arg2 : Memref sig .tc .smem S322 .i32) (harg2 : arg2.IsWhole) (arg3 : Memref sig .tc .vmem S512x1024 .bf16) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (X1 : BufTy.Contents (Elt F) arg1.view.ty) (X2 : BufTy.Contents (Elt F) arg2.view.ty)
    (x3 : Vec F S512x1024 .bf16) (x4 : Vec F S1x1x1024x2048 .f32) (x5 : Vec F S1x1x1x2048 .f32) (x6 : Vec F S1x1x1024x1024 .f32) (x7 : Vec F S1x1x1x1024 .f32)
    (v1 v5 v9 : BitVec 32) (hv1 : (arg2.view.readAt (Elt F) (Rect.unit (s := S322) (k0_off1 i) S1.size (k0_off1_inb i)).toLoadRect X2 (Shape.Idx.first (numel1_S1.symm ▸ Nat.one_pos))) = v1) (hv5 : (arg1.view.readAt (Elt F) (Rect.unit (s := S322) (k0_off1 i) S1.size (k0_off1_inb i)).toLoadRect X1 (Shape.Idx.first (numel1_S1.symm ▸ Nat.one_pos))) = v5) (hv9 : (arg1.view.readAt (Elt F) (Rect.unit (s := S322) (k0_off2 i) S1.size (k0_off2_inb i)).toLoadRect X1 (Shape.Idx.first (numel1_S1.symm ▸ Nat.one_pos))) = v9) (hv18 : (arg2.view.readAt (Elt F) (Rect.unit (s := S322) (k0_off21 i) S1.size (k0_off21_inb i)).toLoadRect X2 (Shape.Idx.first (numel1_S1.symm ▸ Nat.one_pos))) = v1)
    (hl : ¬ loads i v1 v5 v9) (h2 : k0_cond2 v1 = 1#1) (h3 : ¬ k0_cond3 v1 = 1#1) (s9 : Vec F S1024x2048 .bf16) (s10 : Vec F S1024x1024 .bf16) (E : Set ℕ) (K : PUnit → sProp 𝕄) :
    iprop((∃ d, owns (c : Thread nD τ) arg8 fullShare d)
        ∗ (arg1.view.loc (c : Thread nD τ) ↦[arg1.view.set]{fullShare.right} X1) ∗ (arg2.view.loc (c : Thread nD τ) ↦[arg2.view.set]{fullShare.right} X2)
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg9 fullShare s9 ∗ owns (c : Thread nD τ) arg10 fullShare s10
        ∗ (iprop(owns (c : Thread nD τ) arg8 fullShare (ffn x3 s9 x5 s10 x7)
            ∗ (arg1.view.loc (c : Thread nD τ) ↦[arg1.view.set]{fullShare.right} X1) ∗ (arg2.view.loc (c : Thread nD τ) ↦[arg2.view.set]{fullShare.right} X2)
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg9 fullShare s9 ∗ owns (c : Thread nD τ) arg10 fullShare s10) -∗ K ⟨⟩))
      ⊢ wp frame (wpE (defs₀ (F := F)) 𝒱₀ c none) E (cc0_moe i arg1 harg1 arg2 harg2 arg3 harg3 arg4 harg4 arg5 harg5 arg6 harg6 arg7 harg7 arg8 harg8 arg9 harg9 arg10 harg10) K := by
  simp only [cc0_moe_eq_skeleton]; unfold cc0_moe_skel
  unfold owns
  iintro ⟨⟨%d8, %f8, -, H8⟩, H1, H2, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7
  obtain rfl := harg9.eq_unread hf9; obtain rfl := harg10.eq_unread hf10
  have h3' := h3
  rw [← hv18] at h3'
  subst hv1 hv5 hv9
  sl_exec (disch := first | exact hl | exact h2 | exact h3')
  sl_step
  iapply Hk
  isplitl [H8]
  · iexists _; isplitr
    swap; · iexact H8
    ipureintro; refine (View.read_writes_full (Val := Elt F) arg8.view f8 (off := ![0, 0]) inb_S512x1024_S512x1024_0_0 _ []).trans ?_
    exact ffn_of x3 _ x5 _ x7 (ld_whole harg3 x3 (off := ![0, 0]) (by decide) inb_S512x1024_S512x1024_0_0)
      (funext fun _ => harg9.readAt_unread _ _ _) (funext fun _ => harg9.readAt_unread _ _ _) (funext fun _ => harg9.readAt_unread _ _ _) (funext fun _ => harg9.readAt_unread _ _ _)
      (funext fun _ => harg5.readAt_unread _ _ _) (funext fun _ => harg5.readAt_unread _ _ _) (funext fun _ => harg5.readAt_unread _ _ _) (funext fun _ => harg5.readAt_unread _ _ _)
      (funext fun _ => harg5.readAt_unread _ _ _) (funext fun _ => harg5.readAt_unread _ _ _) (funext fun _ => harg5.readAt_unread _ _ _) (funext fun _ => harg5.readAt_unread _ _ _)
      (funext fun _ => harg10.readAt_unread _ _ _) (funext fun _ => harg10.readAt_unread _ _ _) (funext fun _ => harg10.readAt_unread _ _ _) (funext fun _ => harg10.readAt_unread _ _ _)
      (ld_whole harg7 x7 (off := ![0, 0, 0, 0]) (by decide) inb_S1x1x1x1024_S1x1x1x1024_0_0_0_0)
  isplitl [H1]; · iexact H1
  isplitl [H2]; · iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  iexists _; isplitr; · ipureintro; exact harg10.read_unread _
  iexact H10

set_option maxHeartbeats 4000000 in
/-- A valid block of a new expert: the matrices are cast and kept, and then read. -/
theorem body_load (c : Dev nD) (i : grid0.Coords) (arg1 : Memref sig .tc .smem S322 .i32) (harg1 : arg1.IsWhole) (arg2 : Memref sig .tc .smem S322 .i32) (harg2 : arg2.IsWhole) (arg3 : Memref sig .tc .vmem S512x1024 .bf16) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (X1 : BufTy.Contents (Elt F) arg1.view.ty) (X2 : BufTy.Contents (Elt F) arg2.view.ty)
    (x3 : Vec F S512x1024 .bf16) (x4 : Vec F S1x1x1024x2048 .f32) (x5 : Vec F S1x1x1x2048 .f32) (x6 : Vec F S1x1x1024x1024 .f32) (x7 : Vec F S1x1x1x1024 .f32)
    (v1 v5 v9 : BitVec 32) (hv1 : (arg2.view.readAt (Elt F) (Rect.unit (s := S322) (k0_off1 i) S1.size (k0_off1_inb i)).toLoadRect X2 (Shape.Idx.first (numel1_S1.symm ▸ Nat.one_pos))) = v1) (hv5 : (arg1.view.readAt (Elt F) (Rect.unit (s := S322) (k0_off1 i) S1.size (k0_off1_inb i)).toLoadRect X1 (Shape.Idx.first (numel1_S1.symm ▸ Nat.one_pos))) = v5) (hv9 : (arg1.view.readAt (Elt F) (Rect.unit (s := S322) (k0_off2 i) S1.size (k0_off2_inb i)).toLoadRect X1 (Shape.Idx.first (numel1_S1.symm ▸ Nat.one_pos))) = v9) (hv18 : (arg2.view.readAt (Elt F) (Rect.unit (s := S322) (k0_off21 i) S1.size (k0_off21_inb i)).toLoadRect X2 (Shape.Idx.first (numel1_S1.symm ▸ Nat.one_pos))) = v1)
    (hl : loads i v1 v5 v9) (h2 : k0_cond2 v1 = 1#1) (h3 : ¬ k0_cond3 v1 = 1#1) (E : Set ℕ) (K : PUnit → sProp 𝕄) :
    iprop((∃ d, owns (c : Thread nD τ) arg8 fullShare d)
        ∗ (arg1.view.loc (c : Thread nD τ) ↦[arg1.view.set]{fullShare.right} X1) ∗ (arg2.view.loc (c : Thread nD τ) ↦[arg2.view.set]{fullShare.right} X2)
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg9 fullShare d) ∗ (∃ d, owns (c : Thread nD τ) arg10 fullShare d)
        ∗ (iprop(owns (c : Thread nD τ) arg8 fullShare (ffn x3 (gu x4) x5 (wdc x6) x7)
            ∗ (arg1.view.loc (c : Thread nD τ) ↦[arg1.view.set]{fullShare.right} X1) ∗ (arg2.view.loc (c : Thread nD τ) ↦[arg2.view.set]{fullShare.right} X2)
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg9 fullShare (gu x4) ∗ owns (c : Thread nD τ) arg10 fullShare (wdc x6)) -∗ K ⟨⟩))
      ⊢ wp frame (wpE (defs₀ (F := F)) 𝒱₀ c none) E (cc0_moe i arg1 harg1 arg2 harg2 arg3 harg3 arg4 harg4 arg5 harg5 arg6 harg6 arg7 harg7 arg8 harg8 arg9 harg9 arg10 harg10) K := by
  simp only [cc0_moe_eq_skeleton]; unfold cc0_moe_skel
  unfold owns
  iintro ⟨⟨%d8, %f8, -, H8⟩, H1, H2, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, Hk⟩
  obtain rfl := harg3.eq_unread hf3; obtain rfl := harg4.eq_unread hf4; obtain rfl := harg5.eq_unread hf5; obtain rfl := harg6.eq_unread hf6; obtain rfl := harg7.eq_unread hf7
  have h3' := h3
  rw [← hv18] at h3'
  subst hv1 hv5 hv9
  sl_exec (disch := first | exact hl | exact h2 | exact h3')
  sl_step
  obtain rfl := harg9.eq_unread (funext fun y => hL3 y (lt_of_lt_of_le (y 0).isLt (by decide)))
  obtain rfl := harg10.eq_unread (funext fun y => hL5 y (lt_of_lt_of_le (y 0).isLt (by decide)))
  iapply Hk
  isplitl [H8]
  · iexists _; isplitr
    swap; · iexact H8
    ipureintro; refine (View.read_writes_full (Val := Elt F) arg8.view f8 (off := ![0, 0]) inb_S512x1024_S512x1024_0_0 _ []).trans ?_
    exact ffn_of x3 _ x5 _ x7 (ld_whole harg3 x3 (off := ![0, 0]) (by decide) inb_S512x1024_S512x1024_0_0)
      (funext fun _ => harg9.readAt_unread _ _ _) (funext fun _ => harg9.readAt_unread _ _ _) (funext fun _ => harg9.readAt_unread _ _ _) (funext fun _ => harg9.readAt_unread _ _ _)
      (funext fun _ => harg5.readAt_unread _ _ _) (funext fun _ => harg5.readAt_unread _ _ _) (funext fun _ => harg5.readAt_unread _ _ _) (funext fun _ => harg5.readAt_unread _ _ _)
      (funext fun _ => harg5.readAt_unread _ _ _) (funext fun _ => harg5.readAt_unread _ _ _) (funext fun _ => harg5.readAt_unread _ _ _) (funext fun _ => harg5.readAt_unread _ _ _)
      (funext fun _ => harg10.readAt_unread _ _ _) (funext fun _ => harg10.readAt_unread _ _ _) (funext fun _ => harg10.readAt_unread _ _ _) (funext fun _ => harg10.readAt_unread _ _ _)
      (ld_whole harg7 x7 (off := ![0, 0, 0, 0]) (by decide) inb_S1x1x1x1024_S1x1x1x1024_0_0_0_0)
  isplitl [H1]; · iexact H1
  isplitl [H2]; · iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  iexists _; isplitr; · ipureintro; exact harg10.read_unread _
  iexact H10

end Cert.Proof.FI

end
-- ==== Proof.FI.Tables.lean ====
/-
  The two tables the second layer's expert call is told of: the expert of each block of 512 rows and whether the block holds rows of an expert at all,
  as functions of the experts' ends (the running sum of their row counts, each rounded up to whole blocks). Whatever the ends are, the
  first table names one of the 32 experts, the second holds zeros and ones, and the ones come first.
-/
module

public import proofs.«01_k».proof.Proof.FI.Common
public import proofs.«01_k».proof.Proof.EI.Tables

@[expose] public section

set_option maxRecDepth 16384

noncomputable section

namespace Cert.Proof.FI

open Cert.NextExpertsIdeal Cert.NextExpertsIdeal.Gen
open Idealize.ShloMosaic Idealize.ShloMosaic.TcCoe

variable {F : FTy → Type} [FloatOps F]

/-- The first row of each block. -/
def starts : S322.Idx → BitVec 32 := muli (iotaInDim S322 32 0) (broadcastInDim S322 ![] bcast_S_S322 (constantI S_ 32 512#32))

/-- Whether expert `e` ends at or before the first row of block `b`, as a word. -/
def ended (p : S32.Idx → BitVec 32) : S322x32.Idx → BitVec 32 :=
  extui 32 (cmpi .sle (broadcastInDim S322x32 ![0, 1] bcast_S1x32_S322x32_0_1 (broadcastInDim S1x32 ![1] bcast_S32_S1x32_1 p))
    (broadcastInDim S322x32 ![0, 1] bcast_S322x1_S322x32_0_1 (broadcastInDim S322x1 ![0] bcast_S322_S322x1_0 starts))) natLt_1_32

/-- The expert of each block. -/
def be (p : S32.Idx → BitVec 32) : S322.Idx → BitVec 32 :=
  minsi (Host.reduce IntOp.addi (ended p) (constantI S_ 32 0#32) reducesTo_S322x32_S322_d1 h_S_)
    (broadcastInDim S322 ![] bcast_S_S322 (constantI S_ 32 31#32))

/-- Whether each block holds rows of an expert, as a word. -/
def bv (p : S32.Idx → BitVec 32) : S322.Idx → BitVec 32 :=
  extui 32 (cmpi .slt starts (broadcastInDim S322 ![] bcast_S_S322
    (shapeCast S_ (extractStridedSlice S1 ![31] p slices_S32_S1_31) shapeCasts_S1_S_))) natLt_1_32

theorem starts_at (x : S322.Idx) : starts x = BitVec.ofNat 32 ((x 0).val * 512) := EI.starts_at x

theorem bv_or (p : S32.Idx → BitVec 32) (x : S322.Idx) : bv p x = 0#32 ∨ bv p x = 1#32 := EI.bv_or p x

theorem bv_at (p : S32.Idx → BitVec 32) (x : S322.Idx) :
    bv p x = if (BitVec.ofNat 32 ((x 0).val * 512)).slt (p (ix1 31)) then 1#32 else 0#32 := EI.bv_at p x

theorem be_lt (p : S32.Idx → BitVec 32) (x : S322.Idx) : (be p x).toNat < 32 := EI.be_lt p x

/-- The blocks of rows come before the others. -/
theorem bv_pred (p : S32.Idx → BitVec 32) (x y : S322.Idx) (h : (y 0).val + 1 = (x 0).val) (hx : bv p x = 1#32) : bv p y = 1#32 :=
  EI.bv_pred p x y h hx

end Cert.Proof.FI

end
-- ==== Proof.FI.Host.lean ====
/-
  The second layer's expert call up to its kernel: the buffers after the host operations, the two tables among them, and the pipeline at those tables.
-/
module

public import proofs.«01_k».proof.Proof.FI.Body
public import proofs.«01_k».proof.Proof.FI.Tables
public import Idealize.ShloMosaic.Lib.Pipeline.FrameBody
public import Idealize.ShloMosaic.Lib.Pipeline.Value
public import Idealize.ShloMosaic.Lib.Ring
public import Idealize.ShloMosaic.Lib.Claim

@[expose] public section

set_option maxRecDepth 16384

noncomputable section

namespace Cert.Proof.FI

open Cert.NextExpertsIdeal Cert.NextExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The host operations, stretch by stretch. -/
abbrev hostOps : List (List (HloOp τ sig (Elt F))) := [hostOps0, hostOps0_1, hostOps0_2, hostOps0_3, hostOps0_4]

/-- A device's buffers after the host operations. -/
abbrev V (c : Dev nD) (b : Ref sig .tc) : Buf (Elt F) ((c : Thread nD τ).loc b) :=
  StableHlo.after (hostOps (F := F)).flatten (fun b => m (c, b)) b

/-- A device's buffers once the experts' ends are known. -/
def W (c : Dev nD) : Valuation τ sig (Elt F) :=
  StableHlo.after ([hostOps0, hostOps0_1, hostOps0_2, hostOps0_3] : List (List (HloOp τ sig (Elt F)))).flatten (fun b => m (c, b))

/-- The experts' ends. -/
def pend (c : Dev nD) : S32.Idx → BitVec 32 := W m c (Proc.devRef .tc main_v7)

theorem V_W (c : Dev nD) (b : Ref sig .tc) : V m c b = StableHlo.after (hostOps0_4 (F := F)) (W m c) b := rfl

theorem host_sub : (hostOps (F := F)).Forall fun ops => ops.Forall fun op => op.bufs ⊆ StableHlo.tcRefs τ sig :=
  ⟨hostOps0_sub, hostOps0_1_sub, hostOps0_2_sub, hostOps0_3_sub, hostOps0_4_sub⟩

theorem host_fresh : (hostOps (F := F)).Forall fun ops => ops.Forall fun op => op.fresh = ∅ := by
  simp only [List.Forall]; repeat' constructor

theorem V_arg0 (c : Dev nD) : V m c main_arg0 = m ((c : Thread nD τ).loc main_arg0) :=
  StableHlo.after_of_forall_not_mem (b := Proc.devRef .tc main_arg0) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_arg5 (c : Dev nD) : V m c main_arg5 = m ((c : Thread nD τ).loc main_arg5) :=
  StableHlo.after_of_forall_not_mem (b := Proc.devRef .tc main_arg5) _ _ (List.forall_iff_forall_mem.mp (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))

theorem V_be (c : Dev nD) : V m c main_v19 = be (pend m c) := by
  rw [V_W]; unfold pend; generalize W m c = U; after_results_simp; rfl

theorem V_bv (c : Dev nD) : V m c main_v24 = bv (pend m c) := by
  rw [V_W]; unfold pend; generalize W m c = U; after_results_simp; rfl

/-- The tables. -/
def tbl (p : S32.Idx → BitVec 32) : pre0.Contents (Elt F) := fun
  | ⟨0, _⟩ => be p
  | ⟨1, _⟩ => bv p
  | ⟨_ + 2, h⟩ => absurd h (by simp)

theorem coord_lt (i : grid0.Coords) : (i 0).val < 322 := (i 0).isLt

/-- The block a grid point works on, as an index of the tables. -/
def pt (i : grid0.Coords) : S322.Idx := ix1 ⟨(i 0).val, coord_lt i⟩

theorem off1_val (i : grid0.Coords) : k0_off1 i = ![(i 0).val] := by
  have h := coord_lt i
  funext a; fin_cases a
  show (BitVec.ofNat 32 (i 0).val).toNat = _
  rw [BitVec.toNat_ofNat, Nat.mod_eq_of_lt (by omega)]; rfl

theorem off21_val (i : grid0.Coords) : k0_off21 i = ![(i 0).val] := off1_val i

/-- The block before a grid point's. -/
theorem off2_val (i : grid0.Coords) : k0_off2 i = ![(i 0).val - 1] := by
  have h := coord_lt i
  have key : ∀ n : ℕ, n < 322 → (Scalar.maxsi (Scalar.subi (BitVec.ofNat 32 n) 1#32) 0#32).toNat = n - 1 := by
    intro n hn
    rcases Nat.eq_zero_or_pos n with rfl | hp
    · decide
    · have e : Scalar.subi (BitVec.ofNat 32 n) 1#32 = BitVec.ofNat 32 (n - 1) := by
        apply BitVec.eq_of_toNat_eq
        simp only [Scalar.subi, IntOp.subi, BitVec.toNat_sub, BitVec.toNat_ofNat]
        omega
      rw [e]
      unfold Scalar.maxsi IntOp.maxsi
      split
      · rename_i h1
        simp only [BitVec.slt, decide_eq_true_eq, BitVec.toInt_eq_toNat_cond, BitVec.toNat_ofNat] at h1
        rw [BitVec.toNat_ofNat]
        omega
      · rename_i h1
        simp only [BitVec.slt, decide_eq_true_eq, BitVec.toInt_eq_toNat_cond, BitVec.toNat_ofNat] at h1
        simp only [BitVec.toNat_ofNat]
        omega
  funext a; fin_cases a
  exact key _ h

/-- The word a rectangle of one element of a table names. -/
theorem emb_unit (off : Fin 1 → ℕ) (inb : ∀ a, off a + S1.size a ≤ S322.size a) (n : Fin 322) (h : off = ![n.val]) :
    (Rect.unit (s := S322) off S1.size inb).emb (Shape.Idx.first (numel1_S1.symm ▸ Nat.one_pos)) = ix1 n := by
  subst h
  funext a; fin_cases a; rfl

theorem tbl_ok (p : S32.Idx → BitVec 32) : ok0 (F := F) (tbl p) := by
  have hv : ∀ i : grid0.Coords, (tbl (F := F) p).at 0 (Rect.unit (s := S322) (k0_off1 i) S1.size (k0_off1_inb i)) numel1_S1 = be p (pt i) := fun i =>
    congrArg (be p) (emb_unit _ _ ⟨(i 0).val, coord_lt i⟩ (off1_val i))
  have hb : ∀ i : grid0.Coords, ((tbl (F := F) p).at 0 (Rect.unit (s := S322) (k0_off1 i) S1.size (k0_off1_inb i)) numel1_S1).toNat < 32 := fun i => by
    rw [hv i]; exact be_lt p _
  unfold ok0
  refine ⟨fun i => ⟨?_, .inl rfl⟩, fun i => ⟨?_, .inl rfl⟩, fun i => ⟨?_, .inl rfl⟩, fun i => ⟨?_, .inl rfl⟩⟩
  · intro a
    have h := hb i
    fin_cases a
    · show (1 + 1) * 1 ≤ 2; omega
    · refine (show ∀ n : ℕ, n < 32 → (n + 1) * 1 ≤ 32 by omega) _ h
    · show (0 + 1) * 1024 ≤ 1024; omega
    · show (0 + 1) * 2048 ≤ 2048; omega
  · intro a
    have h := hb i
    fin_cases a
    · show (1 + 1) * 1 ≤ 2; omega
    · refine (show ∀ n : ℕ, n < 32 → (n + 1) * 1 ≤ 32 by omega) _ h
    · show (0 + 1) * 1 ≤ 1; omega
    · show (0 + 1) * 2048 ≤ 2048; omega
  · intro a
    have h := hb i
    fin_cases a
    · show (1 + 1) * 1 ≤ 2; omega
    · refine (show ∀ n : ℕ, n < 32 → (n + 1) * 1 ≤ 32 by omega) _ h
    · show (0 + 1) * 1024 ≤ 1024; omega
    · show (0 + 1) * 1024 ≤ 1024; omega
  · intro a
    have h := hb i
    fin_cases a
    · show (1 + 1) * 1 ≤ 2; omega
    · refine (show ∀ n : ℕ, n < 32 → (n + 1) * 1 ≤ 32 by omega) _ h
    · show (0 + 1) * 1 ≤ 1; omega
    · show (0 + 1) * 1024 ≤ 1024; omega

/-- The tables as the pipeline takes them. -/
def adm (p : S32.Idx → BitVec 32) : (pcfg0 (F := F)).Adm := ⟨tbl p, tbl_ok p⟩

end Cert.Proof.FI

end
-- ==== Proof.FI.Run.lean ====
/-
  The launch of the second layer's expert call's kernel: the blocks its points read, what a point leaves, the two weight matrices kept from point to
  point, and the run of the program.
-/
module

public import proofs.«01_k».proof.Proof.FI.Host
public import Idealize.ShloMosaic.Lib.Pipeline.ValueKit
public import Idealize.ShloMosaic.Lib.Pipeline.Covers

@[expose] public section

set_option maxRecDepth 16384

noncomputable section

namespace Cert.Proof.FI

open Cert.NextExpertsIdeal Cert.NextExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The experts' ends the pipeline runs at. -/
abbrev ends : S32.Idx → BitVec 32 := pend m 0

/-- The pipeline at its tables. -/
abbrev cfgA : Cfg sig Λ₀ := cfg0 (F := F) (adm (ends m))

/-- The same as the one pipeline of the program. -/
abbrev admA : (p : Fin 1) → (pcfgs (F := F) p).Adm := fun _ => adm (ends m)

/-! ## The points -/

theorem coord_val : ∀ t : Fin grid0.N, (grid0.coords t 0).val = t.val := by decide +kernel

theorem lt_N (t : Fin grid0.N) : t.val < 322 := lt_of_lt_of_eq t.isLt N_0

/-- The block a point works on, as an index of the tables. -/
def ptN (n : ℕ) (h : n < 322) : S322.Idx := ix1 ⟨n, h⟩

/-- The expert of a block. -/
def ex (p : S32.Idx → BitVec 32) (x : S322.Idx) : Fin 32 := ⟨(be p x).toNat, be_lt p x⟩

theorem word_at (T : S322.Idx → BitVec 32) (off : Fin 1 → ℕ) (inb : ∀ a, off a + S1.size a ≤ S322.size a) (n : ℕ) (hn : n < 322) (h : off = ![n]) :
    T ((Rect.unit (s := S322) off S1.size inb).emb (Shape.Idx.first (numel1_S1.symm ▸ Nat.one_pos))) = T (ptN n hn) :=
  congrArg T (emb_unit off inb ⟨n, hn⟩ h)

theorem idle_5 (i : grid0.Coords) : (cfgA m).idle 5 i = false := by
  have e1 : (tbl (F := F) (ends m)).atD 1 (k0_off1 i) = bv (ends m) (pt i) := by
    have hh : ∀ a : Fin 1, k0_off1 i a + 1 ≤ S322.size a := fun a => by
      rw [off1_val]; fin_cases a; exact coord_lt i
    unfold Pipeline.Prefetch.Contents.atD
    split
    case isTrue h =>
      refine congrArg (bv (ends m)) ?_
      funext a; fin_cases a
      exact Fin.ext (congrFun (off1_val i) 0)
    case isFalse h => exact absurd hh h
  have e2 : (tbl (F := F) (ends m)).atD 1 (k0_off21 i) = bv (ends m) (pt i) := e1
  show (!(k0_cond2 ((tbl (F := F) (ends m)).atD 1 (k0_off1 i)) == 1#1) && !(k0_cond3 ((tbl (F := F) (ends m)).atD 1 (k0_off21 i)) == 1#1)) = false
  rw [e1, e2]
  rcases bv_or (ends m) (pt i) with e | e <;> rw [e] <;> decide

theorem loads_zero (i : grid0.Coords) (v5 v9 : BitVec 32) : ¬ loads i 0#32 v5 v9 := by
  have key : ∀ b : BitVec 1, ¬ Scalar.cmpi .ne (Scalar.extui (Scalar.andi (Scalar.cmpi .sgt (0#32 : BitVec 32) 0#32) b) : BitVec 32) 0#32 = 1#1 := by decide
  exact key _

theorem loads_one (i : grid0.Coords) (v5 v9 : BitVec 32) : loads i 1#32 v5 v9 ↔ ((i 0).val = 0 ∨ v5 ≠ v9) := by
  have key : ∀ a b : Bool, (Scalar.cmpi .ne (Scalar.extui (Scalar.andi (Scalar.cmpi .sgt (1#32 : BitVec 32) 0#32) (Scalar.ori (BitVec.ofBool a) (BitVec.ofBool b))) : BitVec 32) 0#32 = 1#1) ↔ (a = true ∨ b = true) := by decide
  refine (key _ _).trans (or_congr ?_ ?_)
  · rw [beq_iff_eq]
    have h := coord_lt i
    constructor
    · intro e
      have e' := congrArg BitVec.toNat e
      rw [BitVec.toNat_ofNat, Nat.mod_eq_of_lt (by omega)] at e'
      exact e'
    · intro e; rw [e]
  · simp

/-! ## What the points read and leave -/

/-- Window `w`'s block at point `t`. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- An expert's weight matrices. -/
def wgu (c : Dev nD) (e : Fin 32) : Vec F S1x1x1024x2048 .f32 := fun x => V m c main_arg2 (ix4 1 e (x 2) (x 3))
def wdn (c : Dev nD) (e : Fin 32) : Vec F S1x1x1024x1024 .f32 := fun x => V m c main_arg4 (ix4 1 e (x 2) (x 3))

theorem ix_w (t : Fin (cfgA m).N) : ((tbl (F := F) (ends m)).at 0 (Rect.unit (s := S322) (k0_off1 (grid0.coords t)) S1.size (k0_off1_inb (grid0.coords t))) numel1_S1)
    = be (ends m) (ptN t.val (lt_N t)) :=
  word_at (be (ends m)) _ _ _ (lt_N t) ((off1_val _).trans (by rw [coord_val]))

theorem ix_1 (t : Fin (cfgA m).N) : ((cfgA m).win 1).index t = ![1, (ex (ends m) (ptN t.val (lt_N t))).val, 0, 0] := by
  funext a; fin_cases a
  · rfl
  · have e := congrArg BitVec.toNat (ix_w m t)
    exact e
  · rfl
  · rfl
theorem ix_3 (t : Fin (cfgA m).N) : ((cfgA m).win 3).index t = ![1, (ex (ends m) (ptN t.val (lt_N t))).val, 0, 0] := by
  funext a; fin_cases a
  · rfl
  · have e := congrArg BitVec.toNat (ix_w m t)
    exact e
  · rfl
  · rfl

theorem iblk_1 (c : Dev nD) (t : Fin (cfgA m).N) : (iblk m c 1 t : Vec F S1x1x1024x2048 .f32) = wgu m c (ex (ends m) (ptN t.val (lt_N t))) := by
  funext x
  unfold wgu
  blk_simp [iblk]
  congr 1
  blk_ext [ix_1 m t]
theorem iblk_3 (c : Dev nD) (t : Fin (cfgA m).N) : (iblk m c 3 t : Vec F S1x1x1024x1024 .f32) = wdn m c (ex (ends m) (ptN t.val (lt_N t))) := by
  funext x
  unfold wdn
  blk_simp [iblk]
  congr 1
  blk_ext [ix_3 m t]

abbrev ms0 (t : Fin (cfgA m).N) : Memref sig .tc .vmem S512x1024 .bf16 := spec0_0.stage ((cfgA m).slots t 0)
abbrev hs0 (t : Fin (cfgA m).N) : (ms0 m t).IsWhole := hstage0_0 (((cfgA m).slots t 0).cast nbuf0_0)
abbrev ms1 (t : Fin (cfgA m).N) : Memref sig .tc .vmem S1x1x1024x2048 .f32 := spec0_1.stage ((cfgA m).slots t 1)
abbrev hs1 (t : Fin (cfgA m).N) : (ms1 m t).IsWhole := hstage0_1 (((cfgA m).slots t 1).cast nbuf0_1)
abbrev ms2 (t : Fin (cfgA m).N) : Memref sig .tc .vmem S1x1x1x2048 .f32 := spec0_2.stage ((cfgA m).slots t 2)
abbrev hs2 (t : Fin (cfgA m).N) : (ms2 m t).IsWhole := hstage0_2 (((cfgA m).slots t 2).cast nbuf0_2)
abbrev ms3 (t : Fin (cfgA m).N) : Memref sig .tc .vmem S1x1x1024x1024 .f32 := spec0_3.stage ((cfgA m).slots t 3)
abbrev hs3 (t : Fin (cfgA m).N) : (ms3 m t).IsWhole := hstage0_3 (((cfgA m).slots t 3).cast nbuf0_3)
abbrev ms4 (t : Fin (cfgA m).N) : Memref sig .tc .vmem S1x1x1x1024 .f32 := spec0_4.stage ((cfgA m).slots t 4)
abbrev hs4 (t : Fin (cfgA m).N) : (ms4 m t).IsWhole := hstage0_4 (((cfgA m).slots t 4).cast nbuf0_4)
abbrev ms5 (t : Fin (cfgA m).N) : Memref sig .tc .vmem S512x1024 .bf16 := spec0_5.stage ((cfgA m).slots t 5)
abbrev hs5 (t : Fin (cfgA m).N) : (ms5 m t).IsWhole := hstage0_5 (((cfgA m).slots t 5).cast nbuf0_5)

/-- The block point `t` leaves: the expert's mathematics on a block of rows, zeros past the end. -/
@[irreducible] def outAt (c : Dev nD) (t : Fin (cfgA m).N) : Vec F S512x1024 .bf16 :=
  if bv (ends m) (ptN t.val (lt_N t)) = 1#32 then
    ffn (iblk m c 0 t) (gu (wgu m c (ex (ends m) (ptN t.val (lt_N t))))) (iblk m c 2 t) (wdc (wdn m c (ex (ends m) (ptN t.val (lt_N t))))) (iblk m c 4 t)
  else k0_pay2 (F := F)

/-- What is known of the kept matrices after block `n`. -/
def Kept (c : Dev nD) (n : ℕ) (s9 : Vec F S1024x2048 .bf16) (s10 : Vec F S1024x1024 .bf16) : Prop :=
  ∀ h : n < 322, bv (ends m) (ptN n h) = 1#32 → s9 = gu (wgu m c (ex (ends m) (ptN n h))) ∧ s10 = wdc (wdn m c (ex (ends m) (ptN n h)))

/-- The tables as the body holds them. -/
def tables (c : Dev nD) : sProp 𝕄 :=
  iprop(((Memref.whole main_v19).view.loc (c : Thread nD τ) ↦[(Memref.whole main_v19).view.set]{fullShare.right} (show BufTy.Contents (Elt F) (Memref.whole main_v19).view.ty from be (ends m)))
    ∗ ((Memref.whole main_v24).view.loc (c : Thread nD τ) ↦[(Memref.whole main_v24).view.set]{fullShare.right} (show BufTy.Contents (Elt F) (Memref.whole main_v24).view.ty from bv (ends m))))

/-- Between points: the kept matrices, the random number register, the tables. -/
def inv0 (c : Dev nD) (n : ℕ) : sProp 𝕄 :=
  iprop(∃ s9 : Vec F S1024x2048 .bf16, ∃ s10 : Vec F S1024x1024 .bf16, ⌜∀ k, k + 1 = n → Kept m c k s9 s10⌝
    ∗ owns (c : Thread nD τ) (Memref.whole cc0_scratch0) fullShare s9 ∗ owns (c : Thread nD τ) (Memref.whole cc0_scratch1) fullShare s10
    ∗ (∃ r, prngReg c r) ∗ tables m c)

/-- The proof data of the pipeline. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := inv0 m c t.val
  q _ := fullShare
  owed _ := 0

theorem A_eq (c : Dev nD) (w : Fin (cfgA m).W) : (dats m 0 c).A w = V m c (Pipeline.arrRef spec0 w) := by
  dsimp only [dats]

theorem after_0 (c : Dev nD) (t : Fin (cfgA m).N) : (dats m 0 c).after 0 t = iblk m c 0 t := Eq.trans rfl rfl
theorem after_1 (c : Dev nD) (t : Fin (cfgA m).N) : (dats m 0 c).after 1 t = iblk m c 1 t := Eq.trans rfl rfl
theorem after_2 (c : Dev nD) (t : Fin (cfgA m).N) : (dats m 0 c).after 2 t = iblk m c 2 t := Eq.trans rfl rfl
theorem after_3 (c : Dev nD) (t : Fin (cfgA m).N) : (dats m 0 c).after 3 t = iblk m c 3 t := Eq.trans rfl rfl
theorem after_4 (c : Dev nD) (t : Fin (cfgA m).N) : (dats m 0 c).after 4 t = iblk m c 4 t := Eq.trans rfl rfl
theorem after_5 (c : Dev nD) (t : Fin (cfgA m).N) : (dats m 0 c).after 5 t = outAt m c t := Eq.trans rfl rfl

theorem before_0 (c : Dev nD) (t : Fin (cfgA m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgA m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body at a point -/

/-- The body's program at point `t`. -/
abbrev bodyAt (t : Fin (cfgA m).N) := cc0_moe (F := F) (grid0.coords t) (Memref.whole main_v19) (Memref.isWhole_whole _) (Memref.whole main_v24) (Memref.isWhole_whole _)
  (ms0 m t) (hs0 m t) (ms1 m t) (hs1 m t) (ms2 m t) (hs2 m t) (ms3 m t) (hs3 m t) (ms4 m t) (hs4 m t) (ms5 m t) (hs5 m t) (Memref.whole cc0_scratch0) (Memref.isWhole_whole _) (Memref.whole cc0_scratch1) (Memref.isWhole_whole _)

def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

def bodyPost (c : Dev nD) (t : Fin (cfgA m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t))

set_option maxHeartbeats 1600000 in
theorem sound_body (c : Dev nD) (t : Fin (cfgA m).N) :
    bodyPre m c t ⊢ wp frame (wpE (defs₀ (F := F)) 𝒱₀ c none) Set.univ (bodyAt m t) (fun _ => bodyPost m c t) := by
  unfold bodyPre bodyPost bodyAt
  simp only [before_0, before_1, before_2, before_3, before_4]
  rw [show (dats m 0 c).Φ t.castSucc = inv0 m c t.val from rfl, show (dats m 0 c).Φ t.succ = inv0 m c (t.val + 1) from rfl,
    show (dats m 0 c).owesAt () t.succ = (dats m 0 c).owesAt () t.castSucc from rfl,
    after_0, after_1, after_2, after_3, after_4, after_5]
  have ht := lt_N t
  have hc : (grid0.coords t 0).val = t.val := coord_val t
  have o1 : k0_off1 (grid0.coords t) = ![t.val] := (off1_val _).trans (by rw [hc])
  have o2 : k0_off2 (grid0.coords t) = ![t.val - 1] := (off2_val _).trans (by rw [hc])
  have hv1 := word_at (bv (ends m)) _ (k0_off1_inb (grid0.coords t)) t.val ht o1
  have hv18 := word_at (bv (ends m)) _ (k0_off21_inb (grid0.coords t)) t.val ht o1
  have hv5 := word_at (be (ends m)) _ (k0_off1_inb (grid0.coords t)) t.val ht o1
  have hv9 := word_at (be (ends m)) _ (k0_off2_inb (grid0.coords t)) (t.val - 1) (by omega) o2
  unfold outAt inv0 tables
  iintro ⟨⟨%s9, %s10, %hk9, S9, S10, R, T1, T2⟩, Ho, ⟨%d0, H0⟩, ⟨%d1, H1⟩, ⟨%d2, H2⟩, ⟨%d3, H3⟩, ⟨%d4, H4⟩, ⟨%d5, H5⟩⟩
  rcases bv_or (ends m) (ptN t.val ht) with e | e
  case inl =>
    rw [if_neg (by rw [e]; decide)]
    rw [e] at hv1 hv18
    iapply (body_off c (grid0.coords t) (Memref.whole main_v19) (Memref.isWhole_whole _) (Memref.whole main_v24) (Memref.isWhole_whole _)
        (ms0 m t) (hs0 m t) (ms1 m t) (hs1 m t) (ms2 m t) (hs2 m t) (ms3 m t) (hs3 m t) (ms4 m t) (hs4 m t) (ms5 m t) (hs5 m t) (Memref.whole cc0_scratch0) (Memref.isWhole_whole _) (Memref.whole cc0_scratch1) (Memref.isWhole_whole _)
        (be (ends m)) (bv (ends m)) (iblk m c 0 t) (iblk m c 1 t) (iblk m c 2 t) (iblk m c 3 t) (iblk m c 4 t) _ _ _ hv1 hv5 hv9 hv18 (loads_zero _ _ _) (by decide) (by decide) s9 s10 Set.univ _)
    isplitl [H5]; · iexists _; iexact H5
    isplitl [T1]; · iexact T1
    isplitl [T2]; · iexact T2
    isplitl [H0]; · iexact H0
    isplitl [H1]; · iexact H1
    isplitl [H2]; · iexact H2
    isplitl [H3]; · iexact H3
    isplitl [H4]; · iexact H4
    isplitl [S9]; · iexact S9
    isplitl [S10]; · iexact S10
    iintro ⟨H5, T1, T2, H0, H1, H2, H3, H4, S9, S10⟩
    isplitl [S9 S10 R T1 T2]
    · iexists _; iexists _
      isplitr
      swap
      · isplitl [S9]; · iexact S9
        isplitl [S10]; · iexact S10
        isplitl [R]; · iexact R
        isplitl [T1]; · iexact T1
        iexact T2
      ipureintro
      intro k hk
      intro h hb
      obtain rfl : k = t.val := by omega
      rw [e] at hb; exact absurd hb (by decide)
    isplitl [Ho]; · iexact Ho
    isplitl [H0]; · iexact H0
    isplitl [H1]; · iexact H1
    isplitl [H2]; · iexact H2
    isplitl [H3]; · iexact H3
    isplitl [H4]; · iexact H4
    iexact H5
  case inr =>
    rw [if_pos e]
    rw [e] at hv1 hv18
    by_cases hl : loads (grid0.coords t) 1#32 (be (ends m) (ptN t.val ht)) (be (ends m) (ptN (t.val - 1) (by omega)))
    case pos =>
      rw [← iblk_1 m c t, ← iblk_3 m c t]
      iapply (body_load c (grid0.coords t) (Memref.whole main_v19) (Memref.isWhole_whole _) (Memref.whole main_v24) (Memref.isWhole_whole _)
          (ms0 m t) (hs0 m t) (ms1 m t) (hs1 m t) (ms2 m t) (hs2 m t) (ms3 m t) (hs3 m t) (ms4 m t) (hs4 m t) (ms5 m t) (hs5 m t) (Memref.whole cc0_scratch0) (Memref.isWhole_whole _) (Memref.whole cc0_scratch1) (Memref.isWhole_whole _)
          (be (ends m)) (bv (ends m)) (iblk m c 0 t) (iblk m c 1 t) (iblk m c 2 t) (iblk m c 3 t) (iblk m c 4 t) _ _ _ hv1 hv5 hv9 hv18 hl (by decide) (by decide) Set.univ _)
      isplitl [H5]; · iexists _; iexact H5
      isplitl [T1]; · iexact T1
      isplitl [T2]; · iexact T2
      isplitl [H0]; · iexact H0
      isplitl [H1]; · iexact H1
      isplitl [H2]; · iexact H2
      isplitl [H3]; · iexact H3
      isplitl [H4]; · iexact H4
      isplitl [S9]; · iexists _; iexact S9
      isplitl [S10]; · iexists _; iexact S10
      iintro ⟨H5, T1, T2, H0, H1, H2, H3, H4, S9, S10⟩
      isplitl [S9 S10 R T1 T2]
      · iexists _; iexists _
        isplitr
        swap
        · isplitl [S9]; · iexact S9
          isplitl [S10]; · iexact S10
          isplitl [R]; · iexact R
          isplitl [T1]; · iexact T1
          iexact T2
        ipureintro
        intro k hk
        intro h hb
        obtain rfl : k = t.val := by omega
        exact ⟨by rw [iblk_1], by rw [iblk_3]⟩
      isplitl [Ho]; · iexact Ho
      isplitl [H0]; · iexact H0
      isplitl [H1]; · iexact H1
      isplitl [H2]; · iexact H2
      isplitl [H3]; · iexact H3
      isplitl [H4]; · iexact H4
      iexact H5
    case neg =>
      have hl' := hl
      rw [loads_one, not_or, not_not, hc] at hl'
      obtain ⟨h0, heq⟩ := hl'
      have hee : ex (ends m) (ptN t.val ht) = ex (ends m) (ptN (t.val - 1) (by omega)) := by
        unfold ex; apply Fin.ext; show (be (ends m) _).toNat = (be (ends m) _).toNat; rw [heq]
      have hp : bv (ends m) (ptN (t.val - 1) (by omega)) = 1#32 :=
        bv_pred (ends m) (ptN t.val ht) (ptN (t.val - 1) (by omega)) (by show t.val - 1 + 1 = t.val; omega) e
      obtain ⟨e9, e10⟩ := hk9 (t.val - 1) (by omega) (by omega) hp
      rw [← hee] at e9 e10
      rw [← e9, ← e10]
      iapply (body_keep c (grid0.coords t) (Memref.whole main_v19) (Memref.isWhole_whole _) (Memref.whole main_v24) (Memref.isWhole_whole _)
          (ms0 m t) (hs0 m t) (ms1 m t) (hs1 m t) (ms2 m t) (hs2 m t) (ms3 m t) (hs3 m t) (ms4 m t) (hs4 m t) (ms5 m t) (hs5 m t) (Memref.whole cc0_scratch0) (Memref.isWhole_whole _) (Memref.whole cc0_scratch1) (Memref.isWhole_whole _)
          (be (ends m)) (bv (ends m)) (iblk m c 0 t) (iblk m c 1 t) (iblk m c 2 t) (iblk m c 3 t) (iblk m c 4 t) _ _ _ hv1 hv5 hv9 hv18 hl (by decide) (by decide) s9 s10 Set.univ _)
      isplitl [H5]; · iexists _; iexact H5
      isplitl [T1]; · iexact T1
      isplitl [T2]; · iexact T2
      isplitl [H0]; · iexact H0
      isplitl [H1]; · iexact H1
      isplitl [H2]; · iexact H2
      isplitl [H3]; · iexact H3
      isplitl [H4]; · iexact H4
      isplitl [S9]; · iexact S9
      isplitl [S10]; · iexact S10
      iintro ⟨H5, T1, T2, H0, H1, H2, H3, H4, S9, S10⟩
      isplitl [S9 S10 R T1 T2]
      · iexists _; iexists _
        isplitr
        swap
        · isplitl [S9]; · iexact S9
          isplitl [S10]; · iexact S10
          isplitl [R]; · iexact R
          isplitl [T1]; · iexact T1
          iexact T2
        ipureintro
        intro k hk
        intro h hb
        obtain rfl : k = t.val := by omega
        exact ⟨e9, e10⟩
      isplitl [Ho]; · iexact Ho
      isplitl [H0]; · iexact H0
      isplitl [H1]; · iexact H1
      isplitl [H2]; · iexact H2
      isplitl [H3]; · iexact H3
      isplitl [H4]; · iexact H4
      iexact H5

theorem body_row (t : Fin (cfgA m).N) :
    defs₀ (F := F) .tc (cfgA m).body ((cfgA m).bodyArgs t ((cfgA m).slots t)) = bodyAt m t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  refine triple_restated (sound_body m c t) rfl .rfl fun _ => ?_
  rw [idle_5 m]
  exact .rfl

/-! ## The run -/

/-- The two tables as the launch hands them over. -/
theorem prefHeld_pair (c : Dev nD) (q : Fin 2 → PosShare TreeShare) (v : pre0.Contents (Elt F)) :
    (Pipeline.prefHeld pre0 c q v : sProp 𝕄)
      = iprop((((c : Thread nD τ).loc main_v19) ↦{q 0} (show Buf (Elt F) ((c : Thread nD τ).loc main_v19) from v 0))
          ∗ (((c : Thread nD τ).loc main_v24) ↦{q 1} (show Buf (Elt F) ((c : Thread nD τ).loc main_v24) from v 1))) := by
  unfold Pipeline.prefHeld
  rw [show (Finset.univ : Finset (Fin 2)) = insert 0 {1} from by decide, bigSep_insert (by decide), bigSep_singleton]
  rfl

theorem in_inv (c : Dev nD) : iprop(Pipeline.ΦA spec0 c ∗ Pipeline.ΦT pre0 (tbl (F := F) (ends m)) c) ⊢ (inv0 m c 0 : sProp 𝕄) := by
  unfold Pipeline.ΦA Pipeline.ΦT inv0 tables
  simp only [owns_whole]
  rw [scopedRest0_eq, prefHeld_pair, show (Memref.whole main_v19).view.set = Finset.univ from View.set_whole _, show (Memref.whole main_v24).view.set = Finset.univ from View.set_whole _]
  iintro ⟨⟨⟨⟨%f9, S9⟩, ⟨%f10, S10⟩⟩, R⟩, T1, T2⟩
  iexists f9; iexists f10
  isplitr
  · ipureintro; intro k hk; omega
  isplitl [S9]; · iexact S9
  isplitl [S10]; · iexact S10
  isplitl [R]; · iexact R
  isplitl [T1]; · iexact T1
  iexact T2

theorem out_inv (c : Dev nD) (n : ℕ) : (inv0 m c n : sProp 𝕄) ⊢ Pipeline.ΦA spec0 c := by
  unfold Pipeline.ΦA inv0
  simp only [owns_whole]
  rw [scopedRest0_eq]
  iintro ⟨%s9, %s10, -, S9, S10, R, -⟩
  isplitr [R]
  · isplitl [S9]
    · iexists s9; iexact S9
    iexists s10; iexact S10
  iexact R

set_option backward.isDefEq.respectTransparency.types false in
theorem run_quiescent : θ_run defs (onTc (τ := τ) (main (F := F))) (s₀ m ρ)
    (fun r => Pipeline.FramePost (Pipeline.pin (pcfgs (F := F)) (admA m)) (dats m) 0 (V m) r ∧ r.2.sem = fun _ => 0) :=
  Pipeline.θ_run_frameP_track (Q' := _) (pcfgs (F := F)) (admA m) (dats m) (0 : Fin 1) launch0 defs₀ 𝒱₀ m ρ main
    (hbody := fun c => (body_obligation m c).loose) (hshare := fun c => (dats m 0 c).share_full fun _ => rfl)
    (howed := fun _ _ => rfl) (V := V m)
    (hmain := Pipeline.hmainP_prefixes (pcfgs (F := F)) 0 defs₀ 𝒱₀ m main (hostOps (F := F)) host_sub host_fresh main_chain)
    (hA := A_eq m)
    (hpf := fun c k => by
      obtain rfl : c = 0 := Subsingleton.elim _ _
      match k with
      | ⟨0, _⟩ => exact V_be m 0
      | ⟨1, _⟩ => exact V_bv m 0)
    (hin := fun c => in_inv m c) (hout := fun c => out_inv m c _)

/-- Every run ends, with the result array at what the write-backs leave in it, the arguments unchanged and every counter at zero. -/
theorem run : θ_run defs (onTc (τ := τ) (main (F := F))) ⟨m, fun _ => 0, ρ⟩ (fun r => (∀ c : Dev nD,
      r.2.mem ((c : Thread nD τ).loc main_v27) = (dats m 0 c).arrAt 5 (cfgA m).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r h => ⟨fun c => ⟨(h.1 c).1 5,
      ((h.1 c).2 main_arg0 (Pipeline.mem_restRefs_of main_arg0 (by decide) (show ∀ w : Fin 6, (spec0 w).arr.view.ref ≠ main_arg0 by decide))).trans (V_arg0 m c),
      ((h.1 c).1 0).trans (((dats m 0 c).arrAt_in 0 rfl _).trans (V_arg1 m c)),
      ((h.1 c).1 1).trans (((dats m 0 c).arrAt_in 1 rfl _).trans (V_arg2 m c)),
      ((h.1 c).2 main_arg3 (Pipeline.mem_restRefs_of main_arg3 (by decide) (show ∀ w : Fin 6, (spec0 w).arr.view.ref ≠ main_arg3 by decide))).trans (V_arg3 m c),
      ((h.1 c).1 3).trans (((dats m 0 c).arrAt_in 3 rfl _).trans (V_arg4 m c)),
      ((h.1 c).2 main_arg5 (Pipeline.mem_restRefs_of main_arg5 (by decide) (show ∀ w : Fin 6, (spec0 w).arr.view.ref ≠ main_arg5 by decide))).trans (V_arg5 m c)⟩, h.2⟩) (run_quiescent m ρ)

end Cert.Proof.FI

end
-- ==== Proof.FI.Pay.lean ====
/-
  The block a valid point writes, read at a row and a column over the extended reals.
-/
module

public import proofs.«01_k».proof.Proof.FI.Common
public import proofs.«01_k».proof.Proof.EI.Pay

@[expose] public section

set_option maxRecDepth 16384

noncomputable section

namespace Cert.Proof.FI

open Cert.NextExpertsIdeal Cert.NextExpertsIdeal.Gen
open Idealize.ShloMosaic Idealize.ShloMosaic.TcCoe
open Cert.Proof.EI (rowOut)

variable (x : Vec Ideal S512x1024 .bf16)

/-- The columns of the first matrix, the columns of its bias and the rows of the second matrix, by position. -/
abbrev wc (w : Vec Ideal S1x1x1024x2048 .f32) (k : Fin 1024) (n : Fin 2048) : EReal := w (ix4 0 0 k n)
abbrev bc (bb : Vec Ideal S1x1x1x2048 .f32) (n : Fin 2048) : EReal := bb (ix4 0 0 0 n)
abbrev dc (dw : Vec Ideal S1x1x1024x1024 .f32) (f j : Fin 1024) : EReal := dw (ix4 0 0 f j)

/-- The block a valid point writes, at a row and a column. -/
theorem ffn_at (w : Vec Ideal S1x1x1024x2048 .f32) (bb : Vec Ideal S1x1x1x2048 .f32) (dw : Vec Ideal S1x1x1024x1024 .f32)
    (e : Vec Ideal S1x1x1x1024 .f32) (r : Fin 512) (j : Fin 1024) :
    ffn x (gu w) bb (wdc dw) e (ix2 r j)
      = rowOut (fun k => x (ix2 r k)) (wc w) (bc bb) (dc dw) (fun j => e (ix4 0 0 0 j)) j :=
  EI.ffn_at x w bb dw e r j

end Cert.Proof.FI

end
-- ==== Proof.FR.Val.lean ====
/-
  The reference of the second layer's expert call over the extended reals: its result named piece by piece and read at a row and a column as
  one row's plain sums.
-/
module

public import proofs.«01_k».proof.Proof.EI.Spec
public import proofs.«01_k».proof.Proof.FI.Tables
public import proofs.«01_k».proof.Proof.ER.Val
public import proofs.«01_k».proof.Proof.Gen.NextExpertsReferenceIdeal
public import Idealize.ShloMosaic.Lib.Pointwise
public import Idealize.ShloMosaic.Lib.Tactic

@[expose] public section

set_option maxRecDepth 16384

noncomputable section

namespace Cert.Proof.FR

open Cert.NextExpertsReferenceIdeal Cert.NextExpertsReferenceIdeal.Gen
open Idealize.ShloMosaic Idealize.ShloMosaic.TcCoe
open Cert.Proof.EI (hid gcl lcl act hact rowOut)

abbrev CV := S32.Idx → BitVec 32
abbrev TV := S322.Idx → BitVec 32
abbrev XV := FVec Ideal S164864x1024 .bf16
abbrev WV := FVec Ideal S2x32x1024x2048 .f32
abbrev BV := FVec Ideal S2x32x2048 .f32
abbrev DV := FVec Ideal S2x32x1024x1024 .f32
abbrev EV := FVec Ideal S2x32x1024 .f32

/-- The quotients by 512, rounded down. -/
def quot (y : CV) : CV :=
  select (andi (cmpi .ne (signi y) (broadcastInDim S32 ![] bcast_S_S32 (signi (id (constantI S_ 32 512#32)))))
      (cmpi .ne (Host.remsi y (broadcastInDim S32 ![] bcast_S_S32 (id (constantI S_ 32 512#32)))) (broadcastInDim S32 ![] bcast_S_S32 (constantI S_ 32 0#32))))
    (subi (Host.divsi y (broadcastInDim S32 ![] bcast_S_S32 (id (constantI S_ 32 512#32)))) (broadcastInDim S32 ![] bcast_S_S32 (constantI S_ 32 1#32)))
    (Host.divsi y (broadcastInDim S32 ![] bcast_S_S32 (id (constantI S_ 32 512#32))))

/-- 512 of each. -/
def times (y : CV) : CV := muli y (broadcastInDim S32 ![] bcast_S_S32 (constantI S_ 32 512#32))

/-- The running sums. -/
def sums (y : CV) : CV :=
  Host.reduceWindow IntOp.addi ![32] ![1] ![31] ![0] y (broadcastInDim S_ ![] bcast_S_S_ (constantI S_ 32 0#32))
    reduceWindows_S32_S32_w32s1p31_0 h_S_

/-- The experts' ends, from the counts plus 511: the running sums of the counts, each rounded up to whole blocks of 512 rows. -/
def ends (y : CV) : CV := sums (times (quot y))

/-- The counts plus 511. -/
def up (n : CV) : CV := addi n (broadcastInDim S32 ![] bcast_S_S32 (constantI S_ 32 511#32))

/-- The first row of each block. -/
def starts : TV := muli (iotaInDim S322 32 0) (broadcastInDim S322 ![] bcast_S_S322 (constantI S_ 32 512#32))

/-- The expert of each block. -/
def be (p : CV) : TV :=
  minsi (Host.reduce IntOp.addi (extui 32 (cmpi .sle (broadcastInDim S322x32 ![0, 1] bcast_S1x32_S322x32_0_1 (broadcastInDim S1x32 ![1] bcast_S32_S1x32_1 p))
      (broadcastInDim S322x32 ![0, 1] bcast_S322x1_S322x32_0_1 (broadcastInDim S322x1 ![0] bcast_S322_S322x1_0 starts))) natLt_1_32)
    (constantI S_ 32 0#32) reducesTo_S322x32_S322_d1 h_S_) (broadcastInDim S322 ![] bcast_S_S322 (constantI S_ 32 31#32))

theorem be_eq (p : CV) : be p = Cert.Proof.FI.be p := rfl

theorem be_lt (p : CV) (b : Fin 322) : (be p (ix1 b)).toNat < 32 := Cert.Proof.FI.be_lt p (ix1 b)

/-- The expert of a block. -/
def ex (p : CV) (b : Fin 322) : Fin 32 := ⟨(be p (ix1 b)).toNat, be_lt p b⟩

/-- A table's entries, a negative one counted from the end. -/
def wrap (e : TV) : TV :=
  select (cmpi .slt e (broadcastInDim S322 ![] bcast_S_S322 (constantI S_ 32 0#32))) (addi e (broadcastInDim S322 ![] bcast_S_S322 (constantI S_ 32 32#32))) e

theorem wrap_at (p : CV) (b : Fin 322) : wrap (be p) (ix1 b) = be p (ix1 b) := by
  have h := be_lt p b
  have key : ∀ w : BitVec 32, w.toNat < 32 → IntOp.cmpi .slt w 0#32 = 0#1 := by
    intro w hw
    have : w.slt 0#32 = false := by
      simp only [BitVec.slt, decide_eq_false_iff_not, BitVec.toInt_eq_toNat_cond]
      rw [if_pos (by omega)]; simp
    unfold IntOp.cmpi
    simp [this]
  have e : wrap (be p) (ix1 b) = if IntOp.cmpi .slt (be p (ix1 b)) 0#32 = 1#1 then IntOp.addi (be p (ix1 b)) 32#32 else be p (ix1 b) := rfl
  rw [e, key _ h, if_neg (by decide)]

/-- A position along an axis taken whole. -/
def zero (n : BitVec 32) : S322x1.Idx → BitVec 32 :=
  broadcastInDim S322x1 ![] bcast_S_S322x1 (select (cmpi .slt (constantI S_ 32 0#32) (constantI S_ 32 0#32)) (addi (constantI S_ 32 0#32) (constantI S_ 32 n)) (constantI S_ 32 0#32))

/-- The places a block's matrix and a block's bias start at. -/
def at3 (e : TV) (n k : BitVec 32) : S322x3.Idx → BitVec 32 :=
  concatenate S322x3 1 [⟨S322x1, broadcastInDim S322x1 ![0] bcast_S322_S322x1_0 e⟩, ⟨S322x1, zero n⟩, ⟨S322x1, zero k⟩]
    concatenates_S322x1_S322x1_S322x1_S322x3_d1
def at2 (e : TV) (n : BitVec 32) : S322x2.Idx → BitVec 32 :=
  concatenate S322x2 1 [⟨S322x1, broadcastInDim S322x1 ![0] bcast_S322_S322x1_0 e⟩, ⟨S322x1, zero n⟩] concatenates_S322x1_S322x1_S322x2_d1

theorem at3_at (e : TV) (n k : BitVec 32) (b : Fin 322) : at3 e n k (ix2 b 0) = e (ix1 b) := by
  pointwise [at3]
theorem at2_at (e : TV) (n : BitVec 32) (b : Fin 322) : at2 e n (ix2 b 0) = e (ix1 b) := by
  pointwise [at2]

theorem gather_w (x : FVec Ideal S32x1024x2048 .f32) (i : S322x3.Idx → BitVec 32) (b : Fin 322) (k : Fin 1024) (n : Fin 2048) (e : Fin 32)
    (h : i (ix2 b 0) = BitVec.ofNat 32 e.val) :
    Host.gather gather_S32x1024x2048_S322x3_S322x1x1024x2048_123_n_n_n_012_1_110242048 x i (ix4 b 0 k n) = x (ix3 e k n) :=
  ER.gather_w x i b k n e h

theorem gather_d (x : FVec Ideal S32x1024x1024 .f32) (i : S322x3.Idx → BitVec 32) (b : Fin 322) (k : Fin 1024) (n : Fin 1024) (e : Fin 32)
    (h : i (ix2 b 0) = BitVec.ofNat 32 e.val) :
    Host.gather gather_S32x1024x1024_S322x3_S322x1x1024x1024_123_n_n_n_012_1_110241024 x i (ix4 b 0 k n) = x (ix3 e k n) :=
  ER.gather_d x i b k n e h

theorem gather_b (x : FVec Ideal S32x2048 .f32) (i : S322x2.Idx → BitVec 32) (b : Fin 322) (n : Fin 2048) (e : Fin 32)
    (h : i (ix2 b 0) = BitVec.ofNat 32 e.val) :
    Host.gather gather_S32x2048_S322x2_S322x1x2048_12_n_n_n_01_1_12048 x i (ix3 b 0 n) = x (ix2 e n) :=
  ER.gather_b x i b n e h

theorem gather_e (x : FVec Ideal S32x1024 .f32) (i : S322x2.Idx → BitVec 32) (b : Fin 322) (n : Fin 1024) (e : Fin 32)
    (h : i (ix2 b 0) = BitVec.ofNat 32 e.val) :
    Host.gather gather_S32x1024_S322x2_S322x1x1024_12_n_n_n_01_1_11024 x i (ix3 b 0 n) = x (ix2 e n) :=
  ER.gather_e x i b n e h

/-! ## The pieces -/

/-- The rows, block by block. -/
def xb (x : XV) : FVec Ideal S322x512x1024 .f32 := shapeCast _ (extf .f32 x bitsLt_bf16_f32) shapeCasts_S164864x1024_S322x512x1024

/-- Each block's matrices and biases. -/
def gw (w : WV) (e : TV) : FVec Ideal S322x1024x2048 .f32 :=
  shapeCast _ (Host.gather gather_S32x1024x2048_S322x3_S322x1x1024x2048_123_n_n_n_012_1_110242048
    (shapeCast _ (extractStridedSlice S1x32x1024x2048 ![1, 0, 0, 0] w slices_S2x32x1024x2048_S1x32x1024x2048_1_0_0_0) shapeCasts_S1x32x1024x2048_S32x1024x2048)
    (at3 (wrap e) 1024#32 2048#32)) shapeCasts_S322x1x1024x2048_S322x1024x2048
def gb (w : BV) (e : TV) : FVec Ideal S322x2048 .f32 :=
  shapeCast _ (Host.gather gather_S32x2048_S322x2_S322x1x2048_12_n_n_n_01_1_12048
    (shapeCast _ (extractStridedSlice S1x32x2048 ![1, 0, 0] w slices_S2x32x2048_S1x32x2048_1_0_0) shapeCasts_S1x32x2048_S32x2048)
    (at2 (wrap e) 2048#32)) shapeCasts_S322x1x2048_S322x2048
def gd (w : DV) (e : TV) : FVec Ideal S322x1024x1024 .f32 :=
  shapeCast _ (Host.gather gather_S32x1024x1024_S322x3_S322x1x1024x1024_123_n_n_n_012_1_110241024
    (shapeCast _ (extractStridedSlice S1x32x1024x1024 ![1, 0, 0, 0] w slices_S2x32x1024x1024_S1x32x1024x1024_1_0_0_0) shapeCasts_S1x32x1024x1024_S32x1024x1024)
    (at3 (wrap e) 1024#32 1024#32)) shapeCasts_S322x1x1024x1024_S322x1024x1024
def ge (w : EV) (e : TV) : FVec Ideal S322x1024 .f32 :=
  shapeCast _ (Host.gather gather_S32x1024_S322x2_S322x1x1024_12_n_n_n_01_1_11024
    (shapeCast _ (extractStridedSlice S1x32x1024 ![1, 0, 0] w slices_S2x32x1024_S1x32x1024_1_0_0) shapeCasts_S1x32x1024_S32x1024)
    (at2 (wrap e) 1024#32)) shapeCasts_S322x1x1024_S322x1024

/-- The hidden columns. -/
def hidden (x : FVec Ideal S322x512x1024 .f32) (w : FVec Ideal S322x1024x2048 .f32) (b : FVec Ideal S322x2048 .f32) : FVec Ideal S322x512x2048 .f32 :=
  addf (Host.dotGeneral dot_S322x512x1024_S322x1024x2048_S322x512x2048_2_1_1_2_0_0 none x w)
    (broadcastInDim S322x512x2048 ![0, 1, 2] bcast_S322x1x2048_S322x512x2048_0_1_2 (broadcastInDim S322x1x2048 ![0, 2] bcast_S322x2048_S322x1x2048_0_2 b))

/-- The same number at every place. -/
abbrev every (b : BitVec 32) : FVec Ideal S322x512x1024 .f32 := broadcastInDim S322x512x1024 ![] bcast_S_S322x512x1024 (constant S_ .f32 b)
abbrev every' (b : BitVec 32) : FVec Ideal S322x512x1024 .f32 := broadcastInDim S322x512x1024 ![] bcast_S_S322x512x1024 (id (constant S_ .f32 b))

/-- The gate's columns, bounded above. -/
def gate (h : FVec Ideal S322x512x2048 .f32) : FVec Ideal S322x512x1024 .f32 :=
  minimumf (extractStridedSlice S322x512x1024 ![0, 0, 0] h slices_S322x512x2048_S322x512x1024_0_0_0) (every 0x40E00000#32)

/-- The activations. -/
def actv (h : FVec Ideal S322x512x2048 .f32) : FVec Ideal S322x512x1024 .f32 :=
  mulf (mulf (gate h) (Host.divf (every 0x3F800000#32) (addf (every 0x3F800000#32) (Host.exp (Host.negf (mulf (every 0x3FD9DB23#32) (gate h)))))))
    (addf (minimumf (every' 0x40E00000#32) (maximumf (every' 0xC0E00000#32)
      (extractStridedSlice S322x512x1024 ![0, 0, 1024] h slices_S322x512x2048_S322x512x1024_0_0_1024))) (every 0x3F800000#32))

/-- Every block's rows as the experts make them. -/
def made (x : XV) (w : WV) (b : BV) (d : DV) (e : EV) (t : TV) : FVec Ideal S322x512x1024 .f32 :=
  addf (Host.dotGeneral dot_S322x512x1024_S322x1024x1024_S322x512x1024_2_1_1_2_0_0 none (actv (hidden (xb x) (gw w t) (gb b t))) (gd d t))
    (broadcastInDim S322x512x1024 ![0, 1, 2] bcast_S322x1x1024_S322x512x1024_0_1_2 (broadcastInDim S322x1x1024 ![0, 2] bcast_S322x1024_S322x1x1024_0_2 (ge e t)))

/-- Whether each block holds an expert's rows. -/
def holds (p : CV) : S322.Idx → BitVec 1 :=
  cmpi .slt starts (broadcastInDim S322 ![] bcast_S_S322 (shapeCast _ (extractStridedSlice S1 ![31] p slices_S32_S1_31) shapeCasts_S1_S_))

/-- The result from the experts' ends. -/
def outOf (p : CV) (x : XV) (w : WV) (b : BV) (d : DV) (e : EV) : FVec Ideal S164864x1024 .bf16 :=
  truncf .bf16 (shapeCast _ (select (broadcastInDim S322x512x1024 ![0, 1, 2] bcast_S322x1x1_S322x512x1024_0_1_2
      (broadcastInDim S322x1x1 ![0] bcast_S322_S322x1x1_0 (holds p)))
    (made x w b d e (be p)) (every' 0x00000000#32)) shapeCasts_S322x512x1024_S164864x1024) bitsLt_bf16_f32

/-- The result. -/
def out (n : CV) (x : XV) (w : WV) (b : BV) (d : DV) (e : EV) : FVec Ideal S164864x1024 .bf16 := outOf (ends (up n)) x w b d e

/-! ## At an index -/

theorem xb_at (x : XV) (b : Fin 322) (r : Fin 512) (k : Fin 1024) : xb x (ix3 b r k) = x (ix2 ⟨b.val * 512 + r.val, by omega⟩ k) := by
  pointwise [xb]

theorem ex_word (p : CV) (b : Fin 322) : wrap (be p) (ix1 b) = BitVec.ofNat 32 (ex p b).val := by
  rw [wrap_at]
  show be p (ix1 b) = BitVec.ofNat 32 (be p (ix1 b)).toNat
  simp

theorem gw_at (w : WV) (p : CV) (b : Fin 322) (k : Fin 1024) (n : Fin 2048) : gw w (be p) (ix3 b k n) = w (ix4 1 (ex p b) k n) := by
  have e : gw w (be p) (ix3 b k n) = Host.gather gather_S32x1024x2048_S322x3_S322x1x1024x2048_123_n_n_n_012_1_110242048
      (shapeCast _ (extractStridedSlice S1x32x1024x2048 ![1, 0, 0, 0] w slices_S2x32x1024x2048_S1x32x1024x2048_1_0_0_0) shapeCasts_S1x32x1024x2048_S32x1024x2048)
      (at3 (wrap (be p)) 1024#32 2048#32) (ix4 b 0 k n) := by
    pointwise [gw]
  rw [e, gather_w _ _ _ _ _ (ex p b) ((at3_at _ _ _ _).trans (ex_word p b))]
  pointwise
theorem gb_at (w : BV) (p : CV) (b : Fin 322) (n : Fin 2048) : gb w (be p) (ix2 b n) = w (ix3 1 (ex p b) n) := by
  have e : gb w (be p) (ix2 b n) = Host.gather gather_S32x2048_S322x2_S322x1x2048_12_n_n_n_01_1_12048
      (shapeCast _ (extractStridedSlice S1x32x2048 ![1, 0, 0] w slices_S2x32x2048_S1x32x2048_1_0_0) shapeCasts_S1x32x2048_S32x2048)
      (at2 (wrap (be p)) 2048#32) (ix3 b 0 n) := by
    pointwise [gb]
  rw [e, gather_b _ _ _ _ (ex p b) ((at2_at _ _ _).trans (ex_word p b))]
  pointwise
theorem gd_at (w : DV) (p : CV) (b : Fin 322) (k : Fin 1024) (n : Fin 1024) : gd w (be p) (ix3 b k n) = w (ix4 1 (ex p b) k n) := by
  have e : gd w (be p) (ix3 b k n) = Host.gather gather_S32x1024x1024_S322x3_S322x1x1024x1024_123_n_n_n_012_1_110241024
      (shapeCast _ (extractStridedSlice S1x32x1024x1024 ![1, 0, 0, 0] w slices_S2x32x1024x1024_S1x32x1024x1024_1_0_0_0) shapeCasts_S1x32x1024x1024_S32x1024x1024)
      (at3 (wrap (be p)) 1024#32 1024#32) (ix4 b 0 k n) := by
    pointwise [gd]
  rw [e, gather_d _ _ _ _ _ (ex p b) ((at3_at _ _ _ _).trans (ex_word p b))]
  pointwise
theorem ge_at (w : EV) (p : CV) (b : Fin 322) (n : Fin 1024) : ge w (be p) (ix2 b n) = w (ix3 1 (ex p b) n) := by
  have e : ge w (be p) (ix2 b n) = Host.gather gather_S32x1024_S322x2_S322x1x1024_12_n_n_n_01_1_11024
      (shapeCast _ (extractStridedSlice S1x32x1024 ![1, 0, 0] w slices_S2x32x1024_S1x32x1024_1_0_0) shapeCasts_S1x32x1024_S32x1024)
      (at2 (wrap (be p)) 1024#32) (ix3 b 0 n) := by
    pointwise [ge]
  rw [e, gather_e _ _ _ _ (ex p b) ((at2_at _ _ _).trans (ex_word p b))]
  pointwise

theorem hidden_at (x : FVec Ideal S322x512x1024 .f32) (w : FVec Ideal S322x1024x2048 .f32) (v : FVec Ideal S322x2048 .f32)
    (b : Fin 322) (r : Fin 512) (n : Fin 2048) :
    hidden x w v (ix3 b r n) = hid (fun k => x (ix3 b r k)) (fun k n => w (ix3 b k n)) (fun n => v (ix2 b n)) n := by
  pointwise [hidden, hid]

theorem actv_at (h : FVec Ideal S322x512x2048 .f32) (b : Fin 322) (r : Fin 512) (f : Fin 1024) :
    actv h (ix3 b r f) = act (h (ix3 b r ⟨f.val, by omega⟩)) (h (ix3 b r ⟨1024 + f.val, by omega⟩)) := by
  pointwise [actv, gate, act, gcl, lcl]
  rfl

theorem made_at (x : XV) (w : WV) (v : BV) (d : DV) (e : EV) (p : CV) (b : Fin 322) (r : Fin 512) (j : Fin 1024) :
    made x w v d e (be p) (ix3 b r j)
      = rowOut (fun k => x (ix2 ⟨b.val * 512 + r.val, by omega⟩ k)) (fun k n => w (ix4 1 (ex p b) k n)) (fun n => v (ix3 1 (ex p b) n))
          (fun f j => d (ix4 1 (ex p b) f j)) (fun j => e (ix3 1 (ex p b) j)) j := by
  have e1 : made x w v d e (be p) (ix3 b r j)
      = ∑ f : Fin 1024, actv (hidden (xb x) (gw w (be p)) (gb v (be p))) (ix3 b r f) * gd d (be p) (ix3 b f j) + ge e (be p) (ix2 b j) := by
    pointwise [made]
  rw [e1]
  simp only [actv_at, hidden_at, xb_at, gw_at, gb_at, gd_at, ge_at]
  rfl

/-- The result at a row and a column. -/
theorem outOf_at (p : CV) (x : XV) (w : WV) (v : BV) (d : DV) (e : EV) (b : Fin 322) (r : Fin 512) (j : Fin 1024) :
    outOf p x w v d e (ix2 ⟨b.val * 512 + r.val, by omega⟩ j)
      = if (starts (ix1 b)).slt (p (ix1 31)) then
          rowOut (fun k => x (ix2 ⟨b.val * 512 + r.val, by omega⟩ k)) (fun k n => w (ix4 1 (ex p b) k n)) (fun n => v (ix3 1 (ex p b) n))
            (fun f j => d (ix4 1 (ex p b) f j)) (fun j => e (ix3 1 (ex p b) j)) j
        else 0 := by
  have e1 : outOf p x w v d e (ix2 ⟨b.val * 512 + r.val, by omega⟩ j)
      = if IntOp.cmpi .slt (starts (ix1 b)) (p (ix1 31)) = 1#1 then made x w v d e (be p) (ix3 b r j) else 0 := by
    pointwise [outOf, holds]
    have z : (id (constant S_ .f32 0x00000000#32) : FVec Ideal S_ .f32) ix0 = (0 : EReal) := Ideal.ofBits_zero_f32
    rw [z]
    rfl
  rw [e1, made_at]
  unfold IntOp.cmpi
  cases (starts (ix1 b)).slt (p (ix1 31)) <;> simp

end Cert.Proof.FR

end
-- ==== Proof.FI.Arr.lean ====
/-
  The result array after the run, over the extended reals: each input block read back to the program's arguments, and the array
  the write-backs leave equal to the reference's result (`arr_eq`).
-/
module

public import proofs.«01_k».proof.Proof.FI.Run
public import proofs.«01_k».proof.Proof.FI.Pay
public import proofs.«01_k».proof.Proof.FR.Val
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.Proof.FI

open Cert.NextExpertsIdeal Cert.NextExpertsIdeal.Gen
open Idealize.ShloMosaic Idealize.ShloMosaic.TcCoe Idealize.ShloMosaic.Tactic

variable (m : (ℓ : Loc nD τ sig) → Buf (Elt Ideal) ℓ) (c : Dev nD)

/-- The counts, the rows and the experts' matrices and biases a device is given. -/
abbrev nArg : S32.Idx → BitVec 32 := m ((c : Thread nD τ).loc main_arg0)
abbrev xArg : FVec Ideal S164864x1024 .bf16 := m ((c : Thread nD τ).loc main_arg1)
abbrev wArg : FVec Ideal S2x32x1024x2048 .f32 := m ((c : Thread nD τ).loc main_arg2)
abbrev bArg : FVec Ideal S2x32x2048 .f32 := m ((c : Thread nD τ).loc main_arg3)
abbrev dArg : FVec Ideal S2x32x1024x1024 .f32 := m ((c : Thread nD τ).loc main_arg4)
abbrev eArg : FVec Ideal S2x32x1024 .f32 := m ((c : Thread nD τ).loc main_arg5)

/-! ## The host's operations -/

/-- The counts plus 512, less one. -/
def up (n : S32.Idx → BitVec 32) : S32.Idx → BitVec 32 :=
  subi (addi n (broadcastInDim S32 ![] bcast_S_S32 (constantI S_ 32 512#32))) (broadcastInDim S32 ![] bcast_S_S32 (constantI S_ 32 1#32))

theorem up_eq (n : S32.Idx → BitVec 32) : up n = FR.up n := by
  funext x
  show n x + 512#32 - 1#32 = n x + 511#32
  rw [BitVec.sub_eq_add_neg, BitVec.add_assoc]
  rfl

section Stretches

variable (U : Valuation τ sig (Elt Ideal))

theorem st0 : StableHlo.after hostOps0 U (Proc.devRef .tc main_v3) = up (U (Proc.devRef .tc main_arg0)) := by
  after_results_simp; rfl
theorem st0' : StableHlo.after hostOps0 U (Proc.devRef .tc main_c_1) = constantI S_ 32 512#32 := by
  after_results_simp
theorem st1 (h : U (Proc.devRef .tc main_c_1) = constantI S_ 32 512#32) :
    StableHlo.after hostOps0_1 U (Proc.devRef .tc main_v4) = FR.quot (U (Proc.devRef .tc main_v3)) := by
  after_results_simp
  rw [h]
  unfold FR.quot
  rfl
theorem st2 : StableHlo.after hostOps0_2 U (Proc.devRef .tc main_v6) = FR.times (U (Proc.devRef .tc main_v4)) := by
  after_results_simp; rfl
attribute [local irreducible] Host.reduceWindow in
theorem st3 : StableHlo.after hostOps0_3 U (Proc.devRef .tc main_v7) = FR.sums (U (Proc.devRef .tc main_v6)) := by
  after_results_simp; unfold FR.sums; rfl

end Stretches

theorem pend_eq : pend m c = FR.ends (FR.up (nArg m c)) := by
  have e : pend m c = StableHlo.after hostOps0_3 (StableHlo.after hostOps0_2 (StableHlo.after hostOps0_1 (StableHlo.after hostOps0 (fun b => m (c, b)))))
      (Proc.devRef .tc main_v7) := rfl
  rw [e, st3, st2, st1 _ (st0' _), st0]
  exact congrArg FR.ends (up_eq (nArg m c))

theorem V_b1 : V m c main_v25 = broadcastInDim S2x32x1x2048 ![0, 1, 3] bcast_S2x32x2048_S2x32x1x2048_0_1_3 (bArg m c) := by
  unfold V
  after_results_simp
  rfl

theorem V_b2 : V m c main_v26 = broadcastInDim S2x32x1x1024 ![0, 1, 3] bcast_S2x32x1024_S2x32x1x1024_0_1_3 (eArg m c) := by
  unfold V
  after_results_simp
  rfl

/-! ## The blocks -/

theorem ix_0 (t : Fin (cfgA m).N) : ((cfgA m).win 0).index t = ![t.val, 0] := by
  have h := lt_N t
  funext a; fin_cases a
  · show (BitVec.ofNat 32 (grid0.coords t 0).val).toNat = t.val
    rw [coord_val, BitVec.toNat_ofNat]; omega
  · rfl

theorem ix_5 (t : Fin (cfgA m).N) : ((cfgA m).win 5).index t = ![t.val, 0] := by
  have h := lt_N t
  funext a; fin_cases a
  · show (BitVec.ofNat 32 (grid0.coords t 0).val).toNat = t.val
    rw [coord_val, BitVec.toNat_ofNat]; omega
  · rfl

theorem ix_2 (t : Fin (cfgA m).N) : ((cfgA m).win 2).index t = ![1, (ex (ends m) (ptN t.val (lt_N t))).val, 0, 0] := by
  funext a; fin_cases a
  · rfl
  · have e := congrArg BitVec.toNat (ix_w m t)
    exact e
  · rfl
  · rfl

theorem ix_4 (t : Fin (cfgA m).N) : ((cfgA m).win 4).index t = ![1, (ex (ends m) (ptN t.val (lt_N t))).val, 0, 0] := by
  funext a; fin_cases a
  · rfl
  · have e := congrArg BitVec.toNat (ix_w m t)
    exact e
  · rfl
  · rfl

theorem blk0_at (t : Fin (cfgA m).N) (r : Fin 512) (k : Fin 1024) : (iblk m c 0 t : Vec Ideal S512x1024 .bf16) (ix2 r k)
    = xArg m c (ix2 ⟨t.val * 512 + r.val, by have := lt_N t; omega⟩ k) := by
  rw [show xArg m c = V m c main_arg1 from (V_arg1 m c).symm]
  blk_simp [iblk]
  congr 1
  blk_ext [ix_0 m t]

theorem blk2_at (t : Fin (cfgA m).N) (n : Fin 2048) : (iblk m c 2 t : Vec Ideal S1x1x1x2048 .f32) (ix4 0 0 0 n)
    = bArg m c (ix3 1 (ex (ends m) (ptN t.val (lt_N t))) n) := by
  have e : (iblk m c 2 t : Vec Ideal S1x1x1x2048 .f32) (ix4 0 0 0 n) = V m c main_v25 (ix4 1 (ex (ends m) (ptN t.val (lt_N t))) 0 n) := by
    blk_simp [iblk]
    congr 1
    blk_ext [ix_2 m t]
  rw [e, V_b1]
  pointwise

theorem blk4_at (t : Fin (cfgA m).N) (n : Fin 1024) : (iblk m c 4 t : Vec Ideal S1x1x1x1024 .f32) (ix4 0 0 0 n)
    = eArg m c (ix3 1 (ex (ends m) (ptN t.val (lt_N t))) n) := by
  have e : (iblk m c 4 t : Vec Ideal S1x1x1x1024 .f32) (ix4 0 0 0 n) = V m c main_v26 (ix4 1 (ex (ends m) (ptN t.val (lt_N t))) 0 n) := by
    blk_simp [iblk]
    congr 1
    blk_ext [ix_4 m t]
  rw [e, V_b2]
  pointwise

/-! ## The array -/

theorem pay2_at (x : S512x1024.Idx) : k0_pay2 (F := Ideal) x = 0 := Ideal.ofBits_zero_bf16

/-- A point's block at a row and a column. -/
theorem out_at (t : Fin (cfgA m).N) (r : Fin 512) (j : Fin 1024) : outAt m c t (ix2 r j)
    = FR.outOf (ends m) (xArg m c) (wArg m c) (bArg m c) (dArg m c) (eArg m c) (ix2 ⟨t.val * 512 + r.val, by have := lt_N t; omega⟩ j) := by
  refine Eq.trans ?_ (FR.outOf_at (ends m) (xArg m c) (wArg m c) (bArg m c) (dArg m c) (eArg m c) ⟨t.val, lt_N t⟩ r j).symm
  have hb := bv_at (ends m) (ptN t.val (lt_N t))
  have hs : FR.starts (ix1 ⟨t.val, lt_N t⟩) = BitVec.ofNat 32 ((ptN t.val (lt_N t) 0).val * 512) := starts_at (ptN t.val (lt_N t))
  rw [hs]
  unfold outAt
  by_cases hc : (BitVec.ofNat 32 ((ptN t.val (lt_N t) 0).val * 512)).slt (ends m (ix1 31)) = true
  · rw [if_pos hc] at hb
    rw [if_pos hb, if_pos hc]
    refine (ffn_at (iblk m c 0 t : Vec Ideal S512x1024 .bf16) _ (iblk m c 2 t : Vec Ideal S1x1x1x2048 .f32) _ (iblk m c 4 t : Vec Ideal S1x1x1x1024 .f32) r j).trans ?_
    have e1 : (fun k => (iblk m c 0 t : Vec Ideal S512x1024 .bf16) (ix2 r k))
        = fun k => xArg m c (ix2 ⟨t.val * 512 + r.val, by have := lt_N t; omega⟩ k) := funext fun k => blk0_at m c t r k
    have e2 : bc (iblk m c 2 t : Vec Ideal S1x1x1x2048 .f32) = fun n => bArg m c (ix3 1 (ex (ends m) (ptN t.val (lt_N t))) n) :=
      funext fun n => blk2_at m c t n
    have e4 : (fun n => (iblk m c 4 t : Vec Ideal S1x1x1x1024 .f32) (ix4 0 0 0 n)) = fun n => eArg m c (ix3 1 (ex (ends m) (ptN t.val (lt_N t))) n) :=
      funext fun n => blk4_at m c t n
    have e3 : wc (wgu m c (ex (ends m) (ptN t.val (lt_N t)))) = fun k n => wArg m c (ix4 1 (ex (ends m) (ptN t.val (lt_N t))) k n) := by
      funext k n; unfold wc wgu; rw [V_arg2]; rfl
    have e5 : dc (wdn m c (ex (ends m) (ptN t.val (lt_N t)))) = fun k n => dArg m c (ix4 1 (ex (ends m) (ptN t.val (lt_N t))) k n) := by
      funext k n; unfold dc wdn; rw [V_arg4]; rfl
    rw [e1, e2, e3, e4, e5]
    rfl
  · rw [if_neg hc] at hb
    rw [if_neg (by rw [hb]; decide), if_neg hc, pay2_at]

theorem ends_eq : ends m = FR.ends (FR.up (nArg m c)) := by
  obtain rfl : c = 0 := Subsingleton.elim _ _
  exact pend_eq m 0

theorem arr_eq : (dats m 0 c).arrAt 5 (cfgA m).N = FR.out (nArg m c) (xArg m c) (wArg m c) (bArg m c) (dArg m c) (eArg m c) := by
  refine (dats m 0 c).arrAt_eq_of_covers 5 _ (((cfgA m).win 5).covers_of_indexMap_surj rfl (fun a : Fin 2 => match a with
      | ⟨0, _⟩ => (by show 0 < 512; decide)
      | ⟨1, _⟩ => (by show 0 < 1024; decide)) fun β => ?_) fun t hf y => ?_
  · have h0 : (β (0 : Fin 2)).val < 322 := lt_of_lt_of_eq (β (0 : Fin 2)).isLt (show (164864 + 512 - 1) / 512 = 322 by decide)
    have h1 : (β (1 : Fin 2)).val < 1 := lt_of_lt_of_eq (β (1 : Fin 2)).isLt (show (1024 + 1024 - 1) / 1024 = 1 by decide)
    refine ⟨fun a => match a with | ⟨0, _⟩ => ⟨(β (0 : Fin 2)).val, h0⟩, fun a => ?_⟩
    match a with
    | ⟨0, _⟩ => show (BitVec.ofNat 32 (β (0 : Fin 2)).val).toNat = (β (0 : Fin 2)).val; rw [BitVec.toNat_ofNat]; omega
    | ⟨1, _⟩ => show 0 = (β (1 : Fin 2)).val; omega
  · blk_simp
    rw [after_5]
    obtain ⟨r, l, rfl⟩ : ∃ (r : Fin 512) (l : Fin 1024), y = ix2 r l := ⟨y (0 : Fin 2), y (1 : Fin 2), eq_ix2 (n0 := 512) (n1 := 1024) y⟩
    refine (out_at m c t r l).trans ?_
    unfold FR.out
    rw [← ends_eq m c]
    congr 1
    blk_ext [ix_5 m t]

end Cert.Proof.FI

end
-- ==== Proof.FR.Run.lean ====
/-
  The reference of the second layer's expert call run: its result is the one named in `FR.Val`.
-/
module

public import proofs.«01_k».proof.Proof.FR.Val
public import proofs.«01_k».proof.Proof.Gen.NextExpertsReferenceIdeal.Run

@[expose] public section

set_option maxRecDepth 16384

noncomputable section

namespace Cert.Proof.FR

open Cert.NextExpertsReferenceIdeal Cert.NextExpertsReferenceIdeal.Gen
open Idealize.ShloMosaic Idealize.ShloMosaic.TcCoe Idealize.SL.Sem

variable (m : (ℓ : Loc nD τ sig) → Buf (Elt Ideal) ℓ) (ρ : Dev nD → PrngReg) (c : Dev nD)

abbrev nArg : CV := m ((c : Thread nD τ).loc main_arg0)
abbrev xArg : XV := m ((c : Thread nD τ).loc main_arg1)
abbrev wArg : WV := m ((c : Thread nD τ).loc main_arg2)
abbrev bArg : BV := m ((c : Thread nD τ).loc main_arg3)
abbrev dArg : DV := m ((c : Thread nD τ).loc main_arg4)
abbrev eArg : EV := m ((c : Thread nD τ).loc main_arg5)

open Cert.NextExpertsReferenceIdeal.Value in
theorem v13_eq (V0 : Valuation τ sig (Elt Ideal)) : res_main_v13 V0 = ends (up (V0 (Proc.devRef .tc main_arg0))) := by
  unfold res_main_v13 res_main_call0_v2 res_main_call0_v0 res_main_v9 ends sums times quot up
  rfl

open Cert.NextExpertsReferenceIdeal.Value in
theorem v25_eq (V0 : Valuation τ sig (Elt Ideal)) : res_main_v25 V0 = be (ends (up (V0 (Proc.devRef .tc main_arg0)))) := by
  unfold res_main_v25
  rw [v13_eq]
  rfl

open Cert.NextExpertsReferenceIdeal.Value in
theorem v61_eq (V0 : Valuation τ sig (Elt Ideal)) : res_main_v61 V0
    = hidden (xb (V0 (Proc.devRef .tc main_arg1))) (gw (V0 (Proc.devRef .tc main_arg2)) (be (ends (up (V0 (Proc.devRef .tc main_arg0))))))
        (gb (V0 (Proc.devRef .tc main_arg3)) (be (ends (up (V0 (Proc.devRef .tc main_arg0)))))) := by
  unfold res_main_v61
  rw [v25_eq]
  rfl

/-- The reference ends with its result, its arguments unchanged. -/
theorem run : θ_run defs (onTc (τ := τ) (main (F := Ideal))) ⟨m, fun _ => 0, ρ⟩ fun r => ∀ c : Dev nD,
    r.2.mem ((c.tc : Thread nD τ).loc main_v120) = out (nArg m c) (xArg m c) (wArg m c) (bArg m c) (dArg m c) (eArg m c)
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.NextExpertsReferenceIdeal.Value.run (F := Ideal) m ρ)
  obtain ⟨h1, hargs⟩ := h c
  refine ⟨h1.trans ?_, hargs⟩
  unfold Cert.NextExpertsReferenceIdeal.Value.res_main_v65
  rw [v61_eq, v25_eq, v13_eq]
  rfl

end Cert.Proof.FR

end
-- ==== Proof.lean ====
/-
  The proof of `Cert.Claim`. The attention over the prompt: both frames of the kernel from its run (over the machine's words and
  over the extended reals), the reference's frame from its generated run, the one named constant, and the equation of the two
  results. The projections before it: the generated frames, the reference's run, and the equations of the six results; the same
  for the projections of the sample batch. The experts: frames and equation as for the attention.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.P.Run
public import proofs.«01_k».proof.Proof.PI.Arr
public import proofs.«01_k».proof.Proof.Gen.Inproj
public import proofs.«01_k».proof.Proof.Gen.InprojIdeal
public import proofs.«01_k».proof.Proof.Gen.InprojReferenceIdeal
public import proofs.«01_k».proof.Proof.Gen.Inproj.Frame
public import proofs.«01_k».proof.Proof.Gen.InprojIdeal.Frame
public import proofs.«01_k».proof.Proof.Gen.SampleInproj
public import proofs.«01_k».proof.Proof.Gen.SampleInprojIdeal
public import proofs.«01_k».proof.Proof.Gen.SampleInprojReferenceIdeal
public import proofs.«01_k».proof.Proof.Gen.SampleInproj.Frame
public import proofs.«01_k».proof.Proof.Gen.SampleInprojIdeal.Frame
public import proofs.«01_k».proof.Proof.Gen.SampleInprojReferenceIdeal.Run
public import proofs.«01_k».proof.Proof.JI.Run
public import proofs.«01_k».proof.Proof.JI.Arr
public import proofs.«01_k».proof.Proof.JR.Run
public import proofs.«01_k».proof.Proof.SI.Run
public import proofs.«01_k».proof.Proof.SI.Arr
public import proofs.«01_k».proof.Proof.SR.Run
public import proofs.«01_k».proof.Proof.Gen.Experts
public import proofs.«01_k».proof.Proof.Gen.ExpertsIdeal
public import proofs.«01_k».proof.Proof.Gen.ExpertsReferenceIdeal
public import proofs.«01_k».proof.Proof.E.Run
public import proofs.«01_k».proof.Proof.EI.Run
public import proofs.«01_k».proof.Proof.EI.Arr
public import proofs.«01_k».proof.Proof.ER.Run
public import proofs.«01_k».proof.Proof.Gen.NextExperts
public import proofs.«01_k».proof.Proof.Gen.NextExpertsIdeal
public import proofs.«01_k».proof.Proof.Gen.NextExpertsReferenceIdeal
public import proofs.«01_k».proof.Proof.F.Run
public import proofs.«01_k».proof.Proof.FI.Run
public import proofs.«01_k».proof.Proof.FI.Arr
public import proofs.«01_k».proof.Proof.FR.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-! ## The attention over the prompt -/

/-- The kernel over the machine's words ends, with its arguments unchanged and every counter at zero. -/
theorem attn_frame : Cert.quiescent_Kernel := fun m ρ _ =>
  (θ_run Cert.Kernel.defs _ _).mono (fun _ h => ⟨fun c => (h.1 c).2, h.2⟩) (P.run (F := Bits) m ρ)

/-- The same of the kernel over the extended reals. -/
theorem attn_frame_ideal : Cert.quiescent_KernelIdeal := fun m ρ _ =>
  (θ_run Cert.KernelIdeal.defs _ _).mono (fun _ h => ⟨fun c => (h.1 c).2, h.2⟩) (PI.run (F := Ideal) m ρ)

/-- The same of the reference. -/
theorem attn_frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one constant that is read by its name: the bound below which a row's weights count as zero. -/
theorem attn_preserves : Cert.preserves_Kernel_KernelIdeal :=
  IdealRules.named_const.statement Cert.KernelIdeal.κ "zero_weight_log" .f32 0xC2DC0000#32 ⊥ rfl

/-- Kernel and reference end with one array. -/
theorem attn_algebraic : Cert.algebraic_KernelIdeal_ReferenceIdeal := by
  intro m ρ m' ρ' _ agree
  refine ⟨fun c => RI.refOut (PI.qArg m c) (PI.kArg m c) (PI.vArg m c), ?_, ?_⟩
  · exact (θ_run Cert.KernelIdeal.defs _ _).mono (fun _ h c => ⟨((h.1 c).1).trans (PI.arr_eq m c), (h.1 c).2⟩) (PI.run (F := Ideal) m ρ)
  · refine (θ_run Cert.ReferenceIdeal.defs _ _).mono (fun _ h c => ⟨(h c).1.trans ?_, (h c).2⟩)
      (Cert.ReferenceIdeal.Value.run (F := Ideal) m' ρ')
    rw [RI.res_eq, (agree c).1, (agree c).2.1, (agree c).2.2]

/-! ## The projections -/

/-- The projections over the machine's words end, with their arguments unchanged and every counter at zero. -/
theorem inproj_frame : Cert.quiescent_Inproj := fun m ρ _ => Cert.Inproj.Gen.frame m ρ

/-- The same of them over the extended reals. -/
theorem inproj_frame_ideal : Cert.quiescent_InprojIdeal := fun m ρ _ => Cert.InprojIdeal.Gen.frame m ρ

/-- The same of their reference. -/
theorem inproj_frame_ref : Cert.quiescent_InprojReferenceIdeal := fun m ρ _ =>
  (θ_run Cert.InprojReferenceIdeal.defs _ _).mono (fun r h => ⟨fun c => (h c).2, sem_eq_zero_of_no_sems (by decide) r.2⟩) (JR.run m ρ)

/-- Both programs have one text. -/
theorem inproj_preserves : Cert.preserves_Inproj_InprojIdeal := trivial

open Cert.InprojIdeal.Gen in
/-- Projections and reference end with the same six arrays. -/
theorem inproj_algebraic : Cert.algebraic_InprojIdeal_InprojReferenceIdeal := by
  intro m ρ m' ρ' _ agree
  refine ⟨fun c => JR.keys (JI.x0Arg m c) (JI.x1Arg m c) (JI.gArg m c) (JI.wArg m c),
    fun c => JR.vals (JI.x0Arg m c) (JI.x1Arg m c) (JI.gArg m c) (JI.wArg m c),
    fun c => JR.qry (JI.P0 m c), fun c => JR.qry (JI.P1 m c), fun c => JR.gat (JI.P0 m c), fun c => JR.gat (JI.P1 m c), ?_, ?_⟩
  · exact (θ_run Cert.InprojIdeal.defs _ _).mono (fun _ h c =>
      ⟨(h c _ (mem_uc Cert.InprojIdeal.main_v32_1 (by decide))).trans (JI.end_k m ρ c),
       (h c _ (mem_uc Cert.InprojIdeal.main_v32_2 (by decide))).trans (JI.end_v m ρ c),
       (h c _ (mem_uc Cert.InprojIdeal.main_v23_0 (by decide))).trans (JI.end_q0 m ρ c),
       (h c _ (mem_uc Cert.InprojIdeal.main_v32_0 (by decide))).trans (JI.end_q1 m ρ c),
       (h c _ (mem_uc Cert.InprojIdeal.main_v23_5 (by decide))).trans (JI.end_u0 m ρ c),
       (h c _ (mem_uc Cert.InprojIdeal.main_v32_5 (by decide))).trans (JI.end_u1 m ρ c),
       (h c _ (mem_uc Cert.InprojIdeal.main_arg0 (by decide))).trans (W8_main_arg0 m ρ c),
       (h c _ (mem_uc Cert.InprojIdeal.main_arg1 (by decide))).trans (W8_main_arg1 m ρ c),
       (h c _ (mem_uc Cert.InprojIdeal.main_arg2 (by decide))).trans (W8_main_arg2 m ρ c),
       (h c _ (mem_uc Cert.InprojIdeal.main_arg3 (by decide))).trans (W8_main_arg3 m ρ c),
       (h c _ (mem_uc Cert.InprojIdeal.main_arg4 (by decide))).trans (W8_main_arg4 m ρ c),
       (h c _ (mem_uc Cert.InprojIdeal.main_arg5 (by decide))).trans (W8_main_arg5 m ρ c)⟩) (JI.run m ρ)
  · refine (θ_run Cert.InprojReferenceIdeal.defs _ _).mono (fun _ h c => ?_) (JR.run m' ρ')
    obtain ⟨⟨h1, h2, h3, h4, h5, h6⟩, hargs⟩ := h c
    obtain ⟨a0, a1, a2, a3, -⟩ := agree c
    have e0 : JR.x0Arg m' c = JI.x0Arg m c := a0
    have e1 : JR.x1Arg m' c = JI.x1Arg m c := a1
    have e2 : JR.gArg m' c = JI.gArg m c := a2
    have e3 : JR.wArg m' c = JI.wArg m c := a3
    rw [e0, e1, e2, e3] at h1 h2
    rw [e0, e2, e3] at h3 h5
    rw [e1, e2, e3] at h4 h6
    exact ⟨h1, h2, h3, h4, h5, h6, hargs⟩

/-! ## The projections of the sample batch -/

/-- The sample's projections over the machine's words end, with their arguments unchanged and every counter at zero. -/
theorem sample_inproj_frame : Cert.quiescent_SampleInproj := fun m ρ _ => Cert.SampleInproj.Gen.frame m ρ

/-- The same of them over the extended reals. -/
theorem sample_inproj_frame_ideal : Cert.quiescent_SampleInprojIdeal := fun m ρ _ => Cert.SampleInprojIdeal.Gen.frame m ρ

/-- The same of their reference. -/
theorem sample_inproj_frame_ref : Cert.quiescent_SampleInprojReferenceIdeal := fun m ρ _ =>
  (θ_run Cert.SampleInprojReferenceIdeal.defs _ _).mono (fun r h => ⟨fun c => (h c).2, sem_eq_zero_of_no_sems (by decide) r.2⟩) (SR.run m ρ)

/-- Both programs have one text. -/
theorem sample_inproj_preserves : Cert.preserves_SampleInproj_SampleInprojIdeal := trivial

open Cert.SampleInprojIdeal.Gen in
/-- Projections and reference end with the same six arrays. -/
theorem sample_inproj_algebraic : Cert.algebraic_SampleInprojIdeal_SampleInprojReferenceIdeal := by
  intro m ρ m' ρ' _ agree
  refine ⟨fun c => SR.keys (SI.x0Arg m c) (SI.x1Arg m c) (SI.gArg m c) (SI.wArg m c),
    fun c => SR.vals (SI.x0Arg m c) (SI.x1Arg m c) (SI.gArg m c) (SI.wArg m c),
    fun c => SR.qry (SI.P0 m c), fun c => SR.qry (SI.P1 m c), fun c => SR.gat (SI.P0 m c), fun c => SR.gat (SI.P1 m c), ?_, ?_⟩
  · exact (θ_run Cert.SampleInprojIdeal.defs _ _).mono (fun _ h c =>
      ⟨(h c _ (mem_uc Cert.SampleInprojIdeal.main_v32_1 (by decide))).trans (SI.end_k m ρ c),
       (h c _ (mem_uc Cert.SampleInprojIdeal.main_v32_2 (by decide))).trans (SI.end_v m ρ c),
       (h c _ (mem_uc Cert.SampleInprojIdeal.main_v23_0 (by decide))).trans (SI.end_q0 m ρ c),
       (h c _ (mem_uc Cert.SampleInprojIdeal.main_v32_0 (by decide))).trans (SI.end_q1 m ρ c),
       (h c _ (mem_uc Cert.SampleInprojIdeal.main_v23_5 (by decide))).trans (SI.end_u0 m ρ c),
       (h c _ (mem_uc Cert.SampleInprojIdeal.main_v32_5 (by decide))).trans (SI.end_u1 m ρ c),
       (h c _ (mem_uc Cert.SampleInprojIdeal.main_arg0 (by decide))).trans (W8_main_arg0 m ρ c),
       (h c _ (mem_uc Cert.SampleInprojIdeal.main_arg1 (by decide))).trans (W8_main_arg1 m ρ c),
       (h c _ (mem_uc Cert.SampleInprojIdeal.main_arg2 (by decide))).trans (W8_main_arg2 m ρ c),
       (h c _ (mem_uc Cert.SampleInprojIdeal.main_arg3 (by decide))).trans (W8_main_arg3 m ρ c),
       (h c _ (mem_uc Cert.SampleInprojIdeal.main_arg4 (by decide))).trans (W8_main_arg4 m ρ c),
       (h c _ (mem_uc Cert.SampleInprojIdeal.main_arg5 (by decide))).trans (W8_main_arg5 m ρ c)⟩) (SI.run m ρ)
  · refine (θ_run Cert.SampleInprojReferenceIdeal.defs _ _).mono (fun _ h c => ?_) (SR.run m' ρ')
    obtain ⟨⟨h1, h2, h3, h4, h5, h6⟩, hargs⟩ := h c
    obtain ⟨a0, a1, a2, a3, -⟩ := agree c
    have e0 : SR.x0Arg m' c = SI.x0Arg m c := a0
    have e1 : SR.x1Arg m' c = SI.x1Arg m c := a1
    have e2 : SR.gArg m' c = SI.gArg m c := a2
    have e3 : SR.wArg m' c = SI.wArg m c := a3
    rw [e0, e1, e2, e3] at h1 h2
    rw [e0, e2, e3] at h3 h5
    rw [e1, e2, e3] at h4 h6
    exact ⟨h1, h2, h3, h4, h5, h6, hargs⟩

/-! ## The experts of the first layer -/

/-- The experts over the machine's words end, with their arguments unchanged and every counter at zero. -/
theorem experts_frame : Cert.quiescent_Experts := fun m ρ _ =>
  (θ_run Cert.Experts.defs _ _).mono (fun _ h => ⟨fun c => (h.1 c).2, h.2⟩) (E.run (F := Bits) m ρ)

/-- The same of them over the extended reals. -/
theorem experts_frame_ideal : Cert.quiescent_ExpertsIdeal := fun m ρ _ =>
  (θ_run Cert.ExpertsIdeal.defs _ _).mono (fun _ h => ⟨fun c => (h.1 c).2, h.2⟩) (EI.run (F := Ideal) m ρ)

/-- The same of their reference. -/
theorem experts_frame_ref : Cert.quiescent_ExpertsReferenceIdeal := fun m ρ _ =>
  (θ_run Cert.ExpertsReferenceIdeal.defs _ _).mono (fun r h => ⟨fun c => (h c).2, sem_eq_zero_of_no_sems (by decide) r.2⟩) (ER.run m ρ)

/-- Both programs have one text. -/
theorem experts_preserves : Cert.preserves_Experts_ExpertsIdeal := trivial

/-- Experts and reference end with one array. -/
theorem experts_algebraic : Cert.algebraic_ExpertsIdeal_ExpertsReferenceIdeal := by
  intro m ρ m' ρ' _ agree
  refine ⟨fun c => ER.out (EI.nArg m c) (EI.xArg m c) (EI.wArg m c) (EI.bArg m c) (EI.dArg m c) (EI.eArg m c), ?_, ?_⟩
  · exact (θ_run Cert.ExpertsIdeal.defs _ _).mono (fun _ h c => ⟨((h.1 c).1).trans (EI.arr_eq m c), (h.1 c).2⟩) (EI.run (F := Ideal) m ρ)
  · refine (θ_run Cert.ExpertsReferenceIdeal.defs _ _).mono (fun _ h c => ?_) (ER.run m' ρ')
    obtain ⟨h1, hargs⟩ := h c
    obtain ⟨a0, a1, a2, a3, a4, a5⟩ := agree c
    have e0 : ER.nArg m' c = EI.nArg m c := a0
    have e1 : ER.xArg m' c = EI.xArg m c := a1
    have e2 : ER.wArg m' c = EI.wArg m c := a2
    have e3 : ER.bArg m' c = EI.bArg m c := a3
    have e4 : ER.dArg m' c = EI.dArg m c := a4
    have e5 : ER.eArg m' c = EI.eArg m c := a5
    rw [e0, e1, e2, e3, e4, e5] at h1
    exact ⟨h1, hargs⟩

/-! ## The experts of the second layer -/

/-- The experts over the machine's words end, with their arguments unchanged and every counter at zero. -/
theorem next_experts_frame : Cert.quiescent_NextExperts := fun m ρ _ =>
  (θ_run Cert.NextExperts.defs _ _).mono (fun _ h => ⟨fun c => (h.1 c).2, h.2⟩) (F.run (F := Bits) m ρ)

/-- The same of them over the extended reals. -/
theorem next_experts_frame_ideal : Cert.quiescent_NextExpertsIdeal := fun m ρ _ =>
  (θ_run Cert.NextExpertsIdeal.defs _ _).mono (fun _ h => ⟨fun c => (h.1 c).2, h.2⟩) (FI.run (F := Ideal) m ρ)

/-- The same of their reference. -/
theorem next_experts_frame_ref : Cert.quiescent_NextExpertsReferenceIdeal := fun m ρ _ =>
  (θ_run Cert.NextExpertsReferenceIdeal.defs _ _).mono (fun r h => ⟨fun c => (h c).2, sem_eq_zero_of_no_sems (by decide) r.2⟩) (FR.run m ρ)

/-- Both programs have one text. -/
theorem next_experts_preserves : Cert.preserves_NextExperts_NextExpertsIdeal := trivial

/-- Experts and reference end with one array. -/
theorem next_experts_algebraic : Cert.algebraic_NextExpertsIdeal_NextExpertsReferenceIdeal := by
  intro m ρ m' ρ' _ agree
  refine ⟨fun c => FR.out (FI.nArg m c) (FI.xArg m c) (FI.wArg m c) (FI.bArg m c) (FI.dArg m c) (FI.eArg m c), ?_, ?_⟩
  · exact (θ_run Cert.NextExpertsIdeal.defs _ _).mono (fun _ h c => ⟨((h.1 c).1).trans (FI.arr_eq m c), (h.1 c).2⟩) (FI.run (F := Ideal) m ρ)
  · refine (θ_run Cert.NextExpertsReferenceIdeal.defs _ _).mono (fun _ h c => ?_) (FR.run m' ρ')
    obtain ⟨h1, hargs⟩ := h c
    obtain ⟨a0, a1, a2, a3, a4, a5⟩ := agree c
    have e0 : FR.nArg m' c = FI.nArg m c := a0
    have e1 : FR.xArg m' c = FI.xArg m c := a1
    have e2 : FR.wArg m' c = FI.wArg m c := a2
    have e3 : FR.bArg m' c = FI.bArg m c := a3
    have e4 : FR.dArg m' c = FI.dArg m c := a4
    have e5 : FR.eArg m' c = FI.eArg m c := a5
    rw [e0, e1, e2, e3, e4, e5] at h1
    exact ⟨h1, hargs⟩

theorem claim : Cert.Claim := ⟨Cert.Kernel.Gen.facts, Cert.KernelIdeal.Gen.facts, Cert.ReferenceIdeal.Gen.facts,
  Cert.Inproj.Gen.facts, Cert.InprojIdeal.Gen.facts, Cert.InprojReferenceIdeal.Gen.facts,
  Cert.SampleInproj.Gen.facts, Cert.SampleInprojIdeal.Gen.facts, Cert.SampleInprojReferenceIdeal.Gen.facts,
  Cert.Experts.Gen.facts, Cert.ExpertsIdeal.Gen.facts, Cert.ExpertsReferenceIdeal.Gen.facts,
  Cert.NextExperts.Gen.facts, Cert.NextExpertsIdeal.Gen.facts, Cert.NextExpertsReferenceIdeal.Gen.facts,
  attn_frame, attn_frame_ideal, attn_frame_ref, inproj_frame, inproj_frame_ideal, inproj_frame_ref,
  sample_inproj_frame, sample_inproj_frame_ideal, sample_inproj_frame_ref,
  experts_frame, experts_frame_ideal, experts_frame_ref,
  next_experts_frame, next_experts_frame_ideal, next_experts_frame_ref,
  attn_preserves, attn_algebraic, inproj_preserves, inproj_algebraic, sample_inproj_preserves, sample_inproj_algebraic,
  experts_preserves, experts_algebraic,
  next_experts_preserves, next_experts_algebraic⟩

end Cert.Proof

end
